-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v20) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x8192x2048 : Shape := ⟨3, ![6, 8192, 2048]⟩
abbrev S6x8192x16 : Shape := ⟨3, ![6, 8192, 16]⟩
abbrev S6x8192x2x5632 : Shape := ⟨4, ![6, 8192, 2, 5632]⟩
abbrev S6x8192x2x44 : Shape := ⟨4, ![6, 8192, 2, 44]⟩
abbrev S2048x2x5632 : Shape := ⟨3, ![2048, 2, 5632]⟩
abbrev S16x2x44 : Shape := ⟨3, ![16, 2, 44]⟩
abbrev S5632x2048 : Shape := ⟨2, ![5632, 2048]⟩
abbrev S44x16 : Shape := ⟨2, ![44, 16]⟩
abbrev S2048x5632 : Shape := ⟨2, ![2048, 5632]⟩
abbrev S512x2048 : Shape := ⟨2, ![512, 2048]⟩
abbrev S2048x512 : Shape := ⟨2, ![2048, 512]⟩
abbrev S1x1 : Shape := ⟨2, ![1, 1]⟩
abbrev S128x128 : Shape := ⟨2, ![128, 128]⟩
abbrev S2x2048x5632 : Shape := ⟨3, ![2, 2048, 5632]⟩
abbrev S2x16x44 : Shape := ⟨3, ![2, 16, 44]⟩
abbrev S11264x2048 : Shape := ⟨2, ![11264, 2048]⟩
abbrev S1x2048x512 : Shape := ⟨3, ![1, 2048, 512]⟩
abbrev S1x1x1 : Shape := ⟨3, ![1, 1, 1]⟩
abbrev S1x128x128 : Shape := ⟨3, ![1, 128, 128]⟩
abbrev S6x16x8192 : Shape := ⟨3, ![6, 16, 8192]⟩
abbrev S6x44x2x8192 : Shape := ⟨4, ![6, 44, 2, 8192]⟩
abbrev S6x11x8x8192 : Shape := ⟨4, ![6, 11, 8, 8192]⟩
abbrev S6x2x8192x5632 : Shape := ⟨4, ![6, 2, 8192, 5632]⟩
abbrev S49152x2048 : Shape := ⟨2, ![49152, 2048]⟩
abbrev S49152x11264 : Shape := ⟨2, ![49152, 11264]⟩
abbrev S49152x5632 : Shape := ⟨2, ![49152, 5632]⟩
abbrev S1024x2048 : Shape := ⟨2, ![1024, 2048]⟩
abbrev S1x16x1024 : Shape := ⟨3, ![1, 16, 1024]⟩
abbrev S1x2x1024x512 : Shape := ⟨4, ![1, 2, 1024, 512]⟩
abbrev S1x1x8x1024 : Shape := ⟨4, ![1, 1, 8, 1024]⟩
abbrev S1024x1024 : Shape := ⟨2, ![1024, 1024]⟩
abbrev S1024x512 : Shape := ⟨2, ![1024, 512]⟩
abbrev S16x1024 : Shape := ⟨2, ![16, 1024]⟩
abbrev S1024x16 : Shape := ⟨2, ![1024, 16]⟩
abbrev S1024x128 : Shape := ⟨2, ![1024, 128]⟩
abbrev S1024x1 : Shape := ⟨2, ![1024, 1]⟩
abbrev S8x1024 : Shape := ⟨2, ![8, 1024]⟩
abbrev S1024x8 : Shape := ⟨2, ![1024, 8]⟩
abbrev S256x2048 : Shape := ⟨2, ![256, 2048]⟩
abbrev S256x512 : Shape := ⟨2, ![256, 512]⟩
abbrev S256x1 : Shape := ⟨2, ![256, 1]⟩
abbrev S1x1x256x128 : Shape := ⟨4, ![1, 1, 256, 128]⟩
abbrev S256x128 : Shape := ⟨2, ![256, 128]⟩
abbrev S2048x49152 : Shape := ⟨2, ![2048, 49152]⟩
abbrev S2048x1024 : Shape := ⟨2, ![2048, 1024]⟩
abbrev S128x1024 : Shape := ⟨2, ![128, 1024]⟩
abbrev S1x1x1024 : Shape := ⟨3, ![1, 1, 1024]⟩
abbrev S1x1024 : Shape := ⟨2, ![1, 1024]⟩
abbrev S2x2048x512 : Shape := ⟨3, ![2, 2048, 512]⟩

abbrev nBuf : Space → Nat
  | .hbm => 34
  | .vmem => 53
  | .smem => 2
  | _ => 0

abbrev bufTy : (tb : Table) → Fin (tcTables nBuf tb) → BufTy
  | .hbm, ⟨0, _⟩ => ⟨S6x8192x2048, .fp8e4m3⟩
  | .hbm, ⟨1, _⟩ => ⟨S6x8192x16, .f32⟩
  | .hbm, ⟨2, _⟩ => ⟨S6x8192x2048, .fp8e5m2⟩
  | .hbm, ⟨3, _⟩ => ⟨S6x8192x16, .f32⟩
  | .hbm, ⟨4, _⟩ => ⟨S6x8192x2x5632, .fp8e4m3⟩
  | .hbm, ⟨5, _⟩ => ⟨S6x8192x2x44, .f32⟩
  | .hbm, ⟨6, _⟩ => ⟨S2048x2x5632, .fp8e4m3⟩
  | .hbm, ⟨7, _⟩ => ⟨S16x2x44, .f32⟩
  | .hbm, ⟨8, _⟩ => ⟨S5632x2048, .fp8e4m3⟩
  | .hbm, ⟨9, _⟩ => ⟨S44x16, .f32⟩
  | .hbm, ⟨10, _⟩ => ⟨S44x16, .bf16⟩
  | .hbm, ⟨11, _⟩ => ⟨S44x16, .f32⟩
  | .hbm, ⟨12, _⟩ => ⟨S2048x5632, .bf16⟩
  | .hbm, ⟨13, _⟩ => ⟨S2x2048x5632, .fp8e4m3⟩
  | .hbm, ⟨14, _⟩ => ⟨S2x16x44, .f32⟩
  | .hbm, ⟨15, _⟩ => ⟨S2x16x44, .bf16⟩
  | .hbm, ⟨16, _⟩ => ⟨S2x16x44, .f32⟩
  | .hbm, ⟨17, _⟩ => ⟨S11264x2048, .bf16⟩
  | .hbm, ⟨18, _⟩ => ⟨S6x16x8192, .f32⟩
  | .hbm, ⟨19, _⟩ => ⟨S6x16x8192, .f32⟩
  | .hbm, ⟨20, _⟩ => ⟨S6x44x2x8192, .f32⟩
  | .hbm, ⟨21, _⟩ => ⟨S6x11x8x8192, .f32⟩
  | .hbm, ⟨22, _⟩ => ⟨S6x2x8192x5632, .fp8e4m3⟩
  | .hbm, ⟨23, _⟩ => ⟨S49152x2048, .fp8e4m3⟩
  | .hbm, ⟨24, _⟩ => ⟨S49152x2048, .fp8e5m2⟩
  | .hbm, ⟨25, _⟩ => ⟨S49152x11264, .bf16⟩
  | .hbm, ⟨26, _⟩ => ⟨S49152x5632, .bf16⟩
  | .hbm, ⟨27, _⟩ => ⟨S49152x2048, .bf16⟩
  | .hbm, ⟨28, _⟩ => ⟨S2048x49152, .bf16⟩
  | .hbm, ⟨29, _⟩ => ⟨S2x2048x5632, .f32⟩
  | .hbm, ⟨30, _⟩ => ⟨S2048x2x5632, .f32⟩
  | .hbm, ⟨31, _⟩ => ⟨S2048x49152, .bf16⟩
  | .hbm, ⟨32, _⟩ => ⟨S5632x2048, .f32⟩
  | .hbm, ⟨33, _⟩ => ⟨S6x8192x2048, .bf16⟩
  | .local _ .vmem, ⟨0, _⟩ => ⟨S512x2048, .fp8e4m3⟩
  | .local _ .vmem, ⟨1, _⟩ => ⟨S512x2048, .fp8e4m3⟩
  | .local _ .vmem, ⟨2, _⟩ => ⟨S2048x512, .bf16⟩
  | .local _ .vmem, ⟨3, _⟩ => ⟨S2048x512, .bf16⟩
  | .local _ .vmem, ⟨4, _⟩ => ⟨S1x2048x512, .fp8e4m3⟩
  | .local _ .vmem, ⟨5, _⟩ => ⟨S1x2048x512, .fp8e4m3⟩
  | .local _ .vmem, ⟨6, _⟩ => ⟨S512x2048, .bf16⟩
  | .local _ .vmem, ⟨7, _⟩ => ⟨S512x2048, .bf16⟩
  | .local _ .vmem, ⟨8, _⟩ => ⟨S1024x2048, .fp8e5m2⟩
  | .local _ .vmem, ⟨9, _⟩ => ⟨S1024x2048, .fp8e5m2⟩
  | .local _ .vmem, ⟨10, _⟩ => ⟨S1x16x1024, .f32⟩
  | .local _ .vmem, ⟨11, _⟩ => ⟨S1x16x1024, .f32⟩
  | .local _ .vmem, ⟨12, _⟩ => ⟨S1x2x1024x512, .fp8e4m3⟩
  | .local _ .vmem, ⟨13, _⟩ => ⟨S1x2x1024x512, .fp8e4m3⟩
  | .local _ .vmem, ⟨14, _⟩ => ⟨S1x1x8x1024, .f32⟩
  | .local _ .vmem, ⟨15, _⟩ => ⟨S1x1x8x1024, .f32⟩
  | .local _ .vmem, ⟨16, _⟩ => ⟨S2048x512, .bf16⟩
  | .local _ .vmem, ⟨17, _⟩ => ⟨S2048x512, .bf16⟩
  | .local _ .vmem, ⟨18, _⟩ => ⟨S1024x2048, .bf16⟩
  | .local _ .vmem, ⟨19, _⟩ => ⟨S1024x2048, .bf16⟩
  | .local _ .vmem, ⟨20, _⟩ => ⟨S1024x1024, .bf16⟩
  | .local _ .vmem, ⟨21, _⟩ => ⟨S1024x1024, .bf16⟩
  | .local _ .vmem, ⟨22, _⟩ => ⟨S1024x512, .bf16⟩
  | .local _ .vmem, ⟨23, _⟩ => ⟨S1024x512, .bf16⟩
  | .local _ .vmem, ⟨24, _⟩ => ⟨S1024x2048, .bf16⟩
  | .local _ .vmem, ⟨25, _⟩ => ⟨S1024x2048, .bf16⟩
  | .local _ .vmem, ⟨26, _⟩ => ⟨S1024x2048, .bf16⟩
  | .local _ .vmem, ⟨27, _⟩ => ⟨S1024x2048, .f32⟩
  | .local _ .vmem, ⟨28, _⟩ => ⟨S1024x2048, .fp8e4m3⟩
  | .local _ .vmem, ⟨29, _⟩ => ⟨S1024x2048, .fp8e4m3⟩
  | .local _ .vmem, ⟨30, _⟩ => ⟨S1x16x1024, .f32⟩
  | .local _ .vmem, ⟨31, _⟩ => ⟨S1x16x1024, .f32⟩
  | .local _ .vmem, ⟨32, _⟩ => ⟨S2048x1024, .bf16⟩
  | .local _ .vmem, ⟨33, _⟩ => ⟨S2048x1024, .bf16⟩
  | .local _ .vmem, ⟨34, _⟩ => ⟨S2048x1024, .bf16⟩
  | .local _ .vmem, ⟨35, _⟩ => ⟨S2048x1024, .bf16⟩
  | .local _ .vmem, ⟨36, _⟩ => ⟨S1024x1024, .bf16⟩
  | .local _ .vmem, ⟨37, _⟩ => ⟨S1024x1024, .bf16⟩
  | .local _ .vmem, ⟨38, _⟩ => ⟨S2x2048x512, .f32⟩
  | .local _ .vmem, ⟨39, _⟩ => ⟨S2x2048x512, .f32⟩
  | .local _ .vmem, ⟨40, _⟩ => ⟨S1024x2048, .fp8e5m2⟩
  | .local _ .vmem, ⟨41, _⟩ => ⟨S1024x2048, .fp8e5m2⟩
  | .local _ .vmem, ⟨42, _⟩ => ⟨S1x16x1024, .f32⟩
  | .local _ .vmem, ⟨43, _⟩ => ⟨S1x16x1024, .f32⟩
  | .local _ .vmem, ⟨44, _⟩ => ⟨S2048x1024, .bf16⟩
  | .local _ .vmem, ⟨45, _⟩ => ⟨S2048x1024, .bf16⟩
  | .local _ .vmem, ⟨46, _⟩ => ⟨S2048x1024, .bf16⟩
  | .local _ .vmem, ⟨47, _⟩ => ⟨S2048x1024, .bf16⟩
  | .local _ .vmem, ⟨48, _⟩ => ⟨S1024x512, .bf16⟩
  | .local _ .vmem, ⟨49, _⟩ => ⟨S1024x512, .bf16⟩
  | .local _ .vmem, ⟨50, _⟩ => ⟨S512x2048, .f32⟩
  | .local _ .vmem, ⟨51, _⟩ => ⟨S512x2048, .f32⟩
  | .local _ .vmem, ⟨52, _⟩ => ⟨S2048x512, .f32⟩
  | .local _ .smem, ⟨0, _⟩ => ⟨S44x16, .f32⟩
  | .local _ .smem, ⟨1, _⟩ => ⟨S2x16x44, .f32⟩
  | _, _ => ⟨S6x8192x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.vmem, 18, rfl⟩
abbrev cc2_stg5_1 : Ref sig .tc := ⟨.vmem, 19, rfl⟩
abbrev cc2_stg6_0 : Ref sig .tc := ⟨.vmem, 20, rfl⟩
abbrev cc2_stg6_1 : Ref sig .tc := ⟨.vmem, 21, rfl⟩
abbrev cc2_stg7_0 : Ref sig .tc := ⟨.vmem, 22, rfl⟩
abbrev cc2_stg7_1 : Ref sig .tc := ⟨.vmem, 23, rfl⟩
abbrev cc2_stg8_0 : Ref sig .tc := ⟨.vmem, 24, rfl⟩
abbrev cc2_stg8_1 : Ref sig .tc := ⟨.vmem, 25, rfl⟩
abbrev cc2_scratch0 : Ref sig .tc := ⟨.vmem, 26, rfl⟩
abbrev cc2_scratch1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg2_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg2_1 : Ref sig .tc := ⟨.vmem, 51, rfl⟩
abbrev cc6_scratch0 : Ref sig .tc := ⟨.vmem, 52, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc2_sem5_0 : DmaSem sig := 20
abbrev cc2_sem5_1 : DmaSem sig := 21
abbrev cc2_sem6_0 : DmaSem sig := 22
abbrev cc2_sem6_1 : DmaSem sig := 23
abbrev cc2_sem7_0 : DmaSem sig := 24
abbrev cc2_sem7_1 : DmaSem sig := 25
abbrev cc2_sem8_0 : DmaSem sig := 26
abbrev cc2_sem8_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem2_1 : DmaSem sig := 45
abbrev cc6_sem0_0 : DmaSem sig := 46
abbrev cc6_sem0_1 : DmaSem sig := 47
abbrev cc6_sem1_0 : DmaSem sig := 48
abbrev cc6_sem1_1 : DmaSem sig := 49
abbrev cc6_sem2_0 : DmaSem sig := 50
abbrev cc6_sem2_1 : DmaSem sig := 51

abbrev nD : Nat := 1
abbrev τ : Topo := Topo.v7x

variable {F : FTy → Type} [FloatOps F]

abbrev grid0 : Pipeline.Grid := ⟨1, ![11], ![false]⟩

def k0_off1 (i : grid0.Coords) (c0_i32 : BitVec 32) : Fin 2 → Nat :=
  let arg0 : BitVec 32 := BitVec.ofNat 32 (i 0).val
  let c4_i32 : BitVec 32 := 4#32
  let v0 : BitVec 32 := Scalar.muli arg0 c4_i32
  let v1 : BitVec 32 := Scalar.addi v0 c0_i32
  let v2 : Index := Scalar.indexCast v1
  let c0 : Index := 0#32
  ![v2.toNat, 0]
def k0_off2 (i : grid0.Coords) (c0_i32_4 : BitVec 32) : Fin 2 → Nat :=
  let arg0 : BitVec 32 := BitVec.ofNat 32 (i 0).val
  let c4_i32 : BitVec 32 := 4#32
  let v0 : BitVec 32 := Scalar.muli arg0 c4_i32
  let v11 : BitVec 32 := Scalar.addi v0 c0_i32_4
  let v12 : Index := Scalar.indexCast v11
  let c1 : Index := 1#32
  ![v12.toNat, 1]
def k0_off3 (i : grid0.Coords) (c0_i32_8 : BitVec 32) : Fin 2 → Nat :=
  let arg0 : BitVec 32 := BitVec.ofNat 32 (i 0).val
  let c4_i32 : BitVec 32 := 4#32
  let v0 : BitVec 32 := Scalar.muli arg0 c4_i32
  let v21 : BitVec 32 := Scalar.addi v0 c0_i32_8
  let v22 : Index := Scalar.indexCast v21
  let c2 : Index := 2#32
  ![v22.toNat, 2]
def k0_off4 (i : grid0.Coords) (c0_i32_12 : BitVec 32) : Fin 2 → Nat :=
  let arg0 : BitVec 32 := BitVec.ofNat 32 (i 0).val
  let c4_i32 : BitVec 32 := 4#32
  let v0 : BitVec 32 := Scalar.muli arg0 c4_i32
  let v31 : BitVec 32 := Scalar.addi v0 c0_i32_12
  let v32 : Index := Scalar.indexCast v31
  let c3 : Index := 3#32
  ![v32.toNat, 3]
def k0_off5 (i : grid0.Coords) (c0_i32_16 : BitVec 32) : Fin 2 → Nat :=
  let arg0 : BitVec 32 := BitVec.ofNat 32 (i 0).val
  let c4_i32 : BitVec 32 := 4#32
  let v0 : BitVec 32 := Scalar.muli arg0 c4_i32
  let v41 : BitVec 32 := Scalar.addi v0 c0_i32_16
  let v42 : Index := Scalar.indexCast v41
  let c4 : Index := 4#32
  ![v42.toNat, 4]
def k0_off6 (i : grid0.Coords) (c0_i32_20 : BitVec 32) : Fin 2 → Nat :=
  let arg0 : BitVec 32 := BitVec.ofNat 32 (i 0).val
  let c4_i32 : BitVec 32 := 4#32
  let v0 : BitVec 32 := Scalar.muli arg0 c4_i32
  let v51 : BitVec 32 := Scalar.addi v0 c0_i32_20
  let v52 : Index := Scalar.indexCast v51
  let c5 : Index := 5#32
  ![v52.toNat, 5]
def k0_off7 (i : grid0.Coords) (c0_i32_24 : BitVec 32) : Fin 2 → Nat :=
  let arg0 : BitVec 32 := BitVec.ofNat 32 (i 0).val
  let c4_i32 : BitVec 32 := 4#32
  let v0 : BitVec 32 := Scalar.muli arg0 c4_i32
  let v61 : BitVec 32 := Scalar.addi v0 c0_i32_24
  let v62 : Index := Scalar.indexCast v61
  let c6 : Index := 6#32
  ![v62.toNat, 6]
def k0_off8 (i : grid0.Coords) (c0_i32_28 : BitVec 32) : Fin 2 → Nat :=
  let arg0 : BitVec 32 := BitVec.ofNat 32 (i 0).val
  let c4_i32 : BitVec 32 := 4#32
  let v0 : BitVec 32 := Scalar.muli arg0 c4_i32
  let v71 : BitVec 32 := Scalar.addi v0 c0_i32_28
  let v72 : Index := Scalar.indexCast v71
  let c7 : Index := 7#32
  ![v72.toNat, 7]
def k0_off9 (i : grid0.Coords) (c0_i32_32 : BitVec 32) : Fin 2 → Nat :=
  let arg0 : BitVec 32 := BitVec.ofNat 32 (i 0).val
  let c4_i32 : BitVec 32 := 4#32
  let v0 : BitVec 32 := Scalar.muli arg0 c4_i32
  let v81 : BitVec 32 := Scalar.addi v0 c0_i32_32
  let v82 : Index := Scalar.indexCast v81
  let c8 : Index := 8#32
  ![v82.toNat, 8]
def k0_off10 (i : grid0.Coords) (c0_i32_36 : BitVec 32) : Fin 2 → Nat :=
  let arg0 : BitVec 32 := BitVec.ofNat 32 (i 0).val
  let c4_i32 : BitVec 32 := 4#32
  let v0 : BitVec 32 := Scalar.muli arg0 c4_i32
  let v91 : BitVec 32 := Scalar.addi v0 c0_i32_36
  let v92 : Index := Scalar.indexCast v91
  let c9 : Index := 9#32
  ![v92.toNat, 9]
def k0_off11 (i : grid0.Coords) (c0_i32_40 : BitVec 32) : Fin 2 → Nat :=
  let arg0 : BitVec 32 := BitVec.ofNat 32 (i 0).val
  let c4_i32 : BitVec 32 := 4#32
  let v0 : BitVec 32 := Scalar.muli arg0 c4_i32
  let v101 : BitVec 32 := Scalar.addi v0 c0_i32_40
  let v102 : Index := Scalar.indexCast v101
  let c10 : Index := 10#32
  ![v102.toNat, 10]
def k0_off12 (i : grid0.Coords) (c0_i32_44 : BitVec 32) : Fin 2 → Nat :=
  let arg0 : BitVec 32 := BitVec.ofNat 32 (i 0).val
  let c4_i32 : BitVec 32 := 4#32
  let v0 : BitVec 32 := Scalar.muli arg0 c4_i32
  let v111 : BitVec 32 := Scalar.addi v0 c0_i32_44
  let v112 : Index := Scalar.indexCast v111
  let c11 : Index := 11#32
  ![v112.toNat, 11]
def k0_off13 (i : grid0.Coords) (c0_i32_48 : BitVec 32) : Fin 2 → Nat :=
  let arg0 : BitVec 32 := BitVec.ofNat 32 (i 0).val
  let c4_i32 : BitVec 32 := 4#32
  let v0 : BitVec 32 := Scalar.muli arg0 c4_i32
  let v121 : BitVec 32 := Scalar.addi v0 c0_i32_48
  let v122 : Index := Scalar.indexCast v121
  let c12 : Index := 12#32
  ![v122.toNat, 12]
def k0_off14 (i : grid0.Coords) (c0_i32_52 : BitVec 32) : Fin 2 → Nat :=
  let arg0 : BitVec 32 := BitVec.ofNat 32 (i 0).val
  let c4_i32 : BitVec 32 := 4#32
  let v0 : BitVec 32 := Scalar.muli arg0 c4_i32
  let v131 : BitVec 32 := Scalar.addi v0 c0_i32_52
  let v132 : Index := Scalar.indexCast v131
  let c13 : Index := 13#32
  ![v132.toNat, 13]
def k0_off15 (i : grid0.Coords) (c0_i32_56 : BitVec 32) : Fin 2 → Nat :=
  let arg0 : BitVec 32 := BitVec.ofNat 32 (i 0).val
  let c4_i32 : BitVec 32 := 4#32
  let v0 : BitVec 32 := Scalar.muli arg0 c4_i32
  let v141 : BitVec 32 := Scalar.addi v0 c0_i32_56
  let v142 : Index := Scalar.indexCast v141
  let c14 : Index := 14#32
  ![v142.toNat, 14]
def k0_off16 (i : grid0.Coords) (c0_i32_60 : BitVec 32) : Fin 2 → Nat :=
  let arg0 : BitVec 32 := BitVec.ofNat 32 (i 0).val
  let c4_i32 : BitVec 32 := 4#32
  let v0 : BitVec 32 := Scalar.muli arg0 c4_i32
  let v151 : BitVec 32 := Scalar.addi v0 c0_i32_60
  let v152 : Index := Scalar.indexCast v151
  let c15 : Index := 15#32
  ![v152.toNat, 15]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S44x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![11, 2], ![false, false]⟩

def k1_off1 (i : grid1.Coords) (c0_i32 : BitVec 32) : Fin 3 → Nat :=
  let arg1 : BitVec 32 := BitVec.ofNat 32 (i 1).val
  let v2 : Index := Scalar.indexCast arg1
  let c0 : Index := 0#32
  let arg0 : BitVec 32 := BitVec.ofNat 32 (i 0).val
  let c4_i32 : BitVec 32 := 4#32
  let v0 : BitVec 32 := Scalar.muli arg0 c4_i32
  let v1 : BitVec 32 := Scalar.addi v0 c0_i32
  let v3 : Index := Scalar.indexCast v1
  ![v2.toNat, 0, v3.toNat]
def k1_off2 (i : grid1.Coords) (c0_i32_24 : BitVec 32) : Fin 3 → Nat :=
  let arg1 : BitVec 32 := BitVec.ofNat 32 (i 1).val
  let v54 : Index := Scalar.indexCast arg1
  let c1 : Index := 1#32
  let arg0 : BitVec 32 := BitVec.ofNat 32 (i 0).val
  let c4_i32_23 : BitVec 32 := 4#32
  let v52 : BitVec 32 := Scalar.muli arg0 c4_i32_23
  let v53 : BitVec 32 := Scalar.addi v52 c0_i32_24
  let v55 : Index := Scalar.indexCast v53
  ![v54.toNat, 1, v55.toNat]
def k1_off3 (i : grid1.Coords) (c0_i32_55 : BitVec 32) : Fin 3 → Nat :=
  let arg1 : BitVec 32 := BitVec.ofNat 32 (i 1).val
  let v106 : Index := Scalar.indexCast arg1
  let c2 : Index := 2#32
  let arg0 : BitVec 32 := BitVec.ofNat 32 (i 0).val
  let c4_i32_54 : BitVec 32 := 4#32
  let v104 : BitVec 32 := Scalar.muli arg0 c4_i32_54
  let v105 : BitVec 32 := Scalar.addi v104 c0_i32_55
  let v107 : Index := Scalar.indexCast v105
  ![v106.toNat, 2, v107.toNat]
def k1_off4 (i : grid1.Coords) (c0_i32_86 : BitVec 32) : Fin 3 → Nat :=
  let arg1 : BitVec 32 := BitVec.ofNat 32 (i 1).val
  let v158 : Index := Scalar.indexCast arg1
  let c3 : Index := 3#32
  let arg0 : BitVec 32 := BitVec.ofNat 32 (i 0).val
  let c4_i32_85 : BitVec 32 := 4#32
  let v156 : BitVec 32 := Scalar.muli arg0 c4_i32_85
  let v157 : BitVec 32 := Scalar.addi v156 c0_i32_86
  let v159 : Index := Scalar.indexCast v157
  ![v158.toNat, 3, v159.toNat]
def k1_off5 (i : grid1.Coords) (c0_i32_117 : BitVec 32) : Fin 3 → Nat :=
  let arg1 : BitVec 32 := BitVec.ofNat 32 (i 1).val
  let v210 : Index := Scalar.indexCast arg1
  let c4 : Index := 4#32
  let arg0 : BitVec 32 := BitVec.ofNat 32 (i 0).val
  let c4_i32_116 : BitVec 32 := 4#32
  let v208 : BitVec 32 := Scalar.muli arg0 c4_i32_116
  let v209 : BitVec 32 := Scalar.addi v208 c0_i32_117
  let v211 : Index := Scalar.indexCast v209
  ![v210.toNat, 4, v211.toNat]
def k1_off6 (i : grid1.Coords) (c0_i32_147 : BitVec 32) : Fin 3 → Nat :=
  let arg1 : BitVec 32 := BitVec.ofNat 32 (i 1).val
  let v262 : Index := Scalar.indexCast arg1
  let c5 : Index := 5#32
  let arg0 : BitVec 32 := BitVec.ofNat 32 (i 0).val
  let c4_i32_146 : BitVec 32 := 4#32
  let v260 : BitVec 32 := Scalar.muli arg0 c4_i32_146
  let v261 : BitVec 32 := Scalar.addi v260 c0_i32_147
  let v263 : Index := Scalar.indexCast v261
  ![v262.toNat, 5, v263.toNat]
def k1_off7 (i : grid1.Coords) (c0_i32_177 : BitVec 32) : Fin 3 → Nat :=
  let arg1 : BitVec 32 := BitVec.ofNat 32 (i 1).val
  let v314 : Index := Scalar.indexCast arg1
  let c6 : Index := 6#32
  let arg0 : BitVec 32 := BitVec.ofNat 32 (i 0).val
  let c4_i32_176 : BitVec 32 := 4#32
  let v312 : BitVec 32 := Scalar.muli arg0 c4_i32_176
  let v313 : BitVec 32 := Scalar.addi v312 c0_i32_177
  let v315 : Index := Scalar.indexCast v313
  ![v314.toNat, 6, v315.toNat]
def k1_off8 (i : grid1.Coords) (c0_i32_207 : BitVec 32) : Fin 3 → Nat :=
  let arg1 : BitVec 32 := BitVec.ofNat 32 (i 1).val
  let v366 : Index := Scalar.indexCast arg1
  let c7 : Index := 7#32
  let arg0 : BitVec 32 := BitVec.ofNat 32 (i 0).val
  let c4_i32_206 : BitVec 32 := 4#32
  let v364 : BitVec 32 := Scalar.muli arg0 c4_i32_206
  let v365 : BitVec 32 := Scalar.addi v364 c0_i32_207
  let v367 : Index := Scalar.indexCast v365
  ![v366.toNat, 7, v367.toNat]
def k1_off9 (i : grid1.Coords) (c0_i32_237 : BitVec 32) : Fin 3 → Nat :=
  let arg1 : BitVec 32 := BitVec.ofNat 32 (i 1).val
  let v418 : Index := Scalar.indexCast arg1
  let c8 : Index := 8#32
  let arg0 : BitVec 32 := BitVec.ofNat 32 (i 0).val
  let c4_i32_236 : BitVec 32 := 4#32
  let v416 : BitVec 32 := Scalar.muli arg0 c4_i32_236
  let v417 : BitVec 32 := Scalar.addi v416 c0_i32_237
  let v419 : Index := Scalar.indexCast v417
  ![v418.toNat, 8, v419.toNat]
def k1_off10 (i : grid1.Coords) (c0_i32_267 : BitVec 32) : Fin 3 → Nat :=
  let arg1 : BitVec 32 := BitVec.ofNat 32 (i 1).val
  let v470 : Index := Scalar.indexCast arg1
  let c9 : Index := 9#32
  let arg0 : BitVec 32 := BitVec.ofNat 32 (i 0).val
  let c4_i32_266 : BitVec 32 := 4#32
  let v468 : BitVec 32 := Scalar.muli arg0 c4_i32_266
  let v469 : BitVec 32 := Scalar.addi v468 c0_i32_267
  let v471 : Index := Scalar.indexCast v469
  ![v470.toNat, 9, v471.toNat]
def k1_off11 (i : grid1.Coords) (c0_i32_297 : BitVec 32) : Fin 3 → Nat :=
  let arg1 : BitVec 32 := BitVec.ofNat 32 (i 1).val
  let v522 : Index := Scalar.indexCast arg1
  let c10 : Index := 10#32
  let arg0 : BitVec 32 := BitVec.ofNat 32 (i 0).val
  let c4_i32_296 : BitVec 32 := 4#32
  let v520 : BitVec 32 := Scalar.muli arg0 c4_i32_296
  let v521 : BitVec 32 := Scalar.addi v520 c0_i32_297
  let v523 : Index := Scalar.indexCast v521
  ![v522.toNat, 10, v523.toNat]
def k1_off12 (i : grid1.Coords) (c0_i32_327 : BitVec 32) : Fin 3 → Nat :=
  let arg1 : BitVec 32 := BitVec.ofNat 32 (i 1).val
  let v574 : Index := Scalar.indexCast arg1
  let c11 : Index := 11#32
  let arg0 : BitVec 32 := BitVec.ofNat 32 (i 0).val
  let c4_i32_326 : BitVec 32 := 4#32
  let v572 : BitVec 32 := Scalar.muli arg0 c4_i32_326
  let v573 : BitVec 32 := Scalar.addi v572 c0_i32_327
  let v575 : Index := Scalar.indexCast v573
  ![v574.toNat, 11, v575.toNat]
def k1_off13 (i : grid1.Coords) (c0_i32_357 : BitVec 32) : Fin 3 → Nat :=
  let arg1 : BitVec 32 := BitVec.ofNat 32 (i 1).val
  let v626 : Index := Scalar.indexCast arg1
  let c12 : Index := 12#32
  let arg0 : BitVec 32 := BitVec.ofNat 32 (i 0).val
  let c4_i32_356 : BitVec 32 := 4#32
  let v624 : BitVec 32 := Scalar.muli arg0 c4_i32_356
  let v625 : BitVec 32 := Scalar.addi v624 c0_i32_357
  let v627 : Index := Scalar.indexCast v625
  ![v626.toNat, 12, v627.toNat]
def k1_off14 (i : grid1.Coords) (c0_i32_387 : BitVec 32) : Fin 3 → Nat :=
  let arg1 : BitVec 32 := BitVec.ofNat 32 (i 1).val
  let v678 : Index := Scalar.indexCast arg1
  let c13 : Index := 13#32
  let arg0 : BitVec 32 := BitVec.ofNat 32 (i 0).val
  let c4_i32_386 : BitVec 32 := 4#32
  let v676 : BitVec 32 := Scalar.muli arg0 c4_i32_386
  let v677 : BitVec 32 := Scalar.addi v676 c0_i32_387
  let v679 : Index := Scalar.indexCast v677
  ![v678.toNat, 13, v679.toNat]
def k1_off15 (i : grid1.Coords) (c0_i32_417 : BitVec 32) : Fin 3 → Nat :=
  let arg1 : BitVec 32 := BitVec.ofNat 32 (i 1).val
  let v730 : Index := Scalar.indexCast arg1
  let c14 : Index := 14#32
  let arg0 : BitVec 32 := BitVec.ofNat 32 (i 0).val
  let c4_i32_416 : BitVec 32 := 4#32
  let v728 : BitVec 32 := Scalar.muli arg0 c4_i32_416
  let v729 : BitVec 32 := Scalar.addi v728 c0_i32_417
  let v731 : Index := Scalar.indexCast v729
  ![v730.toNat, 14, v731.toNat]
def k1_off16 (i : grid1.Coords) (c0_i32_447 : BitVec 32) : Fin 3 → Nat :=
  let arg1 : BitVec 32 := BitVec.ofNat 32 (i 1).val
  let v782 : Index := Scalar.indexCast arg1
  let c15 : Index := 15#32
  let arg0 : BitVec 32 := BitVec.ofNat 32 (i 0).val
  let c4_i32_446 : BitVec 32 := 4#32
  let v780 : BitVec 32 := Scalar.muli arg0 c4_i32_446
  let v781 : BitVec 32 := Scalar.addi v780 c0_i32_447
  let v783 : Index := Scalar.indexCast v781
  ![v782.toNat, 15, v783.toNat]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let v1 : BitVec 32 := Scalar.addi v0 arg1
  let c0_i32 : BitVec 32 := 0#32
  let c0_i32_0 : BitVec 32 := 0#32
  ![v1.toNat, c0_i32.toNat]

abbrev stage1_0 : Fin 1 → Memref sig .tc .smem S2x16x44 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x2048x512 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![48, 11], ![false, false]⟩

def k2_cond2 (i : grid2.Coords) : BitVec 1 :=
  let arg1 : BitVec 32 := BitVec.ofNat 32 (i 1).val
  let c10_i32 : BitVec 32 := 10#32
  let v592 : BitVec 1 := Scalar.cmpi .eq arg1 c10_i32
  let v593 : BitVec 32 := Scalar.extui v592
  let c0_i32_280 : BitVec 32 := 0#32
  let v594 : BitVec 1 := Scalar.cmpi .ne v593 c0_i32_280
  v594

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc2_transform_2 (i : grid2.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg1.toNat]

def cc2_transform_3 (i : grid2.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, c0_i32_10.toNat, v26.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .fp8e5m2 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x16x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x2x1024x512 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x8x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S2048x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S1024x2048 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]

abbrev stage2_6 : Fin 2 → Memref sig .tc .vmem S1024x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1024x512 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S1024x2048 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev grid3 : Pipeline.Grid := ⟨1, ![48], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S1024x2048 .fp8e4m3 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x16x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![11, 48], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage4_0 : Fin 2 → Memref sig .tc .vmem S2048x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1024x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S2x2048x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨1, ![48], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc5_transform_2 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 2 → Memref sig .tc .vmem S1024x2048 .fp8e5m2 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x16x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2048x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨2, ![11, 48], ![false, false]⟩

def k6_cond2 (i : grid6.Coords) : BitVec 1 :=
  let arg1 : BitVec 32 := BitVec.ofNat 32 (i 1).val
  let c47_i32 : BitVec 32 := 47#32
  let v13 : BitVec 1 := Scalar.cmpi .eq arg1 c47_i32
  let v14 : BitVec 32 := Scalar.extui v13
  let c0_i32_8 : BitVec 32 := 0#32
  let v15 : BitVec 1 := Scalar.cmpi .ne v14 c0_i32_8
  v15

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S2048x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S1024x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 2 → Memref sig .tc .vmem S512x2048 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]
-- ==== ReferenceIdeal.lean ====
abbrev S6x8192x2048 : Shape := ⟨3, ![6, 8192, 2048]⟩
abbrev S6x8192x16 : Shape := ⟨3, ![6, 8192, 16]⟩
abbrev S6x8192x2x5632 : Shape := ⟨4, ![6, 8192, 2, 5632]⟩
abbrev S6x8192x2x44 : Shape := ⟨4, ![6, 8192, 2, 44]⟩
abbrev S2048x2x5632 : Shape := ⟨3, ![2048, 2, 5632]⟩
abbrev S16x2x44 : Shape := ⟨3, ![16, 2, 44]⟩
abbrev S5632x2048 : Shape := ⟨2, ![5632, 2048]⟩
abbrev S44x16 : Shape := ⟨2, ![44, 16]⟩
abbrev S16x128x2x44x128 : Shape := ⟨5, ![16, 128, 2, 44, 128]⟩
abbrev S16x1x2x44x1 : Shape := ⟨5, ![16, 1, 2, 44, 1]⟩
abbrev S44x128x16x128 : Shape := ⟨4, ![44, 128, 16, 128]⟩
abbrev S44x1x16x1 : Shape := ⟨4, ![44, 1, 16, 1]⟩
abbrev S6x8192x16x128 : Shape := ⟨4, ![6, 8192, 16, 128]⟩
abbrev S6x8192x16x1 : Shape := ⟨4, ![6, 8192, 16, 1]⟩
abbrev S49152x2048 : Shape := ⟨2, ![49152, 2048]⟩
abbrev S6x8192x2x44x128 : Shape := ⟨5, ![6, 8192, 2, 44, 128]⟩
abbrev S6x8192x2x44x1 : Shape := ⟨5, ![6, 8192, 2, 44, 1]⟩
abbrev S49152x2x5632 : Shape := ⟨3, ![49152, 2, 5632]⟩
abbrev S49152x1x5632 : Shape := ⟨3, ![49152, 1, 5632]⟩
abbrev S49152x5632 : Shape := ⟨2, ![49152, 5632]⟩
abbrev S_ : Shape := ⟨0, ![]⟩

abbrev nBuf : Space → Nat
  | .hbm => 85
  | .vmem => 10
  | .smem => 0
  | _ => 0

abbrev bufTy : (tb : Table) → Fin (tcTables nBuf tb) → BufTy
  | .hbm, ⟨0, _⟩ => ⟨S6x8192x2048, .fp8e4m3⟩
  | .hbm, ⟨1, _⟩ => ⟨S6x8192x16, .f32⟩
  | .hbm, ⟨2, _⟩ => ⟨S6x8192x2048, .fp8e5m2⟩
  | .hbm, ⟨3, _⟩ => ⟨S6x8192x16, .f32⟩
  | .hbm, ⟨4, _⟩ => ⟨S6x8192x2x5632, .fp8e4m3⟩
  | .hbm, ⟨5, _⟩ => ⟨S6x8192x2x44, .f32⟩
  | .hbm, ⟨6, _⟩ => ⟨S2048x2x5632, .fp8e4m3⟩
  | .hbm, ⟨7, _⟩ => ⟨S16x2x44, .f32⟩
  | .hbm, ⟨8, _⟩ => ⟨S5632x2048, .fp8e4m3⟩
  | .hbm, ⟨9, _⟩ => ⟨S44x16, .f32⟩
  | .hbm, ⟨10, _⟩ => ⟨S6x8192x2048, .bf16⟩
  | .hbm, ⟨11, _⟩ => ⟨S6x8192x2048, .bf16⟩
  | .hbm, ⟨12, _⟩ => ⟨S6x8192x2x5632, .bf16⟩
  | .hbm, ⟨13, _⟩ => ⟨S2048x2x5632, .bf16⟩
  | .hbm, ⟨14, _⟩ => ⟨S5632x2048, .bf16⟩
  | .hbm, ⟨15, _⟩ => ⟨S16x128x2x44x128, .bf16⟩
  | .hbm, ⟨16, _⟩ => ⟨S16x2x44, .bf16⟩
  | .hbm, ⟨17, _⟩ => ⟨S16x1x2x44x1, .bf16⟩
  | .hbm, ⟨18, _⟩ => ⟨S16x128x2x44x128, .bf16⟩
  | .hbm, ⟨19, _⟩ => ⟨S16x128x2x44x128, .bf16⟩
  | .hbm, ⟨20, _⟩ => ⟨S2048x2x5632, .bf16⟩
  | .hbm, ⟨21, _⟩ => ⟨S44x128x16x128, .bf16⟩
  | .hbm, ⟨22, _⟩ => ⟨S44x16, .bf16⟩
  | .hbm, ⟨23, _⟩ => ⟨S44x1x16x1, .bf16⟩
  | .hbm, ⟨24, _⟩ => ⟨S44x128x16x128, .bf16⟩
  | .hbm, ⟨25, _⟩ => ⟨S44x128x16x128, .bf16⟩
  | .hbm, ⟨26, _⟩ => ⟨S5632x2048, .bf16⟩
  | .hbm, ⟨27, _⟩ => ⟨S6x8192x16x128, .bf16⟩
  | .hbm, ⟨28, _⟩ => ⟨S6x8192x16, .bf16⟩
  | .hbm, ⟨29, _⟩ => ⟨S6x8192x16x1, .bf16⟩
  | .hbm, ⟨30, _⟩ => ⟨S6x8192x16x128, .bf16⟩
  | .hbm, ⟨31, _⟩ => ⟨S6x8192x16x128, .bf16⟩
  | .hbm, ⟨32, _⟩ => ⟨S6x8192x2048, .bf16⟩
  | .hbm, ⟨33, _⟩ => ⟨S49152x2048, .bf16⟩
  | .hbm, ⟨34, _⟩ => ⟨S6x8192x16x128, .bf16⟩
  | .hbm, ⟨35, _⟩ => ⟨S6x8192x16, .bf16⟩
  | .hbm, ⟨36, _⟩ => ⟨S6x8192x16x1, .bf16⟩
  | .hbm, ⟨37, _⟩ => ⟨S6x8192x16x128, .bf16⟩
  | .hbm, ⟨38, _⟩ => ⟨S6x8192x16x128, .bf16⟩
  | .hbm, ⟨39, _⟩ => ⟨S6x8192x2048, .bf16⟩
  | .hbm, ⟨40, _⟩ => ⟨S49152x2048, .bf16⟩
  | .hbm, ⟨41, _⟩ => ⟨S6x8192x2x44x128, .bf16⟩
  | .hbm, ⟨42, _⟩ => ⟨S6x8192x2x44, .bf16⟩
  | .hbm, ⟨43, _⟩ => ⟨S6x8192x2x44x1, .bf16⟩
  | .hbm, ⟨44, _⟩ => ⟨S6x8192x2x44x128, .bf16⟩
  | .hbm, ⟨45, _⟩ => ⟨S6x8192x2x44x128, .bf16⟩
  | .hbm, ⟨46, _⟩ => ⟨S6x8192x2x5632, .bf16⟩
  | .hbm, ⟨47, _⟩ => ⟨S6x8192x2x5632, .f32⟩
  | .hbm, ⟨48, _⟩ => ⟨S49152x2x5632, .f32⟩
  | .hbm, ⟨49, _⟩ => ⟨S49152x1x5632, .f32⟩
  | .hbm, ⟨50, _⟩ => ⟨S49152x5632, .f32⟩
  | .hbm, ⟨51, _⟩ => ⟨S49152x1x5632, .f32⟩
  | .hbm, ⟨52, _⟩ => ⟨S49152x5632, .f32⟩
  | .hbm, ⟨53, _⟩ => ⟨S49152x5632, .f32⟩
  | .hbm, ⟨54, _⟩ => ⟨S49152x5632, .f32⟩
  | .hbm, ⟨55, _⟩ => ⟨S_, .f32⟩
  | .hbm, ⟨56, _⟩ => ⟨S49152x5632, .f32⟩
  | .hbm, ⟨57, _⟩ => ⟨S49152x5632, .f32⟩
  | .hbm, ⟨58, _⟩ => ⟨S_, .f32⟩
  | .hbm, ⟨59, _⟩ => ⟨S49152x5632, .f32⟩
  | .hbm, ⟨60, _⟩ => ⟨S49152x5632, .f32⟩
  | .hbm, ⟨61, _⟩ => ⟨S49152x5632, .f32⟩
  | .hbm, ⟨62, _⟩ => ⟨S49152x5632, .f32⟩
  | .hbm, ⟨63, _⟩ => ⟨S49152x5632, .bf16⟩
  | .hbm, ⟨64, _⟩ => ⟨S49152x5632, .f32⟩
  | .hbm, ⟨65, _⟩ => ⟨S49152x5632, .f32⟩
  | .hbm, ⟨66, _⟩ => ⟨S49152x5632, .f32⟩
  | .hbm, ⟨67, _⟩ => ⟨S_, .f32⟩
  | .hbm, ⟨68, _⟩ => ⟨S49152x5632, .f32⟩
  | .hbm, ⟨69, _⟩ => ⟨S49152x5632, .f32⟩
  | .hbm, ⟨70, _⟩ => ⟨S49152x5632, .f32⟩
  | .hbm, ⟨71, _⟩ => ⟨S_, .f32⟩
  | .hbm, ⟨72, _⟩ => ⟨S49152x5632, .f32⟩
  | .hbm, ⟨73, _⟩ => ⟨S49152x5632, .f32⟩
  | .hbm, ⟨74, _⟩ => ⟨S49152x5632, .f32⟩
  | .hbm, ⟨75, _⟩ => ⟨S49152x5632, .f32⟩
  | .hbm, ⟨76, _⟩ => ⟨S49152x1x5632, .f32⟩
  | .hbm, ⟨77, _⟩ => ⟨S49152x1x5632, .f32⟩
  | .hbm, ⟨78, _⟩ => ⟨S49152x2x5632, .f32⟩
  | .hbm, ⟨79, _⟩ => ⟨S49152x2x5632, .bf16⟩
  | .hbm, ⟨80, _⟩ => ⟨S49152x2048, .f32⟩
  | .hbm, ⟨81, _⟩ => ⟨S49152x2048, .bf16⟩
  | .hbm, ⟨82, _⟩ => ⟨S2048x2x5632, .f32⟩
  | .hbm, ⟨83, _⟩ => ⟨S5632x2048, .f32⟩
  | .hbm, ⟨84, _⟩ => ⟨S6x8192x2048, .bf16⟩
  | .local _ .vmem, ⟨0, _⟩ => ⟨S6x8192x2048, .fp8e4m3⟩
  | .local _ .vmem, ⟨1, _⟩ => ⟨S6x8192x2048, .fp8e5m2⟩
  | .local _ .vmem, ⟨2, _⟩ => ⟨S6x8192x2x5632, .fp8e4m3⟩
  | .local _ .vmem, ⟨3, _⟩ => ⟨S2048x2x5632, .fp8e4m3⟩
  | .local _ .vmem, ⟨4, _⟩ => ⟨S5632x2048, .fp8e4m3⟩
  | .local _ .vmem, ⟨5, _⟩ => ⟨S6x8192x2048, .bf16⟩
  | .local _ .vmem, ⟨6, _⟩ => ⟨S6x8192x2048, .bf16⟩
  | .local _ .vmem, ⟨7, _⟩ => ⟨S6x8192x2x5632, .bf16⟩
  | .local _ .vmem, ⟨8, _⟩ => ⟨S2048x2x5632, .bf16⟩
  | .local _ .vmem, ⟨9, _⟩ => ⟨S5632x2048, .bf16⟩
  | _, _ => ⟨S6x8192x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst : Ref sig .tc := ⟨.hbm, 55, rfl⟩
abbrev main_v41 : Ref sig .tc := ⟨.hbm, 56, rfl⟩
abbrev main_v42 : Ref sig .tc := ⟨.hbm, 57, rfl⟩
abbrev main_cst_0 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_1 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_2 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S6x8192x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x8192x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x8192x2x5632 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2x5632 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5632x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x8192x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x8192x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x8192x2x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x2x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S5632x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.R0.Runs.lean ====
/- Region 0 of the kernel, the transposed down weights (`w_down_t`): its windows' blocks, its branch conditions and its staging buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the region finds in the core's buffers
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 2, through which its contents are stated (`View.read_writes_of_cover`: the
    choice does not matter). -/
abbrev VO0_2 : View sig .tc .vmem S2048x512 .bf16 := (Memref.whole cc0_stg2_0 : Memref sig .tc .vmem S2048x512 .bf16).view
/-- Each window's current staging memref at point `t`, spelled as the pipeline passes it (`bodyAt0`), and its wholeness. -/
abbrev ms0_0 (t : Fin cfg0.N) : Memref sig .tc .smem S44x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)

end Cert.KernelIdeal.R0

end
-- ==== Proof.R0.RunA.lean ====
/- Region 0 of the kernel, the transposed down weights (`w_down_t`): the run of the body in case A. -/
module

public import proofs.«01_k».proof.Proof.R0.Runs

@[expose] public section

-- membership in a rectangle of production extents (`View.cover_of_tiled`): the elaborator's structural look
-- recurses once per coordinate of the long axes
set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the region finds in the core's buffers
variable (V : (c : Dev nD) → (b : Ref sig .tc) → Buf (Elt F) ((c : Thread nD τ).loc b))

-- (the run's proof term is large: the definition's epilogue — `abstractNestedProofs` — walks it past the default budget)
set_option maxHeartbeats 1704000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .smem S44x16 .f32) (harg1 : arg1.IsWhole) (arg2 : Memref sig .tc .vmem S512x2048 .fp8e4m3) (harg2 : arg2.IsWhole) (arg3 : Memref sig .tc .vmem S2048x512 .bf16) (harg3 : arg3.IsWhole)
    (x0 : Vec F S44x16 .f32) (x1 : Vec F S512x2048 .fp8e4m3) :
    { L2 : List (View.Piece (Elt F) S2048x512 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0_w_down_t i arg1 harg1 arg2 harg2 arg3 harg3) K } := by
  refine ⟨?_, fun E K => ?run⟩
  case run =>
    simp only [cc0_w_down_t_eq_skeleton]; unfold cc0_w_down_t_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.R0

end
-- ==== Proof.R0.Frame.lean ====
/- Region 0 of the kernel, the transposed down weights (`w_down_t`): its proof data and its body's obligation. -/
module

public import proofs.«01_k».proof.Proof.R0.RunA

@[expose] public section

-- membership in a rectangle of production extents (`View.cover_of_tiled`): the elaborator's structural look
-- recurses once per coordinate of the long axes
set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the region finds in the core's buffers
variable (V : (c : Dev nD) → (b : Ref sig .tc) → Buf (Elt F) ((c : Thread nD τ).loc b))

/-- The run's pieces for output 2 tile its block (64 stores of `S128x128`, checked by the kernel's evaluation: Lib/Ring.lean `Piece.tiledL`, linear in the pieces, through a loop's `@[irreducible]` trip theorem too), so they cover it. -/
theorem cover0_A_2 (c : Dev nD) (i : grid0.Coords) (arg1 : Memref sig .tc .smem S44x16 .f32) (harg1 : arg1.IsWhole) (arg2 : Memref sig .tc .vmem S512x2048 .fp8e4m3) (harg2 : arg2.IsWhole) (arg3 : Memref sig .tc .vmem S2048x512 .bf16) (harg3 : arg3.IsWhole)
    (x0 : Vec F S44x16 .f32) (x1 : Vec F S512x2048 .fp8e4m3) (y : S2048x512.Idx) :
    ∃ pc ∈ (kernelRun0_A c i arg1 harg1 arg2 harg2 arg3 harg3 x0 x1).1, y ∈ pc.1.set :=
  View.cover_of_tiledL (kernelRun0_A c i arg1 harg1 arg2 harg2 arg3 harg3 x0 x1).1 S128x128.size (by sl_kernel_rfl) y

/-- What the run leaves in output 2's staging buffer: its pieces read back over junk. -/
def out0_A_2 (c : Dev nD) (i : grid0.Coords) (arg1 : Memref sig .tc .smem S44x16 .f32) (harg1 : arg1.IsWhole) (arg2 : Memref sig .tc .vmem S512x2048 .fp8e4m3) (harg2 : arg2.IsWhole) (arg3 : Memref sig .tc .vmem S2048x512 .bf16) (harg3 : arg3.IsWhole)
    (x0 : Vec F S44x16 .f32) (x1 : Vec F S512x2048 .fp8e4m3) : Vec F S2048x512 .bf16 :=
  VO0_2.read (Elt F) (VO0_2.writes (Elt F) VO0_2.junk (kernelRun0_A c i arg1 harg1 arg2 harg2 arg3 harg3 x0 x1).1)

/-! ## What the outputs hold after each point -/

/-- What the outputs' staging buffers hold after the body at point `t`: the run's contents at
    the point's memrefs and input blocks. -/
def outsAt0 (c : Dev nD) (t : Fin cfg0.N) : Vec F S2048x512 .bf16 :=
  out0_A_2 c (grid0.coords t) (ms0_0 t) (hs0_0 t) (ms0_1 t) (hs0_1 t) (ms0_2 t) (hs0_2 t) (iblk V c 0 t) (iblk V c 1 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt0 V c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- What the body leaves, window by window (the proof data's `match` reduced by `dsimp`). -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = (outsAt0 V c t) := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d

/-! ## The body obligation, at a generic point -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t))

/-- The body at any point: the inputs' memrefs hold their blocks (`before0_W`); so the
    run applies; the invariant passes through unread; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat V c).Φ t.succ = (dat V c).Φ t.castSucc from rfl,
    show (dat V c).owesAt () t.succ = (dat V c).owesAt () t.castSucc from rfl,
    after0_0, after0_1, after0_2]
  unfold outsAt0
  unfold out0_A_2
  iintro ⟨HΦ, Ho, ⟨%d0, H0⟩, ⟨%d1, H1⟩, ⟨%d2, H2⟩⟩
  iapply ((kernelRun0_A c (grid0.coords t) _ _ _ _ _ _ (iblk V c 0 t) (iblk V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.KernelIdeal.R0

end
-- ==== Proof.R1.Runs.lean ====
/- Region 1 of the kernel, the transposed gate/up weights (`w_gu_t`): its windows' blocks, its branch conditions and its staging buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the region finds in the core's buffers
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 2, through which its contents are stated (`View.read_writes_of_cover`: the
    choice does not matter). -/
abbrev VO0_2 : View sig .tc .vmem S512x2048 .bf16 := (Memref.whole cc1_stg2_0 : Memref sig .tc .vmem S512x2048 .bf16).view
/-- Each window's current staging memref at point `t`, spelled as the pipeline passes it (`bodyAt1`), and its wholeness. -/
abbrev ms0_0 (t : Fin cfg1.N) : Memref sig .tc .smem S2x16x44 .f32 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S1x2048x512 .fp8e4m3 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S512x2048 .bf16 := win1_2.stage (cfg1.slots t 2)
abbrev hs0_2 (t : Fin cfg1.N) : (ms0_2 t).IsWhole := hstage1_2 ((cfg1.slots t 2).cast nbuf1_2)

end Cert.KernelIdeal.R1

end
-- ==== Proof.R1.RunA.lean ====
/- Region 1 of the kernel, the transposed gate/up weights (`w_gu_t`): the run of the body in case A. -/
module

public import proofs.«01_k».proof.Proof.R1.Runs

@[expose] public section

-- membership in a rectangle of production extents (`View.cover_of_tiled`): the elaborator's structural look
-- recurses once per coordinate of the long axes
set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the region finds in the core's buffers
variable (V : (c : Dev nD) → (b : Ref sig .tc) → Buf (Elt F) ((c : Thread nD τ).loc b))

-- (the run's proof term is large: the definition's epilogue — `abstractNestedProofs` — walks it past the default budget)
set_option maxHeartbeats 2260000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid1.Coords) (arg2 : Memref sig .tc .smem S2x16x44 .f32) (harg2 : arg2.IsWhole) (arg3 : Memref sig .tc .vmem S1x2048x512 .fp8e4m3) (harg3 : arg3.IsWhole) (arg4 : Memref sig .tc .vmem S512x2048 .bf16) (harg4 : arg4.IsWhole)
    (x0 : Vec F S2x16x44 .f32) (x1 : Vec F S1x2048x512 .fp8e4m3) :
    { L2 : List (View.Piece (Elt F) S512x2048 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1_w_gu_t i arg2 harg2 arg3 harg3 arg4 harg4) K } := by
  refine ⟨?_, fun E K => ?run⟩
  case run =>
    simp only [cc1_w_gu_t_eq_skeleton]; unfold cc1_w_gu_t_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.R1

end
-- ==== Proof.R1.Frame.lean ====
/- Region 1 of the kernel, the transposed gate/up weights (`w_gu_t`): its proof data and its body's obligation. -/
module

public import proofs.«01_k».proof.Proof.R1.RunA

@[expose] public section

-- membership in a rectangle of production extents (`View.cover_of_tiled`): the elaborator's structural look
-- recurses once per coordinate of the long axes
set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the region finds in the core's buffers
variable (V : (c : Dev nD) → (b : Ref sig .tc) → Buf (Elt F) ((c : Thread nD τ).loc b))

/-- The run's pieces for output 2 tile its block (64 stores of `S128x128`, checked by the kernel's evaluation: Lib/Ring.lean `Piece.tiledL`, linear in the pieces, through a loop's `@[irreducible]` trip theorem too), so they cover it. -/
theorem cover0_A_2 (c : Dev nD) (i : grid1.Coords) (arg2 : Memref sig .tc .smem S2x16x44 .f32) (harg2 : arg2.IsWhole) (arg3 : Memref sig .tc .vmem S1x2048x512 .fp8e4m3) (harg3 : arg3.IsWhole) (arg4 : Memref sig .tc .vmem S512x2048 .bf16) (harg4 : arg4.IsWhole)
    (x0 : Vec F S2x16x44 .f32) (x1 : Vec F S1x2048x512 .fp8e4m3) (y : S512x2048.Idx) :
    ∃ pc ∈ (kernelRun0_A c i arg2 harg2 arg3 harg3 arg4 harg4 x0 x1).1, y ∈ pc.1.set :=
  View.cover_of_tiledL (kernelRun0_A c i arg2 harg2 arg3 harg3 arg4 harg4 x0 x1).1 S128x128.size (by sl_kernel_rfl) y

/-- What the run leaves in output 2's staging buffer: its pieces read back over junk. -/
def out0_A_2 (c : Dev nD) (i : grid1.Coords) (arg2 : Memref sig .tc .smem S2x16x44 .f32) (harg2 : arg2.IsWhole) (arg3 : Memref sig .tc .vmem S1x2048x512 .fp8e4m3) (harg3 : arg3.IsWhole) (arg4 : Memref sig .tc .vmem S512x2048 .bf16) (harg4 : arg4.IsWhole)
    (x0 : Vec F S2x16x44 .f32) (x1 : Vec F S1x2048x512 .fp8e4m3) : Vec F S512x2048 .bf16 :=
  VO0_2.read (Elt F) (VO0_2.writes (Elt F) VO0_2.junk (kernelRun0_A c i arg2 harg2 arg3 harg3 arg4 harg4 x0 x1).1)

/-! ## What the outputs hold after each point -/

/-- What the outputs' staging buffers hold after the body at point `t`: the run's contents at
    the point's memrefs and input blocks. -/
def outsAt0 (c : Dev nD) (t : Fin cfg1.N) : Vec F S512x2048 .bf16 :=
  out0_A_2 c (grid1.coords t) (ms0_0 t) (hs0_0 t) (ms0_1 t) (hs0_1 t) (ms0_2 t) (hs0_2 t) (iblk V c 0 t) (iblk V c 1 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt0 V c t)
  Φ _ := Pipeline.ΦA spec1 c
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dat V c).A w = V c (Pipeline.arrRef spec1 w) := by
  dsimp only [dat]

/-- What the body leaves, window by window (the proof data's `match` reduced by `dsimp`). -/
theorem after0_0 (c : Dev nD) (t : Fin cfg1.N) : (dat V c).after 0 t = iblk V c 0 t := by dsimp only [dat]
theorem after0_1 (c : Dev nD) (t : Fin cfg1.N) : (dat V c).after 1 t = iblk V c 1 t := by dsimp only [dat]
theorem after0_2 (c : Dev nD) (t : Fin cfg1.N) : (dat V c).after 2 t = (outsAt0 V c t) := by dsimp only [dat]

/-- Each input's current staging buffer holds its block at every point, fetched there or not (`beforeK_W_of`). -/
theorem before0_0 (c : Dev nD) (t : Fin cfg1.N) (d) : (dat V c).before 0 t d = iblk V c 0 t :=
  before0_0_of V (dat V c) (A_eq V c 0) (after0_0 V c) t d
theorem before0_1 (c : Dev nD) (t : Fin cfg1.N) (d) : (dat V c).before 1 t d = iblk V c 1 t :=
  before0_1_of V (dat V c) (A_eq V c 1) (after0_1 V c) t d

/-! ## The body obligation, at a generic point -/

/-- What the body is called with at point `t` (Lib/Pipeline.lean `BodyObligation`'s precondition, the windows one by one), -/
def bodyPre (c : Dev nD) (t : Fin cfg1.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t))

/-- The body at any point: the inputs' memrefs hold their blocks (`before0_W`); so the
    run applies; the invariant passes through unread; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1]
  rw [show (dat V c).Φ t.succ = (dat V c).Φ t.castSucc from rfl,
    show (dat V c).owesAt () t.succ = (dat V c).owesAt () t.castSucc from rfl,
    after0_0, after0_1, after0_2]
  unfold outsAt0
  unfold out0_A_2
  iintro ⟨HΦ, Ho, ⟨%d0, H0⟩, ⟨%d1, H1⟩, ⟨%d2, H2⟩⟩
  iapply ((kernelRun0_A c (grid1.coords t) _ _ _ _ _ _ (iblk V c 0 t) (iblk V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.KernelIdeal.R1

end
-- ==== Proof.R2.Runs.lean ====
/- Region 2 of the kernel, the gradients of gate and up, the hidden layer and `dx` (`dgu_dx`): its windows' blocks, its branch conditions and its staging buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the region finds in the core's buffers
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k2_h1`), from the grid coordinates (the skeleton's scalar
    chain substituted). -/
abbrev cond0_0 (i : grid2.Coords) : Prop := (Scalar.cmpi .ne (Scalar.extui (Scalar.cmpi .eq (BitVec.ofNat 32 (i 1).val) 0#32)) 0#32) = 1#1
/-- It holds at the points ≡ 0 (mod 11) — by arithmetic of the point. -/
theorem hcond0_0 : ∀ t : Fin cfg2.N, cond0_0 (grid2.coords t) ↔ t.val % 11 = 0 :=
  (fun t => by
    have ht : t.val < 528 := Nat.lt_of_lt_of_eq t.isLt N_2
    have e0 : (grid2.coords t 0).val = t.val / 11 % 48 := Pipeline.Grid.coords_val t 0 (by decide) rfl
    have e1 : (grid2.coords t 1).val = t.val / 1 % 11 := Pipeline.Grid.coords_val t 1 (by decide) rfl
    simp only [cond0_0, e0, e1]
    word_cmp
   : ∀ t : Fin grid2.N, cond0_0 (grid2.coords t) ↔ t.val % 11 = 0)

/-- The condition of the body's `scf.if` 1 (`k2_h2`), from the grid coordinates (the skeleton's scalar
    chain substituted). -/
abbrev cond0_1 (i : grid2.Coords) : Prop := k2_cond2 i = 1#1
/-- It holds at the points ≡ 10 (mod 11) — by arithmetic of the point. -/
theorem hcond0_1 : ∀ t : Fin cfg2.N, cond0_1 (grid2.coords t) ↔ t.val % 11 = 10 :=
  (fun t => by
    have ht : t.val < 528 := Nat.lt_of_lt_of_eq t.isLt N_2
    have e0 : (grid2.coords t 0).val = t.val / 11 % 48 := Pipeline.Grid.coords_val t 0 (by decide) rfl
    have e1 : (grid2.coords t 1).val = t.val / 1 % 11 := Pipeline.Grid.coords_val t 1 (by decide) rfl
    simp only [cond0_1, k2_cond2, e0, e1]
    word_cmp
   : ∀ t : Fin grid2.N, cond0_1 (grid2.coords t) ↔ t.val % 11 = 10)

/-! ## Where the windows are idle (the printed configuration's table `Cfg.idle`) -/

/-- Window 0 is never idle (an input). -/
theorem liveAt0_0 : ∀ t : Fin cfg2.N, cfg2.idle 0 (grid2.coords t) = false := fun _ => rfl
/-- Window 1 is never idle (an input). -/
theorem liveAt0_1 : ∀ t : Fin cfg2.N, cfg2.idle 1 (grid2.coords t) = false := fun _ => rfl
/-- Window 2 is never idle (an input). -/
theorem liveAt0_2 : ∀ t : Fin cfg2.N, cfg2.idle 2 (grid2.coords t) = false := fun _ => rfl
/-- Window 3 is never idle (an input). -/
theorem liveAt0_3 : ∀ t : Fin cfg2.N, cfg2.idle 3 (grid2.coords t) = false := fun _ => rfl
/-- Window 4 is never idle (an input). -/
theorem liveAt0_4 : ∀ t : Fin cfg2.N, cfg2.idle 4 (grid2.coords t) = false := fun _ => rfl
/-- Window 5 is never idle (an input). -/
theorem liveAt0_5 : ∀ t : Fin cfg2.N, cfg2.idle 5 (grid2.coords t) = false := fun _ => rfl
/-- Window 6 is never idle (an output stored at every point, under no condition). -/
theorem liveAt0_6 : ∀ t : Fin cfg2.N, cfg2.idle 6 (grid2.coords t) = false := fun _ => rfl
/-- Window 7 is never idle (an output stored at every point, under no condition). -/
theorem liveAt0_7 : ∀ t : Fin cfg2.N, cfg2.idle 7 (grid2.coords t) = false := fun _ => rfl
/-- At the points of case A the printed configuration (`Cfg.idle`) calls output 8 idle: the case stores nothing into it. -/
theorem idleAt0_8_A : ∀ t : Fin cfg2.N, cond0_0 (grid2.coords t) → ¬cond0_1 (grid2.coords t) → cfg2.idle 8 (grid2.coords t) = true := by decide +kernel
/-- At the points of case A the pipeline does not write output 8's block back. -/
theorem noFlush0_8_A : ∀ t : Fin cfg2.N, cond0_0 (grid2.coords t) → ¬cond0_1 (grid2.coords t) → (cfg2.win 8).flush t = false := by decide +kernel
/-- At the points of case B the printed configuration (`Cfg.idle`) calls output 8 idle: the case stores nothing into it. -/
theorem idleAt0_8_B : ∀ t : Fin cfg2.N, ¬cond0_0 (grid2.coords t) → ¬cond0_1 (grid2.coords t) → cfg2.idle 8 (grid2.coords t) = true := by decide +kernel
/-- At the points of case B the pipeline does not write output 8's block back. -/
theorem noFlush0_8_B : ∀ t : Fin cfg2.N, ¬cond0_0 (grid2.coords t) → ¬cond0_1 (grid2.coords t) → (cfg2.win 8).flush t = false := by decide +kernel
/-- At the points of case C the printed configuration (`Cfg.idle`) calls output 8 live: the case stores into it. -/
theorem liveAt0_8_C : ∀ t : Fin cfg2.N, ¬cond0_0 (grid2.coords t) → cond0_1 (grid2.coords t) → cfg2.idle 8 (grid2.coords t) = false := by decide +kernel

/-! ## The kernel body on any staging memrefs: a subtype the run finds -/

/-- One staging buffer of output window 6, through which its contents are stated (`View.read_writes_of_cover`: the
    choice does not matter). -/
abbrev VO0_6 : View sig .tc .vmem S1024x1024 .bf16 := (Memref.whole cc2_stg6_0 : Memref sig .tc .vmem S1024x1024 .bf16).view
/-- One staging buffer of output window 7, through which its contents are stated (`View.read_writes_of_cover`: the
    choice does not matter). -/
abbrev VO0_7 : View sig .tc .vmem S1024x512 .bf16 := (Memref.whole cc2_stg7_0 : Memref sig .tc .vmem S1024x512 .bf16).view
/-- One staging buffer of output window 8, through which its contents are stated (`View.read_writes_of_cover`: the
    choice does not matter). -/
abbrev VO0_8 : View sig .tc .vmem S1024x2048 .bf16 := (Memref.whole cc2_stg8_0 : Memref sig .tc .vmem S1024x2048 .bf16).view
/-- Each window's current staging memref at point `t`, spelled as the pipeline passes it (`bodyAt2`), and its wholeness. -/
abbrev ms0_0 (t : Fin cfg2.N) : Memref sig .tc .vmem S1024x2048 .fp8e5m2 := win2_0.stage (cfg2.slots t 0)
abbrev hs0_0 (t : Fin cfg2.N) : (ms0_0 t).IsWhole := hstage2_0 ((cfg2.slots t 0).cast nbuf2_0)
abbrev ms0_1 (t : Fin cfg2.N) : Memref sig .tc .vmem S1x16x1024 .f32 := win2_1.stage (cfg2.slots t 1)
abbrev hs0_1 (t : Fin cfg2.N) : (ms0_1 t).IsWhole := hstage2_1 ((cfg2.slots t 1).cast nbuf2_1)
abbrev ms0_2 (t : Fin cfg2.N) : Memref sig .tc .vmem S1x2x1024x512 .fp8e4m3 := win2_2.stage (cfg2.slots t 2)
abbrev hs0_2 (t : Fin cfg2.N) : (ms0_2 t).IsWhole := hstage2_2 ((cfg2.slots t 2).cast nbuf2_2)
abbrev ms0_3 (t : Fin cfg2.N) : Memref sig .tc .vmem S1x1x8x1024 .f32 := win2_3.stage (cfg2.slots t 3)
abbrev hs0_3 (t : Fin cfg2.N) : (ms0_3 t).IsWhole := hstage2_3 ((cfg2.slots t 3).cast nbuf2_3)
abbrev ms0_4 (t : Fin cfg2.N) : Memref sig .tc .vmem S2048x512 .bf16 := win2_4.stage (cfg2.slots t 4)
abbrev hs0_4 (t : Fin cfg2.N) : (ms0_4 t).IsWhole := hstage2_4 ((cfg2.slots t 4).cast nbuf2_4)
abbrev ms0_5 (t : Fin cfg2.N) : Memref sig .tc .vmem S1024x2048 .bf16 := win2_5.stage (cfg2.slots t 5)
abbrev hs0_5 (t : Fin cfg2.N) : (ms0_5 t).IsWhole := hstage2_5 ((cfg2.slots t 5).cast nbuf2_5)
abbrev ms0_6 (t : Fin cfg2.N) : Memref sig .tc .vmem S1024x1024 .bf16 := win2_6.stage (cfg2.slots t 6)
abbrev hs0_6 (t : Fin cfg2.N) : (ms0_6 t).IsWhole := hstage2_6 ((cfg2.slots t 6).cast nbuf2_6)
abbrev ms0_7 (t : Fin cfg2.N) : Memref sig .tc .vmem S1024x512 .bf16 := win2_7.stage (cfg2.slots t 7)
abbrev hs0_7 (t : Fin cfg2.N) : (ms0_7 t).IsWhole := hstage2_7 ((cfg2.slots t 7).cast nbuf2_7)
abbrev ms0_8 (t : Fin cfg2.N) : Memref sig .tc .vmem S1024x2048 .bf16 := win2_8.stage (cfg2.slots t 8)
abbrev hs0_8 (t : Fin cfg2.N) : (ms0_8 t).IsWhole := hstage2_8 ((cfg2.slots t 8).cast nbuf2_8)
/-- The scratch operands: whole scoped buffers of the kernel's own, passed beside the windows. -/
abbrev scM0_0 : Memref sig .tc .vmem S1024x2048 .bf16 := Memref.whole cc2_scratch0
abbrev scM0_1 : Memref sig .tc .vmem S1024x2048 .f32 := Memref.whole cc2_scratch1
/-- The scratch `arg11` the kernel carries between points, as a view: what it holds is stated through it. -/
abbrev VS0_0 : View sig .tc .vmem S1024x2048 .bf16 := scM0_0.view
/-- The scratch `arg12` the kernel carries between points, as a view: what it holds is stated through it. -/
abbrev VS0_1 : View sig .tc .vmem S1024x2048 .f32 := scM0_1.view

theorem sep_assoc_eq (P Q R : sProp 𝕄) : iprop((P ∗ Q) ∗ R) = iprop(P ∗ Q ∗ R) :=
  equiv_iff.mp ⟨Idealize.SL.BI.sep_assoc, Idealize.SL.BI.sep_assoc'⟩

/-- What rides along beside the region's own scratch: every other scoped buffer of the kernel, and the generator register. -/
def rest (c : Dev nD) : sProp 𝕄 :=
  iprop(Pipeline.scopedRestBut (Ix := Unit) (Name := ℕ) (U := UR sig nD τ) (Lvl := ℕ) (Val := Elt F) spec2 c [cc2_scratch0, cc2_scratch1] ∗ ∃ r, prngReg c r)

/-- The frame kit's invariant with the scratch operands as memrefs owned at some contents (`Gen.scopedRest0_eq`,
    Lib/Memref.lean `owns_whole`): what the body obligation hands the run and takes back. -/
theorem PhiA0_eq (c : Dev nD) :
    (Pipeline.ΦA spec2 c : sProp 𝕄)
      = iprop(iprop((∃ d, owns (c : Thread nD τ) scM0_0 fullShare d) ∗ (∃ d, owns (c : Thread nD τ) scM0_1 fullShare d)) ∗ rest c) := by
  unfold Pipeline.ΦA rest; rw [scopedRest2_split, sep_assoc_eq]; simp only [scM0_0, scM0_1, owns_whole]; try rfl

end Cert.KernelIdeal.R2

end
-- ==== Proof.R2.RunA.lean ====
/- Region 2 of the kernel, the gradients of gate and up, the hidden layer and `dx` (`dgu_dx`): the run of the body in case A. -/
module

public import proofs.«01_k».proof.Proof.R2.Runs

@[expose] public section

-- membership in a rectangle of production extents (`View.cover_of_tiled`): the elaborator's structural look
-- recurses once per coordinate of the long axes
set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the region finds in the core's buffers
variable (V : (c : Dev nD) → (b : Ref sig .tc) → Buf (Elt F) ((c : Thread nD τ).loc b))

-- (the run's proof term is large: the definition's epilogue — `abstractNestedProofs` — walks it past the default budget)
set_option maxHeartbeats 1048000 in
/-- What the body's stores leave in each output's staging memref, as pieces (last first) IN CASE A (`scf.if` 0 taken, `scf.if` 1 not taken: points 0, 11, … 517: 48 of 528), WITH the
    proof that on whole staging memrefs — the inputs' at their contents, the outputs it leaves idle (8: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid2.Coords) (arg2 : Memref sig .tc .vmem S1024x2048 .fp8e5m2) (harg2 : arg2.IsWhole) (arg3 : Memref sig .tc .vmem S1x16x1024 .f32) (harg3 : arg3.IsWhole) (arg4 : Memref sig .tc .vmem S1x2x1024x512 .fp8e4m3) (harg4 : arg4.IsWhole) (arg5 : Memref sig .tc .vmem S1x1x8x1024 .f32) (harg5 : arg5.IsWhole) (arg6 : Memref sig .tc .vmem S2048x512 .bf16) (harg6 : arg6.IsWhole) (arg7 : Memref sig .tc .vmem S1024x2048 .bf16) (harg7 : arg7.IsWhole) (arg8 : Memref sig .tc .vmem S1024x1024 .bf16) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S1024x2048 .f32) (harg12 : arg12.IsWhole) (hc0 : cond0_0 i) (hc1 : ¬cond0_1 i)
    (x0 : Vec F S1024x2048 .fp8e5m2) (x1 : Vec F S1x16x1024 .f32) (x2 : Vec F S1x2x1024x512 .fp8e4m3) (x3 : Vec F S1x1x8x1024 .f32) (x4 : Vec F S2048x512 .bf16) (x5 : Vec F S1024x2048 .bf16) :
    Σ' (L6 : List (View.Piece (Elt F) S1024x1024 .bf16)), Σ' (L7 : List (View.Piece (Elt F) S1024x512 .bf16)), Σ' (L8 : List (View.Piece (Elt F) S1024x2048 .bf16)), Σ' (LS0 : List (View.Piece (Elt F) S1024x2048 .bf16)), { LS1 : List (View.Piece (Elt F) S1024x2048 .f32) //
      ∀ (xi8 : Vec F S1024x2048 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc2_dgu_dx i arg2 harg2 arg3 harg3 arg4 harg4 arg5 harg5 arg6 harg6 arg7 harg7 arg8 harg8 arg9 harg9 arg10 harg10 arg11 harg11 arg12 harg12) K } := by
  refine ⟨?_, ?_, [], ?_, ?_, fun xi8 E K => ?run⟩
  case run =>
    simp only [cc2_dgu_dx_eq_skeleton]; unfold cc2_dgu_dx_skel
    simp only [k2_part5_eq_skeleton, k2_part4_eq_skeleton, k2_part1_eq_skeleton, k2_part2_eq_skeleton, k2_part3_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]
    · iexists _; isplitr; · ipureintro; exact harg10.read_unread _
      iexact H8
    isplitl [HS0]; · iexists _; iexact HS0
    iexists _; iexact HS1

end Cert.KernelIdeal.R2

end
-- ==== Proof.R2.RunB.lean ====
/- Region 2 of the kernel, the gradients of gate and up, the hidden layer and `dx` (`dgu_dx`): the run of the body in case B. -/
module

public import proofs.«01_k».proof.Proof.R2.RunA

@[expose] public section

-- membership in a rectangle of production extents (`View.cover_of_tiled`): the elaborator's structural look
-- recurses once per coordinate of the long axes
set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the region finds in the core's buffers
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 526: 432 of 528), WITH the
    proof that on whole staging memrefs — the inputs' at their contents, the outputs it leaves idle (8: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid2.Coords) (arg2 : Memref sig .tc .vmem S1024x2048 .fp8e5m2) (harg2 : arg2.IsWhole) (arg3 : Memref sig .tc .vmem S1x16x1024 .f32) (harg3 : arg3.IsWhole) (arg4 : Memref sig .tc .vmem S1x2x1024x512 .fp8e4m3) (harg4 : arg4.IsWhole) (arg5 : Memref sig .tc .vmem S1x1x8x1024 .f32) (harg5 : arg5.IsWhole) (arg6 : Memref sig .tc .vmem S2048x512 .bf16) (harg6 : arg6.IsWhole) (arg7 : Memref sig .tc .vmem S1024x2048 .bf16) (harg7 : arg7.IsWhole) (arg8 : Memref sig .tc .vmem S1024x1024 .bf16) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S1024x2048 .f32) (harg12 : arg12.IsWhole) (hc0 : ¬cond0_0 i) (hc1 : ¬cond0_1 i)
    (x0 : Vec F S1024x2048 .fp8e5m2) (x1 : Vec F S1x16x1024 .f32) (x2 : Vec F S1x2x1024x512 .fp8e4m3) (x3 : Vec F S1x1x8x1024 .f32) (x4 : Vec F S2048x512 .bf16) (x5 : Vec F S1024x2048 .bf16) (xs0 : Vec F S1024x2048 .bf16) (xs1 : Vec F S1024x2048 .f32) :
    Σ' (L6 : List (View.Piece (Elt F) S1024x1024 .bf16)), Σ' (L7 : List (View.Piece (Elt F) S1024x512 .bf16)), Σ' (L8 : List (View.Piece (Elt F) S1024x2048 .bf16)), Σ' (LS0 : List (View.Piece (Elt F) S1024x2048 .bf16)), { LS1 : List (View.Piece (Elt F) S1024x2048 .f32) //
      ∀ (xi8 : Vec F S1024x2048 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xi8 ∗ owns (c : Thread nD τ) arg11 fullShare xs0 ∗ (∃ f, arg12.view.loc (c : Thread nD τ) ↦[arg12.view.set]{fullShare} arg12.view.writes (Elt F) f LS1)) -∗ K ⟨⟩))
          ⊢ wp frame (wpE (defs₀ (F := F)) Variants.none c none) E (cc2_dgu_dx i arg2 harg2 arg3 harg3 arg4 harg4 arg5 harg5 arg6 harg6 arg7 harg7 arg8 harg8 arg9 harg9 arg10 harg10 arg11 harg11 arg12 harg12) K } := by
  refine ⟨?_, ?_, [], [], ?_, fun xi8 E K => ?run⟩
  case run =>
    simp only [cc2_dgu_dx_eq_skeleton]; unfold cc2_dgu_dx_skel
    simp only [k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8; obtain rfl := harg11.eq_unread hfs0; obtain rfl := harg12.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]
    · iexists _; isplitr; · ipureintro; exact harg10.read_unread _
      iexact H8
    isplitl [HS0]
    · iexists _; isplitr; · ipureintro; exact harg11.read_unread _
      iexact HS0
    iexists _; iexact HS1

end Cert.KernelIdeal.R2

end
-- ==== Proof.R2.RunC.lean ====
/- Region 2 of the kernel, the gradients of gate and up, the hidden layer and `dx` (`dgu_dx`): the run of the body in case C. -/
module

public import proofs.«01_k».proof.Proof.R2.RunB

@[expose] public section

-- membership in a rectangle of production extents (`View.cover_of_tiled`): the elaborator's structural look
-- recurses once per coordinate of the long axes
set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the region finds in the core's buffers
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE C (`scf.if` 0 not taken, `scf.if` 1 taken: points 10, 21, … 527: 48 of 528), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid2.Coords) (arg2 : Memref sig .tc .vmem S1024x2048 .fp8e5m2) (harg2 : arg2.IsWhole) (arg3 : Memref sig .tc .vmem S1x16x1024 .f32) (harg3 : arg3.IsWhole) (arg4 : Memref sig .tc .vmem S1x2x1024x512 .fp8e4m3) (harg4 : arg4.IsWhole) (arg5 : Memref sig .tc .vmem S1x1x8x1024 .f32) (harg5 : arg5.IsWhole) (arg6 : Memref sig .tc .vmem S2048x512 .bf16) (harg6 : arg6.IsWhole) (arg7 : Memref sig .tc .vmem S1024x2048 .bf16) (harg7 : arg7.IsWhole) (arg8 : Memref sig .tc .vmem S1024x1024 .bf16) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S1024x2048 .f32) (harg12 : arg12.IsWhole) (hc0 : ¬cond0_0 i) (hc1 : cond0_1 i)
    (x0 : Vec F S1024x2048 .fp8e5m2) (x1 : Vec F S1x16x1024 .f32) (x2 : Vec F S1x2x1024x512 .fp8e4m3) (x3 : Vec F S1x1x8x1024 .f32) (x4 : Vec F S2048x512 .bf16) (x5 : Vec F S1024x2048 .bf16) (xs0 : Vec F S1024x2048 .bf16) (xs1 : Vec F S1024x2048 .f32) :
    Σ' (L6 : List (View.Piece (Elt F) S1024x1024 .bf16)), Σ' (L7 : List (View.Piece (Elt F) S1024x512 .bf16)), Σ' (L8 : List (View.Piece (Elt F) S1024x2048 .bf16)), Σ' (LS0 : List (View.Piece (Elt F) S1024x2048 .bf16)), { LS1 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ owns (c : Thread nD τ) arg11 fullShare xs0 ∗ (∃ f, arg12.view.loc (c : Thread nD τ) ↦[arg12.view.set]{fullShare} arg12.view.writes (Elt F) f LS1)) -∗ K ⟨⟩))
          ⊢ wp frame (wpE (defs₀ (F := F)) Variants.none c none) E (cc2_dgu_dx i arg2 harg2 arg3 harg3 arg4 harg4 arg5 harg5 arg6 harg6 arg7 harg7 arg8 harg8 arg9 harg9 arg10 harg10 arg11 harg11 arg12 harg12) K } := by
  refine ⟨?_, ?_, ?_, [], ?_, fun E K => ?run⟩
  case run =>
    simp only [cc2_dgu_dx_eq_skeleton]; unfold cc2_dgu_dx_skel
    simp only [k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0; obtain rfl := harg12.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [HS0]
    · iexists _; isplitr; · ipureintro; exact harg11.read_unread _
      iexact HS0
    iexists _; iexact HS1

end Cert.KernelIdeal.R2

end
-- ==== Proof.R2.Frame.lean ====
/- Region 2 of the kernel, the gradients of gate and up, the hidden layer and `dx` (`dgu_dx`): its proof data and its body's obligation. -/
module

public import proofs.«01_k».proof.Proof.R2.RunC

@[expose] public section

-- membership in a rectangle of production extents (`View.cover_of_tiled`): the elaborator's structural look
-- recurses once per coordinate of the long axes
set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the region finds in the core's buffers
variable (V : (c : Dev nD) → (b : Ref sig .tc) → Buf (Elt F) ((c : Thread nD τ).loc b))

section
variable (c : Dev nD) (i : grid2.Coords) (arg2 : Memref sig .tc .vmem S1024x2048 .fp8e5m2) (harg2 : arg2.IsWhole) (arg3 : Memref sig .tc .vmem S1x16x1024 .f32) (harg3 : arg3.IsWhole) (arg4 : Memref sig .tc .vmem S1x2x1024x512 .fp8e4m3) (harg4 : arg4.IsWhole) (arg5 : Memref sig .tc .vmem S1x1x8x1024 .f32) (harg5 : arg5.IsWhole) (arg6 : Memref sig .tc .vmem S2048x512 .bf16) (harg6 : arg6.IsWhole) (arg7 : Memref sig .tc .vmem S1024x2048 .bf16) (harg7 : arg7.IsWhole) (arg8 : Memref sig .tc .vmem S1024x1024 .bf16) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S1024x2048 .f32) (harg12 : arg12.IsWhole) (hc0 : cond0_0 i) (hc1 : ¬cond0_1 i)
    (x0 : Vec F S1024x2048 .fp8e5m2) (x1 : Vec F S1x16x1024 .f32) (x2 : Vec F S1x2x1024x512 .fp8e4m3) (x3 : Vec F S1x1x8x1024 .f32) (x4 : Vec F S2048x512 .bf16) (x5 : Vec F S1024x2048 .bf16)

/-- Case A's pieces for output 6 tile its block (32 stores of `S256x128`, checked by the kernel's evaluation: Lib/Ring.lean `Piece.tiledL`, linear in the pieces, through a loop's `@[irreducible]` trip theorem too), so they cover it. -/
theorem cover0_A_6 (y : S1024x1024.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).1 S256x128.size (by sl_kernel_rfl) y

/-- What case A leaves in output 6's staging buffer: its pieces read back over junk. -/
def out0_A_6 : Vec F S1024x1024 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).1)

/-- Case A's pieces for output 7 tile its block (16 stores of `S256x128`, checked by the kernel's evaluation: Lib/Ring.lean `Piece.tiledL`, linear in the pieces, through a loop's `@[irreducible]` trip theorem too), so they cover it. -/
theorem cover0_A_7 (y : S1024x512.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.1 S256x128.size (by sl_kernel_rfl) y

/-- What case A leaves in output 7's staging buffer: its pieces read back over junk. -/
def out0_A_7 : Vec F S1024x512 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.1)

/-- Case A stores nothing into output 8 (the window is idle at its points and not written back there):
    no pieces — a placeholder (junk read back) that nothing consults, since at these points the window is neither
    written back nor read at the next point (Lib/Pipeline.lean "Idle points"). -/
def out0_A_8 : Vec F S1024x2048 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.1)

/-- Case A's pieces for scratch `arg11`, which the kernel carries between points, cover it: 16 pieces of `S1024x128` tiling it (Lib/Ring.lean `Piece.tiledL`). -/
theorem scover0_A_0 (y : S1024x2048.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1 S1024x128.size (by sl_kernel_rfl) y

/-- What case A leaves in scratch `arg11`: its pieces read back over junk. -/
def sout0_A_0 : Vec F S1024x2048 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1)

/-- Case A's pieces for scratch `arg12`, which the kernel carries between points, cover it: 2 pieces of `S1024x2048` tiling it (Lib/Ring.lean `Piece.tiledL`). -/
theorem scover0_A_1 (y : S1024x2048.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1 S1024x2048.size (by sl_kernel_rfl) y

/-- What case A leaves in scratch `arg12`: its pieces read back over junk. -/
def sout0_A_1 : Vec F S1024x2048 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1)

end

section
variable (c : Dev nD) (i : grid2.Coords) (arg2 : Memref sig .tc .vmem S1024x2048 .fp8e5m2) (harg2 : arg2.IsWhole) (arg3 : Memref sig .tc .vmem S1x16x1024 .f32) (harg3 : arg3.IsWhole) (arg4 : Memref sig .tc .vmem S1x2x1024x512 .fp8e4m3) (harg4 : arg4.IsWhole) (arg5 : Memref sig .tc .vmem S1x1x8x1024 .f32) (harg5 : arg5.IsWhole) (arg6 : Memref sig .tc .vmem S2048x512 .bf16) (harg6 : arg6.IsWhole) (arg7 : Memref sig .tc .vmem S1024x2048 .bf16) (harg7 : arg7.IsWhole) (arg8 : Memref sig .tc .vmem S1024x1024 .bf16) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S1024x2048 .f32) (harg12 : arg12.IsWhole) (hc0 : ¬cond0_0 i) (hc1 : ¬cond0_1 i)
    (x0 : Vec F S1024x2048 .fp8e5m2) (x1 : Vec F S1x16x1024 .f32) (x2 : Vec F S1x2x1024x512 .fp8e4m3) (x3 : Vec F S1x1x8x1024 .f32) (x4 : Vec F S2048x512 .bf16) (x5 : Vec F S1024x2048 .bf16) (xs0 : Vec F S1024x2048 .bf16) (xs1 : Vec F S1024x2048 .f32)

/-- Case B's pieces for output 6 tile its block (32 stores of `S256x128`, checked by the kernel's evaluation: Lib/Ring.lean `Piece.tiledL`, linear in the pieces, through a loop's `@[irreducible]` trip theorem too), so they cover it. -/
theorem cover0_B_6 (y : S1024x1024.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1 S256x128.size (by sl_kernel_rfl) y

/-- What case B leaves in output 6's staging buffer: its pieces read back over junk. -/
def out0_B_6 : Vec F S1024x1024 .bf16 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1)

/-- Case B's pieces for output 7 tile its block (16 stores of `S256x128`, checked by the kernel's evaluation: Lib/Ring.lean `Piece.tiledL`, linear in the pieces, through a loop's `@[irreducible]` trip theorem too), so they cover it. -/
theorem cover0_B_7 (y : S1024x512.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1 S256x128.size (by sl_kernel_rfl) y

/-- What case B leaves in output 7's staging buffer: its pieces read back over junk. -/
def out0_B_7 : Vec F S1024x512 .bf16 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1)

/-- Case B stores nothing into output 8 (the window is idle at its points and not written back there):
    no pieces — a placeholder (junk read back) that nothing consults, since at these points the window is neither
    written back nor read at the next point (Lib/Pipeline.lean "Idle points"). -/
def out0_B_8 : Vec F S1024x2048 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1)

/-- Case B stores nothing into scratch `arg11`: it holds what the point before left. -/
def sout0_B_0 (c : Dev nD) (i : grid2.Coords) (arg2 : Memref sig .tc .vmem S1024x2048 .fp8e5m2) (harg2 : arg2.IsWhole) (arg3 : Memref sig .tc .vmem S1x16x1024 .f32) (harg3 : arg3.IsWhole) (arg4 : Memref sig .tc .vmem S1x2x1024x512 .fp8e4m3) (harg4 : arg4.IsWhole) (arg5 : Memref sig .tc .vmem S1x1x8x1024 .f32) (harg5 : arg5.IsWhole) (arg6 : Memref sig .tc .vmem S2048x512 .bf16) (harg6 : arg6.IsWhole) (arg7 : Memref sig .tc .vmem S1024x2048 .bf16) (harg7 : arg7.IsWhole) (arg8 : Memref sig .tc .vmem S1024x1024 .bf16) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S1024x2048 .f32) (harg12 : arg12.IsWhole) (hc0 : ¬cond0_0 i) (hc1 : ¬cond0_1 i)
    (x0 : Vec F S1024x2048 .fp8e5m2) (x1 : Vec F S1x16x1024 .f32) (x2 : Vec F S1x2x1024x512 .fp8e4m3) (x3 : Vec F S1x1x8x1024 .f32) (x4 : Vec F S2048x512 .bf16) (x5 : Vec F S1024x2048 .bf16) (xs0 : Vec F S1024x2048 .bf16) (xs1 : Vec F S1024x2048 .f32) : Vec F S1024x2048 .bf16 := xs0

/-- Case B's pieces for scratch `arg12`, which the kernel carries between points, cover it: 1 piece of `S1024x2048` tiling it (Lib/Ring.lean `Piece.tiledL`). -/
theorem scover0_B_1 (y : S1024x2048.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 S1024x2048.size (by sl_kernel_rfl) y

/-- What case B leaves in scratch `arg12`: its pieces read back over junk. -/
def sout0_B_1 : Vec F S1024x2048 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1)

end

section
variable (c : Dev nD) (i : grid2.Coords) (arg2 : Memref sig .tc .vmem S1024x2048 .fp8e5m2) (harg2 : arg2.IsWhole) (arg3 : Memref sig .tc .vmem S1x16x1024 .f32) (harg3 : arg3.IsWhole) (arg4 : Memref sig .tc .vmem S1x2x1024x512 .fp8e4m3) (harg4 : arg4.IsWhole) (arg5 : Memref sig .tc .vmem S1x1x8x1024 .f32) (harg5 : arg5.IsWhole) (arg6 : Memref sig .tc .vmem S2048x512 .bf16) (harg6 : arg6.IsWhole) (arg7 : Memref sig .tc .vmem S1024x2048 .bf16) (harg7 : arg7.IsWhole) (arg8 : Memref sig .tc .vmem S1024x1024 .bf16) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S1024x2048 .f32) (harg12 : arg12.IsWhole) (hc0 : ¬cond0_0 i) (hc1 : cond0_1 i)
    (x0 : Vec F S1024x2048 .fp8e5m2) (x1 : Vec F S1x16x1024 .f32) (x2 : Vec F S1x2x1024x512 .fp8e4m3) (x3 : Vec F S1x1x8x1024 .f32) (x4 : Vec F S2048x512 .bf16) (x5 : Vec F S1024x2048 .bf16) (xs0 : Vec F S1024x2048 .bf16) (xs1 : Vec F S1024x2048 .f32)

/-- Case C's pieces for output 6 tile its block (32 stores of `S256x128`, checked by the kernel's evaluation: Lib/Ring.lean `Piece.tiledL`, linear in the pieces, through a loop's `@[irreducible]` trip theorem too), so they cover it. -/
theorem cover0_C_6 (y : S1024x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1 S256x128.size (by sl_kernel_rfl) y

/-- What case C leaves in output 6's staging buffer: its pieces read back over junk. -/
def out0_C_6 : Vec F S1024x1024 .bf16 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1)

/-- Case C's pieces for output 7 tile its block (16 stores of `S256x128`, checked by the kernel's evaluation: Lib/Ring.lean `Piece.tiledL`, linear in the pieces, through a loop's `@[irreducible]` trip theorem too), so they cover it. -/
theorem cover0_C_7 (y : S1024x512.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1 S256x128.size (by sl_kernel_rfl) y

/-- What case C leaves in output 7's staging buffer: its pieces read back over junk. -/
def out0_C_7 : Vec F S1024x512 .bf16 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1)

/-- Case C's pieces for output 8 tile its block (1 store of `S1024x2048`, checked by the kernel's evaluation: Lib/Ring.lean `Piece.tiledL`, linear in the pieces, through a loop's `@[irreducible]` trip theorem too), so they cover it. -/
theorem cover0_C_8 (y : S1024x2048.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1 S1024x2048.size (by sl_kernel_rfl) y

/-- What case C leaves in output 8's staging buffer: its pieces read back over junk. -/
def out0_C_8 : Vec F S1024x2048 .bf16 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1)

/-- Case C stores nothing into scratch `arg11`: it holds what the point before left. -/
def sout0_C_0 (c : Dev nD) (i : grid2.Coords) (arg2 : Memref sig .tc .vmem S1024x2048 .fp8e5m2) (harg2 : arg2.IsWhole) (arg3 : Memref sig .tc .vmem S1x16x1024 .f32) (harg3 : arg3.IsWhole) (arg4 : Memref sig .tc .vmem S1x2x1024x512 .fp8e4m3) (harg4 : arg4.IsWhole) (arg5 : Memref sig .tc .vmem S1x1x8x1024 .f32) (harg5 : arg5.IsWhole) (arg6 : Memref sig .tc .vmem S2048x512 .bf16) (harg6 : arg6.IsWhole) (arg7 : Memref sig .tc .vmem S1024x2048 .bf16) (harg7 : arg7.IsWhole) (arg8 : Memref sig .tc .vmem S1024x1024 .bf16) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S1024x2048 .f32) (harg12 : arg12.IsWhole) (hc0 : ¬cond0_0 i) (hc1 : cond0_1 i)
    (x0 : Vec F S1024x2048 .fp8e5m2) (x1 : Vec F S1x16x1024 .f32) (x2 : Vec F S1x2x1024x512 .fp8e4m3) (x3 : Vec F S1x1x8x1024 .f32) (x4 : Vec F S2048x512 .bf16) (x5 : Vec F S1024x2048 .bf16) (xs0 : Vec F S1024x2048 .bf16) (xs1 : Vec F S1024x2048 .f32) : Vec F S1024x2048 .bf16 := xs0

/-- Case C's pieces for scratch `arg12`, which the kernel carries between points, cover it: 1 piece of `S1024x2048` tiling it (Lib/Ring.lean `Piece.tiledL`). -/
theorem scover0_C_1 (y : S1024x2048.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 S1024x2048.size (by sl_kernel_rfl) y

/-- What case C leaves in scratch `arg12`: its pieces read back over junk. -/
def sout0_C_1 : Vec F S1024x2048 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1)

end

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg2.N → Vec F S1024x1024 .bf16 × Vec F S1024x512 .bf16 × Vec F S1024x2048 .bf16 × Vec F S1024x2048 .bf16 × Vec F S1024x2048 .f32
  | 0, hn => (out0_A_6 c (grid2.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), out0_A_7 c (grid2.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), out0_A_8 c (grid2.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), sout0_A_0 c (grid2.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), sout0_A_1 c (grid2.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩))
  | n + 1, hn =>
    if h0 : (n + 1) % 11 = 0 then
      if h1 : (n + 1) % 11 = 10 then
        False.elim (by have hN : n + 1 < 528 := lt_of_lt_of_eq hn (show cfg2.N = 528 from N_2); omega)
      else
        (out0_A_6 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), out0_A_7 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), out0_A_8 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), sout0_A_0 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), sout0_A_1 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩))
    else
      if h1 : (n + 1) % 11 = 10 then
        (out0_C_6 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2.2.1 (outsAt0 c n (Nat.lt_of_succ_lt hn)).2.2.2.2, out0_C_7 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2.2.1 (outsAt0 c n (Nat.lt_of_succ_lt hn)).2.2.2.2, out0_C_8 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2.2.1 (outsAt0 c n (Nat.lt_of_succ_lt hn)).2.2.2.2, sout0_C_0 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2.2.1 (outsAt0 c n (Nat.lt_of_succ_lt hn)).2.2.2.2, sout0_C_1 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2.2.1 (outsAt0 c n (Nat.lt_of_succ_lt hn)).2.2.2.2)
      else
        (out0_B_6 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2.2.1 (outsAt0 c n (Nat.lt_of_succ_lt hn)).2.2.2.2, out0_B_7 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2.2.1 (outsAt0 c n (Nat.lt_of_succ_lt hn)).2.2.2.2, out0_B_8 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2.2.1 (outsAt0 c n (Nat.lt_of_succ_lt hn)).2.2.2.2, sout0_B_0 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2.2.1 (outsAt0 c n (Nat.lt_of_succ_lt hn)).2.2.2.2, sout0_B_1 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg2.N) (h0 : t.val % 11 = 0) (h1 : ¬t.val % 11 = 10) :
    outsAt0 V c t.val t.isLt = (out0_A_6 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk V c 0 t) (iblk V c 1 t) (iblk V c 2 t) (iblk V c 3 t) (iblk V c 4 t) (iblk V c 5 t), out0_A_7 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk V c 0 t) (iblk V c 1 t) (iblk V c 2 t) (iblk V c 3 t) (iblk V c 4 t) (iblk V c 5 t), out0_A_8 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk V c 0 t) (iblk V c 1 t) (iblk V c 2 t) (iblk V c 3 t) (iblk V c 4 t) (iblk V c 5 t), sout0_A_0 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk V c 0 t) (iblk V c 1 t) (iblk V c 2 t) (iblk V c 3 t) (iblk V c 4 t) (iblk V c 5 t), sout0_A_1 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk V c 0 t) (iblk V c 1 t) (iblk V c 2 t) (iblk V c 3 t) (iblk V c 4 t) (iblk V c 5 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg2.N) (h0 : ¬t.val % 11 = 0) (h1 : ¬t.val % 11 = 10) :
    outsAt0 V c t.val t.isLt = (out0_B_6 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk V c 0 t) (iblk V c 1 t) (iblk V c 2 t) (iblk V c 3 t) (iblk V c 4 t) (iblk V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_7 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk V c 0 t) (iblk V c 1 t) (iblk V c 2 t) (iblk V c 3 t) (iblk V c 4 t) (iblk V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_8 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk V c 0 t) (iblk V c 1 t) (iblk V c 2 t) (iblk V c 3 t) (iblk V c 4 t) (iblk V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_0 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk V c 0 t) (iblk V c 1 t) (iblk V c 2 t) (iblk V c 3 t) (iblk V c 4 t) (iblk V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk V c 0 t) (iblk V c 1 t) (iblk V c 2 t) (iblk V c 3 t) (iblk V c 4 t) (iblk V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg2.N) (h0 : ¬t.val % 11 = 0) (h1 : t.val % 11 = 10) :
    outsAt0 V c t.val t.isLt = (out0_C_6 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk V c 0 t) (iblk V c 1 t) (iblk V c 2 t) (iblk V c 3 t) (iblk V c 4 t) (iblk V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_7 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk V c 0 t) (iblk V c 1 t) (iblk V c 2 t) (iblk V c 3 t) (iblk V c 4 t) (iblk V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_8 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk V c 0 t) (iblk V c 1 t) (iblk V c 2 t) (iblk V c 3 t) (iblk V c 4 t) (iblk V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk V c 0 t) (iblk V c 1 t) (iblk V c 2 t) (iblk V c 3 t) (iblk V c 4 t) (iblk V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk V c 0 t) (iblk V c 1 t) (iblk V c 2 t) (iblk V c 3 t) (iblk V c 4 t) (iblk V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg2.N → sProp 𝕄
  | 0, _ => Pipeline.ΦA spec2 c
  | n + 1, hn => iprop(iprop(owns (c : Thread nD τ) scM0_0 fullShare ((outsAt0 V c n hn).2.2.2.1) ∗ owns (c : Thread nD τ) scM0_1 fullShare ((outsAt0 V c n hn).2.2.2.2)) ∗ rest c)

theorem PhiS_zero (c : Dev nD) (n : ℕ) (h : n ≤ cfg2.N) (hz : n = 0) : PhiS V c n h = Pipeline.ΦA spec2 c := by
  subst hz; rfl

/-- After point `n` (before point `n + 1`): the carried scratch at that point's contents. -/
theorem PhiS_succ (c : Dev nD) (n : ℕ) (hn : n < cfg2.N) :
    PhiS V c (n + 1) hn = iprop(iprop(owns (c : Thread nD τ) scM0_0 fullShare ((outsAt0 V c n hn).2.2.2.1) ∗ owns (c : Thread nD τ) scM0_1 fullShare ((outsAt0 V c n hn).2.2.2.2)) ∗ rest c) := rfl

/-- Before a point that is not the first: the carried scratch at what the point before left. -/
theorem PhiS_pos (c : Dev nD) (n : ℕ) (h : n ≤ cfg2.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2)) ∗ rest c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt0 V c t.val t.isLt).1
    | ⟨7, _⟩ => (outsAt0 V c t.val t.isLt).2.1
    | ⟨8, _⟩ => (outsAt0 V c t.val t.isLt).2.2.1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg2.W) : (dat V c).A w = V c (Pipeline.arrRef spec2 w) := by
  dsimp only [dat]

/-- The invariant at a point's start (the proof data at `t.castSucc`), restated at `t.val`. -/
theorem PhiS_castSucc (c : Dev nD) (t : Fin cfg2.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after0_0 (c : Dev nD) (t : Fin cfg2.N) : (dat V c).after 0 t = iblk V c 0 t := by dsimp only [dat]
theorem after0_1 (c : Dev nD) (t : Fin cfg2.N) : (dat V c).after 1 t = iblk V c 1 t := by dsimp only [dat]
theorem after0_2 (c : Dev nD) (t : Fin cfg2.N) : (dat V c).after 2 t = iblk V c 2 t := by dsimp only [dat]
theorem after0_3 (c : Dev nD) (t : Fin cfg2.N) : (dat V c).after 3 t = iblk V c 3 t := by dsimp only [dat]
theorem after0_4 (c : Dev nD) (t : Fin cfg2.N) : (dat V c).after 4 t = iblk V c 4 t := by dsimp only [dat]
theorem after0_5 (c : Dev nD) (t : Fin cfg2.N) : (dat V c).after 5 t = iblk V c 5 t := by dsimp only [dat]
theorem after0_6 (c : Dev nD) (t : Fin cfg2.N) : (dat V c).after 6 t = (outsAt0 V c t.val t.isLt).1 := by dsimp only [dat]
theorem after0_7 (c : Dev nD) (t : Fin cfg2.N) : (dat V c).after 7 t = (outsAt0 V c t.val t.isLt).2.1 := by dsimp only [dat]
theorem after0_8 (c : Dev nD) (t : Fin cfg2.N) : (dat V c).after 8 t = (outsAt0 V c t.val t.isLt).2.2.1 := by dsimp only [dat]

/-- Each input's current staging buffer holds its block at every point, fetched there or not (`beforeK_W_of`). -/
theorem before0_0 (c : Dev nD) (t : Fin cfg2.N) (d) : (dat V c).before 0 t d = iblk V c 0 t :=
  before0_0_of V (dat V c) (A_eq V c 0) (after0_0 V c) t d
theorem before0_1 (c : Dev nD) (t : Fin cfg2.N) (d) : (dat V c).before 1 t d = iblk V c 1 t :=
  before0_1_of V (dat V c) (A_eq V c 1) (after0_1 V c) t d
theorem before0_2 (c : Dev nD) (t : Fin cfg2.N) (d) : (dat V c).before 2 t d = iblk V c 2 t :=
  before0_2_of V (dat V c) (A_eq V c 2) (after0_2 V c) t d
theorem before0_3 (c : Dev nD) (t : Fin cfg2.N) (d) : (dat V c).before 3 t d = iblk V c 3 t :=
  before0_3_of V (dat V c) (A_eq V c 3) (after0_3 V c) t d
theorem before0_4 (c : Dev nD) (t : Fin cfg2.N) (d) : (dat V c).before 4 t d = iblk V c 4 t :=
  before0_4_of V (dat V c) (A_eq V c 4) (after0_4 V c) t d
theorem before0_5 (c : Dev nD) (t : Fin cfg2.N) (d) : (dat V c).before 5 t d = iblk V c 5 t :=
  before0_5_of V (dat V c) (A_eq V c 5) (after0_5 V c) t d

/-! ## The body obligation, at a generic point -/

/-- What the body is called with at point `t` (Lib/Pipeline.lean `BodyObligation`'s precondition, the windows one by one), -/
def bodyPre (c : Dev nD) (t : Fin cfg2.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d))
    ∗ (∃ d, owns (c : Thread nD τ) (ms0_7 t) fullShare ((dat V c).before 7 t d))
    ∗ (∃ d, owns (c : Thread nD τ) (ms0_8 t) fullShare ((dat V c).before 8 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0_0, before0_1, before0_2, before0_3, before0_4, before0_5]
  rw [show (dat V c).owesAt () t.succ = (dat V c).owesAt () t.castSucc from rfl]
  rw [show (dat V c).Φ t.succ = PhiS V c (t.val + 1) t.isLt from rfl, PhiS_succ]
  have hN : t.val < 528 := lt_of_lt_of_eq t.isLt (show cfg2.N = 528 from N_2)
  by_cases h0 : t.val % 11 = 0
  · by_cases h1 : t.val % 11 = 10
    · exfalso; omega
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2 t], after0_2]
      rw [show (dat V c).leavesExact 3 t = owns (c : Thread nD τ) (ms0_3 t) fullShare ((dat V c).after 3 t) from by
      unfold Dat.leavesExact; rw [liveAt0_3 t], after0_3]
      rw [show (dat V c).leavesExact 4 t = owns (c : Thread nD τ) (ms0_4 t) fullShare ((dat V c).after 4 t) from by
      unfold Dat.leavesExact; rw [liveAt0_4 t], after0_4]
      rw [show (dat V c).leavesExact 5 t = owns (c : Thread nD τ) (ms0_5 t) fullShare ((dat V c).after 5 t) from by
      unfold Dat.leavesExact; rw [liveAt0_5 t], after0_5]
      rw [show (dat V c).leavesExact 6 t = owns (c : Thread nD τ) (ms0_6 t) fullShare ((dat V c).after 6 t) from by
      unfold Dat.leavesExact; rw [liveAt0_6 t], after0_6]
      rw [show (dat V c).leavesExact 7 t = owns (c : Thread nD τ) (ms0_7 t) fullShare ((dat V c).after 7 t) from by
      unfold Dat.leavesExact; rw [liveAt0_7 t], after0_7]
      rw [Dat.leavesExact_idle (dat V c) 8 t (idleAt0_8_A t ((hcond0_0 t).mpr h0) (fun h => h1 ((hcond0_1 t).mp h))) (noFlush0_8_A t ((hcond0_0 t).mpr h0) (fun h => h1 ((hcond0_1 t).mp h)))]
      by_cases hz : t.val = 0
      · rw [PhiS_castSucc V c t, PhiS_zero V c _ _ hz, PhiA0_eq]
        rw [outsAt0_A V c t h0 h1]
        unfold out0_A_6 out0_A_7 sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid2.coords t) _ _ _ _ _ _ _ _ _ _ _ _ _ _ _ _ _ _ _ _ _ _ ((hcond0_0 t).mpr h0) (fun h => h1 ((hcond0_1 t).mp h)) (iblk V c 0 t) (iblk V c 1 t) (iblk V c 2 t) (iblk V c 3 t) (iblk V c 4 t) (iblk V c 5 t)).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexact H8
        isplitl [HS0]; · iexact HS0
        isplitl [HS1]; · iexact HS1
        iintro ⟨H0, H1, H2, H3, H4, H5, ⟨%e6, H6⟩, ⟨%e7, H7⟩, H8, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _ _)
        iexists _; iexact H8
      · rw [PhiS_castSucc V c t, PhiS_pos V c _ _ hz]
        rw [outsAt0_A V c t h0 h1]
        unfold out0_A_6 out0_A_7 sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid2.coords t) _ _ _ _ _ _ _ _ _ _ _ _ _ _ _ _ _ _ _ _ _ _ ((hcond0_0 t).mpr h0) (fun h => h1 ((hcond0_1 t).mp h)) (iblk V c 0 t) (iblk V c 1 t) (iblk V c 2 t) (iblk V c 3 t) (iblk V c 4 t) (iblk V c 5 t)).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexact H8
        isplitl [HS0]; · iexists _; iexact HS0
        isplitl [HS1]; · iexists _; iexact HS1
        iintro ⟨H0, H1, H2, H3, H4, H5, ⟨%e6, H6⟩, ⟨%e7, H7⟩, H8, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _ _)
        iexists _; iexact H8
  · by_cases h1 : t.val % 11 = 10
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2 t], after0_2]
      rw [show (dat V c).leavesExact 3 t = owns (c : Thread nD τ) (ms0_3 t) fullShare ((dat V c).after 3 t) from by
      unfold Dat.leavesExact; rw [liveAt0_3 t], after0_3]
      rw [show (dat V c).leavesExact 4 t = owns (c : Thread nD τ) (ms0_4 t) fullShare ((dat V c).after 4 t) from by
      unfold Dat.leavesExact; rw [liveAt0_4 t], after0_4]
      rw [show (dat V c).leavesExact 5 t = owns (c : Thread nD τ) (ms0_5 t) fullShare ((dat V c).after 5 t) from by
      unfold Dat.leavesExact; rw [liveAt0_5 t], after0_5]
      rw [show (dat V c).leavesExact 6 t = owns (c : Thread nD τ) (ms0_6 t) fullShare ((dat V c).after 6 t) from by
      unfold Dat.leavesExact; rw [liveAt0_6 t], after0_6]
      rw [show (dat V c).leavesExact 7 t = owns (c : Thread nD τ) (ms0_7 t) fullShare ((dat V c).after 7 t) from by
      unfold Dat.leavesExact; rw [liveAt0_7 t], after0_7]
      rw [show (dat V c).leavesExact 8 t = owns (c : Thread nD τ) (ms0_8 t) fullShare ((dat V c).after 8 t) from by
      unfold Dat.leavesExact; rw [liveAt0_8_C t (fun h => h0 ((hcond0_0 t).mp h)) ((hcond0_1 t).mpr h1)], after0_8]
      by_cases hz : t.val = 0
      · exfalso; have hN : t.val < 528 := lt_of_lt_of_eq t.isLt (show cfg2.N = 528 from N_2); omega
      · rw [PhiS_castSucc V c t, PhiS_pos V c _ _ hz]
        rw [outsAt0_C V c t h0 h1]
        unfold out0_C_6 out0_C_7 out0_C_8 sout0_C_0 sout0_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid2.coords t) _ _ _ _ _ _ _ _ _ _ _ _ _ _ _ _ _ _ _ _ _ _ (fun h => h0 ((hcond0_0 t).mp h)) ((hcond0_1 t).mpr h1) (iblk V c 0 t) (iblk V c 1 t) (iblk V c 2 t) (iblk V c 3 t) (iblk V c 4 t) (iblk V c 5 t) _ _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [HS0]; · iexact HS0
        isplitl [HS1]; · iexact HS1
        iintro ⟨H0, H1, H2, H3, H4, H5, ⟨%e6, H6⟩, ⟨%e7, H7⟩, ⟨%e8, H8⟩, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _ _ _)
        unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _ _ _)
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2 t], after0_2]
      rw [show (dat V c).leavesExact 3 t = owns (c : Thread nD τ) (ms0_3 t) fullShare ((dat V c).after 3 t) from by
      unfold Dat.leavesExact; rw [liveAt0_3 t], after0_3]
      rw [show (dat V c).leavesExact 4 t = owns (c : Thread nD τ) (ms0_4 t) fullShare ((dat V c).after 4 t) from by
      unfold Dat.leavesExact; rw [liveAt0_4 t], after0_4]
      rw [show (dat V c).leavesExact 5 t = owns (c : Thread nD τ) (ms0_5 t) fullShare ((dat V c).after 5 t) from by
      unfold Dat.leavesExact; rw [liveAt0_5 t], after0_5]
      rw [show (dat V c).leavesExact 6 t = owns (c : Thread nD τ) (ms0_6 t) fullShare ((dat V c).after 6 t) from by
      unfold Dat.leavesExact; rw [liveAt0_6 t], after0_6]
      rw [show (dat V c).leavesExact 7 t = owns (c : Thread nD τ) (ms0_7 t) fullShare ((dat V c).after 7 t) from by
      unfold Dat.leavesExact; rw [liveAt0_7 t], after0_7]
      rw [Dat.leavesExact_idle (dat V c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      by_cases hz : t.val = 0
      · exfalso; have hN : t.val < 528 := lt_of_lt_of_eq t.isLt (show cfg2.N = 528 from N_2); omega
      · rw [PhiS_castSucc V c t, PhiS_pos V c _ _ hz]
        rw [outsAt0_B V c t h0 h1]
        unfold out0_B_6 out0_B_7 sout0_B_0 sout0_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid2.coords t) _ _ _ _ _ _ _ _ _ _ _ _ _ _ _ _ _ _ _ _ _ _ (fun h => h0 ((hcond0_0 t).mp h)) (fun h => h1 ((hcond0_1 t).mp h)) (iblk V c 0 t) (iblk V c 1 t) (iblk V c 2 t) (iblk V c 3 t) (iblk V c 4 t) (iblk V c 5 t) _ _).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexact H8
        isplitl [HS0]; · iexact HS0
        isplitl [HS1]; · iexact HS1
        iintro ⟨H0, H1, H2, H3, H4, H5, ⟨%e6, H6⟩, ⟨%e7, H7⟩, H8, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _ _ _ _)
        iexists _; iexact H8

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

/-- What the launch hands the region (`ΦA`) is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dat V c).Φ (Fin.last cfg2.N) ⊢ Pipeline.ΦA spec2 c :=
  Phi_out V c _ (by rw [Fin.val_last]; have : cfg2.N = 528 := N_2; omega)

end Cert.KernelIdeal.R2

end
-- ==== Proof.R3.Frame.lean ====
/- Region 3 of the kernel, the transposed tokens of `x` (`tokens_t`): its proof data and its body's obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the region finds in the core's buffers
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S1024x2048 := Rect.unit (s := S1024x2048) ![0, 0] S1024x128.size inb_S1024x2048_S1024x128_0_0
abbrev r0_1 : Rect S1x16x1024 := Rect.unit (s := S1x16x1024) ![0, 0, 0] S1x1x1024.size inb_S1x16x1024_S1x1x1024_0_0_0
abbrev r0_2 : Rect S2048x1024 := Rect.unit (s := S2048x1024) ![0, 0] S128x1024.size inb_S2048x1024_S128x1024_0_0
abbrev r0_3 : Rect S1024x2048 := Rect.unit (s := S1024x2048) ![0, 128] S1024x128.size inb_S1024x2048_S1024x128_0_128
abbrev r0_4 : Rect S1x16x1024 := Rect.unit (s := S1x16x1024) ![0, 1, 0] S1x1x1024.size inb_S1x16x1024_S1x1x1024_0_1_0
abbrev r0_5 : Rect S2048x1024 := Rect.unit (s := S2048x1024) ![128, 0] S128x1024.size inb_S2048x1024_S128x1024_128_0
abbrev r0_6 : Rect S1024x2048 := Rect.unit (s := S1024x2048) ![0, 256] S1024x128.size inb_S1024x2048_S1024x128_0_256
abbrev r0_7 : Rect S1x16x1024 := Rect.unit (s := S1x16x1024) ![0, 2, 0] S1x1x1024.size inb_S1x16x1024_S1x1x1024_0_2_0
abbrev r0_8 : Rect S2048x1024 := Rect.unit (s := S2048x1024) ![256, 0] S128x1024.size inb_S2048x1024_S128x1024_256_0
abbrev r0_9 : Rect S1024x2048 := Rect.unit (s := S1024x2048) ![0, 384] S1024x128.size inb_S1024x2048_S1024x128_0_384
abbrev r0_10 : Rect S1x16x1024 := Rect.unit (s := S1x16x1024) ![0, 3, 0] S1x1x1024.size inb_S1x16x1024_S1x1x1024_0_3_0
abbrev r0_11 : Rect S2048x1024 := Rect.unit (s := S2048x1024) ![384, 0] S128x1024.size inb_S2048x1024_S128x1024_384_0
abbrev r0_12 : Rect S1024x2048 := Rect.unit (s := S1024x2048) ![0, 512] S1024x128.size inb_S1024x2048_S1024x128_0_512
abbrev r0_13 : Rect S1x16x1024 := Rect.unit (s := S1x16x1024) ![0, 4, 0] S1x1x1024.size inb_S1x16x1024_S1x1x1024_0_4_0
abbrev r0_14 : Rect S2048x1024 := Rect.unit (s := S2048x1024) ![512, 0] S128x1024.size inb_S2048x1024_S128x1024_512_0
abbrev r0_15 : Rect S1024x2048 := Rect.unit (s := S1024x2048) ![0, 640] S1024x128.size inb_S1024x2048_S1024x128_0_640
abbrev r0_16 : Rect S1x16x1024 := Rect.unit (s := S1x16x1024) ![0, 5, 0] S1x1x1024.size inb_S1x16x1024_S1x1x1024_0_5_0
abbrev r0_17 : Rect S2048x1024 := Rect.unit (s := S2048x1024) ![640, 0] S128x1024.size inb_S2048x1024_S128x1024_640_0
abbrev r0_18 : Rect S1024x2048 := Rect.unit (s := S1024x2048) ![0, 768] S1024x128.size inb_S1024x2048_S1024x128_0_768
abbrev r0_19 : Rect S1x16x1024 := Rect.unit (s := S1x16x1024) ![0, 6, 0] S1x1x1024.size inb_S1x16x1024_S1x1x1024_0_6_0
abbrev r0_20 : Rect S2048x1024 := Rect.unit (s := S2048x1024) ![768, 0] S128x1024.size inb_S2048x1024_S128x1024_768_0
abbrev r0_21 : Rect S1024x2048 := Rect.unit (s := S1024x2048) ![0, 896] S1024x128.size inb_S1024x2048_S1024x128_0_896
abbrev r0_22 : Rect S1x16x1024 := Rect.unit (s := S1x16x1024) ![0, 7, 0] S1x1x1024.size inb_S1x16x1024_S1x1x1024_0_7_0
abbrev r0_23 : Rect S2048x1024 := Rect.unit (s := S2048x1024) ![896, 0] S128x1024.size inb_S2048x1024_S128x1024_896_0
abbrev r0_24 : Rect S1024x2048 := Rect.unit (s := S1024x2048) ![0, 1024] S1024x128.size inb_S1024x2048_S1024x128_0_1024
abbrev r0_25 : Rect S1x16x1024 := Rect.unit (s := S1x16x1024) ![0, 8, 0] S1x1x1024.size inb_S1x16x1024_S1x1x1024_0_8_0
abbrev r0_26 : Rect S2048x1024 := Rect.unit (s := S2048x1024) ![1024, 0] S128x1024.size inb_S2048x1024_S128x1024_1024_0
abbrev r0_27 : Rect S1024x2048 := Rect.unit (s := S1024x2048) ![0, 1152] S1024x128.size inb_S1024x2048_S1024x128_0_1152
abbrev r0_28 : Rect S1x16x1024 := Rect.unit (s := S1x16x1024) ![0, 9, 0] S1x1x1024.size inb_S1x16x1024_S1x1x1024_0_9_0
abbrev r0_29 : Rect S2048x1024 := Rect.unit (s := S2048x1024) ![1152, 0] S128x1024.size inb_S2048x1024_S128x1024_1152_0
abbrev r0_30 : Rect S1024x2048 := Rect.unit (s := S1024x2048) ![0, 1280] S1024x128.size inb_S1024x2048_S1024x128_0_1280
abbrev r0_31 : Rect S1x16x1024 := Rect.unit (s := S1x16x1024) ![0, 10, 0] S1x1x1024.size inb_S1x16x1024_S1x1x1024_0_10_0
abbrev r0_32 : Rect S2048x1024 := Rect.unit (s := S2048x1024) ![1280, 0] S128x1024.size inb_S2048x1024_S128x1024_1280_0
abbrev r0_33 : Rect S1024x2048 := Rect.unit (s := S1024x2048) ![0, 1408] S1024x128.size inb_S1024x2048_S1024x128_0_1408
abbrev r0_34 : Rect S1x16x1024 := Rect.unit (s := S1x16x1024) ![0, 11, 0] S1x1x1024.size inb_S1x16x1024_S1x1x1024_0_11_0
abbrev r0_35 : Rect S2048x1024 := Rect.unit (s := S2048x1024) ![1408, 0] S128x1024.size inb_S2048x1024_S128x1024_1408_0
abbrev r0_36 : Rect S1024x2048 := Rect.unit (s := S1024x2048) ![0, 1536] S1024x128.size inb_S1024x2048_S1024x128_0_1536
abbrev r0_37 : Rect S1x16x1024 := Rect.unit (s := S1x16x1024) ![0, 12, 0] S1x1x1024.size inb_S1x16x1024_S1x1x1024_0_12_0
abbrev r0_38 : Rect S2048x1024 := Rect.unit (s := S2048x1024) ![1536, 0] S128x1024.size inb_S2048x1024_S128x1024_1536_0
abbrev r0_39 : Rect S1024x2048 := Rect.unit (s := S1024x2048) ![0, 1664] S1024x128.size inb_S1024x2048_S1024x128_0_1664
abbrev r0_40 : Rect S1x16x1024 := Rect.unit (s := S1x16x1024) ![0, 13, 0] S1x1x1024.size inb_S1x16x1024_S1x1x1024_0_13_0
abbrev r0_41 : Rect S2048x1024 := Rect.unit (s := S2048x1024) ![1664, 0] S128x1024.size inb_S2048x1024_S128x1024_1664_0
abbrev r0_42 : Rect S1024x2048 := Rect.unit (s := S1024x2048) ![0, 1792] S1024x128.size inb_S1024x2048_S1024x128_0_1792
abbrev r0_43 : Rect S1x16x1024 := Rect.unit (s := S1x16x1024) ![0, 14, 0] S1x1x1024.size inb_S1x16x1024_S1x1x1024_0_14_0
abbrev r0_44 : Rect S2048x1024 := Rect.unit (s := S2048x1024) ![1792, 0] S128x1024.size inb_S2048x1024_S128x1024_1792_0
abbrev r0_45 : Rect S1024x2048 := Rect.unit (s := S1024x2048) ![0, 1920] S1024x128.size inb_S1024x2048_S1024x128_0_1920
abbrev r0_46 : Rect S1x16x1024 := Rect.unit (s := S1x16x1024) ![0, 15, 0] S1x1x1024.size inb_S1x16x1024_S1x1x1024_0_15_0
abbrev r0_47 : Rect S2048x1024 := Rect.unit (s := S2048x1024) ![1920, 0] S128x1024.size inb_S2048x1024_S128x1024_1920_0

/-! ## What the body leaves in each output window's buffer -/

/-- Window 2's staging buffer after the body, from the input windows' blocks: its 16 stores as pieces, LAST
    FIRST (Lib/Pipeline/FrameBody.lean `View.canon`; the payloads are the skeleton's). -/
def out0_2 (x0 : Vec F S1024x2048 .fp8e4m3) (x1 : Vec F S1x16x1024 .f32) : Vec F S2048x1024 .bf16 :=
  View.canon [⟨r0_47, k3_pay3 (View.ld x0 r0_45) (View.ld x1 r0_46)⟩,
    ⟨r0_44, k3_pay2 (View.ld x0 r0_42) (View.ld x1 r0_43)⟩,
    ⟨r0_41, k3_pay1 (k3_pay20 (View.ld x0 r0_39)) (View.ld x1 r0_40)⟩,
    ⟨r0_38, k3_pay19 (View.ld x0 r0_36) (View.ld x1 r0_37)⟩,
    ⟨r0_35, k3_pay18 (View.ld x0 r0_33) (View.ld x1 r0_34)⟩,
    ⟨r0_32, k3_pay17 (View.ld x0 r0_30) (View.ld x1 r0_31)⟩,
    ⟨r0_29, k3_pay16 (View.ld x0 r0_27) (View.ld x1 r0_28)⟩,
    ⟨r0_26, k3_pay15 (View.ld x0 r0_24) (View.ld x1 r0_25)⟩,
    ⟨r0_23, k3_pay14 (View.ld x0 r0_21) (View.ld x1 r0_22)⟩,
    ⟨r0_20, k3_pay13 (k3_pay11 (View.ld x0 r0_18)) (k3_pay12 (View.ld x1 r0_19))⟩,
    ⟨r0_17, k3_pay10 (View.ld x0 r0_15) (View.ld x1 r0_16)⟩,
    ⟨r0_14, k3_pay9 (View.ld x0 r0_12) (View.ld x1 r0_13)⟩,
    ⟨r0_11, k3_pay8 (k3_pay7 (View.ld x0 r0_9)) (View.ld x1 r0_10)⟩,
    ⟨r0_8, k3_pay6 (View.ld x0 r0_6) (View.ld x1 r0_7)⟩,
    ⟨r0_5, k3_pay5 (View.ld x0 r0_3) (View.ld x1 r0_4)⟩,
    ⟨r0_2, k3_pay4 (View.ld x0 r0_0) (View.ld x1 r0_1)⟩]

/-- Its stores tile the buffer (checked by evaluation), so they cover it. -/
theorem cover0_2 (p0 : Vec F S128x1024 .bf16) (p1 : Vec F S128x1024 .bf16) (p2 : Vec F S128x1024 .bf16) (p3 : Vec F S128x1024 .bf16) (p4 : Vec F S128x1024 .bf16) (p5 : Vec F S128x1024 .bf16) (p6 : Vec F S128x1024 .bf16) (p7 : Vec F S128x1024 .bf16) (p8 : Vec F S128x1024 .bf16) (p9 : Vec F S128x1024 .bf16) (p10 : Vec F S128x1024 .bf16) (p11 : Vec F S128x1024 .bf16) (p12 : Vec F S128x1024 .bf16) (p13 : Vec F S128x1024 .bf16) (p14 : Vec F S128x1024 .bf16) (p15 : Vec F S128x1024 .bf16) (y : S2048x1024.Idx) :
    ∃ pc ∈ ([⟨r0_47, p0⟩, ⟨r0_44, p1⟩, ⟨r0_41, p2⟩, ⟨r0_38, p3⟩, ⟨r0_35, p4⟩, ⟨r0_32, p5⟩, ⟨r0_29, p6⟩, ⟨r0_26, p7⟩, ⟨r0_23, p8⟩, ⟨r0_20, p9⟩, ⟨r0_17, p10⟩, ⟨r0_14, p11⟩, ⟨r0_11, p12⟩, ⟨r0_8, p13⟩, ⟨r0_5, p14⟩, ⟨r0_2, p15⟩] : List (View.Piece (Elt F) S2048x1024 .bf16)), y ∈ pc.1.set :=
  View.cover_of_tiled [⟨r0_47, p0⟩, ⟨r0_44, p1⟩, ⟨r0_41, p2⟩, ⟨r0_38, p3⟩, ⟨r0_35, p4⟩, ⟨r0_32, p5⟩, ⟨r0_29, p6⟩, ⟨r0_26, p7⟩, ⟨r0_23, p8⟩, ⟨r0_20, p9⟩, ⟨r0_17, p10⟩, ⟨r0_14, p11⟩, ⟨r0_11, p12⟩, ⟨r0_8, p13⟩, ⟨r0_5, p14⟩, ⟨r0_2, p15⟩] S128x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid3.Coords) (arg1 : Memref sig .tc .vmem S1024x2048 .fp8e4m3) (harg1 : arg1.IsWhole) (arg2 : Memref sig .tc .vmem S1x16x1024 .f32) (harg2 : arg2.IsWhole) (arg3 : Memref sig .tc .vmem S2048x1024 .bf16) (harg3 : arg3.IsWhole)
    (x0 : Vec F S1024x2048 .fp8e4m3) (x1 : Vec F S1x16x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc3_tokens_t i arg1 harg1 arg2 harg2 arg3 harg3) K := by
  simp only [cc3_tokens_t_eq_skeleton]; unfold cc3_tokens_t_skel
  simp only [k3_part1_eq_skeleton, k3_part2_eq_skeleton, k3_part3_eq_skeleton, k3_part4_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _ _ _ _ _ _ _ _ _ _ _ _ _ _ _)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => out0_2 (iblk V c 0 t) (iblk V c 1 t)
  Φ _ := Pipeline.ΦA spec3 c
  q _ := fullShare
  owed _ := 0

/-- The proof data's arrays are the region-entry contents: the proof data's definition projected (`dsimp`), so that
    `V` — a fold over @main's host prefix, long for some programs — is never unfolded to check it. -/
theorem A_eq (c : Dev nD) (w : Fin cfg3.W) : (dat V c).A w = V c (Pipeline.arrRef spec3 w) := by
  dsimp only [dat]

/-- What the body leaves, window by window (the proof data's `match` reduced by `dsimp`, never `rfl`: Lib/Pipeline.lean `Dat`). -/
theorem after0_0 (c : Dev nD) (t : Fin cfg3.N) : (dat V c).after 0 t = iblk V c 0 t := by dsimp only [dat]
theorem after0_1 (c : Dev nD) (t : Fin cfg3.N) : (dat V c).after 1 t = iblk V c 1 t := by dsimp only [dat]
theorem after0_2 (c : Dev nD) (t : Fin cfg3.N) : (dat V c).after 2 t = out0_2 (iblk V c 0 t) (iblk V c 1 t) := by dsimp only [dat]

/-- Each input's current staging buffer holds its block at every point, fetched there or not (`beforeK_W_of`). -/
theorem before0_0 (c : Dev nD) (t : Fin cfg3.N) (d) : (dat V c).before 0 t d = iblk V c 0 t :=
  before0_0_of V (dat V c) (A_eq V c 0) (after0_0 V c) t d
theorem before0_1 (c : Dev nD) (t : Fin cfg3.N) (d) : (dat V c).before 1 t d = iblk V c 1 t :=
  before0_1_of V (dat V c) (A_eq V c 1) (after0_1 V c) t d

/-! ## The body obligation, at a generic point -/

/-- What the body is called with at point `t` (Lib/Pipeline.lean `BodyObligation`'s precondition, the windows one by one), -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t))

/-- The body at any point: the inputs' memrefs hold their blocks (`before0_W`), so `sound_kernel` applies; the invariant and
    the core's `owes` pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before0_0, before0_1]
  rw [show (dat V c).Φ t.succ = (dat V c).Φ t.castSucc from rfl,
    show (dat V c).owesAt () t.succ = (dat V c).owesAt () t.castSucc from rfl,
    after0_0, after0_1, after0_2]
  iintro ⟨HΦ, Ho, ⟨%d0, H0⟩, ⟨%d1, H1⟩, ⟨%d2, H2⟩⟩
  iapply (sound_kernel c Set.univ (grid3.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt3` spells it. -/
theorem defs₀_row (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W3, bigSep_W3, defs₀_row]
  exact triple_restated (sound_body V c t) rfl .rfl fun _ => .rfl

end Cert.KernelIdeal.R3

end
-- ==== Proof.R4.Runs.lean ====
/- Region 4 of the kernel, the gradient of the gate/up weights (`dw_gu`): its windows' blocks, its branch conditions and its staging buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.R4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the region finds in the core's buffers
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k4_h1`), from the grid coordinates (the skeleton's scalar
    chain substituted). -/
abbrev cond0_0 (i : grid4.Coords) : Prop := (Scalar.cmpi .ne (Scalar.extui (Scalar.cmpi .eq (BitVec.ofNat 32 (i 1).val) 0#32)) 0#32) = 1#1
/-- It holds at the points ≡ 0 (mod 48) — by arithmetic of the point. -/
theorem hcond0_0 : ∀ t : Fin cfg4.N, cond0_0 (grid4.coords t) ↔ t.val % 48 = 0 :=
  (fun t => by
    have ht : t.val < 528 := Nat.lt_of_lt_of_eq t.isLt N_4
    have e0 : (grid4.coords t 0).val = t.val / 48 % 11 := Pipeline.Grid.coords_val t 0 (by decide) rfl
    have e1 : (grid4.coords t 1).val = t.val / 1 % 48 := Pipeline.Grid.coords_val t 1 (by decide) rfl
    simp only [cond0_0, e0, e1]
    word_cmp
   : ∀ t : Fin grid4.N, cond0_0 (grid4.coords t) ↔ t.val % 48 = 0)

/-! ## The kernel body on any staging memrefs: a subtype the run finds -/

/-- One staging buffer of output window 2, through which its contents are stated (`View.read_writes_of_cover`: the
    choice does not matter). -/
abbrev VO0_2 : View sig .tc .vmem S2x2048x512 .f32 := (Memref.whole cc4_stg2_0 : Memref sig .tc .vmem S2x2048x512 .f32).view
/-- Each window's current staging memref at point `t`, spelled as the pipeline passes it (`bodyAt4`), and its wholeness. -/
abbrev ms0_0 (t : Fin cfg4.N) : Memref sig .tc .vmem S2048x1024 .bf16 := win4_0.stage (cfg4.slots t 0)
abbrev hs0_0 (t : Fin cfg4.N) : (ms0_0 t).IsWhole := hstage4_0 ((cfg4.slots t 0).cast nbuf4_0)
abbrev ms0_1 (t : Fin cfg4.N) : Memref sig .tc .vmem S1024x1024 .bf16 := win4_1.stage (cfg4.slots t 1)
abbrev hs0_1 (t : Fin cfg4.N) : (ms0_1 t).IsWhole := hstage4_1 ((cfg4.slots t 1).cast nbuf4_1)
abbrev ms0_2 (t : Fin cfg4.N) : Memref sig .tc .vmem S2x2048x512 .f32 := win4_2.stage (cfg4.slots t 2)
abbrev hs0_2 (t : Fin cfg4.N) : (ms0_2 t).IsWhole := hstage4_2 ((cfg4.slots t 2).cast nbuf4_2)

end Cert.KernelIdeal.R4

end
-- ==== Proof.R4.RunA.lean ====
/- Region 4 of the kernel, the gradient of the gate/up weights (`dw_gu`): the run of the body in case A. -/
module

public import proofs.«01_k».proof.Proof.R4.Runs

@[expose] public section

-- membership in a rectangle of production extents (`View.cover_of_tiled`): the elaborator's structural look
-- recurses once per coordinate of the long axes
set_option maxRecDepth 16384

noncomputable section

namespace Cert.KernelIdeal.R4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the region finds in the core's buffers
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken: points 0, 48, … 480: 11 of 528), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid4.Coords) (arg2 : Memref sig .tc .vmem S2048x1024 .bf16) (harg2 : arg2.IsWhole) (arg3 : Memref sig .tc .vmem S1024x1024 .bf16) (harg3 : arg3.IsWhole) (arg4 : Memref sig .tc .vmem S2x2048x512 .f32) (harg4 : arg4.IsWhole) (hc0 : cond0_0 i)
    (x0 : Vec F S2048x1024 .bf16) (x1 : Vec F S1024x1024 .bf16) :
    { L2 : List (View.Piece (Elt F) S2x2048x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc4_dw_gu i arg2 harg2 arg3 harg3 arg4 harg4) K } := by
  refine ⟨?_, fun E K => ?run⟩
  case run =>
    simp only [cc4_dw_gu_eq_skeleton]; unfold cc4_dw_gu_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.R4

end
-- ==== Proof.R4.RunB.lean ====
/- Region 4 of the kernel, the gradient of the gate/up weights (`dw_gu`): the run of the body in case B. -/
module

public import proofs.«01_k».proof.Proof.R4.RunA

@[expose] public section

-- membership in a rectangle of production extents (`View.cover_of_tiled`): the elaborator's structural look
-- recurses once per coordinate of the long axes
set_option maxRecDepth 16384

noncomputable section

namespace Cert.KernelIdeal.R4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the region finds in the core's buffers
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken: points 1, 2, … 527: 517 of 528), WITH the
    proof that on whole staging memrefs — the inputs' at their contents, the outputs it reads before covering (2) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid4.Coords) (arg2 : Memref sig .tc .vmem S2048x1024 .bf16) (harg2 : arg2.IsWhole) (arg3 : Memref sig .tc .vmem S1024x1024 .bf16) (harg3 : arg3.IsWhole) (arg4 : Memref sig .tc .vmem S2x2048x512 .f32) (harg4 : arg4.IsWhole) (hc0 : ¬cond0_0 i)
    (x0 : Vec F S2048x1024 .bf16) (x1 : Vec F S1024x1024 .bf16) (xo2 : Vec F S2x2048x512 .f32) :
    { L2 : List (View.Piece (Elt F) S2x2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc4_dw_gu i arg2 harg2 arg3 harg3 arg4 harg4) K } := by
  refine ⟨?_, fun E K => ?run⟩
  case run =>
    simp only [cc4_dw_gu_eq_skeleton]; unfold cc4_dw_gu_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.R4

end
-- ==== Proof.R4.Frame.lean ====
/- Region 4 of the kernel, the gradient of the gate/up weights (`dw_gu`): its proof data and its body's obligation. -/
module

public import proofs.«01_k».proof.Proof.R4.RunB

@[expose] public section

-- membership in a rectangle of production extents (`View.cover_of_tiled`): the elaborator's structural look
-- recurses once per coordinate of the long axes
set_option maxRecDepth 16384

noncomputable section

namespace Cert.KernelIdeal.R4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the region finds in the core's buffers
variable (V : (c : Dev nD) → (b : Ref sig .tc) → Buf (Elt F) ((c : Thread nD τ).loc b))

/-- Case A's pieces for output 2 are of SEVERAL sizes (3 stores of `S1x2048x512`, `S2x2048x512`): cut into blocks of `![1, 2048, 512]` they tile its block (checked by the kernel's evaluation: Lib/Ring.lean `Piece.tiledBy`), so they cover it. -/
theorem cover0_A_2 (c : Dev nD) (i : grid4.Coords) (arg2 : Memref sig .tc .vmem S2048x1024 .bf16) (harg2 : arg2.IsWhole) (arg3 : Memref sig .tc .vmem S1024x1024 .bf16) (harg3 : arg3.IsWhole) (arg4 : Memref sig .tc .vmem S2x2048x512 .f32) (harg4 : arg4.IsWhole) (hc0 : cond0_0 i)
    (x0 : Vec F S2048x1024 .bf16) (x1 : Vec F S1024x1024 .bf16) (y : S2x2048x512.Idx) :
    ∃ pc ∈ (kernelRun0_A c i arg2 harg2 arg3 harg3 arg4 harg4 hc0 x0 x1).1, y ∈ pc.1.set :=
  View.cover_of_tiledBy (kernelRun0_A c i arg2 harg2 arg3 harg3 arg4 harg4 hc0 x0 x1).1 ![1, 2048, 512] (by sl_kernel_rfl) y

/-- What case A leaves in output 2's staging buffer: its pieces read back over junk. -/
def out0_A_2 (c : Dev nD) (i : grid4.Coords) (arg2 : Memref sig .tc .vmem S2048x1024 .bf16) (harg2 : arg2.IsWhole) (arg3 : Memref sig .tc .vmem S1024x1024 .bf16) (harg3 : arg3.IsWhole) (arg4 : Memref sig .tc .vmem S2x2048x512 .f32) (harg4 : arg4.IsWhole) (hc0 : cond0_0 i)
    (x0 : Vec F S2048x1024 .bf16) (x1 : Vec F S1024x1024 .bf16) : Vec F S2x2048x512 .f32 :=
  VO0_2.read (Elt F) (VO0_2.writes (Elt F) VO0_2.junk (kernelRun0_A c i arg2 harg2 arg3 harg3 arg4 harg4 hc0 x0 x1).1)

/-- Case B's pieces for output 2 tile its block (2 stores of `S1x2048x512`, checked by the kernel's evaluation: Lib/Ring.lean `Piece.tiledL`, linear in the pieces, through a loop's `@[irreducible]` trip theorem too), so they cover it. -/
theorem cover0_B_2 (c : Dev nD) (i : grid4.Coords) (arg2 : Memref sig .tc .vmem S2048x1024 .bf16) (harg2 : arg2.IsWhole) (arg3 : Memref sig .tc .vmem S1024x1024 .bf16) (harg3 : arg3.IsWhole) (arg4 : Memref sig .tc .vmem S2x2048x512 .f32) (harg4 : arg4.IsWhole) (hc0 : ¬cond0_0 i)
    (x0 : Vec F S2048x1024 .bf16) (x1 : Vec F S1024x1024 .bf16) (xo2 : Vec F S2x2048x512 .f32) (y : S2x2048x512.Idx) :
    ∃ pc ∈ (kernelRun0_B c i arg2 harg2 arg3 harg3 arg4 harg4 hc0 x0 x1 xo2).1, y ∈ pc.1.set :=
  View.cover_of_tiledL (kernelRun0_B c i arg2 harg2 arg3 harg3 arg4 harg4 hc0 x0 x1 xo2).1 S1x2048x512.size (by sl_kernel_rfl) y

/-- What case B leaves in output 2's staging buffer: its pieces read back over junk. -/
def out0_B_2 (c : Dev nD) (i : grid4.Coords) (arg2 : Memref sig .tc .vmem S2048x1024 .bf16) (harg2 : arg2.IsWhole) (arg3 : Memref sig .tc .vmem S1024x1024 .bf16) (harg3 : arg3.IsWhole) (arg4 : Memref sig .tc .vmem S2x2048x512 .f32) (harg4 : arg4.IsWhole) (hc0 : ¬cond0_0 i)
    (x0 : Vec F S2048x1024 .bf16) (x1 : Vec F S1024x1024 .bf16) (xo2 : Vec F S2x2048x512 .f32) : Vec F S2x2048x512 .f32 :=
  VO0_2.read (Elt F) (VO0_2.writes (Elt F) VO0_2.junk (kernelRun0_B c i arg2 harg2 arg3 harg3 arg4 harg4 hc0 x0 x1 xo2).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg4.N → Vec F S2x2048x512 .f32
  | 0, hn => out0_A_2 c (grid4.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk V c 0 ⟨0, hn⟩) (iblk V c 1 ⟨0, hn⟩)
  | n + 1, hn =>
    if h0 : (n + 1) % 48 = 0 then
      out0_A_2 c (grid4.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk V c 0 ⟨n + 1, hn⟩) (iblk V c 1 ⟨n + 1, hn⟩)
    else
      out0_B_2 c (grid4.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk V c 0 ⟨n + 1, hn⟩) (iblk V c 1 ⟨n + 1, hn⟩) (outsAt0 c n (Nat.lt_of_succ_lt hn))

/-- `outsAt0` at a point of case A: that case's contents. -/
theorem outsAt0_A (c : Dev nD) (t : Fin cfg4.N) (h0 : t.val % 48 = 0) :
    outsAt0 V c t.val t.isLt = out0_A_2 c (grid4.coords t) (ms0_0 t) (hs0_0 t) (ms0_1 t) (hs0_1 t) (ms0_2 t) (hs0_2 t) ((hcond0_0 t).mpr h0) (iblk V c 0 t) (iblk V c 1 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg4.N) (h0 : ¬t.val % 48 = 0) :
    outsAt0 V c t.val t.isLt = out0_B_2 c (grid4.coords t) (ms0_0 t) (hs0_0 t) (ms0_1 t) (hs0_1 t) (ms0_2 t) (hs0_2 t) (fun h => h0 ((hcond0_0 t).mp h)) (iblk V c 0 t) (iblk V c 1 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => (outsAt0 V c t.val t.isLt)
  Φ _ := Pipeline.ΦA spec4 c
  q _ := fullShare
  owed _ := 0

/-- The proof data's arrays are the region-entry contents: the proof data's definition projected (`dsimp`), so that
    `V` — a fold over @main's host prefix, long for some programs — is never unfolded to check it. -/
theorem A_eq (c : Dev nD) (w : Fin cfg4.W) : (dat V c).A w = V c (Pipeline.arrRef spec4 w) := by
  dsimp only [dat]

/-- What the body leaves, window by window (the proof data's `match` reduced by `dsimp`). -/
theorem after0_0 (c : Dev nD) (t : Fin cfg4.N) : (dat V c).after 0 t = iblk V c 0 t := by dsimp only [dat]
theorem after0_1 (c : Dev nD) (t : Fin cfg4.N) : (dat V c).after 1 t = iblk V c 1 t := by dsimp only [dat]
theorem after0_2 (c : Dev nD) (t : Fin cfg4.N) : (dat V c).after 2 t = (outsAt0 V c t.val t.isLt) := by dsimp only [dat]

/-- Each input's current staging buffer holds its block at every point, fetched there or not (`beforeK_W_of`). -/
theorem before0_0 (c : Dev nD) (t : Fin cfg4.N) (d) : (dat V c).before 0 t d = iblk V c 0 t :=
  before0_0_of V (dat V c) (A_eq V c 0) (after0_0 V c) t d
theorem before0_1 (c : Dev nD) (t : Fin cfg4.N) (d) : (dat V c).before 1 t d = iblk V c 1 t :=
  before0_1_of V (dat V c) (A_eq V c 1) (after0_1 V c) t d
/-- At a point of case B output 2's current staging buffer holds what the body left at the point before: the point is
    not the first, the buffer was not written back between (`flush4_2`), the window is live and uncut (Lib/Pipeline/Frame.lean
    `Dat.before_out_kept`). -/
theorem before0_2_B (c : Dev nD) (t : Fin cfg4.N) (h0 : ¬t.val % 48 = 0) (d) :
    (dat V c).before 2 t d = (outsAt0 V c (t.val - 1) (Nat.lt_of_le_of_lt (Nat.sub_le _ _) t.isLt)) := by
  have hN : t.val < 528 := lt_of_lt_of_eq t.isLt (show cfg4.N = 528 from N_4)
  rw [Dat.before_out_kept _ 2 rfl t (by omega) (Bool.eq_false_iff.mpr fun h => by have := (flush4_2 _).mp h; dsimp only at this; omega)
    (fun _ => rfl) (fun _ _ => rfl)]
  dsimp only [dat]

/-! ## The body obligation, at a generic point -/

/-- What the body is called with at point `t` (Lib/Pipeline.lean `BodyObligation`'s precondition, the windows one by one), -/
def bodyPre (c : Dev nD) (t : Fin cfg4.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d)))

/-- and what it returns. -/
def bodyPost (c : Dev nD) (t : Fin cfg4.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t))

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before0_0, before0_1]
  rw [show (dat V c).Φ t.succ = (dat V c).Φ t.castSucc from rfl,
    show (dat V c).owesAt () t.succ = (dat V c).owesAt () t.castSucc from rfl,
    after0_0, after0_1, after0_2]
  have hN : t.val < 528 := lt_of_lt_of_eq t.isLt (show cfg4.N = 528 from N_4)
  by_cases h0 : t.val % 48 = 0
  · rw [outsAt0_A V c t h0]
    unfold out0_A_2
    iintro ⟨HΦ, Ho, ⟨%d0, H0⟩, ⟨%d1, H1⟩, ⟨%d2, H2⟩⟩
    iapply ((kernelRun0_A c (grid4.coords t) _ _ _ _ _ _ ((hcond0_0 t).mpr h0) (iblk V c 0 t) (iblk V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B V c t h0]
    simp only [before0_2_B V c t h0]
    unfold out0_B_2
    iintro ⟨HΦ, Ho, ⟨%d0, H0⟩, ⟨%d1, H1⟩, ⟨%d2, H2⟩⟩
    iapply ((kernelRun0_B c (grid4.coords t) _ _ _ _ _ _ (fun h => h0 ((hcond0_0 t).mp h)) (iblk V c 0 t) (iblk V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The body table's row at point `t`'s slots is the body as `bodyAt4` spells it. -/
theorem defs₀_row (t : Fin cfg4.N) :
    defs₀ (F := F) .tc cfg4.body (cfg4.bodyArgs t (cfg4.slots t)) = bodyAt4 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W4, bigSep_W4, defs₀_row]
  exact triple_restated (sound_body V c t) rfl .rfl fun _ => .rfl

end Cert.KernelIdeal.R4

end
-- ==== Proof.R5.Frame.lean ====
/- Region 5 of the kernel, the transposed tokens of `dy` (`tokens_t`): its proof data and its body's obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.R5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the region finds in the core's buffers
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg5 c) (hA : dat.A 0 = V c (Pipeline.arrRef spec5 0))
    (hafter : ∀ t, dat.after 0 t = iblk V c 0 t) (t : Fin cfg5.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg5 c) (hA : dat.A 1 = V c (Pipeline.arrRef spec5 1))
    (hafter : ∀ t, dat.after 1 t = iblk V c 1 t) (t : Fin cfg5.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S1024x2048 := Rect.unit (s := S1024x2048) ![0, 0] S1024x128.size inb_S1024x2048_S1024x128_0_0
abbrev r0_1 : Rect S1x16x1024 := Rect.unit (s := S1x16x1024) ![0, 0, 0] S1x1x1024.size inb_S1x16x1024_S1x1x1024_0_0_0
abbrev r0_2 : Rect S2048x1024 := Rect.unit (s := S2048x1024) ![0, 0] S128x1024.size inb_S2048x1024_S128x1024_0_0
abbrev r0_3 : Rect S1024x2048 := Rect.unit (s := S1024x2048) ![0, 128] S1024x128.size inb_S1024x2048_S1024x128_0_128
abbrev r0_4 : Rect S1x16x1024 := Rect.unit (s := S1x16x1024) ![0, 1, 0] S1x1x1024.size inb_S1x16x1024_S1x1x1024_0_1_0
abbrev r0_5 : Rect S2048x1024 := Rect.unit (s := S2048x1024) ![128, 0] S128x1024.size inb_S2048x1024_S128x1024_128_0
abbrev r0_6 : Rect S1024x2048 := Rect.unit (s := S1024x2048) ![0, 256] S1024x128.size inb_S1024x2048_S1024x128_0_256
abbrev r0_7 : Rect S1x16x1024 := Rect.unit (s := S1x16x1024) ![0, 2, 0] S1x1x1024.size inb_S1x16x1024_S1x1x1024_0_2_0
abbrev r0_8 : Rect S2048x1024 := Rect.unit (s := S2048x1024) ![256, 0] S128x1024.size inb_S2048x1024_S128x1024_256_0
abbrev r0_9 : Rect S1024x2048 := Rect.unit (s := S1024x2048) ![0, 384] S1024x128.size inb_S1024x2048_S1024x128_0_384
abbrev r0_10 : Rect S1x16x1024 := Rect.unit (s := S1x16x1024) ![0, 3, 0] S1x1x1024.size inb_S1x16x1024_S1x1x1024_0_3_0
abbrev r0_11 : Rect S2048x1024 := Rect.unit (s := S2048x1024) ![384, 0] S128x1024.size inb_S2048x1024_S128x1024_384_0
abbrev r0_12 : Rect S1024x2048 := Rect.unit (s := S1024x2048) ![0, 512] S1024x128.size inb_S1024x2048_S1024x128_0_512
abbrev r0_13 : Rect S1x16x1024 := Rect.unit (s := S1x16x1024) ![0, 4, 0] S1x1x1024.size inb_S1x16x1024_S1x1x1024_0_4_0
abbrev r0_14 : Rect S2048x1024 := Rect.unit (s := S2048x1024) ![512, 0] S128x1024.size inb_S2048x1024_S128x1024_512_0
abbrev r0_15 : Rect S1024x2048 := Rect.unit (s := S1024x2048) ![0, 640] S1024x128.size inb_S1024x2048_S1024x128_0_640
abbrev r0_16 : Rect S1x16x1024 := Rect.unit (s := S1x16x1024) ![0, 5, 0] S1x1x1024.size inb_S1x16x1024_S1x1x1024_0_5_0
abbrev r0_17 : Rect S2048x1024 := Rect.unit (s := S2048x1024) ![640, 0] S128x1024.size inb_S2048x1024_S128x1024_640_0
abbrev r0_18 : Rect S1024x2048 := Rect.unit (s := S1024x2048) ![0, 768] S1024x128.size inb_S1024x2048_S1024x128_0_768
abbrev r0_19 : Rect S1x16x1024 := Rect.unit (s := S1x16x1024) ![0, 6, 0] S1x1x1024.size inb_S1x16x1024_S1x1x1024_0_6_0
abbrev r0_20 : Rect S2048x1024 := Rect.unit (s := S2048x1024) ![768, 0] S128x1024.size inb_S2048x1024_S128x1024_768_0
abbrev r0_21 : Rect S1024x2048 := Rect.unit (s := S1024x2048) ![0, 896] S1024x128.size inb_S1024x2048_S1024x128_0_896
abbrev r0_22 : Rect S1x16x1024 := Rect.unit (s := S1x16x1024) ![0, 7, 0] S1x1x1024.size inb_S1x16x1024_S1x1x1024_0_7_0
abbrev r0_23 : Rect S2048x1024 := Rect.unit (s := S2048x1024) ![896, 0] S128x1024.size inb_S2048x1024_S128x1024_896_0
abbrev r0_24 : Rect S1024x2048 := Rect.unit (s := S1024x2048) ![0, 1024] S1024x128.size inb_S1024x2048_S1024x128_0_1024
abbrev r0_25 : Rect S1x16x1024 := Rect.unit (s := S1x16x1024) ![0, 8, 0] S1x1x1024.size inb_S1x16x1024_S1x1x1024_0_8_0
abbrev r0_26 : Rect S2048x1024 := Rect.unit (s := S2048x1024) ![1024, 0] S128x1024.size inb_S2048x1024_S128x1024_1024_0
abbrev r0_27 : Rect S1024x2048 := Rect.unit (s := S1024x2048) ![0, 1152] S1024x128.size inb_S1024x2048_S1024x128_0_1152
abbrev r0_28 : Rect S1x16x1024 := Rect.unit (s := S1x16x1024) ![0, 9, 0] S1x1x1024.size inb_S1x16x1024_S1x1x1024_0_9_0
abbrev r0_29 : Rect S2048x1024 := Rect.unit (s := S2048x1024) ![1152, 0] S128x1024.size inb_S2048x1024_S128x1024_1152_0
abbrev r0_30 : Rect S1024x2048 := Rect.unit (s := S1024x2048) ![0, 1280] S1024x128.size inb_S1024x2048_S1024x128_0_1280
abbrev r0_31 : Rect S1x16x1024 := Rect.unit (s := S1x16x1024) ![0, 10, 0] S1x1x1024.size inb_S1x16x1024_S1x1x1024_0_10_0
abbrev r0_32 : Rect S2048x1024 := Rect.unit (s := S2048x1024) ![1280, 0] S128x1024.size inb_S2048x1024_S128x1024_1280_0
abbrev r0_33 : Rect S1024x2048 := Rect.unit (s := S1024x2048) ![0, 1408] S1024x128.size inb_S1024x2048_S1024x128_0_1408
abbrev r0_34 : Rect S1x16x1024 := Rect.unit (s := S1x16x1024) ![0, 11, 0] S1x1x1024.size inb_S1x16x1024_S1x1x1024_0_11_0
abbrev r0_35 : Rect S2048x1024 := Rect.unit (s := S2048x1024) ![1408, 0] S128x1024.size inb_S2048x1024_S128x1024_1408_0
abbrev r0_36 : Rect S1024x2048 := Rect.unit (s := S1024x2048) ![0, 1536] S1024x128.size inb_S1024x2048_S1024x128_0_1536
abbrev r0_37 : Rect S1x16x1024 := Rect.unit (s := S1x16x1024) ![0, 12, 0] S1x1x1024.size inb_S1x16x1024_S1x1x1024_0_12_0
abbrev r0_38 : Rect S2048x1024 := Rect.unit (s := S2048x1024) ![1536, 0] S128x1024.size inb_S2048x1024_S128x1024_1536_0
abbrev r0_39 : Rect S1024x2048 := Rect.unit (s := S1024x2048) ![0, 1664] S1024x128.size inb_S1024x2048_S1024x128_0_1664
abbrev r0_40 : Rect S1x16x1024 := Rect.unit (s := S1x16x1024) ![0, 13, 0] S1x1x1024.size inb_S1x16x1024_S1x1x1024_0_13_0
abbrev r0_41 : Rect S2048x1024 := Rect.unit (s := S2048x1024) ![1664, 0] S128x1024.size inb_S2048x1024_S128x1024_1664_0
abbrev r0_42 : Rect S1024x2048 := Rect.unit (s := S1024x2048) ![0, 1792] S1024x128.size inb_S1024x2048_S1024x128_0_1792
abbrev r0_43 : Rect S1x16x1024 := Rect.unit (s := S1x16x1024) ![0, 14, 0] S1x1x1024.size inb_S1x16x1024_S1x1x1024_0_14_0
abbrev r0_44 : Rect S2048x1024 := Rect.unit (s := S2048x1024) ![1792, 0] S128x1024.size inb_S2048x1024_S128x1024_1792_0
abbrev r0_45 : Rect S1024x2048 := Rect.unit (s := S1024x2048) ![0, 1920] S1024x128.size inb_S1024x2048_S1024x128_0_1920
abbrev r0_46 : Rect S1x16x1024 := Rect.unit (s := S1x16x1024) ![0, 15, 0] S1x1x1024.size inb_S1x16x1024_S1x1x1024_0_15_0
abbrev r0_47 : Rect S2048x1024 := Rect.unit (s := S2048x1024) ![1920, 0] S128x1024.size inb_S2048x1024_S128x1024_1920_0

/-! ## What the body leaves in each output window's buffer -/

/-- Window 2's staging buffer after the body, from the input windows' blocks: its 16 stores as pieces, LAST
    FIRST (Lib/Pipeline/FrameBody.lean `View.canon`; the payloads are the skeleton's). -/
def out0_2 (x0 : Vec F S1024x2048 .fp8e5m2) (x1 : Vec F S1x16x1024 .f32) : Vec F S2048x1024 .bf16 :=
  View.canon [⟨r0_47, k5_pay3 (View.ld x0 r0_45) (View.ld x1 r0_46)⟩,
    ⟨r0_44, k5_pay2 (View.ld x0 r0_42) (View.ld x1 r0_43)⟩,
    ⟨r0_41, k5_pay1 (k5_pay20 (View.ld x0 r0_39)) (View.ld x1 r0_40)⟩,
    ⟨r0_38, k5_pay19 (View.ld x0 r0_36) (View.ld x1 r0_37)⟩,
    ⟨r0_35, k5_pay18 (View.ld x0 r0_33) (View.ld x1 r0_34)⟩,
    ⟨r0_32, k5_pay17 (View.ld x0 r0_30) (View.ld x1 r0_31)⟩,
    ⟨r0_29, k5_pay16 (View.ld x0 r0_27) (View.ld x1 r0_28)⟩,
    ⟨r0_26, k5_pay15 (View.ld x0 r0_24) (View.ld x1 r0_25)⟩,
    ⟨r0_23, k5_pay14 (View.ld x0 r0_21) (View.ld x1 r0_22)⟩,
    ⟨r0_20, k5_pay13 (k5_pay11 (View.ld x0 r0_18)) (k5_pay12 (View.ld x1 r0_19))⟩,
    ⟨r0_17, k5_pay10 (View.ld x0 r0_15) (View.ld x1 r0_16)⟩,
    ⟨r0_14, k5_pay9 (View.ld x0 r0_12) (View.ld x1 r0_13)⟩,
    ⟨r0_11, k5_pay8 (k5_pay7 (View.ld x0 r0_9)) (View.ld x1 r0_10)⟩,
    ⟨r0_8, k5_pay6 (View.ld x0 r0_6) (View.ld x1 r0_7)⟩,
    ⟨r0_5, k5_pay5 (View.ld x0 r0_3) (View.ld x1 r0_4)⟩,
    ⟨r0_2, k5_pay4 (View.ld x0 r0_0) (View.ld x1 r0_1)⟩]

/-- Its stores tile the buffer (checked by evaluation), so they cover it. -/
theorem cover0_2 (p0 : Vec F S128x1024 .bf16) (p1 : Vec F S128x1024 .bf16) (p2 : Vec F S128x1024 .bf16) (p3 : Vec F S128x1024 .bf16) (p4 : Vec F S128x1024 .bf16) (p5 : Vec F S128x1024 .bf16) (p6 : Vec F S128x1024 .bf16) (p7 : Vec F S128x1024 .bf16) (p8 : Vec F S128x1024 .bf16) (p9 : Vec F S128x1024 .bf16) (p10 : Vec F S128x1024 .bf16) (p11 : Vec F S128x1024 .bf16) (p12 : Vec F S128x1024 .bf16) (p13 : Vec F S128x1024 .bf16) (p14 : Vec F S128x1024 .bf16) (p15 : Vec F S128x1024 .bf16) (y : S2048x1024.Idx) :
    ∃ pc ∈ ([⟨r0_47, p0⟩, ⟨r0_44, p1⟩, ⟨r0_41, p2⟩, ⟨r0_38, p3⟩, ⟨r0_35, p4⟩, ⟨r0_32, p5⟩, ⟨r0_29, p6⟩, ⟨r0_26, p7⟩, ⟨r0_23, p8⟩, ⟨r0_20, p9⟩, ⟨r0_17, p10⟩, ⟨r0_14, p11⟩, ⟨r0_11, p12⟩, ⟨r0_8, p13⟩, ⟨r0_5, p14⟩, ⟨r0_2, p15⟩] : List (View.Piece (Elt F) S2048x1024 .bf16)), y ∈ pc.1.set :=
  View.cover_of_tiled [⟨r0_47, p0⟩, ⟨r0_44, p1⟩, ⟨r0_41, p2⟩, ⟨r0_38, p3⟩, ⟨r0_35, p4⟩, ⟨r0_32, p5⟩, ⟨r0_29, p6⟩, ⟨r0_26, p7⟩, ⟨r0_23, p8⟩, ⟨r0_20, p9⟩, ⟨r0_17, p10⟩, ⟨r0_14, p11⟩, ⟨r0_11, p12⟩, ⟨r0_8, p13⟩, ⟨r0_5, p14⟩, ⟨r0_2, p15⟩] S128x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid5.Coords) (arg1 : Memref sig .tc .vmem S1024x2048 .fp8e5m2) (harg1 : arg1.IsWhole) (arg2 : Memref sig .tc .vmem S1x16x1024 .f32) (harg2 : arg2.IsWhole) (arg3 : Memref sig .tc .vmem S2048x1024 .bf16) (harg3 : arg3.IsWhole)
    (x0 : Vec F S1024x2048 .fp8e5m2) (x1 : Vec F S1x16x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc5_tokens_t i arg1 harg1 arg2 harg2 arg3 harg3) K := by
  simp only [cc5_tokens_t_eq_skeleton]; unfold cc5_tokens_t_skel
  simp only [k5_part1_eq_skeleton, k5_part2_eq_skeleton, k5_part3_eq_skeleton, k5_part4_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _ _ _ _ _ _ _ _ _ _ _ _ _ _ _)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat (c : Dev nD) : Dat τ (Elt F) Unit ℕ (UR sig nD τ) ℕ cfg5 c where
  A w := V c (Pipeline.arrRef spec5 w)
  after w t := match w with
    | ⟨0, _⟩ => iblk V c 0 t
    | ⟨1, _⟩ => iblk V c 1 t
    | ⟨2, _⟩ => out0_2 (iblk V c 0 t) (iblk V c 1 t)
  Φ _ := Pipeline.ΦA spec5 c
  q _ := fullShare
  owed _ := 0

/-- The proof data's arrays are the region-entry contents: the proof data's definition projected (`dsimp`), so that
    `V` — a fold over @main's host prefix, long for some programs — is never unfolded to check it. -/
theorem A_eq (c : Dev nD) (w : Fin cfg5.W) : (dat V c).A w = V c (Pipeline.arrRef spec5 w) := by
  dsimp only [dat]

/-- What the body leaves, window by window (the proof data's `match` reduced by `dsimp`, never `rfl`: Lib/Pipeline.lean `Dat`). -/
theorem after0_0 (c : Dev nD) (t : Fin cfg5.N) : (dat V c).after 0 t = iblk V c 0 t := by dsimp only [dat]
theorem after0_1 (c : Dev nD) (t : Fin cfg5.N) : (dat V c).after 1 t = iblk V c 1 t := by dsimp only [dat]
theorem after0_2 (c : Dev nD) (t : Fin cfg5.N) : (dat V c).after 2 t = out0_2 (iblk V c 0 t) (iblk V c 1 t) := by dsimp only [dat]

/-- Each input's current staging buffer holds its block at every point, fetched there or not (`beforeK_W_of`). -/
theorem before0_0 (c : Dev nD) (t : Fin cfg5.N) (d) : (dat V c).before 0 t d = iblk V c 0 t :=
  before0_0_of V (dat V c) (A_eq V c 0) (after0_0 V c) t d
theorem before0_1 (c : Dev nD) (t : Fin cfg5.N) (d) : (dat V c).before 1 t d = iblk V c 1 t :=
  before0_1_of V (dat V c) (A_eq V c 1) (after0_1 V c) t d

/-! ## The body obligation, at a generic point -/

/-- What the body is called with at point `t` (Lib/Pipeline.lean `BodyObligation`'s precondition, the windows one by one), -/
def bodyPre (c : Dev nD) (t : Fin cfg5.N) : sProp 𝕄 :=
  iprop((dat V c).Φ t.castSucc ∗ (dat V c).owesAt () t.castSucc
    ∗ (∃ d, owns (c : Thread nD τ) (st5_0 t) fullShare ((dat V c).before 0 t d))
    ∗ (∃ d, owns (c : Thread nD τ) (st5_1 t) fullShare ((dat V c).before 1 t d))
    ∗ (∃ d, owns (c : Thread nD τ) (st5_2 t) fullShare ((dat V c).before 2 t d)))

/-- and what it returns. -/
def bodyPost (c : Dev nD) (t : Fin cfg5.N) : sProp 𝕄 :=
  iprop((dat V c).Φ t.succ ∗ (dat V c).owesAt () t.succ
    ∗ owns (c : Thread nD τ) (st5_0 t) fullShare ((dat V c).after 0 t)
    ∗ owns (c : Thread nD τ) (st5_1 t) fullShare ((dat V c).after 1 t)
    ∗ owns (c : Thread nD τ) (st5_2 t) fullShare ((dat V c).after 2 t))

/-- The body at any point: the inputs' memrefs hold their blocks (`before0_W`), so `sound_kernel` applies; the invariant and
    the core's `owes` pass through unread. -/
theorem sound_body (c : Dev nD) (t : Fin cfg5.N) :
    bodyPre V c t ⊢ wp frame (wpE (defs₀ (F := F)) Variants.none c none) Set.univ (bodyAt5 t) (fun _ => bodyPost V c t) := by
  unfold bodyPre bodyPost bodyAt5
  simp only [before0_0, before0_1]
  rw [show (dat V c).Φ t.succ = (dat V c).Φ t.castSucc from rfl,
    show (dat V c).owesAt () t.succ = (dat V c).owesAt () t.castSucc from rfl,
    after0_0, after0_1, after0_2]
  iintro ⟨HΦ, Ho, ⟨%d0, H0⟩, ⟨%d1, H1⟩, ⟨%d2, H2⟩⟩
  iapply (sound_kernel c Set.univ (grid5.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt5` spells it. -/
theorem defs₀_row (t : Fin cfg5.N) :
    defs₀ (F := F) .tc cfg5.body (cfg5.bodyArgs t (cfg5.slots t)) = bodyAt5 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W5, bigSep_W5, defs₀_row]
  exact triple_restated (sound_body V c t) rfl .rfl fun _ => .rfl

end Cert.KernelIdeal.R5

end
-- ==== Proof.R6.Runs.lean ====
/- Region 6 of the kernel, the gradient of the down weights (`dw_down`): its windows' blocks, its branch conditions and its staging buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.R6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the region finds in the core's buffers
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg6 c) (hA : dat.A 0 = V c (Pipeline.arrRef spec6 0))
    (hafter : ∀ t, dat.after 0 t = iblk V c 0 t) (t : Fin cfg6.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg6 c) (hA : dat.A 1 = V c (Pipeline.arrRef spec6 1))
    (hafter : ∀ t, dat.after 1 t = iblk V c 1 t) (t : Fin cfg6.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k6_h1`), from the grid coordinates (the skeleton's scalar
    chain substituted). -/
abbrev cond0_0 (i : grid6.Coords) : Prop := (Scalar.cmpi .ne (Scalar.extui (Scalar.cmpi .eq (BitVec.ofNat 32 (i 1).val) 0#32)) 0#32) = 1#1
/-- It holds at the points ≡ 0 (mod 48) — by arithmetic of the point. -/
theorem hcond0_0 : ∀ t : Fin cfg6.N, cond0_0 (grid6.coords t) ↔ t.val % 48 = 0 :=
  (fun t => by
    have ht : t.val < 528 := Nat.lt_of_lt_of_eq t.isLt N_6
    have e0 : (grid6.coords t 0).val = t.val / 48 % 11 := Pipeline.Grid.coords_val t 0 (by decide) rfl
    have e1 : (grid6.coords t 1).val = t.val / 1 % 48 := Pipeline.Grid.coords_val t 1 (by decide) rfl
    simp only [cond0_0, e0, e1]
    word_cmp
   : ∀ t : Fin grid6.N, cond0_0 (grid6.coords t) ↔ t.val % 48 = 0)

/-- The condition of the body's `scf.if` 1 (`k6_h2`), from the grid coordinates (the skeleton's scalar
    chain substituted). -/
abbrev cond0_1 (i : grid6.Coords) : Prop := k6_cond2 i = 1#1
/-- It holds at the points ≡ 47 (mod 48) — by arithmetic of the point. -/
theorem hcond0_1 : ∀ t : Fin cfg6.N, cond0_1 (grid6.coords t) ↔ t.val % 48 = 47 :=
  (fun t => by
    have ht : t.val < 528 := Nat.lt_of_lt_of_eq t.isLt N_6
    have e0 : (grid6.coords t 0).val = t.val / 48 % 11 := Pipeline.Grid.coords_val t 0 (by decide) rfl
    have e1 : (grid6.coords t 1).val = t.val / 1 % 48 := Pipeline.Grid.coords_val t 1 (by decide) rfl
    simp only [cond0_1, k6_cond2, e0, e1]
    word_cmp
   : ∀ t : Fin grid6.N, cond0_1 (grid6.coords t) ↔ t.val % 48 = 47)

/-! ## Where the windows are idle (the printed configuration's table `Cfg.idle`) -/

/-- Window 0 is never idle (an input). -/
theorem liveAt0_0 : ∀ t : Fin cfg6.N, cfg6.idle 0 (grid6.coords t) = false := fun _ => rfl
/-- Window 1 is never idle (an input). -/
theorem liveAt0_1 : ∀ t : Fin cfg6.N, cfg6.idle 1 (grid6.coords t) = false := fun _ => rfl
/-- At the points of case A the printed configuration (`Cfg.idle`) calls output 2 idle: the case stores nothing into it. -/
theorem idleAt0_2_A : ∀ t : Fin cfg6.N, cond0_0 (grid6.coords t) → ¬cond0_1 (grid6.coords t) → cfg6.idle 2 (grid6.coords t) = true := by decide +kernel
/-- At the points of case A the pipeline does not write output 2's block back. -/
theorem noFlush0_2_A : ∀ t : Fin cfg6.N, cond0_0 (grid6.coords t) → ¬cond0_1 (grid6.coords t) → (cfg6.win 2).flush t = false := by decide +kernel
/-- At the points of case B the printed configuration (`Cfg.idle`) calls output 2 idle: the case stores nothing into it. -/
theorem idleAt0_2_B : ∀ t : Fin cfg6.N, ¬cond0_0 (grid6.coords t) → ¬cond0_1 (grid6.coords t) → cfg6.idle 2 (grid6.coords t) = true := by decide +kernel
/-- At the points of case B the pipeline does not write output 2's block back. -/
theorem noFlush0_2_B : ∀ t : Fin cfg6.N, ¬cond0_0 (grid6.coords t) → ¬cond0_1 (grid6.coords t) → (cfg6.win 2).flush t = false := by decide +kernel
/-- At the points of case C the printed configuration (`Cfg.idle`) calls output 2 live: the case stores into it. -/
theorem liveAt0_2_C : ∀ t : Fin cfg6.N, ¬cond0_0 (grid6.coords t) → cond0_1 (grid6.coords t) → cfg6.idle 2 (grid6.coords t) = false := by decide +kernel

/-! ## The kernel body on any staging memrefs: a subtype the run finds -/

/-- One staging buffer of output window 2, through which its contents are stated (`View.read_writes_of_cover`: the
    choice does not matter). -/
abbrev VO0_2 : View sig .tc .vmem S512x2048 .f32 := (Memref.whole cc6_stg2_0 : Memref sig .tc .vmem S512x2048 .f32).view
/-- Each window's current staging memref at point `t`, spelled as the pipeline passes it (`bodyAt6`), and its wholeness. -/
abbrev ms0_0 (t : Fin cfg6.N) : Memref sig .tc .vmem S2048x1024 .bf16 := win6_0.stage (cfg6.slots t 0)
abbrev hs0_0 (t : Fin cfg6.N) : (ms0_0 t).IsWhole := hstage6_0 ((cfg6.slots t 0).cast nbuf6_0)
abbrev ms0_1 (t : Fin cfg6.N) : Memref sig .tc .vmem S1024x512 .bf16 := win6_1.stage (cfg6.slots t 1)
abbrev hs0_1 (t : Fin cfg6.N) : (ms0_1 t).IsWhole := hstage6_1 ((cfg6.slots t 1).cast nbuf6_1)
abbrev ms0_2 (t : Fin cfg6.N) : Memref sig .tc .vmem S512x2048 .f32 := win6_2.stage (cfg6.slots t 2)
abbrev hs0_2 (t : Fin cfg6.N) : (ms0_2 t).IsWhole := hstage6_2 ((cfg6.slots t 2).cast nbuf6_2)
/-- The scratch operands: whole scoped buffers of the kernel's own, passed beside the windows. -/
abbrev scM0_0 : Memref sig .tc .vmem S2048x512 .f32 := Memref.whole cc6_scratch0
/-- The scratch `arg5` the kernel carries between points, as a view: what it holds is stated through it. -/
abbrev VS0_0 : View sig .tc .vmem S2048x512 .f32 := scM0_0.view

theorem sep_assoc_eq (P Q R : sProp 𝕄) : iprop((P ∗ Q) ∗ R) = iprop(P ∗ Q ∗ R) :=
  equiv_iff.mp ⟨Idealize.SL.BI.sep_assoc, Idealize.SL.BI.sep_assoc'⟩

/-- What rides along beside the region's own scratch: every other scoped buffer of the kernel, and the generator register. -/
def rest (c : Dev nD) : sProp 𝕄 :=
  iprop(Pipeline.scopedRestBut (Ix := Unit) (Name := ℕ) (U := UR sig nD τ) (Lvl := ℕ) (Val := Elt F) spec6 c [cc6_scratch0] ∗ ∃ r, prngReg c r)

/-- The frame kit's invariant with the scratch operands as memrefs owned at some contents (`Gen.scopedRest0_eq`,
    Lib/Memref.lean `owns_whole`): what the body obligation hands the run and takes back. -/
theorem PhiA0_eq (c : Dev nD) :
    (Pipeline.ΦA spec6 c : sProp 𝕄)
      = iprop(iprop((∃ d, owns (c : Thread nD τ) scM0_0 fullShare d)) ∗ rest c) := by
  unfold Pipeline.ΦA rest; rw [scopedRest6_split, sep_assoc_eq]; simp only [scM0_0, owns_whole]; try rfl

end Cert.KernelIdeal.R6

end
-- ==== Proof.R6.RunA.lean ====
/- Region 6 of the kernel, the gradient of the down weights (`dw_down`): the run of the body in case A. -/
module

public import proofs.«01_k».proof.Proof.R6.Runs

@[expose] public section

-- membership in a rectangle of production extents (`View.cover_of_tiled`): the elaborator's structural look
-- recurses once per coordinate of the long axes
set_option maxRecDepth 16384

noncomputable section

namespace Cert.KernelIdeal.R6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the region finds in the core's buffers
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 48, … 480: 11 of 528), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid6.Coords) (arg2 : Memref sig .tc .vmem S2048x1024 .bf16) (harg2 : arg2.IsWhole) (arg3 : Memref sig .tc .vmem S1024x512 .bf16) (harg3 : arg3.IsWhole) (arg4 : Memref sig .tc .vmem S512x2048 .f32) (harg4 : arg4.IsWhole) (arg5 : Memref sig .tc .vmem S2048x512 .f32) (harg5 : arg5.IsWhole) (hc0 : cond0_0 i) (hc1 : ¬cond0_1 i)
    (x0 : Vec F S2048x1024 .bf16) (x1 : Vec F S1024x512 .bf16) :
    Σ' (L2 : List (View.Piece (Elt F) S512x2048 .f32)), { LS0 : List (View.Piece (Elt F) S2048x512 .f32) //
      ∀ (xi2 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc6_dw_down i arg2 harg2 arg3 harg3 arg4 harg4 arg5 harg5) K } := by
  refine ⟨[], ?_, fun xi2 E K => ?run⟩
  case run =>
    simp only [cc6_dw_down_eq_skeleton]; unfold cc6_dw_down_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.R6

end
-- ==== Proof.R6.RunB.lean ====
/- Region 6 of the kernel, the gradient of the down weights (`dw_down`): the run of the body in case B. -/
module

public import proofs.«01_k».proof.Proof.R6.RunA

@[expose] public section

-- membership in a rectangle of production extents (`View.cover_of_tiled`): the elaborator's structural look
-- recurses once per coordinate of the long axes
set_option maxRecDepth 16384

noncomputable section

namespace Cert.KernelIdeal.R6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the region finds in the core's buffers
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 526: 506 of 528), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid6.Coords) (arg2 : Memref sig .tc .vmem S2048x1024 .bf16) (harg2 : arg2.IsWhole) (arg3 : Memref sig .tc .vmem S1024x512 .bf16) (harg3 : arg3.IsWhole) (arg4 : Memref sig .tc .vmem S512x2048 .f32) (harg4 : arg4.IsWhole) (arg5 : Memref sig .tc .vmem S2048x512 .f32) (harg5 : arg5.IsWhole) (hc0 : ¬cond0_0 i) (hc1 : ¬cond0_1 i)
    (x0 : Vec F S2048x1024 .bf16) (x1 : Vec F S1024x512 .bf16) (xs0 : Vec F S2048x512 .f32) :
    Σ' (L2 : List (View.Piece (Elt F) S512x2048 .f32)), { LS0 : List (View.Piece (Elt F) S2048x512 .f32) //
      ∀ (xi2 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc6_dw_down i arg2 harg2 arg3 harg3 arg4 harg4 arg5 harg5) K } := by
  refine ⟨[], ?_, fun xi2 E K => ?run⟩
  case run =>
    simp only [cc6_dw_down_eq_skeleton]; unfold cc6_dw_down_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.R6

end
-- ==== Proof.R6.RunC.lean ====
/- Region 6 of the kernel, the gradient of the down weights (`dw_down`): the run of the body in case C. -/
module

public import proofs.«01_k».proof.Proof.R6.RunB

@[expose] public section

-- membership in a rectangle of production extents (`View.cover_of_tiled`): the elaborator's structural look
-- recurses once per coordinate of the long axes
set_option maxRecDepth 16384

noncomputable section

namespace Cert.KernelIdeal.R6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the region finds in the core's buffers
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE C (`scf.if` 0 not taken, `scf.if` 1 taken: points 47, 95, … 527: 11 of 528), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid6.Coords) (arg2 : Memref sig .tc .vmem S2048x1024 .bf16) (harg2 : arg2.IsWhole) (arg3 : Memref sig .tc .vmem S1024x512 .bf16) (harg3 : arg3.IsWhole) (arg4 : Memref sig .tc .vmem S512x2048 .f32) (harg4 : arg4.IsWhole) (arg5 : Memref sig .tc .vmem S2048x512 .f32) (harg5 : arg5.IsWhole) (hc0 : ¬cond0_0 i) (hc1 : cond0_1 i)
    (x0 : Vec F S2048x1024 .bf16) (x1 : Vec F S1024x512 .bf16) (xs0 : Vec F S2048x512 .f32) :
    Σ' (L2 : List (View.Piece (Elt F) S512x2048 .f32)), { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc6_dw_down i arg2 harg2 arg3 harg3 arg4 harg4 arg5 harg5) K } := by
  refine ⟨?_, ?_, fun E K => ?run⟩
  case run =>
    simp only [cc6_dw_down_eq_skeleton]; unfold cc6_dw_down_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.R6

end
-- ==== Proof.R6.Frame.lean ====
/- Region 6 of the kernel, the gradient of the down weights (`dw_down`): its proof data and its body's obligation. -/
module

public import proofs.«01_k».proof.Proof.R6.RunC

@[expose] public section

-- membership in a rectangle of production extents (`View.cover_of_tiled`): the elaborator's structural look
-- recurses once per coordinate of the long axes
set_option maxRecDepth 16384

noncomputable section

namespace Cert.KernelIdeal.R6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the region finds in the core's buffers
variable (V : (c : Dev nD) → (b : Ref sig .tc) → Buf (Elt F) ((c : Thread nD τ).loc b))

/-- Case A stores nothing into output 2 (the window is idle at its points and not written back there):
    no pieces — a placeholder (junk read back) that nothing consults, since at these points the window is neither
    written back nor read at the next point (Lib/Pipeline.lean "Idle points"). -/
def out0_A_2 (c : Dev nD) (i : grid6.Coords) (arg2 : Memref sig .tc .vmem S2048x1024 .bf16) (harg2 : arg2.IsWhole) (arg3 : Memref sig .tc .vmem S1024x512 .bf16) (harg3 : arg3.IsWhole) (arg4 : Memref sig .tc .vmem S512x2048 .f32) (harg4 : arg4.IsWhole) (arg5 : Memref sig .tc .vmem S2048x512 .f32) (harg5 : arg5.IsWhole) (hc0 : cond0_0 i) (hc1 : ¬cond0_1 i)
    (x0 : Vec F S2048x1024 .bf16) (x1 : Vec F S1024x512 .bf16) : Vec F S512x2048 .f32 :=
  VO0_2.read (Elt F) (VO0_2.writes (Elt F) VO0_2.junk (kernelRun0_A c i arg2 harg2 arg3 harg3 arg4 harg4 arg5 harg5 hc0 hc1 x0 x1).1)

/-- Case A's pieces for scratch `arg5`, which the kernel carries between points, cover it: 2 pieces of `S2048x512` tiling it (Lib/Ring.lean `Piece.tiledL`). -/
theorem scover0_A_0 (c : Dev nD) (i : grid6.Coords) (arg2 : Memref sig .tc .vmem S2048x1024 .bf16) (harg2 : arg2.IsWhole) (arg3 : Memref sig .tc .vmem S1024x512 .bf16) (harg3 : arg3.IsWhole) (arg4 : Memref sig .tc .vmem S512x2048 .f32) (harg4 : arg4.IsWhole) (arg5 : Memref sig .tc .vmem S2048x512 .f32) (harg5 : arg5.IsWhole) (hc0 : cond0_0 i) (hc1 : ¬cond0_1 i)
    (x0 : Vec F S2048x1024 .bf16) (x1 : Vec F S1024x512 .bf16) (y : S2048x512.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S2048x512.size (by sl_kernel_rfl) y

/-- What case A leaves in scratch `arg5`: its pieces read back over junk. -/
def sout0_A_0 (c : Dev nD) (i : grid6.Coords) (arg2 : Memref sig .tc .vmem S2048x1024 .bf16) (harg2 : arg2.IsWhole) (arg3 : Memref sig .tc .vmem S1024x512 .bf16) (harg3 : arg3.IsWhole) (arg4 : Memref sig .tc .vmem S512x2048 .f32) (harg4 : arg4.IsWhole) (arg5 : Memref sig .tc .vmem S2048x512 .f32) (harg5 : arg5.IsWhole) (hc0 : cond0_0 i) (hc1 : ¬cond0_1 i)
    (x0 : Vec F S2048x1024 .bf16) (x1 : Vec F S1024x512 .bf16) : Vec F S2048x512 .f32 :=
  VS0_0.read (Elt F) (VS0_0.writes (Elt F) VS0_0.junk (kernelRun0_A c i arg2 harg2 arg3 harg3 arg4 harg4 arg5 harg5 hc0 hc1 x0 x1).2.1)

/-- Case B stores nothing into output 2 (the window is idle at its points and not written back there):
    no pieces — a placeholder (junk read back) that nothing consults, since at these points the window is neither
    written back nor read at the next point (Lib/Pipeline.lean "Idle points"). -/
def out0_B_2 (c : Dev nD) (i : grid6.Coords) (arg2 : Memref sig .tc .vmem S2048x1024 .bf16) (harg2 : arg2.IsWhole) (arg3 : Memref sig .tc .vmem S1024x512 .bf16) (harg3 : arg3.IsWhole) (arg4 : Memref sig .tc .vmem S512x2048 .f32) (harg4 : arg4.IsWhole) (arg5 : Memref sig .tc .vmem S2048x512 .f32) (harg5 : arg5.IsWhole) (hc0 : ¬cond0_0 i) (hc1 : ¬cond0_1 i)
    (x0 : Vec F S2048x1024 .bf16) (x1 : Vec F S1024x512 .bf16) (xs0 : Vec F S2048x512 .f32) : Vec F S512x2048 .f32 :=
  VO0_2.read (Elt F) (VO0_2.writes (Elt F) VO0_2.junk (kernelRun0_B c i arg2 harg2 arg3 harg3 arg4 harg4 arg5 harg5 hc0 hc1 x0 x1 xs0).1)

/-- Case B's pieces for scratch `arg5`, which the kernel carries between points, cover it: 1 piece of `S2048x512` tiling it (Lib/Ring.lean `Piece.tiledL`). -/
theorem scover0_B_0 (c : Dev nD) (i : grid6.Coords) (arg2 : Memref sig .tc .vmem S2048x1024 .bf16) (harg2 : arg2.IsWhole) (arg3 : Memref sig .tc .vmem S1024x512 .bf16) (harg3 : arg3.IsWhole) (arg4 : Memref sig .tc .vmem S512x2048 .f32) (harg4 : arg4.IsWhole) (arg5 : Memref sig .tc .vmem S2048x512 .f32) (harg5 : arg5.IsWhole) (hc0 : ¬cond0_0 i) (hc1 : ¬cond0_1 i)
    (x0 : Vec F S2048x1024 .bf16) (x1 : Vec F S1024x512 .bf16) (xs0 : Vec F S2048x512 .f32) (y : S2048x512.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S2048x512.size (by sl_kernel_rfl) y

/-- What case B leaves in scratch `arg5`: its pieces read back over junk. -/
def sout0_B_0 (c : Dev nD) (i : grid6.Coords) (arg2 : Memref sig .tc .vmem S2048x1024 .bf16) (harg2 : arg2.IsWhole) (arg3 : Memref sig .tc .vmem S1024x512 .bf16) (harg3 : arg3.IsWhole) (arg4 : Memref sig .tc .vmem S512x2048 .f32) (harg4 : arg4.IsWhole) (arg5 : Memref sig .tc .vmem S2048x512 .f32) (harg5 : arg5.IsWhole) (hc0 : ¬cond0_0 i) (hc1 : ¬cond0_1 i)
    (x0 : Vec F S2048x1024 .bf16) (x1 : Vec F S1024x512 .bf16) (xs0 : Vec F S2048x512 .f32) : Vec F S2048x512 .f32 :=
  VS0_0.read (Elt F) (VS0_0.writes (Elt F) VS0_0.junk (kernelRun0_B c i arg2 harg2 arg3 harg3 arg4 harg4 arg5 harg5 hc0 hc1 x0 x1 xs0).2.1)

/-- Case C's pieces for output 2 tile its block (1 store of `S512x2048`, checked by the kernel's evaluation: Lib/Ring.lean `Piece.tiledL`, linear in the pieces, through a loop's `@[irreducible]` trip theorem too), so they cover it. -/
theorem cover0_C_2 (c : Dev nD) (i : grid6.Coords) (arg2 : Memref sig .tc .vmem S2048x1024 .bf16) (harg2 : arg2.IsWhole) (arg3 : Memref sig .tc .vmem S1024x512 .bf16) (harg3 : arg3.IsWhole) (arg4 : Memref sig .tc .vmem S512x2048 .f32) (harg4 : arg4.IsWhole) (arg5 : Memref sig .tc .vmem S2048x512 .f32) (harg5 : arg5.IsWhole) (hc0 : ¬cond0_0 i) (hc1 : cond0_1 i)
    (x0 : Vec F S2048x1024 .bf16) (x1 : Vec F S1024x512 .bf16) (xs0 : Vec F S2048x512 .f32) (y : S512x2048.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S512x2048.size (by sl_kernel_rfl) y

/-- What case C leaves in output 2's staging buffer: its pieces read back over junk. -/
def out0_C_2 (c : Dev nD) (i : grid6.Coords) (arg2 : Memref sig .tc .vmem S2048x1024 .bf16) (harg2 : arg2.IsWhole) (arg3 : Memref sig .tc .vmem S1024x512 .bf16) (harg3 : arg3.IsWhole) (arg4 : Memref sig .tc .vmem S512x2048 .f32) (harg4 : arg4.IsWhole) (arg5 : Memref sig .tc .vmem S2048x512 .f32) (harg5 : arg5.IsWhole) (hc0 : ¬cond0_0 i) (hc1 : cond0_1 i)
    (x0 : Vec F S2048x1024 .bf16) (x1 : Vec F S1024x512 .bf16) (xs0 : Vec F S2048x512 .f32) : Vec F S512x2048 .f32 :=
  VO0_2.read (Elt F) (VO0_2.writes (Elt F) VO0_2.junk (kernelRun0_C c i arg2 harg2 arg3 harg3 arg4 harg4 arg5 harg5 hc0 hc1 x0 x1 xs0).1)

/-- Case C's pieces for scratch `arg5`, which the kernel carries between points, cover it: 1 piece of `S2048x512` tiling it (Lib/Ring.lean `Piece.tiledL`). -/
theorem scover0_C_0 (c : Dev nD) (i : grid6.Coords) (arg2 : Memref sig .tc .vmem S2048x1024 .bf16) (harg2 : arg2.IsWhole) (arg3 : Memref sig .tc .vmem S1024x512 .bf16) (harg3 : arg3.IsWhole) (arg4 : Memref sig .tc .vmem S512x2048 .f32) (harg4 : arg4.IsWhole) (arg5 : Memref sig .tc .vmem S2048x512 .f32) (harg5 : arg5.IsWhole) (hc0 : ¬cond0_0 i) (hc1 : cond0_1 i)
    (x0 : Vec F S2048x1024 .bf16) (x1 : Vec F S1024x512 .bf16) (xs0 : Vec F S2048x512 .f32) (y : S2048x512.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S2048x512.size (by sl_kernel_rfl) y

/-- What case C leaves in scratch `arg5`: its pieces read back over junk. -/
def sout0_C_0 (c : Dev nD) (i : grid6.Coords) (arg2 : Memref sig .tc .vmem S2048x1024 .bf16) (harg2 : arg2.IsWhole) (arg3 : Memref sig .tc .vmem S1024x512 .bf16) (harg3 : arg3.IsWhole) (arg4 : Memref sig .tc .vmem S512x2048 .f32) (harg4 : arg4.IsWhole) (arg5 : Memref sig .tc .vmem S2048x512 .f32) (harg5 : arg5.IsWhole) (hc0 : ¬cond0_0 i) (hc1 : cond0_1 i)
    (x0 : Vec F S2048x1024 .bf16) (x1 : Vec F S1024x512 .bf16) (xs0 : Vec F S2048x512 .f32) : Vec F S2048x512 .f32 :=
  VS0_0.read (Elt F) (VS0_0.writes (Elt F) VS0_0.junk (kernelRun0_C c i arg2 harg2 arg3 harg3 arg4 harg4 arg5 harg5 hc0 hc1 x0 x1 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg6.N → Vec F S512x2048 .f32 × Vec F S2048x512 .f32
  | 0, hn => (out0_A_2 c (grid6.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩), sout0_A_0 c (grid6.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩))
  | n + 1, hn =>
    if h0 : (n + 1) % 48 = 0 then
      if h1 : (n + 1) % 48 = 47 then
        False.elim (by have hN : n + 1 < 528 := lt_of_lt_of_eq hn (show cfg6.N = 528 from N_6); omega)
      else
        (out0_A_2 c (grid6.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩), sout0_A_0 c (grid6.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩))
    else
      if h1 : (n + 1) % 48 = 47 then
        (out0_C_2 c (grid6.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (outsAt0 c n (Nat.lt_of_succ_lt hn)).2, sout0_C_0 c (grid6.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (outsAt0 c n (Nat.lt_of_succ_lt hn)).2)
      else
        (out0_B_2 c (grid6.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (outsAt0 c n (Nat.lt_of_succ_lt hn)).2, sout0_B_0 c (grid6.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (outsAt0 c n (Nat.lt_of_succ_lt hn)).2)

/-- `outsAt0` at a point of case A: that case's contents. -/
theorem outsAt0_A (c : Dev nD) (t : Fin cfg6.N) (h0 : t.val % 48 = 0) (h1 : ¬t.val % 48 = 47) :
    outsAt0 V c t.val t.isLt = (out0_A_2 c (grid6.coords t) (ms0_0 t) (hs0_0 t) (ms0_1 t) (hs0_1 t) (ms0_2 t) (hs0_2 t) scM0_0 (Memref.isWhole_whole _) ((hcond0_0 t).mpr h0) (fun h => h1 ((hcond0_1 t).mp h)) (iblk V c 0 t) (iblk V c 1 t), sout0_A_0 c (grid6.coords t) (ms0_0 t) (hs0_0 t) (ms0_1 t) (hs0_1 t) (ms0_2 t) (hs0_2 t) scM0_0 (Memref.isWhole_whole _) ((hcond0_0 t).mpr h0) (fun h => h1 ((hcond0_1 t).mp h)) (iblk V c 0 t) (iblk V c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg6.N) (h0 : ¬t.val % 48 = 0) (h1 : ¬t.val % 48 = 47) :
    outsAt0 V c t.val t.isLt = (out0_B_2 c (grid6.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk V c 0 t) (iblk V c 1 t) (outsAt0 V c (t.val - 1) (Nat.lt_of_le_of_lt (Nat.sub_le _ _) t.isLt)).2, sout0_B_0 c (grid6.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk V c 0 t) (iblk V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg6.N) (h0 : ¬t.val % 48 = 0) (h1 : t.val % 48 = 47) :
    outsAt0 V c t.val t.isLt = (out0_C_2 c (grid6.coords t) (ms0_0 t) (hs0_0 t) (ms0_1 t) (hs0_1 t) (ms0_2 t) (hs0_2 t) scM0_0 (Memref.isWhole_whole _) (fun h => h0 ((hcond0_0 t).mp h)) ((hcond0_1 t).mpr h1) (iblk V c 0 t) (iblk V c 1 t) (outsAt0 V c (t.val - 1) (Nat.lt_of_le_of_lt (Nat.sub_le _ _) t.isLt)).2, sout0_C_0 c (grid6.coords t) (ms0_0 t) (hs0_0 t) (ms0_1 t) (hs0_1 t) (ms0_2 t) (hs0_2 t) scM0_0 (Memref.isWhole_whole _) (fun h => h0 ((hcond0_0 t).mp h)) ((hcond0_1 t).mpr h1) (iblk V c 0 t) (iblk V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg6.N → sProp 𝕄
  | 0, _ => Pipeline.ΦA spec6 c
  | n + 1, hn => iprop(iprop(owns (c : Thread nD τ) scM0_0 fullShare ((outsAt0 V c n hn).2)) ∗ rest c)

theorem PhiS_zero (c : Dev nD) (n : ℕ) (h : n ≤ cfg6.N) (hz : n = 0) : PhiS V c n h = Pipeline.ΦA spec6 c := by
  subst hz; rfl

/-- After point `n` (before point `n + 1`): the carried scratch at that point's contents. -/
theorem PhiS_succ (c : Dev nD) (n : ℕ) (hn : n < cfg6.N) :
    PhiS V c (n + 1) hn = iprop(iprop(owns (c : Thread nD τ) scM0_0 fullShare ((outsAt0 V c n hn).2)) ∗ rest c) := rfl

/-- Before a point that is not the first: the carried scratch at what the point before left. -/
theorem PhiS_pos (c : Dev nD) (n : ℕ) (h : n ≤ cfg6.N) (hz : n ≠ 0) :
    PhiS V c n h = iprop(iprop(owns (c : Thread nD τ) scM0_0 fullShare ((outsAt0 V c (n - 1) (by omega)).2)) ∗ rest c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat (c : Dev nD) : Dat τ (Elt F) Unit ℕ (UR sig nD τ) ℕ cfg6 c where
  A w := V c (Pipeline.arrRef spec6 w)
  after w t := match w with
    | ⟨0, _⟩ => iblk V c 0 t
    | ⟨1, _⟩ => iblk V c 1 t
    | ⟨2, _⟩ => (outsAt0 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg6.W) : (dat V c).A w = V c (Pipeline.arrRef spec6 w) := by
  dsimp only [dat]

/-- The invariant at a point's start (the proof data at `t.castSucc`), restated at `t.val`. -/
theorem PhiS_castSucc (c : Dev nD) (t : Fin cfg6.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after0_0 (c : Dev nD) (t : Fin cfg6.N) : (dat V c).after 0 t = iblk V c 0 t := by dsimp only [dat]
theorem after0_1 (c : Dev nD) (t : Fin cfg6.N) : (dat V c).after 1 t = iblk V c 1 t := by dsimp only [dat]
theorem after0_2 (c : Dev nD) (t : Fin cfg6.N) : (dat V c).after 2 t = (outsAt0 V c t.val t.isLt).1 := by dsimp only [dat]

/-- Each input's current staging buffer holds its block at every point, fetched there or not (`beforeK_W_of`). -/
theorem before0_0 (c : Dev nD) (t : Fin cfg6.N) (d) : (dat V c).before 0 t d = iblk V c 0 t :=
  before0_0_of V (dat V c) (A_eq V c 0) (after0_0 V c) t d
theorem before0_1 (c : Dev nD) (t : Fin cfg6.N) (d) : (dat V c).before 1 t d = iblk V c 1 t :=
  before0_1_of V (dat V c) (A_eq V c 1) (after0_1 V c) t d

/-! ## The body obligation, at a generic point -/

/-- What the body is called with at point `t` (Lib/Pipeline.lean `BodyObligation`'s precondition, the windows one by one), -/
def bodyPre (c : Dev nD) (t : Fin cfg6.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d)))

/-- and what it returns. -/
def bodyPost (c : Dev nD) (t : Fin cfg6.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg6.N) :
    bodyPre V c t ⊢ wp frame (wpE (defs₀ (F := F)) Variants.none c none) Set.univ (bodyAt6 t) (fun _ => bodyPost V c t) := by
  unfold bodyPre bodyPost bodyAt6
  simp only [before0_0, before0_1]
  rw [show (dat V c).owesAt () t.succ = (dat V c).owesAt () t.castSucc from rfl]
  rw [show (dat V c).Φ t.succ = PhiS V c (t.val + 1) t.isLt from rfl, PhiS_succ]
  have hN : t.val < 528 := lt_of_lt_of_eq t.isLt (show cfg6.N = 528 from N_6)
  by_cases h0 : t.val % 48 = 0
  · by_cases h1 : t.val % 48 = 47
    · exfalso; omega
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [Dat.leavesExact_idle (dat V c) 2 t (idleAt0_2_A t ((hcond0_0 t).mpr h0) (fun h => h1 ((hcond0_1 t).mp h))) (noFlush0_2_A t ((hcond0_0 t).mpr h0) (fun h => h1 ((hcond0_1 t).mp h)))]
      by_cases hz : t.val = 0
      · rw [PhiS_castSucc V c t, PhiS_zero V c _ _ hz, PhiA0_eq]
        rw [outsAt0_A V c t h0 h1]
        unfold sout0_A_0; (try dsimp only)
        iintro ⟨⟨HS0, Hg⟩, Ho, ⟨%d0, H0⟩, ⟨%d1, H1⟩, ⟨%d2, H2⟩⟩
        iapply ((kernelRun0_A c (grid6.coords t) _ _ _ _ _ _ _ _ ((hcond0_0 t).mpr h0) (fun h => h1 ((hcond0_1 t).mp h)) (iblk V c 0 t) (iblk V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc V c t, PhiS_pos V c _ _ hz]
        rw [outsAt0_A V c t h0 h1]
        unfold sout0_A_0; (try dsimp only)
        iintro ⟨⟨HS0, Hg⟩, Ho, ⟨%d0, H0⟩, ⟨%d1, H1⟩, ⟨%d2, H2⟩⟩
        iapply ((kernelRun0_A c (grid6.coords t) _ _ _ _ _ _ _ _ ((hcond0_0 t).mpr h0) (fun h => h1 ((hcond0_1 t).mp h)) (iblk V c 0 t) (iblk V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · by_cases h1 : t.val % 48 = 47
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2_C t (fun h => h0 ((hcond0_0 t).mp h)) ((hcond0_1 t).mpr h1)], after0_2]
      by_cases hz : t.val = 0
      · exfalso; have hN : t.val < 528 := lt_of_lt_of_eq t.isLt (show cfg6.N = 528 from N_6); omega
      · rw [PhiS_castSucc V c t, PhiS_pos V c _ _ hz]
        rw [outsAt0_C V c t h0 h1]
        unfold out0_C_2 sout0_C_0; (try dsimp only)
        iintro ⟨⟨HS0, Hg⟩, Ho, ⟨%d0, H0⟩, ⟨%d1, H1⟩, ⟨%d2, H2⟩⟩
        iapply ((kernelRun0_C c (grid6.coords t) _ _ _ _ _ _ _ _ (fun h => h0 ((hcond0_0 t).mp h)) ((hcond0_1 t).mpr h1) (iblk V c 0 t) (iblk V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [Dat.leavesExact_idle (dat V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      by_cases hz : t.val = 0
      · exfalso; have hN : t.val < 528 := lt_of_lt_of_eq t.isLt (show cfg6.N = 528 from N_6); omega
      · rw [PhiS_castSucc V c t, PhiS_pos V c _ _ hz]
        rw [outsAt0_B V c t h0 h1]
        unfold sout0_B_0; (try dsimp only)
        iintro ⟨⟨HS0, Hg⟩, Ho, ⟨%d0, H0⟩, ⟨%d1, H1⟩, ⟨%d2, H2⟩⟩
        iapply ((kernelRun0_B c (grid6.coords t) _ _ _ _ _ _ _ _ (fun h => h0 ((hcond0_0 t).mp h)) (fun h => h1 ((hcond0_1 t).mp h)) (iblk V c 0 t) (iblk V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _)
          iexact Hg
        isplitl [Ho]; · iexact Ho
        isplitl [H0]; · iexact H0
        isplitl [H1]; · iexact H1
        iexists _; iexact H2

/-- The body table's row at point `t`'s slots is the body as `bodyAt6` spells it. -/
theorem defs₀_row (t : Fin cfg6.N) :
    defs₀ (F := F) .tc cfg6.body (cfg6.bodyArgs t (cfg6.slots t)) = bodyAt6 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W6, bigSep_W6, defs₀_row]
  exact triple_restated (sound_body V c t) rfl .rfl fun _ => .rfl

/-- What the launch hands the region (`ΦA`) is the invariant before the first point. -/
theorem hin (c : Dev nD) : Pipeline.ΦA spec6 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg6.N + 1)) (ht : t.val ≠ 0) : (dat V c).Φ t ⊢ Pipeline.ΦA spec6 c := by
  rw [show (dat V c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout (c : Dev nD) : (dat V c).Φ (Fin.last cfg6.N) ⊢ Pipeline.ΦA spec6 c :=
  Phi_out V c _ (by rw [Fin.val_last]; have : cfg6.N = 528 := N_6; omega)

end Cert.KernelIdeal.R6

end
-- ==== Proof.KernelRun.lean ====
/- The whole kernel's run: its seven regions, one after another with the host operations between them, from any memory.
   The proof data of a region is taken at the contents its predecessors leave; every fair execution terminates with each
   unscoped buffer at the last of those contents and every semaphore counter at zero. -/
module

public import proofs.«01_k».proof.Proof.R0.Frame
public import proofs.«01_k».proof.Proof.R1.Frame
public import proofs.«01_k».proof.Proof.R2.Frame
public import proofs.«01_k».proof.Proof.R3.Frame
public import proofs.«01_k».proof.Proof.R4.Frame
public import proofs.«01_k».proof.Proof.R5.Frame
public import proofs.«01_k».proof.Proof.R6.Frame
public import proofs.«01_k».proof.Proof.Gen.KernelIdeal.Regions
public import Idealize.ShloMosaic.Lib.Pipeline.RegionArraysS

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg cellOf afterRegion arrRef)

variable {F : FTy → Type} [FloatOps F]

local notation "𝕄" => MT nD τ sig Unit (Elt F) ℕ (UR sig nD τ) ℕ

/-! ## The contents between the regions -/

/-- A core's buffers as a region's proof data takes them, from a valuation of every device's. -/
abbrev at' (X : Dev nD → Valuation τ sig (Elt F)) : (c : Dev nD) → (b : Ref sig .tc) → Buf (Elt F) ((c : Thread nD τ).loc b) :=
  fun c b => X c (Proc.devRef .tc b)

variable (m : (ℓ : Loc nD τ sig) → Buf (Elt F) ℓ)

/-- Every device's buffers after region 0. -/
def X0 (c : Dev nD) : Valuation τ sig (Elt F) := afterRegion (R0.dat (at' (V1 m)) c) (V1 m c)

/-- What the regions before region 1 leave (anything elsewhere). -/
def O1 : Outs (F := F) := fun k r c => match k with
  | 2 => X0 m c (Proc.devRef .tc r)
  | _ => m ((c : Thread nD τ).loc r)
/-- Every device's buffers after region 1. -/
def X1 (c : Dev nD) : Valuation τ sig (Elt F) := afterRegion (R1.dat (at' (V3 m (O1 m))) c) (V3 m (O1 m) c)

/-- What the regions before region 2 leave (anything elsewhere). -/
def O2 : Outs (F := F) := fun k r c => match k with
  | 2 => X0 m c (Proc.devRef .tc r)
  | 4 => X1 m c (Proc.devRef .tc r)
  | _ => m ((c : Thread nD τ).loc r)
/-- Every device's buffers after region 2. -/
def X2 (c : Dev nD) : Valuation τ sig (Elt F) := afterRegion (R2.dat (at' (V5 m (O2 m))) c) (V5 m (O2 m) c)

/-- What the regions before region 3 leave (anything elsewhere). -/
def O3 : Outs (F := F) := fun k r c => match k with
  | 2 => X0 m c (Proc.devRef .tc r)
  | 4 => X1 m c (Proc.devRef .tc r)
  | 6 => X2 m c (Proc.devRef .tc r)
  | _ => m ((c : Thread nD τ).loc r)
/-- Every device's buffers after region 3. -/
def X3 (c : Dev nD) : Valuation τ sig (Elt F) := afterRegion (R3.dat (at' (V6 m (O3 m))) c) (V6 m (O3 m) c)

/-- What the regions before region 4 leave (anything elsewhere). -/
def O4 : Outs (F := F) := fun k r c => match k with
  | 2 => X0 m c (Proc.devRef .tc r)
  | 4 => X1 m c (Proc.devRef .tc r)
  | 6 => X2 m c (Proc.devRef .tc r)
  | 7 => X3 m c (Proc.devRef .tc r)
  | _ => m ((c : Thread nD τ).loc r)
/-- Every device's buffers after region 4. -/
def X4 (c : Dev nD) : Valuation τ sig (Elt F) := afterRegion (R4.dat (at' (V7 m (O4 m))) c) (V7 m (O4 m) c)

/-- What the regions before region 5 leave (anything elsewhere). -/
def O5 : Outs (F := F) := fun k r c => match k with
  | 2 => X0 m c (Proc.devRef .tc r)
  | 4 => X1 m c (Proc.devRef .tc r)
  | 6 => X2 m c (Proc.devRef .tc r)
  | 7 => X3 m c (Proc.devRef .tc r)
  | 8 => X4 m c (Proc.devRef .tc r)
  | _ => m ((c : Thread nD τ).loc r)
/-- Every device's buffers after region 5. -/
def X5 (c : Dev nD) : Valuation τ sig (Elt F) := afterRegion (R5.dat (at' (V9 m (O5 m))) c) (V9 m (O5 m) c)

/-- What the regions before region 6 leave (anything elsewhere). -/
def O6 : Outs (F := F) := fun k r c => match k with
  | 2 => X0 m c (Proc.devRef .tc r)
  | 4 => X1 m c (Proc.devRef .tc r)
  | 6 => X2 m c (Proc.devRef .tc r)
  | 7 => X3 m c (Proc.devRef .tc r)
  | 8 => X4 m c (Proc.devRef .tc r)
  | 10 => X5 m c (Proc.devRef .tc r)
  | _ => m ((c : Thread nD τ).loc r)
/-- Every device's buffers after region 6. -/
def X6 (c : Dev nD) : Valuation τ sig (Elt F) := afterRegion (R6.dat (at' (V10 m (O6 m))) c) (V10 m (O6 m) c)

/-- What every region leaves. -/
def outs : Outs (F := F) := fun k r c => match k with
  | 2 => X0 m c (Proc.devRef .tc r)
  | 4 => X1 m c (Proc.devRef .tc r)
  | 6 => X2 m c (Proc.devRef .tc r)
  | 7 => X3 m c (Proc.devRef .tc r)
  | 8 => X4 m c (Proc.devRef .tc r)
  | 10 => X5 m c (Proc.devRef .tc r)
  | 11 => X6 m c (Proc.devRef .tc r)
  | _ => m ((c : Thread nD τ).loc r)

/-- The proof data of every region, at the contents it is entered with. -/
def pdats : (p : Fin 7) → (c : Dev nD) → Dat τ (Elt F) Unit ℕ (UR sig nD τ) ℕ (cfgs p) c
  | ⟨0, _⟩ => fun c => R0.dat (at' (V1 m)) c
  | ⟨1, _⟩ => fun c => R1.dat (at' (V3 m (outs m))) c
  | ⟨2, _⟩ => fun c => R2.dat (at' (V5 m (outs m))) c
  | ⟨3, _⟩ => fun c => R3.dat (at' (V6 m (outs m))) c
  | ⟨4, _⟩ => fun c => R4.dat (at' (V7 m (outs m))) c
  | ⟨5, _⟩ => fun c => R5.dat (at' (V9 m (outs m))) c
  | ⟨6, _⟩ => fun c => R6.dat (at' (V10 m (outs m))) c

/-! ## What a region changes -/

/-- A buffer that is no output window's array is left by a region as it was. -/
theorem afterRegion_ne {cfg : Cfg sig Λ₀} {c : Dev nD} (dat : Dat τ (Elt F) Unit ℕ (UR sig nD τ) ℕ cfg c) (V : Valuation τ sig (Elt F))
    (hinj : Function.Injective (arrRef cfg.spec)) (hA : ∀ w, dat.A w = V (Proc.devRef .tc (arrRef cfg.spec w))) (b : DevRef τ sig)
    (h : ∀ w, (cfg.win w).isOut = true → b ≠ Proc.devRef .tc (arrRef cfg.spec w)) : afterRegion dat V b = V b := by
  by_cases hw : ∃ w, b = Proc.devRef .tc (arrRef cfg.spec w)
  · obtain ⟨w, rfl⟩ := hw
    exact Pipeline.afterRegion_keeps dat V hinj hA _ fun w' e => by
      by_contra hne
      exact h w' (by simpa using hne) (congrArg _ e.symm)
  · unfold Pipeline.afterRegion
    rw [dif_neg hw]

/-! ## The regions as segments of the run -/

/-- Every TensorCore's semaphores are at the one level of the run. -/
def L : GSem nD τ sig → Finset Unit := fun g => if g.1.2 = .tc then {()} else ∅
def lv : GSem nD τ sig → Unit → ℕ := fun _ _ => 0

/-- What rides along beside the buffers: the core owes nothing, and its generator register. -/
def E (c : Dev nD) : sProp 𝕄 := iprop((∃ W, owes (c : Thread nD τ) (0 : CellTallies nD τ sig Unit) W) ∗ (∃ r, prngReg c r) ∗ emp)

/-- The levels of region 0: it owes nothing. -/
theorem cut0 : Pipeline.LevelCut (pcfgs (F := F)) adm () L lv 0 (fun _ => (0 : CellTallies nD τ sig Unit)) (fun _ => 0) where
  hι _ _ _ := by simp [L]
  hιb _ _ _ := le_refl _
  hD _ _ _ h := absurd h (lt_irrefl _)

/-- Region 0, entered with the unscoped buffers at `X`. -/
def reg0 (pd : (p : Fin 7) → (c : Dev nD) → Dat τ (Elt F) Unit ℕ (UR sig nD τ) ℕ (cfgs p) c) (X : Dev nD → Valuation τ sig (Elt F))
    (hpd : ∀ c, pd 0 c = R0.dat (at' X) c) : RegionSeg (pcfgs (F := F)) adm pd () defs₀ Variants.none L lv 0 :=
  RegionSeg.ofHeldIn (pcfgs (F := F)) adm pd () defs₀ Variants.none L lv 0 (fun _ => 0) (Pipeline.ucRefs τ sig)
    (fun c => iprop(∃ r, prngReg c r)) (fun c => iprop(∃ r, prngReg c r)) launch0.toP rfl
    (fun c => by rw [hpd]; exact (R0.body_obligation (at' X) c).loose) (fun c t => by rw [hpd]; rfl) (fun c => by rw [hpd]; rfl)
    (fun c => by rw [hpd]; exact (R0.dat (at' X) c).share_full fun _ => rfl)
    (fun c => by rw [hpd]; exact .rfl) (fun c => by rw [hpd]; exact .rfl) (fun _ => 0) cut0 (fun _ => iprop(emp)) X
    (fun c w => by rw [hpd]; exact R0.A_eq (at' X) c w)

theorem hpre0 (pd : (p : Fin 7) → (c : Dev nD) → Dat τ (Elt F) Unit ℕ (UR sig nD τ) ℕ (cfgs p) c) (X : Dev nD → Valuation τ sig (Elt F))
    (hpd : ∀ c, pd 0 c = R0.dat (at' X) c) (c : Dev nD) :
    iprop(StableHlo.held (c : Thread nD τ) (Pipeline.ucRefs τ sig) (X c) ∗ E c) ⊢ (reg0 pd X hpd).pre c := by
  unfold reg0 E
  refine RegionSeg.ofHeldIn_pre (pcs := pcfgs (F := F)) (a := adm) (pdats := pd) (ι := ()) (L := L) (lv := lv) (p := 0) (D := fun _ => 0)
    (S := Pipeline.ucRefs τ sig) (X := fun c => iprop(∃ r, prngReg c r)) (Y := fun c => iprop(∃ r, prngReg c r)) (R := fun _ => iprop(emp)) (W := X)
    (Pipeline.arrRefs_sub_ucRefs _ launch0.win.arr_unscoped) c

theorem hpost0 (pd : (p : Fin 7) → (c : Dev nD) → Dat τ (Elt F) Unit ℕ (UR sig nD τ) ℕ (cfgs p) c) (X X' : Dev nD → Valuation τ sig (Elt F))
    (hpd : ∀ c, pd 0 c = R0.dat (at' X) c) (hX : ∀ c, afterRegion (R0.dat (at' X) c) (X c) = X' c) (c : Dev nD) :
    (reg0 pd X hpd).post c ⊢ iprop(StableHlo.held (c : Thread nD τ) (Pipeline.ucRefs τ sig) (X' c) ∗ E c) := by
  rw [← hX c, ← hpd c]
  unfold reg0 E
  exact RegionSeg.ofHeldIn_post (Pipeline.arrRefs_sub_ucRefs _ launch0.win.arr_unscoped) c

/-- What region 0 leaves is the valuation of the next item. -/
theorem after0 (c : Dev nD) : afterRegion (R0.dat (at' (V1 m)) c) (V1 m c) = V2 m (outs m) c := by
  funext b
  by_cases h2 : b = Proc.devRef .tc main_v2
  · subst h2
    simp only [V2, Function.update_self]
    rfl
  rw [afterRegion_ne _ _ launch0.win.arr_inj (R0.A_eq (at' (V1 m)) c) b]
  · simp only [V2, Function.update_of_ne h2]
  · intro w hw e
    fin_cases w
    · exact absurd hw (by decide)
    · exact absurd hw (by decide)
    · exact h2 e

/-- The levels of region 1: it owes nothing. -/
theorem cut1 : Pipeline.LevelCut (pcfgs (F := F)) adm () L lv 1 (fun _ => (0 : CellTallies nD τ sig Unit)) (fun _ => 0) where
  hι _ _ _ := by simp [L]
  hιb _ _ _ := le_refl _
  hD _ _ _ h := absurd h (lt_irrefl _)

/-- Region 1, entered with the unscoped buffers at `X`. -/
def reg1 (pd : (p : Fin 7) → (c : Dev nD) → Dat τ (Elt F) Unit ℕ (UR sig nD τ) ℕ (cfgs p) c) (X : Dev nD → Valuation τ sig (Elt F))
    (hpd : ∀ c, pd 1 c = R1.dat (at' X) c) : RegionSeg (pcfgs (F := F)) adm pd () defs₀ Variants.none L lv 1 :=
  RegionSeg.ofHeldIn (pcfgs (F := F)) adm pd () defs₀ Variants.none L lv 1 (fun _ => 0) (Pipeline.ucRefs τ sig)
    (fun c => iprop(∃ r, prngReg c r)) (fun c => iprop(∃ r, prngReg c r)) launch1.toP rfl
    (fun c => by rw [hpd]; exact (R1.body_obligation (at' X) c).loose) (fun c t => by rw [hpd]; rfl) (fun c => by rw [hpd]; rfl)
    (fun c => by rw [hpd]; exact (R1.dat (at' X) c).share_full fun _ => rfl)
    (fun c => by rw [hpd]; exact .rfl) (fun c => by rw [hpd]; exact .rfl) (fun _ => 0) cut1 (fun _ => iprop(emp)) X
    (fun c w => by rw [hpd]; exact R1.A_eq (at' X) c w)

theorem hpre1 (pd : (p : Fin 7) → (c : Dev nD) → Dat τ (Elt F) Unit ℕ (UR sig nD τ) ℕ (cfgs p) c) (X : Dev nD → Valuation τ sig (Elt F))
    (hpd : ∀ c, pd 1 c = R1.dat (at' X) c) (c : Dev nD) :
    iprop(StableHlo.held (c : Thread nD τ) (Pipeline.ucRefs τ sig) (X c) ∗ E c) ⊢ (reg1 pd X hpd).pre c := by
  unfold reg1 E
  refine RegionSeg.ofHeldIn_pre (pcs := pcfgs (F := F)) (a := adm) (pdats := pd) (ι := ()) (L := L) (lv := lv) (p := 1) (D := fun _ => 0)
    (S := Pipeline.ucRefs τ sig) (X := fun c => iprop(∃ r, prngReg c r)) (Y := fun c => iprop(∃ r, prngReg c r)) (R := fun _ => iprop(emp)) (W := X)
    (Pipeline.arrRefs_sub_ucRefs _ launch1.win.arr_unscoped) c

theorem hpost1 (pd : (p : Fin 7) → (c : Dev nD) → Dat τ (Elt F) Unit ℕ (UR sig nD τ) ℕ (cfgs p) c) (X X' : Dev nD → Valuation τ sig (Elt F))
    (hpd : ∀ c, pd 1 c = R1.dat (at' X) c) (hX : ∀ c, afterRegion (R1.dat (at' X) c) (X c) = X' c) (c : Dev nD) :
    (reg1 pd X hpd).post c ⊢ iprop(StableHlo.held (c : Thread nD τ) (Pipeline.ucRefs τ sig) (X' c) ∗ E c) := by
  rw [← hX c, ← hpd c]
  unfold reg1 E
  exact RegionSeg.ofHeldIn_post (Pipeline.arrRefs_sub_ucRefs _ launch1.win.arr_unscoped) c

/-- What region 1 leaves is the valuation of the next item. -/
theorem after1 (c : Dev nD) : afterRegion (R1.dat (at' (V3 m (outs m))) c) (V3 m (outs m) c) = V4 m (outs m) c := by
  funext b
  by_cases h2 : b = Proc.devRef .tc main_v7
  · subst h2
    simp only [V4, Function.update_self]
    rfl
  rw [afterRegion_ne _ _ launch1.win.arr_inj (R1.A_eq (at' (V3 m (outs m))) c) b]
  · simp only [V4, Function.update_of_ne h2]
  · intro w hw e
    fin_cases w
    · exact absurd hw (by decide)
    · exact absurd hw (by decide)
    · exact h2 e

/-- The levels of region 2: it owes nothing. -/
theorem cut2 : Pipeline.LevelCut (pcfgs (F := F)) adm () L lv 2 (fun _ => (0 : CellTallies nD τ sig Unit)) (fun _ => 0) where
  hι _ _ _ := by simp [L]
  hιb _ _ _ := le_refl _
  hD _ _ _ h := absurd h (lt_irrefl _)

/-- Region 2, entered with the unscoped buffers at `X`. -/
def reg2 (pd : (p : Fin 7) → (c : Dev nD) → Dat τ (Elt F) Unit ℕ (UR sig nD τ) ℕ (cfgs p) c) (X : Dev nD → Valuation τ sig (Elt F))
    (hpd : ∀ c, pd 2 c = R2.dat (at' X) c) : RegionSeg (pcfgs (F := F)) adm pd () defs₀ Variants.none L lv 2 :=
  RegionSeg.ofHeldIn (pcfgs (F := F)) adm pd () defs₀ Variants.none L lv 2 (fun _ => 0) (Pipeline.ucRefs τ sig)
    (fun c => iprop(∃ r, prngReg c r)) (fun c => iprop(∃ r, prngReg c r)) launch2.toP rfl
    (fun c => by rw [hpd]; exact (R2.body_obligation (at' X) c).loose) (fun c t => by rw [hpd]; rfl) (fun c => by rw [hpd]; rfl)
    (fun c => by rw [hpd]; exact (R2.dat (at' X) c).share_full fun _ => rfl)
    (fun c => by rw [hpd]; exact R2.hin _ c) (fun c => by rw [hpd]; exact R2.hout _ c) (fun _ => 0) cut2 (fun _ => iprop(emp)) X
    (fun c w => by rw [hpd]; exact R2.A_eq (at' X) c w)

theorem hpre2 (pd : (p : Fin 7) → (c : Dev nD) → Dat τ (Elt F) Unit ℕ (UR sig nD τ) ℕ (cfgs p) c) (X : Dev nD → Valuation τ sig (Elt F))
    (hpd : ∀ c, pd 2 c = R2.dat (at' X) c) (c : Dev nD) :
    iprop(StableHlo.held (c : Thread nD τ) (Pipeline.ucRefs τ sig) (X c) ∗ E c) ⊢ (reg2 pd X hpd).pre c := by
  unfold reg2 E
  refine RegionSeg.ofHeldIn_pre (pcs := pcfgs (F := F)) (a := adm) (pdats := pd) (ι := ()) (L := L) (lv := lv) (p := 2) (D := fun _ => 0)
    (S := Pipeline.ucRefs τ sig) (X := fun c => iprop(∃ r, prngReg c r)) (Y := fun c => iprop(∃ r, prngReg c r)) (R := fun _ => iprop(emp)) (W := X)
    (Pipeline.arrRefs_sub_ucRefs _ launch2.win.arr_unscoped) c

theorem hpost2 (pd : (p : Fin 7) → (c : Dev nD) → Dat τ (Elt F) Unit ℕ (UR sig nD τ) ℕ (cfgs p) c) (X X' : Dev nD → Valuation τ sig (Elt F))
    (hpd : ∀ c, pd 2 c = R2.dat (at' X) c) (hX : ∀ c, afterRegion (R2.dat (at' X) c) (X c) = X' c) (c : Dev nD) :
    (reg2 pd X hpd).post c ⊢ iprop(StableHlo.held (c : Thread nD τ) (Pipeline.ucRefs τ sig) (X' c) ∗ E c) := by
  rw [← hX c, ← hpd c]
  unfold reg2 E
  exact RegionSeg.ofHeldIn_post (Pipeline.arrRefs_sub_ucRefs _ launch2.win.arr_unscoped) c

/-- What region 2 leaves is the valuation of the next item. -/
theorem after2 (c : Dev nD) : afterRegion (R2.dat (at' (V5 m (outs m))) c) (V5 m (outs m) c) = V6 m (outs m) c := by
  funext b
  by_cases h8 : b = Proc.devRef .tc main_v15_2
  · subst h8
    simp only [V6, Function.update_self]
    rfl
  by_cases h7 : b = Proc.devRef .tc main_v15_1
  · subst h7
    simp only [V6, Function.update_of_ne (StableHlo.devRef_ne_of_ne (by decide : main_v15_1 ≠ main_v15_2) : (Proc.devRef .tc main_v15_1 : DevRef τ sig) ≠ Proc.devRef .tc main_v15_2), Function.update_self]
    rfl
  by_cases h6 : b = Proc.devRef .tc main_v15_0
  · subst h6
    simp only [V6, Function.update_of_ne (StableHlo.devRef_ne_of_ne (by decide : main_v15_0 ≠ main_v15_2) : (Proc.devRef .tc main_v15_0 : DevRef τ sig) ≠ Proc.devRef .tc main_v15_2), Function.update_of_ne (StableHlo.devRef_ne_of_ne (by decide : main_v15_0 ≠ main_v15_1) : (Proc.devRef .tc main_v15_0 : DevRef τ sig) ≠ Proc.devRef .tc main_v15_1), Function.update_self]
    rfl
  rw [afterRegion_ne _ _ launch2.win.arr_inj (R2.A_eq (at' (V5 m (outs m))) c) b]
  · simp only [V6, Function.update_of_ne h8, Function.update_of_ne h7, Function.update_of_ne h6]
  · intro w hw e
    fin_cases w
    · exact absurd hw (by decide)
    · exact absurd hw (by decide)
    · exact absurd hw (by decide)
    · exact absurd hw (by decide)
    · exact absurd hw (by decide)
    · exact absurd hw (by decide)
    · exact h6 e
    · exact h7 e
    · exact h8 e

/-- The levels of region 3: it owes nothing. -/
theorem cut3 : Pipeline.LevelCut (pcfgs (F := F)) adm () L lv 3 (fun _ => (0 : CellTallies nD τ sig Unit)) (fun _ => 0) where
  hι _ _ _ := by simp [L]
  hιb _ _ _ := le_refl _
  hD _ _ _ h := absurd h (lt_irrefl _)

/-- Region 3, entered with the unscoped buffers at `X`. -/
def reg3 (pd : (p : Fin 7) → (c : Dev nD) → Dat τ (Elt F) Unit ℕ (UR sig nD τ) ℕ (cfgs p) c) (X : Dev nD → Valuation τ sig (Elt F))
    (hpd : ∀ c, pd 3 c = R3.dat (at' X) c) : RegionSeg (pcfgs (F := F)) adm pd () defs₀ Variants.none L lv 3 :=
  RegionSeg.ofHeldIn (pcfgs (F := F)) adm pd () defs₀ Variants.none L lv 3 (fun _ => 0) (Pipeline.ucRefs τ sig)
    (fun c => iprop(∃ r, prngReg c r)) (fun c => iprop(∃ r, prngReg c r)) launch3.toP rfl
    (fun c => by rw [hpd]; exact (R3.body_obligation (at' X) c).loose) (fun c t => by rw [hpd]; rfl) (fun c => by rw [hpd]; rfl)
    (fun c => by rw [hpd]; exact (R3.dat (at' X) c).share_full fun _ => rfl)
    (fun c => by rw [hpd]; exact .rfl) (fun c => by rw [hpd]; exact .rfl) (fun _ => 0) cut3 (fun _ => iprop(emp)) X
    (fun c w => by rw [hpd]; exact R3.A_eq (at' X) c w)

theorem hpre3 (pd : (p : Fin 7) → (c : Dev nD) → Dat τ (Elt F) Unit ℕ (UR sig nD τ) ℕ (cfgs p) c) (X : Dev nD → Valuation τ sig (Elt F))
    (hpd : ∀ c, pd 3 c = R3.dat (at' X) c) (c : Dev nD) :
    iprop(StableHlo.held (c : Thread nD τ) (Pipeline.ucRefs τ sig) (X c) ∗ E c) ⊢ (reg3 pd X hpd).pre c := by
  unfold reg3 E
  refine RegionSeg.ofHeldIn_pre (pcs := pcfgs (F := F)) (a := adm) (pdats := pd) (ι := ()) (L := L) (lv := lv) (p := 3) (D := fun _ => 0)
    (S := Pipeline.ucRefs τ sig) (X := fun c => iprop(∃ r, prngReg c r)) (Y := fun c => iprop(∃ r, prngReg c r)) (R := fun _ => iprop(emp)) (W := X)
    (Pipeline.arrRefs_sub_ucRefs _ launch3.win.arr_unscoped) c

theorem hpost3 (pd : (p : Fin 7) → (c : Dev nD) → Dat τ (Elt F) Unit ℕ (UR sig nD τ) ℕ (cfgs p) c) (X X' : Dev nD → Valuation τ sig (Elt F))
    (hpd : ∀ c, pd 3 c = R3.dat (at' X) c) (hX : ∀ c, afterRegion (R3.dat (at' X) c) (X c) = X' c) (c : Dev nD) :
    (reg3 pd X hpd).post c ⊢ iprop(StableHlo.held (c : Thread nD τ) (Pipeline.ucRefs τ sig) (X' c) ∗ E c) := by
  rw [← hX c, ← hpd c]
  unfold reg3 E
  exact RegionSeg.ofHeldIn_post (Pipeline.arrRefs_sub_ucRefs _ launch3.win.arr_unscoped) c

/-- What region 3 leaves is the valuation of the next item. -/
theorem after3 (c : Dev nD) : afterRegion (R3.dat (at' (V6 m (outs m))) c) (V6 m (outs m) c) = V7 m (outs m) c := by
  funext b
  by_cases h2 : b = Proc.devRef .tc main_v16
  · subst h2
    simp only [V7, Function.update_self]
    rfl
  rw [afterRegion_ne _ _ launch3.win.arr_inj (R3.A_eq (at' (V6 m (outs m))) c) b]
  · simp only [V7, Function.update_of_ne h2]
  · intro w hw e
    fin_cases w
    · exact absurd hw (by decide)
    · exact absurd hw (by decide)
    · exact h2 e

/-- The levels of region 4: it owes nothing. -/
theorem cut4 : Pipeline.LevelCut (pcfgs (F := F)) adm () L lv 4 (fun _ => (0 : CellTallies nD τ sig Unit)) (fun _ => 0) where
  hι _ _ _ := by simp [L]
  hιb _ _ _ := le_refl _
  hD _ _ _ h := absurd h (lt_irrefl _)

/-- Region 4, entered with the unscoped buffers at `X`. -/
def reg4 (pd : (p : Fin 7) → (c : Dev nD) → Dat τ (Elt F) Unit ℕ (UR sig nD τ) ℕ (cfgs p) c) (X : Dev nD → Valuation τ sig (Elt F))
    (hpd : ∀ c, pd 4 c = R4.dat (at' X) c) : RegionSeg (pcfgs (F := F)) adm pd () defs₀ Variants.none L lv 4 :=
  RegionSeg.ofHeldIn (pcfgs (F := F)) adm pd () defs₀ Variants.none L lv 4 (fun _ => 0) (Pipeline.ucRefs τ sig)
    (fun c => iprop(∃ r, prngReg c r)) (fun c => iprop(∃ r, prngReg c r)) launch4.toP rfl
    (fun c => by rw [hpd]; exact (R4.body_obligation (at' X) c).loose) (fun c t => by rw [hpd]; rfl) (fun c => by rw [hpd]; rfl)
    (fun c => by rw [hpd]; exact (R4.dat (at' X) c).share_full fun _ => rfl)
    (fun c => by rw [hpd]; exact .rfl) (fun c => by rw [hpd]; exact .rfl) (fun _ => 0) cut4 (fun _ => iprop(emp)) X
    (fun c w => by rw [hpd]; exact R4.A_eq (at' X) c w)

theorem hpre4 (pd : (p : Fin 7) → (c : Dev nD) → Dat τ (Elt F) Unit ℕ (UR sig nD τ) ℕ (cfgs p) c) (X : Dev nD → Valuation τ sig (Elt F))
    (hpd : ∀ c, pd 4 c = R4.dat (at' X) c) (c : Dev nD) :
    iprop(StableHlo.held (c : Thread nD τ) (Pipeline.ucRefs τ sig) (X c) ∗ E c) ⊢ (reg4 pd X hpd).pre c := by
  unfold reg4 E
  refine RegionSeg.ofHeldIn_pre (pcs := pcfgs (F := F)) (a := adm) (pdats := pd) (ι := ()) (L := L) (lv := lv) (p := 4) (D := fun _ => 0)
    (S := Pipeline.ucRefs τ sig) (X := fun c => iprop(∃ r, prngReg c r)) (Y := fun c => iprop(∃ r, prngReg c r)) (R := fun _ => iprop(emp)) (W := X)
    (Pipeline.arrRefs_sub_ucRefs _ launch4.win.arr_unscoped) c

theorem hpost4 (pd : (p : Fin 7) → (c : Dev nD) → Dat τ (Elt F) Unit ℕ (UR sig nD τ) ℕ (cfgs p) c) (X X' : Dev nD → Valuation τ sig (Elt F))
    (hpd : ∀ c, pd 4 c = R4.dat (at' X) c) (hX : ∀ c, afterRegion (R4.dat (at' X) c) (X c) = X' c) (c : Dev nD) :
    (reg4 pd X hpd).post c ⊢ iprop(StableHlo.held (c : Thread nD τ) (Pipeline.ucRefs τ sig) (X' c) ∗ E c) := by
  rw [← hX c, ← hpd c]
  unfold reg4 E
  exact RegionSeg.ofHeldIn_post (Pipeline.arrRefs_sub_ucRefs _ launch4.win.arr_unscoped) c

/-- What region 4 leaves is the valuation of the next item. -/
theorem after4 (c : Dev nD) : afterRegion (R4.dat (at' (V7 m (outs m))) c) (V7 m (outs m) c) = V8 m (outs m) c := by
  funext b
  by_cases h2 : b = Proc.devRef .tc main_v17
  · subst h2
    simp only [V8, Function.update_self]
    rfl
  rw [afterRegion_ne _ _ launch4.win.arr_inj (R4.A_eq (at' (V7 m (outs m))) c) b]
  · simp only [V8, Function.update_of_ne h2]
  · intro w hw e
    fin_cases w
    · exact absurd hw (by decide)
    · exact absurd hw (by decide)
    · exact h2 e

/-- The levels of region 5: it owes nothing. -/
theorem cut5 : Pipeline.LevelCut (pcfgs (F := F)) adm () L lv 5 (fun _ => (0 : CellTallies nD τ sig Unit)) (fun _ => 0) where
  hι _ _ _ := by simp [L]
  hιb _ _ _ := le_refl _
  hD _ _ _ h := absurd h (lt_irrefl _)

/-- Region 5, entered with the unscoped buffers at `X`. -/
def reg5 (pd : (p : Fin 7) → (c : Dev nD) → Dat τ (Elt F) Unit ℕ (UR sig nD τ) ℕ (cfgs p) c) (X : Dev nD → Valuation τ sig (Elt F))
    (hpd : ∀ c, pd 5 c = R5.dat (at' X) c) : RegionSeg (pcfgs (F := F)) adm pd () defs₀ Variants.none L lv 5 :=
  RegionSeg.ofHeldIn (pcfgs (F := F)) adm pd () defs₀ Variants.none L lv 5 (fun _ => 0) (Pipeline.ucRefs τ sig)
    (fun c => iprop(∃ r, prngReg c r)) (fun c => iprop(∃ r, prngReg c r)) launch5.toP rfl
    (fun c => by rw [hpd]; exact (R5.body_obligation (at' X) c).loose) (fun c t => by rw [hpd]; rfl) (fun c => by rw [hpd]; rfl)
    (fun c => by rw [hpd]; exact (R5.dat (at' X) c).share_full fun _ => rfl)
    (fun c => by rw [hpd]; exact .rfl) (fun c => by rw [hpd]; exact .rfl) (fun _ => 0) cut5 (fun _ => iprop(emp)) X
    (fun c w => by rw [hpd]; exact R5.A_eq (at' X) c w)

theorem hpre5 (pd : (p : Fin 7) → (c : Dev nD) → Dat τ (Elt F) Unit ℕ (UR sig nD τ) ℕ (cfgs p) c) (X : Dev nD → Valuation τ sig (Elt F))
    (hpd : ∀ c, pd 5 c = R5.dat (at' X) c) (c : Dev nD) :
    iprop(StableHlo.held (c : Thread nD τ) (Pipeline.ucRefs τ sig) (X c) ∗ E c) ⊢ (reg5 pd X hpd).pre c := by
  unfold reg5 E
  refine RegionSeg.ofHeldIn_pre (pcs := pcfgs (F := F)) (a := adm) (pdats := pd) (ι := ()) (L := L) (lv := lv) (p := 5) (D := fun _ => 0)
    (S := Pipeline.ucRefs τ sig) (X := fun c => iprop(∃ r, prngReg c r)) (Y := fun c => iprop(∃ r, prngReg c r)) (R := fun _ => iprop(emp)) (W := X)
    (Pipeline.arrRefs_sub_ucRefs _ launch5.win.arr_unscoped) c

theorem hpost5 (pd : (p : Fin 7) → (c : Dev nD) → Dat τ (Elt F) Unit ℕ (UR sig nD τ) ℕ (cfgs p) c) (X X' : Dev nD → Valuation τ sig (Elt F))
    (hpd : ∀ c, pd 5 c = R5.dat (at' X) c) (hX : ∀ c, afterRegion (R5.dat (at' X) c) (X c) = X' c) (c : Dev nD) :
    (reg5 pd X hpd).post c ⊢ iprop(StableHlo.held (c : Thread nD τ) (Pipeline.ucRefs τ sig) (X' c) ∗ E c) := by
  rw [← hX c, ← hpd c]
  unfold reg5 E
  exact RegionSeg.ofHeldIn_post (Pipeline.arrRefs_sub_ucRefs _ launch5.win.arr_unscoped) c

/-- What region 5 leaves is the valuation of the next item. -/
theorem after5 (c : Dev nD) : afterRegion (R5.dat (at' (V9 m (outs m))) c) (V9 m (outs m) c) = V10 m (outs m) c := by
  funext b
  by_cases h2 : b = Proc.devRef .tc main_v19
  · subst h2
    simp only [V10, Function.update_self]
    rfl
  rw [afterRegion_ne _ _ launch5.win.arr_inj (R5.A_eq (at' (V9 m (outs m))) c) b]
  · simp only [V10, Function.update_of_ne h2]
  · intro w hw e
    fin_cases w
    · exact absurd hw (by decide)
    · exact absurd hw (by decide)
    · exact h2 e

/-- The levels of region 6: it owes nothing. -/
theorem cut6 : Pipeline.LevelCut (pcfgs (F := F)) adm () L lv 6 (fun _ => (0 : CellTallies nD τ sig Unit)) (fun _ => 0) where
  hι _ _ _ := by simp [L]
  hιb _ _ _ := le_refl _
  hD _ _ _ h := absurd h (lt_irrefl _)

/-- Region 6, entered with the unscoped buffers at `X`. -/
def reg6 (pd : (p : Fin 7) → (c : Dev nD) → Dat τ (Elt F) Unit ℕ (UR sig nD τ) ℕ (cfgs p) c) (X : Dev nD → Valuation τ sig (Elt F))
    (hpd : ∀ c, pd 6 c = R6.dat (at' X) c) : RegionSeg (pcfgs (F := F)) adm pd () defs₀ Variants.none L lv 6 :=
  RegionSeg.ofHeldIn (pcfgs (F := F)) adm pd () defs₀ Variants.none L lv 6 (fun _ => 0) (Pipeline.ucRefs τ sig)
    (fun c => iprop(∃ r, prngReg c r)) (fun c => iprop(∃ r, prngReg c r)) launch6.toP rfl
    (fun c => by rw [hpd]; exact (R6.body_obligation (at' X) c).loose) (fun c t => by rw [hpd]; rfl) (fun c => by rw [hpd]; rfl)
    (fun c => by rw [hpd]; exact (R6.dat (at' X) c).share_full fun _ => rfl)
    (fun c => by rw [hpd]; exact R6.hin _ c) (fun c => by rw [hpd]; exact R6.hout _ c) (fun _ => 0) cut6 (fun _ => iprop(emp)) X
    (fun c w => by rw [hpd]; exact R6.A_eq (at' X) c w)

theorem hpre6 (pd : (p : Fin 7) → (c : Dev nD) → Dat τ (Elt F) Unit ℕ (UR sig nD τ) ℕ (cfgs p) c) (X : Dev nD → Valuation τ sig (Elt F))
    (hpd : ∀ c, pd 6 c = R6.dat (at' X) c) (c : Dev nD) :
    iprop(StableHlo.held (c : Thread nD τ) (Pipeline.ucRefs τ sig) (X c) ∗ E c) ⊢ (reg6 pd X hpd).pre c := by
  unfold reg6 E
  refine RegionSeg.ofHeldIn_pre (pcs := pcfgs (F := F)) (a := adm) (pdats := pd) (ι := ()) (L := L) (lv := lv) (p := 6) (D := fun _ => 0)
    (S := Pipeline.ucRefs τ sig) (X := fun c => iprop(∃ r, prngReg c r)) (Y := fun c => iprop(∃ r, prngReg c r)) (R := fun _ => iprop(emp)) (W := X)
    (Pipeline.arrRefs_sub_ucRefs _ launch6.win.arr_unscoped) c

theorem hpost6 (pd : (p : Fin 7) → (c : Dev nD) → Dat τ (Elt F) Unit ℕ (UR sig nD τ) ℕ (cfgs p) c) (X X' : Dev nD → Valuation τ sig (Elt F))
    (hpd : ∀ c, pd 6 c = R6.dat (at' X) c) (hX : ∀ c, afterRegion (R6.dat (at' X) c) (X c) = X' c) (c : Dev nD) :
    (reg6 pd X hpd).post c ⊢ iprop(StableHlo.held (c : Thread nD τ) (Pipeline.ucRefs τ sig) (X' c) ∗ E c) := by
  rw [← hX c, ← hpd c]
  unfold reg6 E
  exact RegionSeg.ofHeldIn_post (Pipeline.arrRefs_sub_ucRefs _ launch6.win.arr_unscoped) c

/-- What region 6 leaves is the valuation of the next item. -/
theorem after6 (c : Dev nD) : afterRegion (R6.dat (at' (V10 m (outs m))) c) (V10 m (outs m) c) = V11 m (outs m) c := by
  funext b
  by_cases h2 : b = Proc.devRef .tc main_v20
  · subst h2
    simp only [V11, Function.update_self]
    rfl
  rw [afterRegion_ne _ _ launch6.win.arr_inj (R6.A_eq (at' (V10 m (outs m))) c) b]
  · simp only [V11, Function.update_of_ne h2]
  · intro w hw e
    fin_cases w
    · exact absurd hw (by decide)
    · exact absurd hw (by decide)
    · exact h2 e

/-! ## The run -/

/-- The launch's ghost state is the regions' own. -/
theorem launchElt : (ownU (initOf (Pipeline.cells cfgs cellOf_inj) (Pipeline.launchToks cfgs cellOf_inj)) : sProp 𝕄)
    ⊢ |={Set.univ}=> iprop(BI.own ((emb₁ : Emb (UR sig nD τ) 𝕄) (initOf (Pipeline.cells cfgs cellOf_inj) (Pipeline.launchToks cfgs cellOf_inj)))
      ∗ bigSep Finset.univ fun _ : Dev nD => (iprop(emp) : sProp 𝕄)) := by
  iintro Hu; imodintro
  isplitl [Hu]
  · iapply (show (ownU _ : sProp 𝕄) ⊢ BI.own ((emb₁ : Emb (UR sig nD τ) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The launch makes what rides along. -/
theorem hE0 (ρ : Dev nD → PrngReg) :
    iprop((bigSep Finset.univ fun c : Dev nD => iprop(unscopedSems0 c ∗ owes (c : Thread nD τ) (0 : CellTallies nD τ sig Unit) ∅
        ∗ Pipeline.launchCred (fun _ => (0 : CellTallies nD τ sig Unit)) c ∗ prngReg c (ρ c) ∗ emp)) ∗ levAts L lv)
      ⊢ (|={Set.univ}=> bigSep Finset.univ E : sProp 𝕄) := by
  iintro ⟨H, -⟩
  imodintro
  iapply (show (bigSep Finset.univ fun c : Dev nD => iprop(unscopedSems0 c ∗ owes (c : Thread nD τ) (0 : CellTallies nD τ sig Unit) ∅
        ∗ Pipeline.launchCred (fun _ => (0 : CellTallies nD τ sig Unit)) c ∗ prngReg c (ρ c) ∗ emp) : sProp 𝕄) ⊢ bigSep Finset.univ E from
    bigSep_mono fun c _ => by
      unfold E
      show (_ : sProp 𝕄) ⊢ (_ : sProp 𝕄)
      iintro ⟨-, HO, -, Hp, -⟩
      isplitl [HO]; · iexists ∅; iexact HO
      isplitl [Hp]; · iexists _; iexact Hp
      iempintro)
  iexact H

/-- What rides along ends owing nothing. -/
theorem hEn (c : Dev nD) : E c ⊢ (iprop(∃ W, owes (c : Thread nD τ) (0 : CellTallies nD τ sig Unit) W) : sProp 𝕄) := by
  unfold E
  iintro ⟨HO, -⟩
  iexact HO

/-- Every final buffer: what the last item leaves. -/
def Final (r : PUnit × MemSt nD τ sig (Elt F)) : Prop :=
  (∀ c : Dev nD, ∀ b ∈ Pipeline.ucRefs τ sig, r.2.mem (c, b) = V12 m (outs m) c b) ∧ r.2.sem = fun _ => 0

set_option backward.isDefEq.respectTransparency.types false in
/-- The run: from any memory with zero counters every fair execution of the kernel terminates at `Final`. -/
theorem run (ρ : Dev nD → PrngReg) : θ_run defs (onTc (τ := τ) (main (F := F))) ⟨m, fun _ => 0, ρ⟩ (Final m) := by
  refine Pipeline.θ_run_regions_kit_dev_sems (pcfgs (F := F)) adm (pdats m) () cellOf_inj (emb₁ : Emb (UR sig nD τ) 𝕄) defs₀ Variants.none L lv m ρ main
    (segs m (outs m) Variants.none L lv (fun _ => E) () (pdats m) (reg0 (pdats m) (V1 m) fun _ => rfl) (reg1 (pdats m) (V3 m (outs m)) fun _ => rfl) (reg2 (pdats m) (V5 m (outs m)) fun _ => rfl) (reg3 (pdats m) (V6 m (outs m)) fun _ => rfl) (reg4 (pdats m) (V7 m (outs m)) fun _ => rfl) (reg5 (pdats m) (V9 m (outs m)) fun _ => rfl) (reg6 (pdats m) (V10 m (outs m)) fun _ => rfl))
    (fun c Q => by
      rewrite [main_chain c, Seg.run_eq_chain,
        show (segs m (outs m) Variants.none L lv (fun _ => E) () (pdats m) (reg0 (pdats m) (V1 m) fun _ => rfl) (reg1 (pdats m) (V3 m (outs m)) fun _ => rfl) (reg2 (pdats m) (V5 m (outs m)) fun _ => rfl) (reg3 (pdats m) (V6 m (outs m)) fun _ => rfl) (reg4 (pdats m) (V7 m (outs m)) fun _ => rfl) (reg5 (pdats m) (V9 m (outs m)) fun _ => rfl) (reg6 (pdats m) (V10 m (outs m)) fun _ => rfl) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          Prog.lift (.customCall (Pipeline.entry 4) ()),
          StableHlo.seq hostOps5,
          Prog.lift (.customCall (Pipeline.entry 5) ()),
          Prog.lift (.customCall (Pipeline.entry 6) ()),
          StableHlo.seq hostOps7 ] from rfl]
      dsimp (config := { failIfUnchanged := false }) only
      exact .rfl)
    (fun c => by simp only [segs, Seg.pipes_host, Seg.pipes_region, Seg.pipes_nil]; decide) (fun _ => 0) (fun g hg => if_neg hg) (fun _ => iprop(emp)) (initOf (Pipeline.cells cfgs cellOf_inj) (Pipeline.launchToks cfgs cellOf_inj)) launchElt
    (T₀ := fun c => iprop(StableHlo.held (c : Thread nD τ) (Pipeline.ucRefs τ sig) (V0 m c) ∗ E c))
    (Tₙ := fun c => StableHlo.held (c : Thread nD τ) (Pipeline.ucRefs τ sig) (V12 m (outs m) c))
    (hch := fun c => ⟨.rfl, hpre0 (pdats m) (V1 m) (fun _ => rfl) c, hpost0 (pdats m) (V1 m) (V2 m (outs m)) (fun _ => rfl) (after0 m) c, hpre1 (pdats m) (V3 m (outs m)) (fun _ => rfl) c, hpost1 (pdats m) (V3 m (outs m)) (V4 m (outs m)) (fun _ => rfl) (after1 m) c, hpre2 (pdats m) (V5 m (outs m)) (fun _ => rfl) c, (hpost2 (pdats m) (V5 m (outs m)) (V6 m (outs m)) (fun _ => rfl) (after2 m) c).trans (hpre3 (pdats m) (V6 m (outs m)) (fun _ => rfl) c), (hpost3 (pdats m) (V6 m (outs m)) (V7 m (outs m)) (fun _ => rfl) (after3 m) c).trans (hpre4 (pdats m) (V7 m (outs m)) (fun _ => rfl) c), hpost4 (pdats m) (V7 m (outs m)) (V8 m (outs m)) (fun _ => rfl) (after4 m) c, hpre5 (pdats m) (V9 m (outs m)) (fun _ => rfl) c, (hpost5 (pdats m) (V9 m (outs m)) (V10 m (outs m)) (fun _ => rfl) (after5 m) c).trans (hpre6 (pdats m) (V10 m (outs m)) (fun _ => rfl) c), hpost6 (pdats m) (V10 m (outs m)) (V11 m (outs m)) (fun _ => rfl) (after6 m) c, sep_mono .rfl (hEn c)⟩)
    (hinit := ?_) (QY := fun c s => ∀ b ∈ Pipeline.ucRefs τ sig, s.mem (c, b) = V12 m (outs m) c b)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => (0 : CellTallies nD τ sig Unit)) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => (0 : CellTallies nD τ sig Unit)) c ∗ prngReg c (ρ c) ∗ emp))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V12 m (outs m) c) s') $$ [Hh HSI]
    · isplitl [Hh] <;> iassumption
    icases Hr with ⟨%h, HSI⟩
    imodintro
    isplitr
    · ipureintro
      exact h
    · iexact HSI

end Cert.KernelIdeal.Run

end
-- ==== Proof.KernelFrame.lean ====
/- The frame of the kernel at any float values: it runs, its arguments end as they were, every counter at zero. -/
module

public import proofs.«01_k».proof.Proof.KernelRun

@[expose] public section

noncomputable section

namespace Cert.KernelIdeal.Run

open Cert.KernelIdeal Cert.KernelIdeal.Gen
open Idealize.ShloMosaic Idealize.ShloMosaic.TcCoe Idealize.SL.Sem

variable {F : FTy → Type} [FloatOps F]

/-- A final state's unscoped buffer is what the last item leaves there. -/
theorem Final.read {m : (ℓ : Loc nD τ sig) → Buf (Elt F) ℓ} {r : PUnit × MemSt nD τ sig (Elt F)} (h : Final m r) (c : Dev nD) (b : Ref sig .tc) (hb : b.isScoped = false) :
    r.2.mem ((c.tc : Thread nD τ).loc b) = V12 m (outs m) c (Proc.devRef .tc b) :=
  h.1 c (Proc.devRef .tc b) (Finset.mem_filter.mpr ⟨StableHlo.devRef_mem_tcRefs b, fun h' => Bool.false_ne_true (hb.symm.trans h')⟩)

/-- The frame. -/
theorem frame (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => by
    refine ⟨fun c => ⟨?_, ?_, ?_, ?_, ?_, ?_, ?_, ?_, ?_, ?_⟩, h.2⟩
    · exact (h.read c main_arg0 rfl).trans (V12_main_arg0 m (outs m) c)
    · exact (h.read c main_arg1 rfl).trans (V12_main_arg1 m (outs m) c)
    · exact (h.read c main_arg2 rfl).trans (V12_main_arg2 m (outs m) c)
    · exact (h.read c main_arg3 rfl).trans (V12_main_arg3 m (outs m) c)
    · exact (h.read c main_arg4 rfl).trans (V12_main_arg4 m (outs m) c)
    · exact (h.read c main_arg5 rfl).trans (V12_main_arg5 m (outs m) c)
    · exact (h.read c main_arg6 rfl).trans (V12_main_arg6 m (outs m) c)
    · exact (h.read c main_arg7 rfl).trans (V12_main_arg7 m (outs m) c)
    · exact (h.read c main_arg8 rfl).trans (V12_main_arg8 m (outs m) c)
    · exact (h.read c main_arg9 rfl).trans (V12_main_arg9 m (outs m) c)) (run m g)

end Cert.KernelIdeal.Run

end
-- ==== Proof.SameProgram.lean ====
/- The kernel as compiled and the kernel read over the reals are one program: the frame of the one is the frame of the other. -/
module

public import proofs.«01_k».proof.Defs
public import proofs.«01_k».proof.Proof.Gen.Kernel
public import proofs.«01_k».proof.Proof.KernelFrame

@[expose] public section

noncomputable section

namespace Cert

open Idealize.ShloMosaic Idealize.ShloMosaic.TcCoe Idealize.ShloMosaic.Tactic Idealize.SL.Sem
open Cert.KernelIdeal

local instance : Cert.Kernel.Facts := Cert.Kernel.Gen.facts

/-- The kernel's frame claim is, by unfolding, the frame of the other printing at the same float values. -/
theorem quiescent_Kernel_eq : (quiescent_Kernel : Prop) =
    ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  sl_kernel_rfl

theorem kernel_frame : quiescent_Kernel := quiescent_Kernel_eq.mpr fun m g _ => Cert.KernelIdeal.Run.frame m g

end Cert

end
-- ==== Proof.HostReads.lean ====
/- What the kernel's host operations leave, read at an index, at the extended reals: scales rounded and widened (here
   unchanged), transpositions and reshapes. -/
module

public import proofs.«01_k».proof.Proof.Gen.KernelIdeal.Regions
public import Idealize.ShloMosaic.Lib.Pipeline.Value
public import Idealize.ShloMosaic.Lib.ValueIdx

@[expose] public section

set_option maxRecDepth 16384

noncomputable section

namespace Cert.KernelIdeal.Host

open Cert.KernelIdeal Cert.KernelIdeal.Gen
open Idealize.ShloMosaic Idealize.ShloMosaic.TcCoe Idealize.ShloMosaic.Tactic Idealize.ShloMosaic.ValueIdx
open Idealize.SL.Sem

variable (W : Valuation τ sig (Elt Ideal))

/-! ## Scales of the down weights -/

theorem v1_eq : StableHlo.after hostOps0 W (Proc.devRef .tc main_v1) = (extf .f32 (truncf .bf16 (W (Proc.devRef .tc main_arg9) : FVec Ideal S44x16 .f32) bitsLt_bf16_f32) bitsLt_bf16_f32 : FVec Ideal S44x16 .f32) := by
  after_results_simp

theorem v1_apply (i : S44x16.Idx) : (StableHlo.after hostOps0 W (Proc.devRef .tc main_v1) i : EReal) = W (Proc.devRef .tc main_arg9) i := by
  rw [v1_eq]; rfl

/-! ## The gate/up weights and their scales -/

theorem v3_eq : StableHlo.after hostOps1 W (Proc.devRef .tc main_v3) = transpose S2x2048x5632 [1, 0, 2] (W (Proc.devRef .tc main_arg6)) transposes_S2048x2x5632_S2x2048x5632_1_0_2 := by
  after_results_simp

theorem v3_apply (k : Fin 2) (d : Fin 2048) (f : Fin 5632) :
    (StableHlo.after hostOps1 W (Proc.devRef .tc main_v3) (ix3 k d f : S2x2048x5632.Idx) : EReal) = W (Proc.devRef .tc main_arg6) (ix3 d k f : S2048x2x5632.Idx) := by
  rw [v3_eq]
  exact transpose_apply _ _ _ (ix3 k d f : S2x2048x5632.Idx) (ix3 d k f : S2048x2x5632.Idx) (by intro a; fin_cases a <;> rfl)

theorem v6_eq : StableHlo.after hostOps1 W (Proc.devRef .tc main_v6) = (extf .f32 (truncf .bf16 (transpose S2x16x44 [1, 0, 2] (W (Proc.devRef .tc main_arg7) : FVec Ideal S16x2x44 .f32) transposes_S16x2x44_S2x16x44_1_0_2 : FVec Ideal S2x16x44 .f32) bitsLt_bf16_f32) bitsLt_bf16_f32 : FVec Ideal S2x16x44 .f32) := by
  after_results_simp

theorem v6_apply (k : Fin 2) (a : Fin 16) (b : Fin 44) :
    (StableHlo.after hostOps1 W (Proc.devRef .tc main_v6) (ix3 k a b : S2x16x44.Idx) : EReal) = W (Proc.devRef .tc main_arg7) (ix3 a k b : S16x2x44.Idx) := by
  rw [v6_eq]
  exact transpose_apply _ _ _ (ix3 k a b : S2x16x44.Idx) (ix3 a k b : S16x2x44.Idx) (by intro a; fin_cases a <;> rfl)

/-! ## Tokens, gate and up values, and their scales -/

theorem v8_eq : StableHlo.after hostOps2 W (Proc.devRef .tc main_v8) = transpose S6x16x8192 [0, 2, 1] (W (Proc.devRef .tc main_arg1)) transposes_S6x8192x16_S6x16x8192_0_2_1 := by
  after_results_simp

theorem v8_apply (b : Fin 6) (q : Fin 16) (s : Fin 8192) :
    (StableHlo.after hostOps2 W (Proc.devRef .tc main_v8) (ix3 b q s : S6x16x8192.Idx) : EReal) = W (Proc.devRef .tc main_arg1) (ix3 b s q : S6x8192x16.Idx) := by
  rw [v8_eq]
  exact transpose_apply _ _ _ (ix3 b q s : S6x16x8192.Idx) (ix3 b s q : S6x8192x16.Idx) (by intro a; fin_cases a <;> rfl)

theorem v9_eq : StableHlo.after hostOps2 W (Proc.devRef .tc main_v9) = transpose S6x16x8192 [0, 2, 1] (W (Proc.devRef .tc main_arg3)) transposes_S6x8192x16_S6x16x8192_0_2_1 := by
  after_results_simp

theorem v9_apply (b : Fin 6) (q : Fin 16) (s : Fin 8192) :
    (StableHlo.after hostOps2 W (Proc.devRef .tc main_v9) (ix3 b q s : S6x16x8192.Idx) : EReal) = W (Proc.devRef .tc main_arg3) (ix3 b s q : S6x8192x16.Idx) := by
  rw [v9_eq]
  exact transpose_apply _ _ _ (ix3 b q s : S6x16x8192.Idx) (ix3 b s q : S6x8192x16.Idx) (by intro a; fin_cases a <;> rfl)

theorem v11_eq : StableHlo.after hostOps2 W (Proc.devRef .tc main_v11) = shapeCast _ (transpose S6x44x2x8192 [0, 3, 2, 1] (W (Proc.devRef .tc main_arg5)) transposes_S6x8192x2x44_S6x44x2x8192_0_3_2_1) shapeCasts_S6x44x2x8192_S6x11x8x8192 := by
  after_results_simp
  rfl

theorem v11_apply (b : Fin 6) (j : Fin 11) (y : Fin 8) (s : Fin 8192) (h : Fin 2) (q : Fin 44) (hy : 8 * j.val + y.val = 2 * q.val + h.val) :
    (StableHlo.after hostOps2 W (Proc.devRef .tc main_v11) (ix4 b j y s : S6x11x8x8192.Idx) : EReal) = W (Proc.devRef .tc main_arg5) (ix4 b s h q : S6x8192x2x44.Idx) := by
  rw [v11_eq]
  refine (shapeCast_apply _ shapeCasts_S6x44x2x8192_S6x11x8x8192 (ix4 b j y s : S6x11x8x8192.Idx) (ix4 b q h s : S6x44x2x8192.Idx) ?_).trans ?_
  · refine (Shape.rowMajor_val_four _).trans (Eq.trans ?_ (Shape.rowMajor_val_four _).symm)
    show ((b.val * 44 + q.val) * 2 + h.val) * 8192 + s.val = ((b.val * 11 + j.val) * 8 + y.val) * 8192 + s.val
    omega
  · exact transpose_apply _ _ _ (ix4 b q h s : S6x44x2x8192.Idx) (ix4 b s h q : S6x8192x2x44.Idx) (by intro a; fin_cases a <;> rfl)

theorem v12_eq : StableHlo.after hostOps2 W (Proc.devRef .tc main_v12) = transpose S6x2x8192x5632 [0, 2, 1, 3] (W (Proc.devRef .tc main_arg4)) transposes_S6x8192x2x5632_S6x2x8192x5632_0_2_1_3 := by
  after_results_simp

theorem v12_apply (b : Fin 6) (h : Fin 2) (s : Fin 8192) (f : Fin 5632) :
    (StableHlo.after hostOps2 W (Proc.devRef .tc main_v12) (ix4 b h s f : S6x2x8192x5632.Idx) : EReal) = W (Proc.devRef .tc main_arg4) (ix4 b s h f : S6x8192x2x5632.Idx) := by
  rw [v12_eq]
  exact transpose_apply _ _ _ (ix4 b h s f : S6x2x8192x5632.Idx) (ix4 b s h f : S6x8192x2x5632.Idx) (by intro a; fin_cases a <;> rfl)

theorem v13_eq : StableHlo.after hostOps2 W (Proc.devRef .tc main_v13) = shapeCast _ (W (Proc.devRef .tc main_arg0)) shapeCasts_S6x8192x2048_S49152x2048 := by
  after_results_simp
  rfl

theorem v13_apply (n : Fin 49152) (d : Fin 2048) (b : Fin 6) (s : Fin 8192) (hn : n.val = 8192 * b.val + s.val) :
    (StableHlo.after hostOps2 W (Proc.devRef .tc main_v13) (ix2 n d : S49152x2048.Idx) : EReal) = W (Proc.devRef .tc main_arg0) (ix3 b s d : S6x8192x2048.Idx) := by
  rw [v13_eq]
  refine shapeCast_apply _ shapeCasts_S6x8192x2048_S49152x2048 (ix2 n d : S49152x2048.Idx) (ix3 b s d : S6x8192x2048.Idx) ?_
  refine (Shape.rowMajor_val_three _).trans (Eq.trans ?_ (Shape.rowMajor_val_two _).symm)
  show (b.val * 8192 + s.val) * 2048 + d.val = n.val * 2048 + d.val
  omega

theorem v14_eq : StableHlo.after hostOps2 W (Proc.devRef .tc main_v14) = shapeCast _ (W (Proc.devRef .tc main_arg2)) shapeCasts_S6x8192x2048_S49152x2048 := by
  after_results_simp
  rfl

theorem v14_apply (n : Fin 49152) (d : Fin 2048) (b : Fin 6) (s : Fin 8192) (hn : n.val = 8192 * b.val + s.val) :
    (StableHlo.after hostOps2 W (Proc.devRef .tc main_v14) (ix2 n d : S49152x2048.Idx) : EReal) = W (Proc.devRef .tc main_arg2) (ix3 b s d : S6x8192x2048.Idx) := by
  rw [v14_eq]
  refine shapeCast_apply _ shapeCasts_S6x8192x2048_S49152x2048 (ix2 n d : S49152x2048.Idx) (ix3 b s d : S6x8192x2048.Idx) ?_
  refine (Shape.rowMajor_val_three _).trans (Eq.trans ?_ (Shape.rowMajor_val_two _).symm)
  show (b.val * 8192 + s.val) * 2048 + d.val = n.val * 2048 + d.val
  omega

/-! ## Two results -/

theorem v18_eq : StableHlo.after hostOps5 W (Proc.devRef .tc main_v18) = transpose S2048x2x5632 [1, 0, 2] (W (Proc.devRef .tc main_v17)) transposes_S2x2048x5632_S2048x2x5632_1_0_2 := by
  after_results_simp

theorem v18_apply (d : Fin 2048) (k : Fin 2) (f : Fin 5632) :
    (StableHlo.after hostOps5 W (Proc.devRef .tc main_v18) (ix3 d k f : S2048x2x5632.Idx) : EReal) = W (Proc.devRef .tc main_v17) (ix3 k d f : S2x2048x5632.Idx) := by
  rw [v18_eq]
  exact transpose_apply _ _ _ (ix3 d k f : S2048x2x5632.Idx) (ix3 k d f : S2x2048x5632.Idx) (by intro a; fin_cases a <;> rfl)

theorem v21_eq : StableHlo.after hostOps7 W (Proc.devRef .tc main_v21) = shapeCast _ (W (Proc.devRef .tc main_v15_2)) shapeCasts_S49152x2048_S6x8192x2048 := by
  after_results_simp
  rfl

theorem v21_apply (b : Fin 6) (s : Fin 8192) (d : Fin 2048) (n : Fin 49152) (hn : n.val = 8192 * b.val + s.val) :
    (StableHlo.after hostOps7 W (Proc.devRef .tc main_v21) (ix3 b s d : S6x8192x2048.Idx) : EReal) = W (Proc.devRef .tc main_v15_2) (ix2 n d : S49152x2048.Idx) := by
  rw [v21_eq]
  refine shapeCast_apply _ shapeCasts_S49152x2048_S6x8192x2048 (ix3 b s d : S6x8192x2048.Idx) (ix2 n d : S49152x2048.Idx) ?_
  refine (Shape.rowMajor_val_two _).trans (Eq.trans ?_ (Shape.rowMajor_val_three _).symm)
  show n.val * 2048 + d.val = (b.val * 8192 + s.val) * 2048 + d.val
  omega

end Cert.KernelIdeal.Host

end
-- ==== Proof.Swiglu.lean ====
/- The gated activation and its derivatives, on extended reals. -/
module

public import Idealize.ShloMosaic.Lib.ValueIdx

@[expose] public section

noncomputable section

namespace Cert.Swiglu

open Idealize.ShloMosaic

/-- The hidden activation of a gate and an up value: the gate times its logistic, times the up value. -/
def hid (g u : EReal) : EReal := g * Ideal.logistic g * u

/-- The gradient of the gate: `dh * u * s * (1 + g * (1 - s))` with `s` the logistic of the gate. -/
def dgate (dh g u : EReal) : EReal := dh * u * Ideal.logistic g * (1 + g * (1 - Ideal.logistic g))

/-- The gradient of the up value: `dh * (g * s)`. -/
def dup (dh g : EReal) : EReal := dh * (g * Ideal.logistic g)

/-- The gradient of the gate (half 0) or of the up value (half 1). -/
def dact (k : Fin 2) (dh g u : EReal) : EReal := if k.val = 0 then dgate dh g u else dup dh g

end Cert.Swiglu

end
-- ==== Proof.Forms.lean ====
/- The three gradients as plain sums over the ten arguments, on extended reals: what both programs are shown to compute. -/
module

public import proofs.«01_k».proof.Proof.Swiglu

@[expose] public section

noncomputable section

namespace Cert.Forms

open Cert.Swiglu

/-- The ten arguments at their coordinates: codes and block scales of the input, of the output's gradient, of the saved
    gate and up values, of the gate/up weights and of the down weights. -/
structure Args where
  x : Fin 6 → Fin 8192 → Fin 2048 → EReal
  xs : Fin 6 → Fin 8192 → Fin 16 → EReal
  dy : Fin 6 → Fin 8192 → Fin 2048 → EReal
  dys : Fin 6 → Fin 8192 → Fin 16 → EReal
  gu : Fin 6 → Fin 8192 → Fin 2 → Fin 5632 → EReal
  gus : Fin 6 → Fin 8192 → Fin 2 → Fin 44 → EReal
  wgu : Fin 2048 → Fin 2 → Fin 5632 → EReal
  wgus : Fin 16 → Fin 2 → Fin 44 → EReal
  wd : Fin 5632 → Fin 2048 → EReal
  wds : Fin 44 → Fin 16 → EReal

/-- A token's batch and its place in the batch. -/
def bat (n : Fin 49152) : Fin 6 := ⟨n.val / 8192, by have := n.isLt; omega⟩
def pos (n : Fin 49152) : Fin 8192 := ⟨n.val % 8192, Nat.mod_lt _ (by decide)⟩
/-- The block of 128 a model coordinate, or a hidden unit, lies in. -/
def dblk (d : Fin 2048) : Fin 16 := ⟨d.val / 128, by have := d.isLt; omega⟩
def fblk (f : Fin 5632) : Fin 44 := ⟨f.val / 128, by have := f.isLt; omega⟩

variable (A : Args)

/-- The dequantised arrays. -/
def xv (n : Fin 49152) (d : Fin 2048) : EReal := A.x (bat n) (pos n) d * A.xs (bat n) (pos n) (dblk d)
def dyv (n : Fin 49152) (d : Fin 2048) : EReal := A.dy (bat n) (pos n) d * A.dys (bat n) (pos n) (dblk d)
def guv (n : Fin 49152) (h : Fin 2) (f : Fin 5632) : EReal := A.gu (bat n) (pos n) h f * A.gus (bat n) (pos n) h (fblk f)
def wguv (d : Fin 2048) (h : Fin 2) (f : Fin 5632) : EReal := A.wgu d h f * A.wgus (dblk d) h (fblk f)
def wdv (f : Fin 5632) (d : Fin 2048) : EReal := A.wd f d * A.wds (fblk f) (dblk d)

/-- The gradient of the hidden activation. -/
def dh (n : Fin 49152) (f : Fin 5632) : EReal := ∑ d : Fin 2048, dyv A n d * wdv A f d
/-- The hidden activation. -/
def hidv (n : Fin 49152) (f : Fin 5632) : EReal := hid (guv A n 0 f) (guv A n 1 f)
/-- The gradient of the gate (half 0) and up (half 1) values. -/
def dactv (h : Fin 2) (n : Fin 49152) (f : Fin 5632) : EReal := dact h (dh A n f) (guv A n 0 f) (guv A n 1 f)

/-- The gradient of the input. -/
def dx (n : Fin 49152) (d : Fin 2048) : EReal := ∑ h : Fin 2, ∑ f : Fin 5632, dactv A h n f * wguv A d h f
/-- The gradient of the gate/up weights. -/
def dwgu (d : Fin 2048) (h : Fin 2) (f : Fin 5632) : EReal := ∑ n : Fin 49152, xv A n d * dactv A h n f
/-- The gradient of the down weights. -/
def dwd (f : Fin 5632) (d : Fin 2048) : EReal := ∑ n : Fin 49152, hidv A n f * dyv A n d

end Cert.Forms

end
-- ==== Proof.R0.Value.lean ====
/- Region 0 of the kernel at the extended reals: the down weights, dequantised and transposed. -/
module

public import proofs.«01_k».proof.Proof.R0.Frame
public import Idealize.ShloMosaic.Lib.Pipeline.Value
public import Idealize.ShloMosaic.Lib.ValueIdx

@[expose] public section

set_option maxRecDepth 16384

noncomputable section

namespace Cert.KernelIdeal.R0

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

/-- A block of codes times its scale, transposed, at an index. -/
theorem pay1_apply (s : Elt Ideal .f32) (b : Vec Ideal S128x128 .fp8e4m3) (x : S128x128.Idx) :
    k0_pay1 s b x = (b (ix2 (x 1) (x 0)) : EReal) * s := by
  unfold k0_pay1
  refine (transpose_apply _ _ _ x (ix2 (x 1) (x 0)) (by intro a; fin_cases a <;> rfl)).trans ?_
  simp only [truncf_apply, mulf_apply, extf_apply]
  rfl

/-- The row of scales a group of rows of the point's block reads. -/
theorem row (r : Fin 4) : ∀ k : Fin 11, (Scalar.indexCast (Scalar.addi (Scalar.muli (BitVec.ofNat 32 k.val) 4#32) (BitVec.ofNat 32 r.val))).toNat = 4 * k.val + r.val := by
  revert r; decide +kernel

theorem inR (i : grid0.Coords) (y : S2048x512.Idx) : 4 * (i 0).val + (y 1).val / 128 < 44 := by
  have h0 : (i 0).val < 11 := (i 0).isLt
  have h1 : (y 1).val < 512 := (y 1).isLt
  omega
theorem inC (y : S2048x512.Idx) : (y 0).val / 128 < 16 := by
  have h1 : (y 0).val < 2048 := (y 0).isLt
  omega

/-- What the point leaves in its block: the code at the transposed place times its block's scale. -/
def B (i : grid0.Coords) (x0 : Vec Ideal S44x16 .f32) (x1 : Vec Ideal S512x2048 .fp8e4m3) : Vec Ideal S2048x512 .bf16 :=
  fun y => (x1 (ix2 (y 1) (y 0)) : EReal) * x0 (ix2 ⟨4 * (i 0).val + (y 1).val / 128, inR i y⟩ ⟨(y 0).val / 128, inC y⟩)

/-- One store's payload is its part of the block. -/
theorem piece (i : grid0.Coords) (arg1 : Memref sig .tc .smem S44x16 .f32) (h1 : arg1.IsWhole) (arg2 : Memref sig .tc .vmem S512x2048 .fp8e4m3) (h2 : arg2.IsWhole)
    (x0 : Vec Ideal S44x16 .f32) (x1 : Vec Ideal S512x2048 .fp8e4m3) (p q : ℕ) (off : Fin 2 → ℕ)
    (w : FVec Ideal S128x128 .bf16)
    (inb : ∀ a, off a + S1x1.size a ≤ S44x16.size a) (inb2 : ∀ a, (![q, p] : Fin 2 → ℕ) a + (![128, 128] : Fin 2 → ℕ) a ≤ S512x2048.size a)
    (inb3 : ∀ a, (![p, q] : Fin 2 → ℕ) a + (![128, 128] : Fin 2 → ℕ) a ≤ S2048x512.size a) (hf)
    (hw : w = k0_pay1 (View.readAt (Elt Ideal) arg1.view (Rect.unit (s := S44x16) off S1x1.size inb).toLoadRect (h1.unread x0) (Shape.Idx.first (s := S1x1) hf))
      (View.readAt (Elt Ideal) arg2.view (Rect.unit (s := S512x2048) ![q, p] ![128, 128] inb2).toLoadRect (h2.unread x1)))
    (hp : p % 128 = 0) (hq : q % 128 = 0) (hoff0 : off 0 = 4 * (i 0).val + q / 128) (hoff1 : off 1 = p / 128) (x : S128x128.Idx) :
    w x = B i x0 x1 ((Rect.unit (s := S2048x512) ![p, q] ![128, 128] inb3).emb x) := by
  have hx0 : (x 0).val < 128 := (x 0).isLt
  have hx1 : (x 1).val < 128 := (x 1).isLt
  rw [hw, pay1_apply, View.readAt_eq_ld, View.readAt_eq_ld, h1.read_unread, h2.read_unread]
  unfold B
  congr 1
  · refine congrArg x1 (funext fun a => Fin.ext ?_)
    match a with
    | ⟨0, _⟩ => rfl
    | ⟨1, _⟩ => rfl
  · refine congrArg x0 (funext fun a => Fin.ext ?_)
    match a with
    | ⟨0, _⟩ => show off 0 + 1 * 0 = 4 * (i 0).val + (q + 1 * (x 1).val) / 128; omega
    | ⟨1, _⟩ => show off 1 + 1 * 0 = (p + 1 * (x 0).val) / 128; omega

/-- The block after the point. -/
theorem out_eq (c : Dev nD) (i : grid0.Coords) (arg1 : Memref sig .tc .smem S44x16 .f32) (harg1 : arg1.IsWhole) (arg2 : Memref sig .tc .vmem S512x2048 .fp8e4m3) (harg2 : arg2.IsWhole) (arg3 : Memref sig .tc .vmem S2048x512 .bf16) (harg3 : arg3.IsWhole)
    (x0 : Vec Ideal S44x16 .f32) (x1 : Vec Ideal S512x2048 .fp8e4m3) :
    out0_A_2 c i arg1 harg1 arg2 harg2 arg3 harg3 x0 x1 = B i x0 x1 := by
  unfold out0_A_2
  rw [View.read_writes_eq_canon _ _ _ (cover0_A_2 c i arg1 harg1 arg2 harg2 arg3 harg3 x0 x1)]
  funext y
  refine View.canon_apply_of_pieces (B i x0 x1) _ ?_ y (cover0_A_2 c i arg1 harg1 arg2 harg2 arg3 harg3 x0 x1 y)
  unfold kernelRun0_A
  dsimp only
  sl_unfold_words
  repeat' first
    | exact List.forall_mem_nil _
    | refine List.forall_mem_cons.mpr ⟨fun x => piece i arg1 harg1 arg2 harg2 x0 x1 _ _ _ _ _ _ (by decide +kernel) _ rfl rfl rfl (by first | exact row 0 (i 0) | exact row 1 (i 0) | exact row 2 (i 0) | exact row 3 (i 0)) rfl x, ?_⟩

variable (V : (c : Dev nD) → (b : Ref sig .tc) → Buf (Elt Ideal) ((c : Thread nD τ).loc b))

/-- The region's operands and a point's blocks of them, at their shapes. -/
abbrev src0 (c : Dev nD) : Vec Ideal S44x16 .f32 := V c main_v1
abbrev src1 (c : Dev nD) : Vec Ideal S5632x2048 .fp8e4m3 := V c main_arg8
abbrev blk0 (c : Dev nD) (t : Fin cfg0.N) : Vec Ideal S44x16 .f32 := iblk V c 0 t
abbrev blk1 (c : Dev nD) (t : Fin cfg0.N) : Vec Ideal S512x2048 .fp8e4m3 := iblk V c 1 t

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val ∧ (grid0.coords t 0).val = t.val :=
  (by decide +kernel : ∀ t : Fin grid0.N, _)

/-- The scales are one block. -/
theorem iblk0 (c : Dev nD) (t : Fin cfg0.N) (p : Fin 44) (q : Fin 16) : blk0 V c t (ix2 p q) = src0 V c (ix2 p q) := by
  obtain ⟨e0, e1⟩ := idx0 t
  refine congrArg (src0 V c) (funext fun a => Fin.ext ?_)
  match a with
  | ⟨0, _⟩ => show win0_0.index t (0 : Fin 2) * 44 + 1 * p.val = p.val; rw [e0]; omega
  | ⟨1, _⟩ => show win0_0.index t (1 : Fin 2) * 16 + 1 * q.val = q.val; rw [e1]; omega

/-- The point's block of the codes. -/
theorem iblk1 (c : Dev nD) (t : Fin cfg0.N) (r : Fin 512) (d : Fin 2048) (f : Fin 5632) (hf : f.val = 512 * t.val + r.val) :
    blk1 V c t (ix2 r d) = src1 V c (ix2 f d) := by
  obtain ⟨e0, e1⟩ := idx1 t
  refine congrArg (src1 V c) (funext fun a => Fin.ext ?_)
  match a with
  | ⟨0, _⟩ => show win0_1.index t (0 : Fin 2) * 512 + 1 * r.val = f.val; rw [e0]; omega
  | ⟨1, _⟩ => show win0_1.index t (1 : Fin 2) * 2048 + 1 * d.val = d.val; rw [e1]; omega

/-- One weight, dequantised. -/
def wd (c : Dev nD) (f : Fin 5632) (d : Fin 2048) : EReal :=
  (src1 V c (ix2 f d) : EReal) * src0 V c (ix2 ⟨f.val / 128, by have := f.isLt; omega⟩ ⟨d.val / 128, by have := d.isLt; omega⟩)

/-- What the region leaves: the dequantised weights, transposed. -/
def G (c : Dev nD) : Vec Ideal S2048x5632 .bf16 := fun y => wd V c (y 1) (y 0)

theorem B_apply (c : Dev nD) (t : Fin cfg0.N) (d : Fin 2048) (r : Fin 512) (f : Fin 5632) (hf : f.val = 512 * t.val + r.val) :
    B (grid0.coords t) (blk0 V c t) (blk1 V c t) (ix2 d r) = wd V c f d := by
  obtain ⟨-, -, e⟩ := idx2 t
  have hr := r.isLt
  show (blk1 V c t (ix2 r d) : EReal) * blk0 V c t (ix2 _ _) = _
  rw [iblk0 V c t, iblk1 V c t r d f hf]
  refine congrArg ((src1 V c (ix2 f d) : EReal) * ·) (congrArg (src0 V c) ?_)
  funext a; apply Fin.ext
  match a with
  | ⟨0, _⟩ => show 4 * (grid0.coords t 0).val + r.val / 128 = f.val / 128; omega
  | ⟨1, _⟩ => rfl

/-- What a point writes back is its block of the transposed weights. -/
theorem flushed_eq (c : Dev nD) (t : Fin cfg0.N) :
    (dat V c).flushed 2 t = ((cfg0.win 2).blk t).view.read (Elt Ideal) (G V c) := by
  show (cfg0.win 2).cut (grid0.coords t) ((dat V c).after 2 t) = _
  rw [after0_2]
  unfold outsAt0
  rw [out_eq]
  generalize hw : B _ _ _ = w
  have hN : t.val < 11 := lt_of_lt_of_eq t.isLt (show cfg0.N = 11 from N_0)
  obtain ⟨e0, e1, -⟩ := idx2 t
  funext y
  have hy0 : (y 0).val < 2048 := (y 0).isLt
  have hy1 : (y 1).val < 512 := (y 1).isLt
  have hemb : ((cfg0.win 2).blk t).view.emb y = (ix2 ⟨(y 0).val, hy0⟩ ⟨512 * t.val + (y 1).val, by omega⟩ : S2048x5632.Idx) := by
    funext a; apply Fin.ext
    match a with
    | ⟨0, _⟩ => show win0_2.index t (0 : Fin 2) * 2048 + 1 * (y 0).val = (y 0).val; rw [e0]; omega
    | ⟨1, _⟩ => show win0_2.index t (1 : Fin 2) * 512 + 1 * (y 1).val = 512 * t.val + (y 1).val; rw [e1]; omega
  have hx : (cfg0.win 2).xinj (grid0.coords t) y = (ix2 ⟨(y 0).val, hy0⟩ ⟨(y 1).val, hy1⟩ : S2048x512.Idx) := by
    funext a; apply Fin.ext
    match a with
    | ⟨0, _⟩ => rfl
    | ⟨1, _⟩ => rfl
  have hl : (cfg0.win 2).cut (grid0.coords t) w y = w ((cfg0.win 2).xinj (grid0.coords t) y) := rfl
  have hr : ∀ f : Vec Ideal S2048x5632 .bf16, ((cfg0.win 2).blk t).view.read (Elt Ideal) f y = f (((cfg0.win 2).blk t).view.emb y) := fun _ => rfl
  rw [hl, hr, hemb, hx, ← hw]
  exact B_apply V c t _ _ _ rfl

/-- An index of the array is in a point's block iff each coordinate is in the block's range. -/
theorem mem_blk (t : Fin cfg0.N) (i : S2048x5632.Idx) :
    i ∈ ((cfg0.win 2).blk t).view.set ↔ ∀ a : Fin 2, win0_2.index t a * S2048x512.size a ≤ (i a).val ∧ (i a).val < win0_2.index t a * S2048x512.size a + S2048x512.size a := by
  show i ∈ ((View.whole main_v2).slice (win0_2.rect t)).set ↔ _
  rw [View.set_slice_whole, Rect.mem_set_unit]
  exact Iff.rfl

/-- The transposed weights after the region. -/
theorem final (c : Dev nD) : (dat V c).arrAt 2 cfg0.N = G V c :=
  (dat V c).arrAt_eq_of_cover 2 (G V c) (fun t _ => flushed_eq V c t) (fun i => by
    have h0 : (i 0).val < 2048 := (i 0).isLt
    have h1 : (i 1).val < 5632 := (i 1).isLt
    have hN : cfg0.N = 11 := N_0
    let t : Fin cfg0.N := ⟨(i 1).val / 512, by omega⟩
    have ht : t.val = (i 1).val / 512 := rfl
    obtain ⟨e0, e1, -⟩ := idx2 t
    refine ⟨t, flush0_2 t, ?_⟩
    rw [mem_blk]
    intro a
    match a with
    | ⟨0, _⟩ => show win0_2.index t (0 : Fin 2) * 2048 ≤ (i 0).val ∧ (i 0).val < win0_2.index t (0 : Fin 2) * 2048 + 2048; rw [e0]; omega
    | ⟨1, _⟩ => show win0_2.index t (1 : Fin 2) * 512 ≤ (i 1).val ∧ (i 1).val < win0_2.index t (1 : Fin 2) * 512 + 512; rw [e1]; omega)

end Cert.KernelIdeal.R0

end
-- ==== Proof.R1.Value.lean ====
/- Region 1 of the kernel at the extended reals: the gate and up weights, dequantised and transposed, block by block. -/
module

public import proofs.«01_k».proof.Proof.R1.Frame
public import Idealize.ShloMosaic.Lib.Pipeline.Value
public import Idealize.ShloMosaic.Lib.ValueIdx

@[expose] public section

set_option maxRecDepth 16384

noncomputable section

namespace Cert.KernelIdeal.R1

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

/-- A block of codes times its scale, transposed, at an index. -/
theorem pay3_apply (s : Elt Ideal .f32) (b : Vec Ideal S1x128x128 .fp8e4m3) (x : S128x128.Idx) :
    k1_pay3 s b x = (b (ix3 0 (x 1) (x 0)) : EReal) * s := by
  unfold k1_pay3
  refine (transpose_apply _ _ _ x (ix2 (x 1) (x 0)) (by intro a; fin_cases a <;> rfl)).trans ?_
  simp only [truncf_apply, mulf_apply, extf_apply]
  refine congrArg (fun z : EReal => z * s) ?_
  refine shapeCast_apply b _ _ (ix3 0 (x 1) (x 0)) ?_
  refine (Shape.rowMajor_val_three _).trans (Eq.trans ?_ (Shape.rowMajor_val_two _).symm)
  show (0 * 128 + (x 1).val) * 128 + (x 0).val = (x 1).val * 128 + (x 0).val
  omega

/-- The column of scales a group of columns of the point's block reads. -/
theorem row (r : Fin 4) : ∀ k : Fin 11, (Scalar.indexCast (Scalar.addi (Scalar.muli (BitVec.ofNat 32 k.val) 4#32) (BitVec.ofNat 32 r.val))).toNat = 4 * k.val + r.val := by
  revert r; decide +kernel
/-- The half of the scales a point reads. -/
theorem half : ∀ k : Fin 2, (Scalar.indexCast (BitVec.ofNat 32 k.val)).toNat = k.val := by decide +kernel

theorem inR (i : grid1.Coords) (y : S512x2048.Idx) : 4 * (i 0).val + (y 0).val / 128 < 44 := by
  have h0 : (i 0).val < 11 := (i 0).isLt
  have h1 : (y 0).val < 512 := (y 0).isLt
  omega
theorem inC (y : S512x2048.Idx) : (y 1).val / 128 < 16 := by
  have h1 : (y 1).val < 2048 := (y 1).isLt
  omega
theorem inK (i : grid1.Coords) : (i 1).val < 2 := (i 1).isLt

/-- What the point leaves in its block: the code at the transposed place times its block's scale. -/
def B (i : grid1.Coords) (x0 : Vec Ideal S2x16x44 .f32) (x1 : Vec Ideal S1x2048x512 .fp8e4m3) : Vec Ideal S512x2048 .bf16 :=
  fun y => (x1 (ix3 0 (y 1) (y 0)) : EReal) * x0 (ix3 ⟨(i 1).val, inK i⟩ ⟨(y 1).val / 128, inC y⟩ ⟨4 * (i 0).val + (y 0).val / 128, inR i y⟩)

/-- One store's payload is its part of the block. -/
theorem piece (i : grid1.Coords) (arg2 : Memref sig .tc .smem S2x16x44 .f32) (h2 : arg2.IsWhole) (arg3 : Memref sig .tc .vmem S1x2048x512 .fp8e4m3) (h3 : arg3.IsWhole)
    (x0 : Vec Ideal S2x16x44 .f32) (x1 : Vec Ideal S1x2048x512 .fp8e4m3) (p q : ℕ) (off : Fin 3 → ℕ)
    (w : FVec Ideal S128x128 .bf16)
    (inb : ∀ a, off a + S1x1x1.size a ≤ S2x16x44.size a) (inb2 : ∀ a, (![0, q, p] : Fin 3 → ℕ) a + (![1, 128, 128] : Fin 3 → ℕ) a ≤ S1x2048x512.size a)
    (inb3 : ∀ a, (![p, q] : Fin 2 → ℕ) a + (![128, 128] : Fin 2 → ℕ) a ≤ S512x2048.size a) (hf)
    (hw : w = k1_pay3 (View.readAt (Elt Ideal) arg2.view (Rect.unit (s := S2x16x44) off S1x1x1.size inb).toLoadRect (h2.unread x0) (Shape.Idx.first (s := S1x1x1) hf))
      (View.readAt (Elt Ideal) arg3.view (Rect.unit (s := S1x2048x512) ![0, q, p] ![1, 128, 128] inb2).toLoadRect (h3.unread x1)))
    (hp : p % 128 = 0) (hq : q % 128 = 0) (hoff0 : off 0 = (i 1).val) (hoff1 : off 1 = q / 128) (hoff2 : off 2 = 4 * (i 0).val + p / 128) (x : S128x128.Idx) :
    w x = B i x0 x1 ((Rect.unit (s := S512x2048) ![p, q] ![128, 128] inb3).emb x) := by
  have hx0 : (x 0).val < 128 := (x 0).isLt
  have hx1 : (x 1).val < 128 := (x 1).isLt
  rw [hw, pay3_apply, View.readAt_eq_ld, View.readAt_eq_ld, h2.read_unread, h3.read_unread]
  unfold B
  congr 1
  · refine congrArg x1 (funext fun a => Fin.ext ?_)
    match a with
    | ⟨0, _⟩ => rfl
    | ⟨1, _⟩ => rfl
    | ⟨2, _⟩ => rfl
  · refine congrArg x0 (funext fun a => Fin.ext ?_)
    match a with
    | ⟨0, _⟩ => show off 0 + 1 * 0 = (i 1).val; omega
    | ⟨1, _⟩ => show off 1 + 1 * 0 = (q + 1 * (x 1).val) / 128; omega
    | ⟨2, _⟩ => show off 2 + 1 * 0 = 4 * (i 0).val + (p + 1 * (x 0).val) / 128; omega

/-- The block after the point. -/
theorem out_eq (c : Dev nD) (i : grid1.Coords) (arg2 : Memref sig .tc .smem S2x16x44 .f32) (harg2 : arg2.IsWhole) (arg3 : Memref sig .tc .vmem S1x2048x512 .fp8e4m3) (harg3 : arg3.IsWhole) (arg4 : Memref sig .tc .vmem S512x2048 .bf16) (harg4 : arg4.IsWhole)
    (x0 : Vec Ideal S2x16x44 .f32) (x1 : Vec Ideal S1x2048x512 .fp8e4m3) :
    out0_A_2 c i arg2 harg2 arg3 harg3 arg4 harg4 x0 x1 = B i x0 x1 := by
  unfold out0_A_2
  rw [View.read_writes_eq_canon _ _ _ (cover0_A_2 c i arg2 harg2 arg3 harg3 arg4 harg4 x0 x1)]
  funext y
  refine View.canon_apply_of_pieces (B i x0 x1) _ ?_ y (cover0_A_2 c i arg2 harg2 arg3 harg3 arg4 harg4 x0 x1 y)
  unfold kernelRun0_A
  dsimp only
  sl_unfold_words
  repeat' first
    | exact List.forall_mem_nil _
    | refine List.forall_mem_cons.mpr ⟨fun x => piece i arg2 harg2 arg3 harg3 x0 x1 _ _ _ _ _ _ (by decide +kernel) _ rfl rfl rfl (half (i 1)) rfl (by first | exact row 0 (i 0) | exact row 1 (i 0) | exact row 2 (i 0) | exact row 3 (i 0)) x, ?_⟩

variable (V : (c : Dev nD) → (b : Ref sig .tc) → Buf (Elt Ideal) ((c : Thread nD τ).loc b))

/-- The region's operands and a point's blocks of them, at their shapes. -/
abbrev src0 (c : Dev nD) : Vec Ideal S2x16x44 .f32 := V c main_v6
abbrev src1 (c : Dev nD) : Vec Ideal S2x2048x5632 .fp8e4m3 := V c main_v3
abbrev blk0 (c : Dev nD) (t : Fin cfg1.N) : Vec Ideal S2x16x44 .f32 := iblk V c 0 t
abbrev blk1 (c : Dev nD) (t : Fin cfg1.N) : Vec Ideal S1x2048x512 .fp8e4m3 := iblk V c 1 t

theorem idx0 : ∀ t : Fin cfg1.N, win1_0.index t (0 : Fin 3) = 0 ∧ win1_0.index t (1 : Fin 3) = 0 ∧ win1_0.index t (2 : Fin 3) = 0 :=
  (by decide +kernel : ∀ t : Fin grid1.N, _)
theorem idx1 : ∀ t : Fin cfg1.N, win1_1.index t (0 : Fin 3) = t.val % 2 ∧ win1_1.index t (1 : Fin 3) = 0 ∧ win1_1.index t (2 : Fin 3) = t.val / 2 :=
  (by decide +kernel : ∀ t : Fin grid1.N, _)
theorem idx2 : ∀ t : Fin cfg1.N, win1_2.index t (0 : Fin 2) = t.val ∧ win1_2.index t (1 : Fin 2) = 0 :=
  (by decide +kernel : ∀ t : Fin grid1.N, _)
theorem coord : ∀ t : Fin cfg1.N, (grid1.coords t 0).val = t.val / 2 ∧ (grid1.coords t 1).val = t.val % 2 :=
  (by decide +kernel : ∀ t : Fin grid1.N, _)

/-- The scales are one block. -/
theorem iblk0 (c : Dev nD) (t : Fin cfg1.N) (k : Fin 2) (p : Fin 16) (q : Fin 44) : blk0 V c t (ix3 k p q) = src0 V c (ix3 k p q) := by
  obtain ⟨e0, e1, e2⟩ := idx0 t
  refine congrArg (src0 V c) (funext fun a => Fin.ext ?_)
  match a with
  | ⟨0, _⟩ => show win1_0.index t (0 : Fin 3) * 2 + 1 * k.val = k.val; rw [e0]; omega
  | ⟨1, _⟩ => show win1_0.index t (1 : Fin 3) * 16 + 1 * p.val = p.val; rw [e1]; omega
  | ⟨2, _⟩ => show win1_0.index t (2 : Fin 3) * 44 + 1 * q.val = q.val; rw [e2]; omega

/-- The point's block of the codes. -/
theorem iblk1 (c : Dev nD) (t : Fin cfg1.N) (d : Fin 2048) (r : Fin 512) (k : Fin 2) (f : Fin 5632) (hk : k.val = t.val % 2) (hf : f.val = 512 * (t.val / 2) + r.val) :
    blk1 V c t (ix3 0 d r) = src1 V c (ix3 k d f) := by
  obtain ⟨e0, e1, e2⟩ := idx1 t
  refine congrArg (src1 V c) (funext fun a => Fin.ext ?_)
  match a with
  | ⟨0, _⟩ => show win1_1.index t (0 : Fin 3) * 1 + 1 * 0 = k.val; rw [e0]; omega
  | ⟨1, _⟩ => show win1_1.index t (1 : Fin 3) * 2048 + 1 * d.val = d.val; rw [e1]; omega
  | ⟨2, _⟩ => show win1_1.index t (2 : Fin 3) * 512 + 1 * r.val = f.val; rw [e2]; omega

/-- One weight, dequantised: the gate's for `k = 0`, the up projection's for `k = 1`. -/
def wgu (c : Dev nD) (k : Fin 2) (d : Fin 2048) (f : Fin 5632) : EReal :=
  (src1 V c (ix3 k d f) : EReal) * src0 V c (ix3 k ⟨d.val / 128, by have := d.isLt; omega⟩ ⟨f.val / 128, by have := f.isLt; omega⟩)

/-- The half a row of the region's array belongs to, and its hidden unit: rows go by tiles of 512 units, in each tile
    first the gate's rows, then the up projection's. -/
def halfOf (y : Fin 11264) : Fin 2 := ⟨y.val / 512 % 2, Nat.mod_lt _ (by decide)⟩
def unitOf (y : Fin 11264) : Fin 5632 := ⟨512 * (y.val / 1024) + y.val % 512, by have := y.isLt; omega⟩

/-- What the region leaves: the dequantised weights, transposed. -/
def G (c : Dev nD) : Vec Ideal S11264x2048 .bf16 := fun y => wgu V c (halfOf (y 0)) (y 1) (unitOf (y 0))

theorem B_apply (c : Dev nD) (t : Fin cfg1.N) (r : Fin 512) (d : Fin 2048) (k : Fin 2) (f : Fin 5632) (hk : k.val = t.val % 2) (hf : f.val = 512 * (t.val / 2) + r.val) :
    B (grid1.coords t) (blk0 V c t) (blk1 V c t) (ix2 r d) = wgu V c k d f := by
  obtain ⟨e, e'⟩ := coord t
  have hr := r.isLt
  show (blk1 V c t (ix3 0 d r) : EReal) * blk0 V c t (ix3 _ _ _) = _
  rw [iblk0 V c t, iblk1 V c t d r k f hk hf]
  refine congrArg ((src1 V c (ix3 k d f) : EReal) * ·) (congrArg (src0 V c) ?_)
  funext a; apply Fin.ext
  match a with
  | ⟨0, _⟩ => show (grid1.coords t 1).val = k.val; omega
  | ⟨1, _⟩ => rfl
  | ⟨2, _⟩ => show 4 * (grid1.coords t 0).val + r.val / 128 = f.val / 128; omega

/-- What a point writes back is its block of the transposed weights. -/
theorem flushed_eq (c : Dev nD) (t : Fin cfg1.N) :
    (dat V c).flushed 2 t = ((cfg1.win 2).blk t).view.read (Elt Ideal) (G V c) := by
  show (cfg1.win 2).cut (grid1.coords t) ((dat V c).after 2 t) = _
  rw [after0_2]
  unfold outsAt0
  rw [out_eq]
  generalize hw : B _ _ _ = w
  have hN : t.val < 22 := lt_of_lt_of_eq t.isLt (show cfg1.N = 22 from N_1)
  obtain ⟨e0, e1⟩ := idx2 t
  funext y
  have hy0 : (y 0).val < 512 := (y 0).isLt
  have hy1 : (y 1).val < 2048 := (y 1).isLt
  have hemb : ((cfg1.win 2).blk t).view.emb y = (ix2 ⟨512 * t.val + (y 0).val, by omega⟩ ⟨(y 1).val, hy1⟩ : S11264x2048.Idx) := by
    funext a; apply Fin.ext
    match a with
    | ⟨0, _⟩ => show win1_2.index t (0 : Fin 2) * 512 + 1 * (y 0).val = 512 * t.val + (y 0).val; rw [e0]; omega
    | ⟨1, _⟩ => show win1_2.index t (1 : Fin 2) * 2048 + 1 * (y 1).val = (y 1).val; rw [e1]; omega
  have hx : (cfg1.win 2).xinj (grid1.coords t) y = (ix2 ⟨(y 0).val, hy0⟩ ⟨(y 1).val, hy1⟩ : S512x2048.Idx) := by
    funext a; apply Fin.ext
    match a with
    | ⟨0, _⟩ => rfl
    | ⟨1, _⟩ => rfl
  have hl : (cfg1.win 2).cut (grid1.coords t) w y = w ((cfg1.win 2).xinj (grid1.coords t) y) := rfl
  have hr : ∀ f : Vec Ideal S11264x2048 .bf16, ((cfg1.win 2).blk t).view.read (Elt Ideal) f y = f (((cfg1.win 2).blk t).view.emb y) := fun _ => rfl
  rw [hl, hr, hemb, hx, ← hw]
  refine B_apply V c t _ _ _ _ ?_ ?_
  · show (512 * t.val + (y 0).val) / 512 % 2 = t.val % 2; omega
  · show 512 * ((512 * t.val + (y 0).val) / 1024) + (512 * t.val + (y 0).val) % 512 = 512 * (t.val / 2) + (y 0).val; omega

/-- An index of the array is in a point's block iff each coordinate is in the block's range. -/
theorem mem_blk (t : Fin cfg1.N) (i : S11264x2048.Idx) :
    i ∈ ((cfg1.win 2).blk t).view.set ↔ ∀ a : Fin 2, win1_2.index t a * S512x2048.size a ≤ (i a).val ∧ (i a).val < win1_2.index t a * S512x2048.size a + S512x2048.size a := by
  show i ∈ ((View.whole main_v7).slice (win1_2.rect t)).set ↔ _
  rw [View.set_slice_whole, Rect.mem_set_unit]
  exact Iff.rfl

/-- The transposed weights after the region. -/
theorem final (c : Dev nD) : (dat V c).arrAt 2 cfg1.N = G V c :=
  (dat V c).arrAt_eq_of_cover 2 (G V c) (fun t _ => flushed_eq V c t) (fun i => by
    have h0 : (i 0).val < 11264 := (i 0).isLt
    have h1 : (i 1).val < 2048 := (i 1).isLt
    have hN : cfg1.N = 22 := N_1
    let t : Fin cfg1.N := ⟨(i 0).val / 512, by omega⟩
    have ht : t.val = (i 0).val / 512 := rfl
    obtain ⟨e0, e1⟩ := idx2 t
    refine ⟨t, flush1_2 t, ?_⟩
    rw [mem_blk]
    intro a
    match a with
    | ⟨0, _⟩ => show win1_2.index t (0 : Fin 2) * 512 ≤ (i 0).val ∧ (i 0).val < win1_2.index t (0 : Fin 2) * 512 + 512; rw [e0]; omega
    | ⟨1, _⟩ => show win1_2.index t (1 : Fin 2) * 2048 ≤ (i 1).val ∧ (i 1).val < win1_2.index t (1 : Fin 2) * 2048 + 2048; rw [e1]; omega)

end Cert.KernelIdeal.R1

end
-- ==== Proof.KernelOperands.lean ====
/- The kernel's dequantised operands: what its first two regions and its two token regions leave, in terms of the
   arguments. -/
module

public import proofs.«01_k».proof.Proof.KernelRun
public import proofs.«01_k».proof.Proof.HostReads
public import proofs.«01_k».proof.Proof.Forms
public import proofs.«01_k».proof.Proof.R0.Value
public import proofs.«01_k».proof.Proof.R1.Value

@[expose] public section

set_option maxRecDepth 16384

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL.Sem
open Cert.Forms

variable (m : (ℓ : Loc nD τ sig) → Buf (Elt Ideal) ℓ) (c : Dev nD)

/-! ## The arguments -/

abbrev in0 : Vec Ideal S6x8192x2048 .fp8e4m3 := m ((c : Thread nD τ).loc main_arg0)
abbrev in1 : Vec Ideal S6x8192x16 .f32 := m ((c : Thread nD τ).loc main_arg1)
abbrev in2 : Vec Ideal S6x8192x2048 .fp8e5m2 := m ((c : Thread nD τ).loc main_arg2)
abbrev in3 : Vec Ideal S6x8192x16 .f32 := m ((c : Thread nD τ).loc main_arg3)
abbrev in4 : Vec Ideal S6x8192x2x5632 .fp8e4m3 := m ((c : Thread nD τ).loc main_arg4)
abbrev in5 : Vec Ideal S6x8192x2x44 .f32 := m ((c : Thread nD τ).loc main_arg5)
abbrev in6 : Vec Ideal S2048x2x5632 .fp8e4m3 := m ((c : Thread nD τ).loc main_arg6)
abbrev in7 : Vec Ideal S16x2x44 .f32 := m ((c : Thread nD τ).loc main_arg7)
abbrev in8 : Vec Ideal S5632x2048 .fp8e4m3 := m ((c : Thread nD τ).loc main_arg8)
abbrev in9 : Vec Ideal S44x16 .f32 := m ((c : Thread nD τ).loc main_arg9)

/-- The arguments at their coordinates. -/
def args : Args where
  x b s d := in0 m c (ix3 b s d)
  xs b s q := in1 m c (ix3 b s q)
  dy b s d := in2 m c (ix3 b s d)
  dys b s q := in3 m c (ix3 b s q)
  gu b s h f := in4 m c (ix4 b s h f)
  gus b s h q := in5 m c (ix4 b s h q)
  wgu d h f := in6 m c (ix3 d h f)
  wgus k h q := in7 m c (ix3 k h q)
  wd f d := in8 m c (ix2 f d)
  wds q k := in9 m c (ix2 q k)

/-- An argument is still as launched before region 1, and before region 2. -/
theorem arg_at2 (o : Outs (F := Ideal)) (r : Ref sig .tc) (h0 : r ∉ hostOps0_W) (h1 : r ∉ ([main_v2] : List (Ref sig .tc))) :
    V2 m o c r = m ((c : Thread nD τ).loc r) := (V2_of m o c r h1).trans (V1_of m c r h0)
theorem arg_at4 (o : Outs (F := Ideal)) (r : Ref sig .tc) (h0 : r ∉ hostOps0_W) (h1 : r ∉ ([main_v2] : List (Ref sig .tc))) (h2 : r ∉ hostOps1_W) (h3 : r ∉ ([main_v7] : List (Ref sig .tc))) :
    V4 m o c r = m ((c : Thread nD τ).loc r) := (V4_of m o c r h3).trans ((V3_of m o c r h2).trans (arg_at2 m c o r h0 h1))

/-! ## The down weights -/

theorem wd_eq (f : Fin 5632) (d : Fin 2048) : R0.wd (at' (V1 m)) c f d = wdv (args m c) f d := by
  have h1 : R0.src1 (at' (V1 m)) c (ix2 f d) = (args m c).wd f d := congrFun (V1_of m c main_arg8 (by decide)) _
  have h0 : R0.src0 (at' (V1 m)) c (ix2 (fblk f) (dblk d)) = (args m c).wds (fblk f) (dblk d) := Host.v1_apply (V0 m c) _
  exact congrArg₂ (fun a b : EReal => a * b) h1 h0

/-- The dequantised down weights, as regions after the first find them. -/
theorem v2_eq : V2 m (outs m) c (Proc.devRef .tc main_v2) = R0.G (at' (V1 m)) c :=
  (congrFun (after0 m c) (Proc.devRef .tc main_v2)).symm.trans
    ((Pipeline.afterRegion_arr _ _ launch0.win.arr_inj 2).trans (R0.final (at' (V1 m)) c))

theorem v2_at5 (d : Fin 2048) (f : Fin 5632) :
    (V5 m (outs m) c (Proc.devRef .tc main_v2) (ix2 d f : S2048x5632.Idx) : EReal) = wdv (args m c) f d := by
  have h : V5 m (outs m) c (Proc.devRef .tc main_v2) = R0.G (at' (V1 m)) c :=
    (V5_of m (outs m) c main_v2 (by decide)).trans ((V4_of m (outs m) c main_v2 (by decide)).trans
      ((V3_of m (outs m) c main_v2 (by decide)).trans (v2_eq m c)))
  exact (congrFun h _).trans (wd_eq m c f d)

/-! ## The gate/up weights -/

theorem wgu_eq (k : Fin 2) (d : Fin 2048) (f : Fin 5632) : R1.wgu (at' (V3 m (outs m))) c k d f = wguv (args m c) d k f := by
  have h1 : R1.src1 (at' (V3 m (outs m))) c (ix3 k d f) = (args m c).wgu d k f :=
    (Host.v3_apply (V2 m (outs m) c) k d f).trans (congrFun (arg_at2 m c (outs m) main_arg6 (by decide) (by decide)) _)
  have h0 : R1.src0 (at' (V3 m (outs m))) c (ix3 k (dblk d) (fblk f)) = (args m c).wgus (dblk d) k (fblk f) :=
    (Host.v6_apply (V2 m (outs m) c) k _ _).trans (congrFun (arg_at2 m c (outs m) main_arg7 (by decide) (by decide)) _)
  exact congrArg₂ (fun a b : EReal => a * b) h1 h0

theorem v7_eq : V4 m (outs m) c (Proc.devRef .tc main_v7) = R1.G (at' (V3 m (outs m))) c :=
  (congrFun (after1 m c) (Proc.devRef .tc main_v7)).symm.trans
    ((Pipeline.afterRegion_arr _ _ launch1.win.arr_inj 2).trans (R1.final (at' (V3 m (outs m))) c))

theorem v7_at5 (y : Fin 11264) (d : Fin 2048) :
    (V5 m (outs m) c (Proc.devRef .tc main_v7) (ix2 y d : S11264x2048.Idx) : EReal) = wguv (args m c) d (R1.halfOf y) (R1.unitOf y) := by
  have h : V5 m (outs m) c (Proc.devRef .tc main_v7) = R1.G (at' (V3 m (outs m))) c :=
    (V5_of m (outs m) c main_v7 (by decide)).trans (v7_eq m c)
  exact (congrFun h _).trans (wgu_eq m c (R1.halfOf y) d (R1.unitOf y))

/-! ## The tokens' codes and scales, before region 2 -/

theorem tok_split (n : Fin 49152) : n.val = 8192 * (bat n).val + (pos n).val := (Nat.div_add_mod n.val 8192).symm

theorem v13_at5 (n : Fin 49152) (d : Fin 2048) :
    (V5 m (outs m) c (Proc.devRef .tc main_v13) (ix2 n d : S49152x2048.Idx) : EReal) = (args m c).x (bat n) (pos n) d :=
  (Host.v13_apply (V4 m (outs m) c) n d _ _ (tok_split n)).trans (congrFun (arg_at4 m c (outs m) main_arg0 (by decide) (by decide) (by decide) (by decide)) _)

theorem v14_at5 (n : Fin 49152) (d : Fin 2048) :
    (V5 m (outs m) c (Proc.devRef .tc main_v14) (ix2 n d : S49152x2048.Idx) : EReal) = (args m c).dy (bat n) (pos n) d :=
  (Host.v14_apply (V4 m (outs m) c) n d _ _ (tok_split n)).trans (congrFun (arg_at4 m c (outs m) main_arg2 (by decide) (by decide) (by decide) (by decide)) _)

theorem v8_at5 (b : Fin 6) (q : Fin 16) (s : Fin 8192) :
    (V5 m (outs m) c (Proc.devRef .tc main_v8) (ix3 b q s : S6x16x8192.Idx) : EReal) = (args m c).xs b s q :=
  (Host.v8_apply (V4 m (outs m) c) b q s).trans (congrFun (arg_at4 m c (outs m) main_arg1 (by decide) (by decide) (by decide) (by decide)) _)

theorem v9_at5 (b : Fin 6) (q : Fin 16) (s : Fin 8192) :
    (V5 m (outs m) c (Proc.devRef .tc main_v9) (ix3 b q s : S6x16x8192.Idx) : EReal) = (args m c).dys b s q :=
  (Host.v9_apply (V4 m (outs m) c) b q s).trans (congrFun (arg_at4 m c (outs m) main_arg3 (by decide) (by decide) (by decide) (by decide)) _)

theorem v12_at5 (b : Fin 6) (h : Fin 2) (s : Fin 8192) (f : Fin 5632) :
    (V5 m (outs m) c (Proc.devRef .tc main_v12) (ix4 b h s f : S6x2x8192x5632.Idx) : EReal) = (args m c).gu b s h f :=
  (Host.v12_apply (V4 m (outs m) c) b h s f).trans (congrFun (arg_at4 m c (outs m) main_arg4 (by decide) (by decide) (by decide) (by decide)) _)

theorem v11_at5 (b : Fin 6) (j : Fin 11) (y : Fin 8) (s : Fin 8192) (h : Fin 2) (q : Fin 44) (hy : 8 * j.val + y.val = 2 * q.val + h.val) :
    (V5 m (outs m) c (Proc.devRef .tc main_v11) (ix4 b j y s : S6x11x8x8192.Idx) : EReal) = (args m c).gus b s h q :=
  (Host.v11_apply (V4 m (outs m) c) b j y s h q hy).trans (congrFun (arg_at4 m c (outs m) main_arg5 (by decide) (by decide) (by decide) (by decide)) _)

end Cert.KernelIdeal.Run

end
-- ==== Proof.R2.Tile.lean ====
/- Region 2 of the kernel at the extended reals, one point's tile: what each store of the body writes, as a part of the
   point's blocks. -/
module

public import proofs.«01_k».proof.Proof.R2.Frame
public import proofs.«01_k».proof.Proof.Swiglu
public import Idealize.ShloMosaic.Lib.Pipeline.Value
public import Idealize.ShloMosaic.Lib.ValueIdx
public import Idealize.ShloMosaic.Lib.MatmulPlain
public import Idealize.ShloMosaic.Lib.IdealHost

@[expose] public section

set_option maxRecDepth 16384

noncomputable section

namespace Cert.KernelIdeal.R2

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)
open scoped BigOperators

theorem hz : (![0, 0] : Fin 2 → ℕ) = fun _ => 0 := by funext a; fin_cases a <;> rfl
theorem hz3 : (![0, 0, 0] : Fin 3 → ℕ) = fun _ => 0 := by funext a; fin_cases a <;> rfl
theorem hz4 : (![0, 0, 0, 0] : Fin 4 → ℕ) = fun _ => 0 := by funext a; fin_cases a <;> rfl

/-- A load of a whole buffer's contents is the load of its value. -/
theorem rd {S : Shape} {e : EltTy} (a : Memref sig .tc .vmem S e) (h : a.IsWhole) (x : Vec Ideal S e) (r : Rect S) :
    View.readAt (Elt Ideal) a.view r.toLoadRect (h.unread x) = View.ld x r := by
  rw [View.readAt_eq_ld, h.read_unread]

/-- A load of all of it is the value. -/
theorem rdw {S : Shape} {e : EltTy} (a : Memref sig .tc .vmem S e) (h : a.IsWhole) (x : Vec Ideal S e) {off : Fin S.rank → ℕ}
    (ho : off = fun _ => 0) (inb : ∀ a, off a + S.size a ≤ S.size a) :
    View.readAt (Elt Ideal) a.view (Rect.unit off S.size inb).toLoadRect (h.unread x) = x := by
  rw [rd, View.ld_unit_zero ho]

/-! ## The dequantised gate or up block -/

/-- A block of codes times its column of scales. -/
def gT (s : FVec Ideal S1024x8 .f32) (b : Vec Ideal S1x1x256x128 .fp8e4m3) (p m : ℕ) (hs : S1024x8.Slices ![p, m] S256x1) : FVec Ideal S256x128 .f32 :=
  extf .f32 (mulf (extf .bf16 (shapeCast S256x128 b shapeCasts_S1x1x256x128_S256x128) bitsLt_fp8e4m3_bf16)
    (broadcastTo S256x128 (truncf .bf16 (extractStridedSlice S256x1 ![p, m] s hs) bitsLt_bf16_f32) broadcasts_S256x1_S256x128)) bitsLt_bf16_f32

theorem pay27_apply (v : Vec Ideal S1x1x8x1024 .f32) (r : Fin 1024) (m : Fin 8) : k2_pay27 v (ix2 r m) = v (ix4 0 0 m r) := by
  unfold k2_pay27
  refine (transpose_apply _ _ _ _ (ix2 m r : S8x1024.Idx) (by intro a; fin_cases a <;> rfl)).trans ?_
  refine shapeCast_apply v _ _ (ix4 0 0 m r) ?_
  refine (Shape.rowMajor_val_four _).trans (Eq.trans ?_ (Shape.rowMajor_val_two _).symm)
  show ((0 * 1 + 0) * 8 + m.val) * 1024 + r.val = m.val * 1024 + r.val
  omega

theorem gT_apply (v : Vec Ideal S1x1x8x1024 .f32) (b : Vec Ideal S1x1x256x128 .fp8e4m3) (p m : ℕ) (hs : S1024x8.Slices ![p, m] S256x1)
    (x : S256x128.Idx) (r : Fin 1024) (k : Fin 8) (hr : r.val = p + (x 0).val) (hk : k.val = m) :
    gT (k2_pay27 v) b p m hs x = (b (ix4 0 0 (x 0) (x 1)) : EReal) * v (ix4 0 0 k r) := by
  have e1 : shapeCast S256x128 b shapeCasts_S1x1x256x128_S256x128 x = b (ix4 0 0 (x 0) (x 1)) := by
    refine shapeCast_apply b _ _ (ix4 0 0 (x 0) (x 1)) ?_
    refine (Shape.rowMajor_val_four _).trans (Eq.trans ?_ (Shape.rowMajor_val_two _).symm)
    show ((0 * 1 + 0) * 256 + (x 0).val) * 128 + (x 1).val = (x 0).val * 128 + (x 1).val
    omega
  have e2 : extractStridedSlice S256x1 ![p, m] (k2_pay27 v) hs (ix2 (x 0) 0 : S256x1.Idx) = v (ix4 0 0 k r) := by
    refine (extractStridedSlice_apply _ _ _ _ (ix2 r k : S1024x8.Idx) ?_).trans (pay27_apply v r k)
    intro a
    match a with
    | ⟨0, _⟩ => exact hr
    | ⟨1, _⟩ => exact hk
  unfold gT
  rw [extf_apply, mulf_apply, extf_apply, e1]
  refine congrArg (fun z : EReal => (b (ix4 0 0 (x 0) (x 1)) : EReal) * z) ?_
  refine (broadcastTo_apply _ _ x (ix2 (x 0) 0 : S256x1.Idx) (by intro a; fin_cases a <;> rfl)).trans ?_
  rw [truncf_apply]
  exact e2

/-- The gate (half 0) or up (half 1) value of the point's block at a token and a unit. -/
def gB (x2 : Vec Ideal S1x2x1024x512 .fp8e4m3) (x3 : Vec Ideal S1x1x8x1024 .f32) (h : Fin 2) (r : Fin 1024) (c : Fin 512) : EReal :=
  (x2 (ix4 0 h r c) : EReal) * x3 (ix4 0 0 ⟨2 * (c.val / 128) + h.val, by have := c.isLt; have := h.isLt; omega⟩ r)

theorem gT_at (x2 : Vec Ideal S1x2x1024x512 .fp8e4m3) (x3 : Vec Ideal S1x1x8x1024 .f32) (p q m h : ℕ) (hs : S1024x8.Slices ![p, m] S256x1)
    (inb : ∀ a, (![0, h, p, q] : Fin 4 → ℕ) a + (![1, 1, 256, 128] : Fin 4 → ℕ) a ≤ S1x2x1024x512.size a)
    (hq : q % 128 = 0) (hm : m = 2 * (q / 128) + h) (x : S256x128.Idx) (k : Fin 2) (r : Fin 1024) (c : Fin 512)
    (hk : k.val = h) (hr : r.val = p + (x 0).val) (hc : c.val = q + (x 1).val) :
    gT (k2_pay27 x3) (View.ld x2 (Rect.unit (s := S1x2x1024x512) ![0, h, p, q] ![1, 1, 256, 128] inb)) p m hs x = gB x2 x3 k r c := by
  have hx1 : (x 1).val < 128 := (x 1).isLt
  rw [gT_apply x3 _ p m hs x r ⟨2 * (c.val / 128) + k.val, by have := c.isLt; have := k.isLt; omega⟩ hr (by show 2 * (c.val / 128) + k.val = m; omega)]
  unfold gB
  congr 1
  refine congrArg x2 (funext fun a => Fin.ext ?_)
  match a with
  | ⟨0, _⟩ => rfl
  | ⟨1, _⟩ => show h + 1 * 0 = k.val; omega
  | ⟨2, _⟩ => show p + 1 * (x 0).val = r.val; omega
  | ⟨3, _⟩ => show q + 1 * (x 1).val = c.val; omega

/-! ## The hidden activation's stores -/

/-- A tile of hidden activations. -/
def hbT (g u : FVec Ideal S256x128 .f32) : FVec Ideal S256x128 .bf16 := truncf .bf16 (mulf (mulf g (logistic g)) u) bitsLt_bf16_f32

theorem hbT_apply (g u : FVec Ideal S256x128 .f32) (x : S256x128.Idx) : hbT g u x = Swiglu.hid (g x) (u x) := rfl

/-- The point's block of hidden activations. -/
def hbB (x2 : Vec Ideal S1x2x1024x512 .fp8e4m3) (x3 : Vec Ideal S1x1x8x1024 .f32) : Vec Ideal S1024x512 .bf16 :=
  fun y => Swiglu.hid (gB x2 x3 0 (y 0) (y 1)) (gB x2 x3 1 (y 0) (y 1))

theorem hb_piece (x2 : Vec Ideal S1x2x1024x512 .fp8e4m3) (x3 : Vec Ideal S1x1x8x1024 .f32) (p q : ℕ)
    (w : FVec Ideal S256x128 .bf16) (s3 : Vec Ideal S1x1x8x1024 .f32) (b0 b1 : Vec Ideal S1x1x256x128 .fp8e4m3)
    (hs0 : S1024x8.Slices ![p, 2 * (q / 128)] S256x1) (hs1 : S1024x8.Slices ![p, 2 * (q / 128) + 1] S256x1)
    (inb0 : ∀ a, (![0, 0, p, q] : Fin 4 → ℕ) a + (![1, 1, 256, 128] : Fin 4 → ℕ) a ≤ S1x2x1024x512.size a)
    (inb1 : ∀ a, (![0, 1, p, q] : Fin 4 → ℕ) a + (![1, 1, 256, 128] : Fin 4 → ℕ) a ≤ S1x2x1024x512.size a)
    (inb3 : ∀ a, (![p, q] : Fin 2 → ℕ) a + (![256, 128] : Fin 2 → ℕ) a ≤ S1024x512.size a)
    (hw : w = hbT (gT (k2_pay27 s3) b0 p (2 * (q / 128)) hs0) (gT (k2_pay27 s3) b1 p (2 * (q / 128) + 1) hs1))
    (h3 : s3 = x3) (h0 : b0 = View.ld x2 (Rect.unit (s := S1x2x1024x512) ![0, 0, p, q] ![1, 1, 256, 128] inb0))
    (h1 : b1 = View.ld x2 (Rect.unit (s := S1x2x1024x512) ![0, 1, p, q] ![1, 1, 256, 128] inb1))
    (hq : q % 128 = 0) (x : S256x128.Idx) :
    w x = hbB x2 x3 ((Rect.unit (s := S1024x512) ![p, q] ![256, 128] inb3).emb x) := by
  subst hw h3 h0 h1
  rw [hbT_apply]
  have hr : ((Rect.unit (s := S1024x512) ![p, q] ![256, 128] inb3).emb x 0).val = p + (x 0).val := by
    show p + 1 * (x 0).val = _; omega
  have hc : ((Rect.unit (s := S1024x512) ![p, q] ![256, 128] inb3).emb x 1).val = q + (x 1).val := by
    show q + 1 * (x 1).val = _; omega
  rw [gT_at x2 s3 p q _ 0 hs0 inb0 hq rfl x 0 _ _ rfl hr hc, gT_at x2 s3 p q _ 1 hs1 inb1 hq rfl x 1 _ _ rfl hr hc]
  rfl

/-! ## The gradient's stores -/

/-- A tile of gate gradients. -/
def dgT (dh g u : FVec Ideal S256x128 .f32) : FVec Ideal S256x128 .bf16 :=
  truncf .bf16 (mulf (mulf (mulf dh u) (logistic g)) (addf (broadcast S256x128 (Scalar.ofBits .f32 0x3F800000#32))
    (mulf g (subf (broadcast S256x128 (Scalar.ofBits .f32 0x3F800000#32)) (logistic g))))) bitsLt_bf16_f32
/-- A tile of up gradients. -/
def duT (dh g : FVec Ideal S256x128 .f32) : FVec Ideal S256x128 .bf16 := truncf .bf16 (mulf dh (mulf g (logistic g))) bitsLt_bf16_f32

theorem dgT_apply (dh g u : FVec Ideal S256x128 .f32) (x : S256x128.Idx) : dgT dh g u x = Swiglu.dgate (dh x) (g x) (u x) := by
  show (dh x * u x * Ideal.logistic (g x) * ((FloatOps.ofBits (F := Ideal) .f32 0x3F800000#32 : EReal) + g x * ((FloatOps.ofBits (F := Ideal) .f32 0x3F800000#32 : EReal) - Ideal.logistic (g x))) : EReal) = _
  rw [show (FloatOps.ofBits (F := Ideal) .f32 0x3F800000#32 : EReal) = 1 from Ideal.ofBits_one_f32]
  rfl
theorem duT_apply (dh g : FVec Ideal S256x128 .f32) (x : S256x128.Idx) : duT dh g x = Swiglu.dup (dh x) (g x) := rfl

/-- The gradient of the hidden activation at a token and a unit of the point's tile. -/
def dhB (D : Vec Ideal S1024x2048 .bf16) (x4 : Vec Ideal S2048x512 .bf16) (r : Fin 1024) (c : Fin 512) : EReal :=
  ∑ d : Fin 2048, D (ix2 r d) * x4 (ix2 d c)

theorem pay28_apply (a : Vec Ideal S256x2048 .bf16) (w : Vec Ideal S2048x512 .bf16) (r : Fin 256) (c : Fin 512) :
    k2_pay28 a w (ix2 r c) = ∑ d : Fin 2048, a (ix2 r d) * w (ix2 d c) := by
  unfold k2_pay28
  simp only [shapeCast_self]
  refine (Ideal.matmul_plain_apply (M := 256) (K := 2048) (N := 512) _ a w _ r c).trans ?_
  rw [constant_apply, Ideal.ofBits_zero_f32, zero_add]

/-- The rows of `D` a group of tokens reads. -/
def Rows (D : Vec Ideal S1024x2048 .bf16) (p : ℕ) (a : Vec Ideal S256x2048 .bf16) : Prop :=
  ∀ (k : Fin 256) (d : Fin 2048) (r : Fin 1024), r.val = p + k.val → a (ix2 k d) = D (ix2 r d)

theorem dh_at (D : Vec Ideal S1024x2048 .bf16) (x4 : Vec Ideal S2048x512 .bf16) (p q : ℕ) (a : Vec Ideal S256x2048 .bf16) (ha : Rows D p a)
    (hs : S256x512.Slices ![0, q] S256x128) (x : S256x128.Idx) (r : Fin 1024) (c : Fin 512) (hr : r.val = p + (x 0).val) (hc : c.val = q + (x 1).val) :
    extractStridedSlice S256x128 ![0, q] (k2_pay28 a x4) hs x = dhB D x4 r c := by
  refine (extractStridedSlice_apply _ _ _ _ (ix2 (x 0) c : S256x512.Idx) ?_).trans ?_
  · intro b
    match b with
    | ⟨0, _⟩ => show (x 0).val = 0 + (x 0).val; omega
    | ⟨1, _⟩ => exact hc
  · refine (pay28_apply a x4 (x 0) c).trans (Finset.sum_congr rfl fun d _ => ?_)
    exact congrArg (fun z : EReal => z * (x4 (ix2 d c) : EReal)) (ha (x 0) d r hr)

/-- The half and the unit of a column of the gradient's block. -/
def half (c : Fin 1024) : Fin 2 := ⟨c.val / 512, by have := c.isLt; omega⟩
def unit (c : Fin 1024) : Fin 512 := ⟨c.val % 512, Nat.mod_lt _ (by decide)⟩

/-- The point's block of gradients: the gate's in the first half of the columns, the up's in the second. -/
def dguB (D : Vec Ideal S1024x2048 .bf16) (x2 : Vec Ideal S1x2x1024x512 .fp8e4m3) (x3 : Vec Ideal S1x1x8x1024 .f32) (x4 : Vec Ideal S2048x512 .bf16) : Vec Ideal S1024x1024 .bf16 :=
  fun y => Swiglu.dact (half (y 1)) (dhB D x4 (y 0) (unit (y 1))) (gB x2 x3 0 (y 0) (unit (y 1))) (gB x2 x3 1 (y 0) (unit (y 1)))

theorem dg_piece (D : Vec Ideal S1024x2048 .bf16) (x2 : Vec Ideal S1x2x1024x512 .fp8e4m3) (x3 : Vec Ideal S1x1x8x1024 .f32) (x4 : Vec Ideal S2048x512 .bf16) (p q : ℕ)
    (w : FVec Ideal S256x128 .bf16) (s3 : Vec Ideal S1x1x8x1024 .f32) (b0 b1 : Vec Ideal S1x1x256x128 .fp8e4m3) (a : Vec Ideal S256x2048 .bf16) (w4 : Vec Ideal S2048x512 .bf16)
    (hs0 : S1024x8.Slices ![p, 2 * (q / 128)] S256x1) (hs1 : S1024x8.Slices ![p, 2 * (q / 128) + 1] S256x1) (hs : S256x512.Slices ![0, q] S256x128)
    (inb0 : ∀ a, (![0, 0, p, q] : Fin 4 → ℕ) a + (![1, 1, 256, 128] : Fin 4 → ℕ) a ≤ S1x2x1024x512.size a)
    (inb1 : ∀ a, (![0, 1, p, q] : Fin 4 → ℕ) a + (![1, 1, 256, 128] : Fin 4 → ℕ) a ≤ S1x2x1024x512.size a)
    (inb3 : ∀ a, (![p, q] : Fin 2 → ℕ) a + (![256, 128] : Fin 2 → ℕ) a ≤ S1024x1024.size a)
    (hw : w = dgT (extractStridedSlice S256x128 ![0, q] (k2_pay28 a w4) hs) (gT (k2_pay27 s3) b0 p (2 * (q / 128)) hs0) (gT (k2_pay27 s3) b1 p (2 * (q / 128) + 1) hs1))
    (h3 : s3 = x3) (h0 : b0 = View.ld x2 (Rect.unit (s := S1x2x1024x512) ![0, 0, p, q] ![1, 1, 256, 128] inb0))
    (h1 : b1 = View.ld x2 (Rect.unit (s := S1x2x1024x512) ![0, 1, p, q] ![1, 1, 256, 128] inb1))
    (h4 : w4 = x4) (ha : Rows D p a)
    (hq : q % 128 = 0) (hq2 : q < 512) (x : S256x128.Idx) :
    w x = dguB D x2 x3 x4 ((Rect.unit (s := S1024x1024) ![p, q] ![256, 128] inb3).emb x) := by
  subst hw h3 h0 h1 h4
  have hx1 : (x 1).val < 128 := (x 1).isLt
  rw [dgT_apply]
  generalize hy : (Rect.unit (s := S1024x1024) ![p, q] ![256, 128] inb3).emb x = y
  have hr : (y 0).val = p + (x 0).val := by
    rw [← hy]; show p + 1 * (x 0).val = _; omega
  have hc' : (y 1).val = q + (x 1).val := by
    rw [← hy]; show q + 1 * (x 1).val = _; omega
  have hc : (unit (y 1)).val = q + (x 1).val := by
    show (y 1).val % 512 = _; omega
  rw [gT_at x2 s3 p q _ 0 hs0 inb0 hq rfl x 0 _ _ rfl hr hc, gT_at x2 s3 p q _ 1 hs1 inb1 hq rfl x 1 _ _ rfl hr hc, dh_at D w4 p q a ha hs x _ _ hr hc]
  show _ = Swiglu.dact _ _ _ _
  unfold Swiglu.dact
  rw [if_pos (show (half (y 1)).val = 0 by show (y 1).val / 512 = 0; omega)]

theorem du_piece (D : Vec Ideal S1024x2048 .bf16) (x2 : Vec Ideal S1x2x1024x512 .fp8e4m3) (x3 : Vec Ideal S1x1x8x1024 .f32) (x4 : Vec Ideal S2048x512 .bf16) (p q2 : ℕ)
    (w : FVec Ideal S256x128 .bf16) (s3 : Vec Ideal S1x1x8x1024 .f32) (b0 : Vec Ideal S1x1x256x128 .fp8e4m3) (a : Vec Ideal S256x2048 .bf16) (w4 : Vec Ideal S2048x512 .bf16)
    (hs0 : S1024x8.Slices ![p, 2 * ((q2 - 512) / 128)] S256x1) (hs : S256x512.Slices ![0, q2 - 512] S256x128)
    (inb0 : ∀ a, (![0, 0, p, q2 - 512] : Fin 4 → ℕ) a + (![1, 1, 256, 128] : Fin 4 → ℕ) a ≤ S1x2x1024x512.size a)
    (inb3 : ∀ a, (![p, q2] : Fin 2 → ℕ) a + (![256, 128] : Fin 2 → ℕ) a ≤ S1024x1024.size a)
    (hw : w = duT (extractStridedSlice S256x128 ![0, q2 - 512] (k2_pay28 a w4) hs) (gT (k2_pay27 s3) b0 p (2 * ((q2 - 512) / 128)) hs0))
    (h3 : s3 = x3) (h0 : b0 = View.ld x2 (Rect.unit (s := S1x2x1024x512) ![0, 0, p, q2 - 512] ![1, 1, 256, 128] inb0))
    (h4 : w4 = x4) (ha : Rows D p a)
    (hq : q2 % 128 = 0) (hq2 : 512 ≤ q2) (x : S256x128.Idx) :
    w x = dguB D x2 x3 x4 ((Rect.unit (s := S1024x1024) ![p, q2] ![256, 128] inb3).emb x) := by
  subst hw h3 h0 h4
  have hx1 : (x 1).val < 128 := (x 1).isLt
  have hin : q2 + 128 ≤ 1024 := inb3 1
  rw [duT_apply]
  generalize hy : (Rect.unit (s := S1024x1024) ![p, q2] ![256, 128] inb3).emb x = y
  have hr : (y 0).val = p + (x 0).val := by
    rw [← hy]; show p + 1 * (x 0).val = _; omega
  have hc' : (y 1).val = q2 + (x 1).val := by
    rw [← hy]; show q2 + 1 * (x 1).val = _; omega
  have hc : (unit (y 1)).val = (q2 - 512) + (x 1).val := by
    show (y 1).val % 512 = _; omega
  rw [gT_at x2 s3 p (q2 - 512) _ 0 hs0 inb0 (by omega) rfl x 0 _ _ rfl hr hc, dh_at D w4 p (q2 - 512) a ha hs x _ _ hr hc]
  show _ = Swiglu.dact _ _ _ _
  unfold Swiglu.dact
  rw [if_neg (show ¬(half (y 1)).val = 0 by show ¬(y 1).val / 512 = 0; omega)]

/-- A load of a group of rows reads those rows. -/
theorem rows_ld (D : Vec Ideal S1024x2048 .bf16) (p : ℕ) (inb : ∀ a, (![p, 0] : Fin 2 → ℕ) a + (![256, 2048] : Fin 2 → ℕ) a ≤ S1024x2048.size a) :
    Rows D p (View.ld D (Rect.unit (s := S1024x2048) ![p, 0] ![256, 2048] inb)) := by
  intro k d r hr
  refine congrArg D (funext fun a => Fin.ext ?_)
  match a with
  | ⟨0, _⟩ => show p + 1 * k.val = r.val; omega
  | ⟨1, _⟩ => show 0 + 1 * d.val = d.val; omega

theorem rows_read (a : Memref sig .tc .vmem S1024x2048 .bf16) (h : a.IsWhole) (D : Vec Ideal S1024x2048 .bf16) (p : ℕ)
    (inb : ∀ a, (![p, 0] : Fin 2 → ℕ) a + (![256, 2048] : Fin 2 → ℕ) a ≤ S1024x2048.size a) :
    Rows D p (View.readAt (Elt Ideal) a.view (Rect.unit (s := S1024x2048) ![p, 0] ![256, 2048] inb).toLoadRect (h.unread D)) := by
  rw [rd]; exact rows_ld D p inb

/-! ## The dequantised output gradient -/

/-- A block of codes times its column of scales. -/
def dyT (s : FVec Ideal S1024x16 .f32) (b : Vec Ideal S1024x128 .fp8e5m2) (m : ℕ) (hs : S1024x16.Slices ![0, m] S1024x1) : FVec Ideal S1024x128 .bf16 :=
  shapeCast S1024x128 (mulf (extf .bf16 (shapeCast S1024x128 b shapeCasts_S1024x128_S1024x128) bitsLt_fp8e5m2_bf16)
    (broadcastTo S1024x128 (truncf .bf16 (extractStridedSlice S1024x1 ![0, m] s hs) bitsLt_bf16_f32) broadcasts_S1024x1_S1024x128)) shapeCasts_S1024x128_S1024x128

theorem pay5_apply (v : Vec Ideal S1x16x1024 .f32) (r : Fin 1024) (m : Fin 16) : k2_pay5 v (ix2 r m) = v (ix3 0 m r) := by
  unfold k2_pay5
  refine (transpose_apply _ _ _ _ (ix2 m r : S16x1024.Idx) (by intro a; fin_cases a <;> rfl)).trans ?_
  refine shapeCast_apply v _ _ (ix3 0 m r) ?_
  refine (Shape.rowMajor_val_three _).trans (Eq.trans ?_ (Shape.rowMajor_val_two _).symm)
  show (0 * 16 + m.val) * 1024 + r.val = m.val * 1024 + r.val
  omega

/-- The point's rows of the output gradient. -/
def dyB (x0 : Vec Ideal S1024x2048 .fp8e5m2) (x1 : Vec Ideal S1x16x1024 .f32) : Vec Ideal S1024x2048 .bf16 :=
  fun y => (x0 y : EReal) * x1 (ix3 0 ⟨(y 1).val / 128, by have h : (y 1).val < 2048 := (y 1).isLt; omega⟩ (y 0))

theorem dy_piece (x0 : Vec Ideal S1024x2048 .fp8e5m2) (x1 : Vec Ideal S1x16x1024 .f32) (q : ℕ)
    (w : FVec Ideal S1024x128 .bf16) (s1 : Vec Ideal S1x16x1024 .f32) (b : Vec Ideal S1024x128 .fp8e5m2)
    (hs : S1024x16.Slices ![0, q / 128] S1024x1)
    (inb : ∀ a, (![0, q] : Fin 2 → ℕ) a + (![1024, 128] : Fin 2 → ℕ) a ≤ S1024x2048.size a)
    (inb3 : ∀ a, (![0, q] : Fin 2 → ℕ) a + (![1024, 128] : Fin 2 → ℕ) a ≤ S1024x2048.size a)
    (hw : w = dyT (k2_pay5 s1) b (q / 128) hs)
    (h1 : s1 = x1) (h0 : b = View.ld x0 (Rect.unit (s := S1024x2048) ![0, q] ![1024, 128] inb))
    (hq : q % 128 = 0) (x : S1024x128.Idx) :
    w x = dyB x0 x1 ((Rect.unit (s := S1024x2048) ![0, q] ![1024, 128] inb3).emb x) := by
  subst hw h1 h0
  have hx1 : (x 1).val < 128 := (x 1).isLt
  have hin : q + 128 ≤ 2048 := inb3 1
  have e2 : extractStridedSlice S1024x1 ![0, q / 128] (k2_pay5 s1) hs (ix2 (x 0) 0 : S1024x1.Idx) = s1 (ix3 0 ⟨q / 128, by omega⟩ (x 0)) := by
    refine (extractStridedSlice_apply _ _ _ _ (ix2 (x 0) ⟨q / 128, by omega⟩ : S1024x16.Idx) ?_).trans (pay5_apply s1 (x 0) ⟨q / 128, by omega⟩)
    intro a
    match a with
    | ⟨0, _⟩ => show (x 0).val = 0 + (x 0).val; omega
    | ⟨1, _⟩ => rfl
  unfold dyT
  simp only [shapeCast_self]
  rw [mulf_apply, extf_apply]
  unfold dyB
  congr 1
  refine (broadcastTo_apply _ _ x (ix2 (x 0) 0 : S1024x1.Idx) (by intro a; fin_cases a <;> rfl)).trans ?_
  rw [truncf_apply]
  refine e2.trans (congrArg s1 (funext fun a => Fin.ext ?_))
  match a with
  | ⟨0, _⟩ => rfl
  | ⟨1, _⟩ => show q / 128 = (q + 1 * (x 1).val) / 128; omega
  | ⟨2, _⟩ => show (x 0).val = 0 + 1 * (x 0).val; omega

/-! ## The input gradient's accumulator -/

theorem pay26_apply (y : S1024x2048.Idx) : (k2_pay26 (F := Ideal)) y = 0 := by
  unfold k2_pay26
  simp only [shapeCast_self]
  exact Ideal.ofBits_zero_f32

/-- One point's step, at an index. -/
theorem pay3_apply (a : Vec Ideal S1024x2048 .f32) (x : Vec Ideal S1024x1024 .bf16) (w : Vec Ideal S1024x2048 .bf16) (r : Fin 1024) (d : Fin 2048) :
    k2_pay3 a x w (ix2 r d) = a (ix2 r d) + ∑ q : Fin 1024, x (ix2 r q) * w (ix2 q d) := by
  unfold k2_pay3
  simp only [shapeCast_self, addf_apply]
  refine congrArg (a (ix2 r d) + ·) ?_
  refine (Ideal.matmul_plain_apply (M := 1024) (K := 1024) (N := 2048) _ x w _ r d).trans ?_
  rw [constant_apply, Ideal.ofBits_zero_f32, zero_add]

/-- The write-back keeps the values. -/
theorem pay4_apply (v : Vec Ideal S1024x2048 .f32) (y : S1024x2048.Idx) : k2_pay4 v y = v y := rfl

end Cert.KernelIdeal.R2

end
-- ==== Proof.R2.Stores.lean ====
/- Region 2 of the kernel at the extended reals: each store of the body as the formula of its tile. The names carry
   the row and the column the tile is stored at. -/
module

public import proofs.«01_k».proof.Proof.R2.Tile

@[expose] public section

set_option maxRecDepth 16384

noncomputable section

namespace Cert.KernelIdeal.R2

open Cert.KernelIdeal Cert.KernelIdeal.Gen
open Idealize.ShloMosaic Idealize.ShloMosaic.TcCoe Idealize.ShloMosaic.Tactic Idealize.ShloMosaic.ValueIdx
open Idealize.SL.Sem

/-! The hidden activations. -/

theorem hb_768_384 (v : Vec Ideal S1x1x8x1024 .f32) (b0 b1 : Vec Ideal S1x1x256x128 .fp8e4m3) :
    k2_pay172 (k2_pay27 v) b0 b1 = hbT (gT (k2_pay27 v) b0 768 6 slices_S1024x8_o768_6_S256x1) (gT (k2_pay27 v) b1 768 7 slices_S1024x8_o768_7_S256x1) := by
  unfold k2_pay172 k2_pay171 k2_pay168 k2_pay167 k2_pay170 hbT gT
  rfl

theorem hb_768_256 (v : Vec Ideal S1x1x8x1024 .f32) (b0 b1 : Vec Ideal S1x1x256x128 .fp8e4m3) :
    k2_pay164 (k2_pay27 v) b0 b1 = hbT (gT (k2_pay27 v) b0 768 4 slices_S1024x8_o768_4_S256x1) (gT (k2_pay27 v) b1 768 5 slices_S1024x8_o768_5_S256x1) := by
  unfold k2_pay164 k2_pay163 k2_pay160 k2_pay159 k2_pay162 hbT gT
  rfl

theorem hb_768_128 (v : Vec Ideal S1x1x8x1024 .f32) (b0 b1 : Vec Ideal S1x1x256x128 .fp8e4m3) :
    k2_pay156 (k2_pay152 (k2_pay27 v) b1) (k2_pay155 (k2_pay27 v) b0) = hbT (gT (k2_pay27 v) b0 768 2 slices_S1024x8_o768_2_S256x1) (gT (k2_pay27 v) b1 768 3 slices_S1024x8_o768_3_S256x1) := by
  unfold k2_pay156 k2_pay152 k2_pay155 k2_pay151 k2_pay154 hbT gT
  rfl

theorem hb_768_0 (v : Vec Ideal S1x1x8x1024 .f32) (b0 b1 : Vec Ideal S1x1x256x128 .fp8e4m3) :
    k2_pay148 (k2_pay141 (k2_pay27 v)) (k2_pay142 (k2_pay27 v) b0) (k2_pay143 b1) = hbT (gT (k2_pay27 v) b0 768 0 slices_S1024x8_o768_0_S256x1) (gT (k2_pay27 v) b1 768 1 slices_S1024x8_o768_1_S256x1) := by
  unfold k2_pay148 k2_pay141 k2_pay142 k2_pay143 k2_pay147 k2_pay144 k2_pay146 hbT gT
  rfl

theorem hb_512_384 (v : Vec Ideal S1x1x8x1024 .f32) (b0 b1 : Vec Ideal S1x1x256x128 .fp8e4m3) :
    k2_pay137 (k2_pay132 (k2_pay27 v) b0) (k2_pay133 (k2_pay27 v) b1) = hbT (gT (k2_pay27 v) b0 512 6 slices_S1024x8_o512_6_S256x1) (gT (k2_pay27 v) b1 512 7 slices_S1024x8_o512_7_S256x1) := by
  unfold k2_pay137 k2_pay132 k2_pay133 k2_pay136 k2_pay135 hbT gT
  rfl

theorem hb_512_256 (v : Vec Ideal S1x1x8x1024 .f32) (b0 b1 : Vec Ideal S1x1x256x128 .fp8e4m3) :
    k2_pay129 (k2_pay123 (k2_pay27 v)) (k2_pay124 (k2_pay27 v) b0) b1 = hbT (gT (k2_pay27 v) b0 512 4 slices_S1024x8_o512_4_S256x1) (gT (k2_pay27 v) b1 512 5 slices_S1024x8_o512_5_S256x1) := by
  unfold k2_pay129 k2_pay123 k2_pay124 k2_pay128 k2_pay125 k2_pay127 hbT gT
  rfl

theorem hb_512_128 (v : Vec Ideal S1x1x8x1024 .f32) (b0 b1 : Vec Ideal S1x1x256x128 .fp8e4m3) :
    k2_pay120 (k2_pay112 (k2_pay27 v)) (k2_pay113 b0) (k2_pay114 (k2_pay27 v)) b1 = hbT (gT (k2_pay27 v) b0 512 2 slices_S1024x8_o512_2_S256x1) (gT (k2_pay27 v) b1 512 3 slices_S1024x8_o512_3_S256x1) := by
  unfold k2_pay120 k2_pay112 k2_pay113 k2_pay114 k2_pay119 k2_pay116 k2_pay115 k2_pay118 hbT gT
  rfl

theorem hb_512_0 (v : Vec Ideal S1x1x8x1024 .f32) (b0 b1 : Vec Ideal S1x1x256x128 .fp8e4m3) :
    k2_pay109 (k2_pay102 (k2_pay27 v)) (k2_pay103 (k2_pay27 v)) b0 b1 = hbT (gT (k2_pay27 v) b0 512 0 slices_S1024x8_o512_0_S256x1) (gT (k2_pay27 v) b1 512 1 slices_S1024x8_o512_1_S256x1) := by
  unfold k2_pay109 k2_pay102 k2_pay103 k2_pay108 k2_pay105 k2_pay104 k2_pay107 hbT gT
  rfl

theorem hb_256_384 (v : Vec Ideal S1x1x8x1024 .f32) (b0 b1 : Vec Ideal S1x1x256x128 .fp8e4m3) :
    k2_pay98 (k2_pay91 (k2_pay27 v)) (k2_pay92 (k2_pay27 v)) b0 b1 = hbT (gT (k2_pay27 v) b0 256 6 slices_S1024x8_o256_6_S256x1) (gT (k2_pay27 v) b1 256 7 slices_S1024x8_o256_7_S256x1) := by
  unfold k2_pay98 k2_pay91 k2_pay92 k2_pay97 k2_pay94 k2_pay93 k2_pay96 hbT gT
  rfl

theorem hb_256_256 (v : Vec Ideal S1x1x8x1024 .f32) (b0 b1 : Vec Ideal S1x1x256x128 .fp8e4m3) :
    k2_pay88 (k2_pay81 (k2_pay27 v)) (k2_pay82 (k2_pay27 v)) b0 b1 = hbT (gT (k2_pay27 v) b0 256 4 slices_S1024x8_o256_4_S256x1) (gT (k2_pay27 v) b1 256 5 slices_S1024x8_o256_5_S256x1) := by
  unfold k2_pay88 k2_pay81 k2_pay82 k2_pay87 k2_pay84 k2_pay83 k2_pay86 hbT gT
  rfl

theorem hb_256_128 (v : Vec Ideal S1x1x8x1024 .f32) (b0 b1 : Vec Ideal S1x1x256x128 .fp8e4m3) :
    k2_pay78 (k2_pay27 v) b0 b1 = hbT (gT (k2_pay27 v) b0 256 2 slices_S1024x8_o256_2_S256x1) (gT (k2_pay27 v) b1 256 3 slices_S1024x8_o256_3_S256x1) := by
  unfold k2_pay78 k2_pay77 k2_pay74 k2_pay73 k2_pay76 hbT gT
  rfl

theorem hb_256_0 (v : Vec Ideal S1x1x8x1024 .f32) (b0 b1 : Vec Ideal S1x1x256x128 .fp8e4m3) :
    k2_pay70 (k2_pay27 v) b0 b1 = hbT (gT (k2_pay27 v) b0 256 0 slices_S1024x8_o256_0_S256x1) (gT (k2_pay27 v) b1 256 1 slices_S1024x8_o256_1_S256x1) := by
  unfold k2_pay70 k2_pay69 k2_pay66 k2_pay65 k2_pay68 hbT gT
  rfl

theorem hb_0_384 (v : Vec Ideal S1x1x8x1024 .f32) (b0 b1 : Vec Ideal S1x1x256x128 .fp8e4m3) :
    k2_pay61 (k2_pay27 v) b0 b1 = hbT (gT (k2_pay27 v) b0 0 6 slices_S1024x8_o0_6_S256x1) (gT (k2_pay27 v) b1 0 7 slices_S1024x8_o0_7_S256x1) := by
  unfold k2_pay61 k2_pay60 k2_pay57 k2_pay56 k2_pay59 hbT gT
  rfl

theorem hb_0_256 (v : Vec Ideal S1x1x8x1024 .f32) (b0 b1 : Vec Ideal S1x1x256x128 .fp8e4m3) :
    k2_pay53 (k2_pay27 v) b0 b1 = hbT (gT (k2_pay27 v) b0 0 4 slices_S1024x8_o0_4_S256x1) (gT (k2_pay27 v) b1 0 5 slices_S1024x8_o0_5_S256x1) := by
  unfold k2_pay53 k2_pay52 k2_pay49 k2_pay48 k2_pay51 hbT gT
  rfl

theorem hb_0_128 (v : Vec Ideal S1x1x8x1024 .f32) (b0 b1 : Vec Ideal S1x1x256x128 .fp8e4m3) :
    k2_pay43 (k2_pay27 v) b0 b1 = hbT (gT (k2_pay27 v) b0 0 2 slices_S1024x8_o0_2_S256x1) (gT (k2_pay27 v) b1 0 3 slices_S1024x8_o0_3_S256x1) := by
  unfold k2_pay43 k2_pay42 k2_pay39 k2_pay38 k2_pay41 hbT gT
  rfl

theorem hb_0_0 (v : Vec Ideal S1x1x8x1024 .f32) (b0 b1 : Vec Ideal S1x1x256x128 .fp8e4m3) :
    k2_pay34 v b0 b1 = hbT (gT (k2_pay27 v) b0 0 0 slices_S1024x8_o0_0_S256x1) (gT (k2_pay27 v) b1 0 1 slices_S1024x8_o0_1_S256x1) := by
  unfold k2_pay34 k2_pay33 k2_pay30 k2_pay29 k2_pay32 hbT gT
  rfl

/-! The output gradient. -/

theorem dy_1920 (v : Vec Ideal S1x16x1024 .f32) (b : Vec Ideal S1024x128 .fp8e5m2) :
    k2_pay25 (k2_pay24 (k2_pay5 v) b) = dyT (k2_pay5 v) b 15 slices_S1024x16_o0_15_S1024x1 := by
  unfold k2_pay25 k2_pay24 dyT
  rfl

theorem dy_1792 (v : Vec Ideal S1x16x1024 .f32) (b : Vec Ideal S1024x128 .fp8e5m2) :
    k2_pay23 (k2_pay5 v) b = dyT (k2_pay5 v) b 14 slices_S1024x16_o0_14_S1024x1 := by
  unfold k2_pay23 dyT
  rfl

theorem dy_1664 (v : Vec Ideal S1x16x1024 .f32) (b : Vec Ideal S1024x128 .fp8e5m2) :
    k2_pay22 (k2_pay5 v) b = dyT (k2_pay5 v) b 13 slices_S1024x16_o0_13_S1024x1 := by
  unfold k2_pay22 dyT
  rfl

theorem dy_1536 (v : Vec Ideal S1x16x1024 .f32) (b : Vec Ideal S1024x128 .fp8e5m2) :
    k2_pay21 (k2_pay5 v) b = dyT (k2_pay5 v) b 12 slices_S1024x16_o0_12_S1024x1 := by
  unfold k2_pay21 dyT
  rfl

theorem dy_1408 (v : Vec Ideal S1x16x1024 .f32) (b : Vec Ideal S1024x128 .fp8e5m2) :
    k2_pay20 (k2_pay19 (k2_pay5 v) b) = dyT (k2_pay5 v) b 11 slices_S1024x16_o0_11_S1024x1 := by
  unfold k2_pay20 k2_pay19 dyT
  rfl

theorem dy_1280 (v : Vec Ideal S1x16x1024 .f32) (b : Vec Ideal S1024x128 .fp8e5m2) :
    k2_pay18 (k2_pay5 v) b = dyT (k2_pay5 v) b 10 slices_S1024x16_o0_10_S1024x1 := by
  unfold k2_pay18 dyT
  rfl

theorem dy_1152 (v : Vec Ideal S1x16x1024 .f32) (b : Vec Ideal S1024x128 .fp8e5m2) :
    k2_pay17 (k2_pay5 v) b = dyT (k2_pay5 v) b 9 slices_S1024x16_o0_9_S1024x1 := by
  unfold k2_pay17 dyT
  rfl

theorem dy_1024 (v : Vec Ideal S1x16x1024 .f32) (b : Vec Ideal S1024x128 .fp8e5m2) :
    k2_pay16 (k2_pay5 v) b = dyT (k2_pay5 v) b 8 slices_S1024x16_o0_8_S1024x1 := by
  unfold k2_pay16 dyT
  rfl

theorem dy_896 (v : Vec Ideal S1x16x1024 .f32) (b : Vec Ideal S1024x128 .fp8e5m2) :
    k2_pay15 (k2_pay14 (k2_pay5 v) b) = dyT (k2_pay5 v) b 7 slices_S1024x16_o0_7_S1024x1 := by
  unfold k2_pay15 k2_pay14 dyT
  rfl

theorem dy_768 (v : Vec Ideal S1x16x1024 .f32) (b : Vec Ideal S1024x128 .fp8e5m2) :
    k2_pay13 (k2_pay5 v) b = dyT (k2_pay5 v) b 6 slices_S1024x16_o0_6_S1024x1 := by
  unfold k2_pay13 dyT
  rfl

theorem dy_640 (v : Vec Ideal S1x16x1024 .f32) (b : Vec Ideal S1024x128 .fp8e5m2) :
    k2_pay12 (k2_pay5 v) b = dyT (k2_pay5 v) b 5 slices_S1024x16_o0_5_S1024x1 := by
  unfold k2_pay12 dyT
  rfl

theorem dy_512 (v : Vec Ideal S1x16x1024 .f32) (b : Vec Ideal S1024x128 .fp8e5m2) :
    k2_pay11 (k2_pay5 v) b = dyT (k2_pay5 v) b 4 slices_S1024x16_o0_4_S1024x1 := by
  unfold k2_pay11 dyT
  rfl

theorem dy_384 (v : Vec Ideal S1x16x1024 .f32) (b : Vec Ideal S1024x128 .fp8e5m2) :
    k2_pay10 (k2_pay9 v b) = dyT (k2_pay5 v) b 3 slices_S1024x16_o0_3_S1024x1 := by
  unfold k2_pay10 k2_pay9 dyT
  rfl

theorem dy_256 (v : Vec Ideal S1x16x1024 .f32) (b : Vec Ideal S1024x128 .fp8e5m2) :
    k2_pay8 v b = dyT (k2_pay5 v) b 2 slices_S1024x16_o0_2_S1024x1 := by
  unfold k2_pay8 dyT
  rfl

theorem dy_128 (v : Vec Ideal S1x16x1024 .f32) (b : Vec Ideal S1024x128 .fp8e5m2) :
    k2_pay7 v b = dyT (k2_pay5 v) b 1 slices_S1024x16_o0_1_S1024x1 := by
  unfold k2_pay7 dyT
  rfl

theorem dy_0 (v : Vec Ideal S1x16x1024 .f32) (b : Vec Ideal S1024x128 .fp8e5m2) :
    k2_pay6 v b = dyT (k2_pay5 v) b 0 slices_S1024x16_o0_0_S1024x1 := by
  unfold k2_pay6 dyT
  rfl

/-! The gradients: of the gate in columns 0 to 511, of the other half in columns 512 to 1023. -/

theorem dgu_768_896 (v : Vec Ideal S1x1x8x1024 .f32) (b0 : Vec Ideal S1x1x256x128 .fp8e4m3) (a : Vec Ideal S256x2048 .bf16) (w : Vec Ideal S2048x512 .bf16) :
    k2_pay2 (k2_pay169 (k2_pay140 a w)) (k2_pay171 (k2_pay27 v) b0) = duT (extractStridedSlice S256x128 ![0, 384] (k2_pay28 a w) slices_S256x512_o0_384_S256x128) (gT (k2_pay27 v) b0 768 6 slices_S1024x8_o768_6_S256x1) := by
  unfold k2_pay2 k2_pay169 k2_pay140 k2_pay171 k2_pay167 k2_pay170 duT gT k2_pay28
  rfl

theorem dgu_768_384 (v : Vec Ideal S1x1x8x1024 .f32) (b0 b1 : Vec Ideal S1x1x256x128 .fp8e4m3) (a : Vec Ideal S256x2048 .bf16) (w : Vec Ideal S2048x512 .bf16) :
    k2_pay1 (k2_pay173 (k2_pay27 v) (k2_pay140 a w) b0 b1) (k2_pay174 (k2_pay27 v) b0) = dgT (extractStridedSlice S256x128 ![0, 384] (k2_pay28 a w) slices_S256x512_o0_384_S256x128) (gT (k2_pay27 v) b0 768 6 slices_S1024x8_o768_6_S256x1) (gT (k2_pay27 v) b1 768 7 slices_S1024x8_o768_7_S256x1) := by
  unfold k2_pay1 k2_pay173 k2_pay140 k2_pay174 k2_pay169 k2_pay168 k2_pay170 k2_pay167 dgT gT k2_pay28
  rfl

theorem dgu_768_768 (v : Vec Ideal S1x1x8x1024 .f32) (b0 : Vec Ideal S1x1x256x128 .fp8e4m3) (a : Vec Ideal S256x2048 .bf16) (w : Vec Ideal S2048x512 .bf16) :
    k2_pay166 (k2_pay161 (k2_pay140 a w)) (k2_pay163 (k2_pay27 v) b0) = duT (extractStridedSlice S256x128 ![0, 256] (k2_pay28 a w) slices_S256x512_o0_256_S256x128) (gT (k2_pay27 v) b0 768 4 slices_S1024x8_o768_4_S256x1) := by
  unfold k2_pay166 k2_pay161 k2_pay140 k2_pay163 k2_pay159 k2_pay162 duT gT k2_pay28
  rfl

theorem dgu_768_256 (v : Vec Ideal S1x1x8x1024 .f32) (b0 b1 : Vec Ideal S1x1x256x128 .fp8e4m3) (a : Vec Ideal S256x2048 .bf16) (w : Vec Ideal S2048x512 .bf16) :
    k2_pay165 (k2_pay159 (k2_pay27 v) b0) (k2_pay160 (k2_pay27 v) b1) (k2_pay161 (k2_pay140 a w)) (k2_pay162 (k2_pay27 v) b0) = dgT (extractStridedSlice S256x128 ![0, 256] (k2_pay28 a w) slices_S256x512_o0_256_S256x128) (gT (k2_pay27 v) b0 768 4 slices_S1024x8_o768_4_S256x1) (gT (k2_pay27 v) b1 768 5 slices_S1024x8_o768_5_S256x1) := by
  unfold k2_pay165 k2_pay159 k2_pay160 k2_pay161 k2_pay140 k2_pay162 dgT gT k2_pay28
  rfl

theorem dgu_768_640 (v : Vec Ideal S1x1x8x1024 .f32) (b0 : Vec Ideal S1x1x256x128 .fp8e4m3) (a : Vec Ideal S256x2048 .bf16) (w : Vec Ideal S2048x512 .bf16) :
    k2_pay158 (k2_pay153 (k2_pay140 a w)) (k2_pay155 (k2_pay27 v) b0) = duT (extractStridedSlice S256x128 ![0, 128] (k2_pay28 a w) slices_S256x512_o0_128_S256x128) (gT (k2_pay27 v) b0 768 2 slices_S1024x8_o768_2_S256x1) := by
  unfold k2_pay158 k2_pay153 k2_pay140 k2_pay155 k2_pay151 k2_pay154 duT gT k2_pay28
  rfl

theorem dgu_768_128 (v : Vec Ideal S1x1x8x1024 .f32) (b0 b1 : Vec Ideal S1x1x256x128 .fp8e4m3) (a : Vec Ideal S256x2048 .bf16) (w : Vec Ideal S2048x512 .bf16) :
    k2_pay157 (k2_pay151 (k2_pay27 v) b0) (k2_pay152 (k2_pay27 v) b1) (k2_pay153 (k2_pay140 a w)) (k2_pay154 (k2_pay27 v) b0) = dgT (extractStridedSlice S256x128 ![0, 128] (k2_pay28 a w) slices_S256x512_o0_128_S256x128) (gT (k2_pay27 v) b0 768 2 slices_S1024x8_o768_2_S256x1) (gT (k2_pay27 v) b1 768 3 slices_S1024x8_o768_3_S256x1) := by
  unfold k2_pay157 k2_pay151 k2_pay152 k2_pay153 k2_pay140 k2_pay154 dgT gT k2_pay28
  rfl

theorem dgu_768_512 (v : Vec Ideal S1x1x8x1024 .f32) (b0 : Vec Ideal S1x1x256x128 .fp8e4m3) (a : Vec Ideal S256x2048 .bf16) (w : Vec Ideal S2048x512 .bf16) :
    k2_pay150 (k2_pay140 a w) (k2_pay142 (k2_pay27 v) b0) = duT (extractStridedSlice S256x128 ![0, 0] (k2_pay28 a w) slices_S256x512_o0_0_S256x128) (gT (k2_pay27 v) b0 768 0 slices_S1024x8_o768_0_S256x1) := by
  unfold k2_pay150 k2_pay140 k2_pay142 k2_pay145 k2_pay147 k2_pay146 duT gT k2_pay28
  rfl

theorem dgu_768_0 (v : Vec Ideal S1x1x8x1024 .f32) (b0 b1 : Vec Ideal S1x1x256x128 .fp8e4m3) (a : Vec Ideal S256x2048 .bf16) (w : Vec Ideal S2048x512 .bf16) :
    k2_pay149 (k2_pay140 a w) (k2_pay141 (k2_pay27 v)) (k2_pay142 (k2_pay27 v) b0) (k2_pay143 b1) = dgT (extractStridedSlice S256x128 ![0, 0] (k2_pay28 a w) slices_S256x512_o0_0_S256x128) (gT (k2_pay27 v) b0 768 0 slices_S1024x8_o768_0_S256x1) (gT (k2_pay27 v) b1 768 1 slices_S1024x8_o768_1_S256x1) := by
  unfold k2_pay149 k2_pay140 k2_pay141 k2_pay142 k2_pay143 k2_pay145 k2_pay144 k2_pay146 dgT gT k2_pay28
  rfl

theorem dgu_512_896 (v : Vec Ideal S1x1x8x1024 .f32) (b0 : Vec Ideal S1x1x256x128 .fp8e4m3) (a : Vec Ideal S256x2048 .bf16) (w : Vec Ideal S2048x512 .bf16) :
    k2_pay139 (k2_pay101 a w) (k2_pay132 (k2_pay27 v) b0) = duT (extractStridedSlice S256x128 ![0, 384] (k2_pay28 a w) slices_S256x512_o0_384_S256x128) (gT (k2_pay27 v) b0 512 6 slices_S1024x8_o512_6_S256x1) := by
  unfold k2_pay139 k2_pay101 k2_pay132 k2_pay134 k2_pay136 k2_pay135 duT gT k2_pay28
  rfl

theorem dgu_512_384 (v : Vec Ideal S1x1x8x1024 .f32) (b0 b1 : Vec Ideal S1x1x256x128 .fp8e4m3) (a : Vec Ideal S256x2048 .bf16) (w : Vec Ideal S2048x512 .bf16) :
    k2_pay138 (k2_pay101 a w) (k2_pay132 (k2_pay27 v) b0) (k2_pay133 (k2_pay27 v) b1) = dgT (extractStridedSlice S256x128 ![0, 384] (k2_pay28 a w) slices_S256x512_o0_384_S256x128) (gT (k2_pay27 v) b0 512 6 slices_S1024x8_o512_6_S256x1) (gT (k2_pay27 v) b1 512 7 slices_S1024x8_o512_7_S256x1) := by
  unfold k2_pay138 k2_pay101 k2_pay132 k2_pay133 k2_pay134 k2_pay135 dgT gT k2_pay28
  rfl

theorem dgu_512_768 (v : Vec Ideal S1x1x8x1024 .f32) (b0 : Vec Ideal S1x1x256x128 .fp8e4m3) (a : Vec Ideal S256x2048 .bf16) (w : Vec Ideal S2048x512 .bf16) :
    k2_pay131 (k2_pay101 a w) (k2_pay124 (k2_pay27 v) b0) = duT (extractStridedSlice S256x128 ![0, 256] (k2_pay28 a w) slices_S256x512_o0_256_S256x128) (gT (k2_pay27 v) b0 512 4 slices_S1024x8_o512_4_S256x1) := by
  unfold k2_pay131 k2_pay101 k2_pay124 k2_pay126 k2_pay128 k2_pay127 duT gT k2_pay28
  rfl

theorem dgu_512_256 (v : Vec Ideal S1x1x8x1024 .f32) (b0 b1 : Vec Ideal S1x1x256x128 .fp8e4m3) (a : Vec Ideal S256x2048 .bf16) (w : Vec Ideal S2048x512 .bf16) :
    k2_pay130 (k2_pay101 a w) (k2_pay123 (k2_pay27 v)) (k2_pay124 (k2_pay27 v) b0) b1 = dgT (extractStridedSlice S256x128 ![0, 256] (k2_pay28 a w) slices_S256x512_o0_256_S256x128) (gT (k2_pay27 v) b0 512 4 slices_S1024x8_o512_4_S256x1) (gT (k2_pay27 v) b1 512 5 slices_S1024x8_o512_5_S256x1) := by
  unfold k2_pay130 k2_pay101 k2_pay123 k2_pay124 k2_pay126 k2_pay125 k2_pay127 dgT gT k2_pay28
  rfl

theorem dgu_512_640 (v : Vec Ideal S1x1x8x1024 .f32) (b0 : Vec Ideal S1x1x256x128 .fp8e4m3) (a : Vec Ideal S256x2048 .bf16) (w : Vec Ideal S2048x512 .bf16) :
    k2_pay122 (k2_pay101 a w) (k2_pay113 b0) (k2_pay114 (k2_pay27 v)) = duT (extractStridedSlice S256x128 ![0, 128] (k2_pay28 a w) slices_S256x512_o0_128_S256x128) (gT (k2_pay27 v) b0 512 2 slices_S1024x8_o512_2_S256x1) := by
  unfold k2_pay122 k2_pay101 k2_pay113 k2_pay114 k2_pay117 k2_pay119 k2_pay115 k2_pay118 duT gT k2_pay28
  rfl

theorem dgu_512_128 (v : Vec Ideal S1x1x8x1024 .f32) (b0 b1 : Vec Ideal S1x1x256x128 .fp8e4m3) (a : Vec Ideal S256x2048 .bf16) (w : Vec Ideal S2048x512 .bf16) :
    k2_pay121 (k2_pay101 a w) (k2_pay112 (k2_pay27 v)) (k2_pay113 b0) (k2_pay114 (k2_pay27 v)) b1 = dgT (extractStridedSlice S256x128 ![0, 128] (k2_pay28 a w) slices_S256x512_o0_128_S256x128) (gT (k2_pay27 v) b0 512 2 slices_S1024x8_o512_2_S256x1) (gT (k2_pay27 v) b1 512 3 slices_S1024x8_o512_3_S256x1) := by
  unfold k2_pay121 k2_pay101 k2_pay112 k2_pay113 k2_pay114 k2_pay117 k2_pay116 k2_pay118 k2_pay115 dgT gT k2_pay28
  rfl

theorem dgu_512_512 (v : Vec Ideal S1x1x8x1024 .f32) (b0 : Vec Ideal S1x1x256x128 .fp8e4m3) (a : Vec Ideal S256x2048 .bf16) (w : Vec Ideal S2048x512 .bf16) :
    k2_pay111 (k2_pay101 a w) (k2_pay102 (k2_pay27 v)) b0 = duT (extractStridedSlice S256x128 ![0, 0] (k2_pay28 a w) slices_S256x512_o0_0_S256x128) (gT (k2_pay27 v) b0 512 0 slices_S1024x8_o512_0_S256x1) := by
  unfold k2_pay111 k2_pay101 k2_pay102 k2_pay106 k2_pay108 k2_pay104 k2_pay107 duT gT k2_pay28
  rfl

theorem dgu_512_0 (v : Vec Ideal S1x1x8x1024 .f32) (b0 b1 : Vec Ideal S1x1x256x128 .fp8e4m3) (a : Vec Ideal S256x2048 .bf16) (w : Vec Ideal S2048x512 .bf16) :
    k2_pay110 (k2_pay101 a w) (k2_pay102 (k2_pay27 v)) (k2_pay103 (k2_pay27 v)) b0 b1 = dgT (extractStridedSlice S256x128 ![0, 0] (k2_pay28 a w) slices_S256x512_o0_0_S256x128) (gT (k2_pay27 v) b0 512 0 slices_S1024x8_o512_0_S256x1) (gT (k2_pay27 v) b1 512 1 slices_S1024x8_o512_1_S256x1) := by
  unfold k2_pay110 k2_pay101 k2_pay102 k2_pay103 k2_pay106 k2_pay105 k2_pay107 k2_pay104 dgT gT k2_pay28
  rfl

theorem dgu_256_896 (v : Vec Ideal S1x1x8x1024 .f32) (b0 : Vec Ideal S1x1x256x128 .fp8e4m3) (a : Vec Ideal S256x2048 .bf16) (w : Vec Ideal S2048x512 .bf16) :
    k2_pay100 (k2_pay64 a w) (k2_pay91 (k2_pay27 v)) b0 = duT (extractStridedSlice S256x128 ![0, 384] (k2_pay28 a w) slices_S256x512_o0_384_S256x128) (gT (k2_pay27 v) b0 256 6 slices_S1024x8_o256_6_S256x1) := by
  unfold k2_pay100 k2_pay64 k2_pay91 k2_pay95 k2_pay97 k2_pay93 k2_pay96 duT gT k2_pay28
  rfl

theorem dgu_256_384 (v : Vec Ideal S1x1x8x1024 .f32) (b0 b1 : Vec Ideal S1x1x256x128 .fp8e4m3) (a : Vec Ideal S256x2048 .bf16) (w : Vec Ideal S2048x512 .bf16) :
    k2_pay99 (k2_pay64 a w) (k2_pay91 (k2_pay27 v)) (k2_pay92 (k2_pay27 v)) b0 b1 = dgT (extractStridedSlice S256x128 ![0, 384] (k2_pay28 a w) slices_S256x512_o0_384_S256x128) (gT (k2_pay27 v) b0 256 6 slices_S1024x8_o256_6_S256x1) (gT (k2_pay27 v) b1 256 7 slices_S1024x8_o256_7_S256x1) := by
  unfold k2_pay99 k2_pay64 k2_pay91 k2_pay92 k2_pay95 k2_pay94 k2_pay96 k2_pay93 dgT gT k2_pay28
  rfl

theorem dgu_256_768 (v : Vec Ideal S1x1x8x1024 .f32) (b0 : Vec Ideal S1x1x256x128 .fp8e4m3) (a : Vec Ideal S256x2048 .bf16) (w : Vec Ideal S2048x512 .bf16) :
    k2_pay90 (k2_pay64 a w) (k2_pay81 (k2_pay27 v)) b0 = duT (extractStridedSlice S256x128 ![0, 256] (k2_pay28 a w) slices_S256x512_o0_256_S256x128) (gT (k2_pay27 v) b0 256 4 slices_S1024x8_o256_4_S256x1) := by
  unfold k2_pay90 k2_pay64 k2_pay81 k2_pay85 k2_pay87 k2_pay83 k2_pay86 duT gT k2_pay28
  rfl

theorem dgu_256_256 (v : Vec Ideal S1x1x8x1024 .f32) (b0 b1 : Vec Ideal S1x1x256x128 .fp8e4m3) (a : Vec Ideal S256x2048 .bf16) (w : Vec Ideal S2048x512 .bf16) :
    k2_pay89 (k2_pay64 a w) (k2_pay81 (k2_pay27 v)) (k2_pay82 (k2_pay27 v)) b0 b1 = dgT (extractStridedSlice S256x128 ![0, 256] (k2_pay28 a w) slices_S256x512_o0_256_S256x128) (gT (k2_pay27 v) b0 256 4 slices_S1024x8_o256_4_S256x1) (gT (k2_pay27 v) b1 256 5 slices_S1024x8_o256_5_S256x1) := by
  unfold k2_pay89 k2_pay64 k2_pay81 k2_pay82 k2_pay85 k2_pay84 k2_pay86 k2_pay83 dgT gT k2_pay28
  rfl

theorem dgu_256_640 (v : Vec Ideal S1x1x8x1024 .f32) (b0 : Vec Ideal S1x1x256x128 .fp8e4m3) (a : Vec Ideal S256x2048 .bf16) (w : Vec Ideal S2048x512 .bf16) :
    k2_pay80 (k2_pay27 v) (k2_pay64 a w) b0 = duT (extractStridedSlice S256x128 ![0, 128] (k2_pay28 a w) slices_S256x512_o0_128_S256x128) (gT (k2_pay27 v) b0 256 2 slices_S1024x8_o256_2_S256x1) := by
  unfold k2_pay80 k2_pay64 k2_pay75 k2_pay77 k2_pay73 k2_pay76 duT gT k2_pay28
  rfl

theorem dgu_256_128 (v : Vec Ideal S1x1x8x1024 .f32) (b0 b1 : Vec Ideal S1x1x256x128 .fp8e4m3) (a : Vec Ideal S256x2048 .bf16) (w : Vec Ideal S2048x512 .bf16) :
    k2_pay79 (k2_pay27 v) (k2_pay64 a w) b0 b1 = dgT (extractStridedSlice S256x128 ![0, 128] (k2_pay28 a w) slices_S256x512_o0_128_S256x128) (gT (k2_pay27 v) b0 256 2 slices_S1024x8_o256_2_S256x1) (gT (k2_pay27 v) b1 256 3 slices_S1024x8_o256_3_S256x1) := by
  unfold k2_pay79 k2_pay64 k2_pay75 k2_pay74 k2_pay76 k2_pay73 dgT gT k2_pay28
  rfl

theorem dgu_256_512 (v : Vec Ideal S1x1x8x1024 .f32) (b0 : Vec Ideal S1x1x256x128 .fp8e4m3) (a : Vec Ideal S256x2048 .bf16) (w : Vec Ideal S2048x512 .bf16) :
    k2_pay72 (k2_pay27 v) a w b0 = duT (extractStridedSlice S256x128 ![0, 0] (k2_pay28 a w) slices_S256x512_o0_0_S256x128) (gT (k2_pay27 v) b0 256 0 slices_S1024x8_o256_0_S256x1) := by
  unfold k2_pay72 k2_pay67 k2_pay69 k2_pay64 k2_pay65 k2_pay68 duT gT k2_pay28
  rfl

theorem dgu_256_0 (v : Vec Ideal S1x1x8x1024 .f32) (b0 b1 : Vec Ideal S1x1x256x128 .fp8e4m3) (a : Vec Ideal S256x2048 .bf16) (w : Vec Ideal S2048x512 .bf16) :
    k2_pay71 (k2_pay27 v) a w b0 b1 = dgT (extractStridedSlice S256x128 ![0, 0] (k2_pay28 a w) slices_S256x512_o0_0_S256x128) (gT (k2_pay27 v) b0 256 0 slices_S1024x8_o256_0_S256x1) (gT (k2_pay27 v) b1 256 1 slices_S1024x8_o256_1_S256x1) := by
  unfold k2_pay71 k2_pay67 k2_pay66 k2_pay68 k2_pay65 k2_pay64 dgT gT k2_pay28
  rfl

theorem dgu_0_896 (v : Vec Ideal S1x1x8x1024 .f32) (b0 : Vec Ideal S1x1x256x128 .fp8e4m3) (a : Vec Ideal S256x2048 .bf16) (w : Vec Ideal S2048x512 .bf16) :
    k2_pay63 (k2_pay27 v) (k2_pay28 a w) b0 = duT (extractStridedSlice S256x128 ![0, 384] (k2_pay28 a w) slices_S256x512_o0_384_S256x128) (gT (k2_pay27 v) b0 0 6 slices_S1024x8_o0_6_S256x1) := by
  unfold k2_pay63 k2_pay28 k2_pay58 k2_pay60 k2_pay56 k2_pay59 duT gT
  rfl

theorem dgu_0_384 (v : Vec Ideal S1x1x8x1024 .f32) (b0 b1 : Vec Ideal S1x1x256x128 .fp8e4m3) (a : Vec Ideal S256x2048 .bf16) (w : Vec Ideal S2048x512 .bf16) :
    k2_pay62 (k2_pay27 v) (k2_pay28 a w) b0 b1 = dgT (extractStridedSlice S256x128 ![0, 384] (k2_pay28 a w) slices_S256x512_o0_384_S256x128) (gT (k2_pay27 v) b0 0 6 slices_S1024x8_o0_6_S256x1) (gT (k2_pay27 v) b1 0 7 slices_S1024x8_o0_7_S256x1) := by
  unfold k2_pay62 k2_pay28 k2_pay58 k2_pay57 k2_pay59 k2_pay56 dgT gT
  rfl

theorem dgu_0_768 (v : Vec Ideal S1x1x8x1024 .f32) (b0 : Vec Ideal S1x1x256x128 .fp8e4m3) (a : Vec Ideal S256x2048 .bf16) (w : Vec Ideal S2048x512 .bf16) :
    k2_pay55 (k2_pay50 (k2_pay28 a w)) (k2_pay52 (k2_pay27 v) b0) = duT (extractStridedSlice S256x128 ![0, 256] (k2_pay28 a w) slices_S256x512_o0_256_S256x128) (gT (k2_pay27 v) b0 0 4 slices_S1024x8_o0_4_S256x1) := by
  unfold k2_pay55 k2_pay50 k2_pay28 k2_pay52 k2_pay48 k2_pay51 duT gT
  rfl

theorem dgu_0_256 (v : Vec Ideal S1x1x8x1024 .f32) (b0 b1 : Vec Ideal S1x1x256x128 .fp8e4m3) (a : Vec Ideal S256x2048 .bf16) (w : Vec Ideal S2048x512 .bf16) :
    k2_pay54 (k2_pay27 v) (k2_pay28 a w) b0 b1 = dgT (extractStridedSlice S256x128 ![0, 256] (k2_pay28 a w) slices_S256x512_o0_256_S256x128) (gT (k2_pay27 v) b0 0 4 slices_S1024x8_o0_4_S256x1) (gT (k2_pay27 v) b1 0 5 slices_S1024x8_o0_5_S256x1) := by
  unfold k2_pay54 k2_pay28 k2_pay50 k2_pay49 k2_pay51 k2_pay48 dgT gT
  rfl

theorem dgu_0_640 (v : Vec Ideal S1x1x8x1024 .f32) (b0 : Vec Ideal S1x1x256x128 .fp8e4m3) (a : Vec Ideal S256x2048 .bf16) (w : Vec Ideal S2048x512 .bf16) :
    k2_pay47 (k2_pay40 (k2_pay28 a w)) (k2_pay42 (k2_pay27 v) b0) = duT (extractStridedSlice S256x128 ![0, 128] (k2_pay28 a w) slices_S256x512_o0_128_S256x128) (gT (k2_pay27 v) b0 0 2 slices_S1024x8_o0_2_S256x1) := by
  unfold k2_pay47 k2_pay40 k2_pay28 k2_pay42 k2_pay38 k2_pay41 duT gT
  rfl

theorem dgu_0_128 (v : Vec Ideal S1x1x8x1024 .f32) (b0 b1 : Vec Ideal S1x1x256x128 .fp8e4m3) (a : Vec Ideal S256x2048 .bf16) (w : Vec Ideal S2048x512 .bf16) :
    k2_pay46 (k2_pay44 (k2_pay27 v) (k2_pay28 a w) b0 b1) (k2_pay45 (k2_pay27 v) b0) = dgT (extractStridedSlice S256x128 ![0, 128] (k2_pay28 a w) slices_S256x512_o0_128_S256x128) (gT (k2_pay27 v) b0 0 2 slices_S1024x8_o0_2_S256x1) (gT (k2_pay27 v) b1 0 3 slices_S1024x8_o0_3_S256x1) := by
  unfold k2_pay46 k2_pay44 k2_pay28 k2_pay45 k2_pay40 k2_pay39 k2_pay41 k2_pay38 dgT gT
  rfl

theorem dgu_0_512 (v : Vec Ideal S1x1x8x1024 .f32) (b0 : Vec Ideal S1x1x256x128 .fp8e4m3) (a : Vec Ideal S256x2048 .bf16) (w : Vec Ideal S2048x512 .bf16) :
    k2_pay37 (k2_pay31 a w) (k2_pay33 v b0) = duT (extractStridedSlice S256x128 ![0, 0] (k2_pay28 a w) slices_S256x512_o0_0_S256x128) (gT (k2_pay27 v) b0 0 0 slices_S1024x8_o0_0_S256x1) := by
  unfold k2_pay37 k2_pay31 k2_pay33 k2_pay28 k2_pay29 k2_pay32 duT gT
  rfl

theorem dgu_0_0 (v : Vec Ideal S1x1x8x1024 .f32) (b0 b1 : Vec Ideal S1x1x256x128 .fp8e4m3) (a : Vec Ideal S256x2048 .bf16) (w : Vec Ideal S2048x512 .bf16) :
    k2_pay36 (k2_pay29 v b0) (k2_pay32 v b0) (k2_pay35 v a w b0 b1) (FloatOps.ofBits .f32 0x3F800000#32) = dgT (extractStridedSlice S256x128 ![0, 0] (k2_pay28 a w) slices_S256x512_o0_0_S256x128) (gT (k2_pay27 v) b0 0 0 slices_S1024x8_o0_0_S256x1) (gT (k2_pay27 v) b1 0 1 slices_S1024x8_o0_1_S256x1) := by
  unfold k2_pay36 k2_pay29 k2_pay32 k2_pay35 k2_pay31 k2_pay30 k2_pay28 dgT gT
  rfl

end Cert.KernelIdeal.R2
end
-- ==== Proof.R2.Pieces.lean ====
/- Region 2 of the kernel at the extended reals: the tiles the body stores, each block's as a list, are the
   parts of the point's blocks. -/
module

public import proofs.«01_k».proof.Proof.R2.Stores

@[expose] public section

set_option maxRecDepth 16384

noncomputable section

namespace Cert.KernelIdeal.R2

open Cert.KernelIdeal Cert.KernelIdeal.Gen
open Idealize.ShloMosaic Idealize.ShloMosaic.TcCoe Idealize.ShloMosaic.Tactic Idealize.ShloMosaic.ValueIdx
open Idealize.SL.Sem

/-- The hidden activations. -/
theorem hb_pieces (x2 : Vec Ideal S1x2x1024x512 .fp8e4m3) (x3 : Vec Ideal S1x1x8x1024 .f32) :
    ∀ p ∈ ([
      ⟨Rect.unit (s := S1024x512) ![768, 384] ![256, 128] inb_S1024x512_S256x128_768_384, k2_pay172 (k2_pay27 x3) (View.ld x2 (Rect.unit ![0, 0, 768, 384] ![1, 1, 256, 128] inb_S1x2x1024x512_S1x1x256x128_0_0_768_384)) (View.ld x2 (Rect.unit ![0, 1, 768, 384] ![1, 1, 256, 128] inb_S1x2x1024x512_S1x1x256x128_0_1_768_384))⟩,
      ⟨Rect.unit (s := S1024x512) ![768, 256] ![256, 128] inb_S1024x512_S256x128_768_256, k2_pay164 (k2_pay27 x3) (View.ld x2 (Rect.unit ![0, 0, 768, 256] ![1, 1, 256, 128] inb_S1x2x1024x512_S1x1x256x128_0_0_768_256)) (View.ld x2 (Rect.unit ![0, 1, 768, 256] ![1, 1, 256, 128] inb_S1x2x1024x512_S1x1x256x128_0_1_768_256))⟩,
      ⟨Rect.unit (s := S1024x512) ![768, 128] ![256, 128] inb_S1024x512_S256x128_768_128, k2_pay156 (k2_pay152 (k2_pay27 x3) (View.ld x2 (Rect.unit ![0, 1, 768, 128] ![1, 1, 256, 128] inb_S1x2x1024x512_S1x1x256x128_0_1_768_128))) (k2_pay155 (k2_pay27 x3) (View.ld x2 (Rect.unit ![0, 0, 768, 128] ![1, 1, 256, 128] inb_S1x2x1024x512_S1x1x256x128_0_0_768_128)))⟩,
      ⟨Rect.unit (s := S1024x512) ![768, 0] ![256, 128] inb_S1024x512_S256x128_768_0, k2_pay148 (k2_pay141 (k2_pay27 x3)) (k2_pay142 (k2_pay27 x3) (View.ld x2 (Rect.unit ![0, 0, 768, 0] ![1, 1, 256, 128] inb_S1x2x1024x512_S1x1x256x128_0_0_768_0))) (k2_pay143 (View.ld x2 (Rect.unit ![0, 1, 768, 0] ![1, 1, 256, 128] inb_S1x2x1024x512_S1x1x256x128_0_1_768_0)))⟩,
      ⟨Rect.unit (s := S1024x512) ![512, 384] ![256, 128] inb_S1024x512_S256x128_512_384, k2_pay137 (k2_pay132 (k2_pay27 x3) (View.ld x2 (Rect.unit ![0, 0, 512, 384] ![1, 1, 256, 128] inb_S1x2x1024x512_S1x1x256x128_0_0_512_384))) (k2_pay133 (k2_pay27 x3) (View.ld x2 (Rect.unit ![0, 1, 512, 384] ![1, 1, 256, 128] inb_S1x2x1024x512_S1x1x256x128_0_1_512_384)))⟩,
      ⟨Rect.unit (s := S1024x512) ![512, 256] ![256, 128] inb_S1024x512_S256x128_512_256, k2_pay129 (k2_pay123 (k2_pay27 x3)) (k2_pay124 (k2_pay27 x3) (View.ld x2 (Rect.unit ![0, 0, 512, 256] ![1, 1, 256, 128] inb_S1x2x1024x512_S1x1x256x128_0_0_512_256))) (View.ld x2 (Rect.unit ![0, 1, 512, 256] ![1, 1, 256, 128] inb_S1x2x1024x512_S1x1x256x128_0_1_512_256))⟩,
      ⟨Rect.unit (s := S1024x512) ![512, 128] ![256, 128] inb_S1024x512_S256x128_512_128, k2_pay120 (k2_pay112 (k2_pay27 x3)) (k2_pay113 (View.ld x2 (Rect.unit ![0, 0, 512, 128] ![1, 1, 256, 128] inb_S1x2x1024x512_S1x1x256x128_0_0_512_128))) (k2_pay114 (k2_pay27 x3)) (View.ld x2 (Rect.unit ![0, 1, 512, 128] ![1, 1, 256, 128] inb_S1x2x1024x512_S1x1x256x128_0_1_512_128))⟩,
      ⟨Rect.unit (s := S1024x512) ![512, 0] ![256, 128] inb_S1024x512_S256x128_512_0, k2_pay109 (k2_pay102 (k2_pay27 x3)) (k2_pay103 (k2_pay27 x3)) (View.ld x2 (Rect.unit ![0, 0, 512, 0] ![1, 1, 256, 128] inb_S1x2x1024x512_S1x1x256x128_0_0_512_0)) (View.ld x2 (Rect.unit ![0, 1, 512, 0] ![1, 1, 256, 128] inb_S1x2x1024x512_S1x1x256x128_0_1_512_0))⟩,
      ⟨Rect.unit (s := S1024x512) ![256, 384] ![256, 128] inb_S1024x512_S256x128_256_384, k2_pay98 (k2_pay91 (k2_pay27 x3)) (k2_pay92 (k2_pay27 x3)) (View.ld x2 (Rect.unit ![0, 0, 256, 384] ![1, 1, 256, 128] inb_S1x2x1024x512_S1x1x256x128_0_0_256_384)) (View.ld x2 (Rect.unit ![0, 1, 256, 384] ![1, 1, 256, 128] inb_S1x2x1024x512_S1x1x256x128_0_1_256_384))⟩,
      ⟨Rect.unit (s := S1024x512) ![256, 256] ![256, 128] inb_S1024x512_S256x128_256_256, k2_pay88 (k2_pay81 (k2_pay27 x3)) (k2_pay82 (k2_pay27 x3)) (View.ld x2 (Rect.unit ![0, 0, 256, 256] ![1, 1, 256, 128] inb_S1x2x1024x512_S1x1x256x128_0_0_256_256)) (View.ld x2 (Rect.unit ![0, 1, 256, 256] ![1, 1, 256, 128] inb_S1x2x1024x512_S1x1x256x128_0_1_256_256))⟩,
      ⟨Rect.unit (s := S1024x512) ![256, 128] ![256, 128] inb_S1024x512_S256x128_256_128, k2_pay78 (k2_pay27 x3) (View.ld x2 (Rect.unit ![0, 0, 256, 128] ![1, 1, 256, 128] inb_S1x2x1024x512_S1x1x256x128_0_0_256_128)) (View.ld x2 (Rect.unit ![0, 1, 256, 128] ![1, 1, 256, 128] inb_S1x2x1024x512_S1x1x256x128_0_1_256_128))⟩,
      ⟨Rect.unit (s := S1024x512) ![256, 0] ![256, 128] inb_S1024x512_S256x128_256_0, k2_pay70 (k2_pay27 x3) (View.ld x2 (Rect.unit ![0, 0, 256, 0] ![1, 1, 256, 128] inb_S1x2x1024x512_S1x1x256x128_0_0_256_0)) (View.ld x2 (Rect.unit ![0, 1, 256, 0] ![1, 1, 256, 128] inb_S1x2x1024x512_S1x1x256x128_0_1_256_0))⟩,
      ⟨Rect.unit (s := S1024x512) ![0, 384] ![256, 128] inb_S1024x512_S256x128_0_384, k2_pay61 (k2_pay27 x3) (View.ld x2 (Rect.unit ![0, 0, 0, 384] ![1, 1, 256, 128] inb_S1x2x1024x512_S1x1x256x128_0_0_0_384)) (View.ld x2 (Rect.unit ![0, 1, 0, 384] ![1, 1, 256, 128] inb_S1x2x1024x512_S1x1x256x128_0_1_0_384))⟩,
      ⟨Rect.unit (s := S1024x512) ![0, 256] ![256, 128] inb_S1024x512_S256x128_0_256, k2_pay53 (k2_pay27 x3) (View.ld x2 (Rect.unit ![0, 0, 0, 256] ![1, 1, 256, 128] inb_S1x2x1024x512_S1x1x256x128_0_0_0_256)) (View.ld x2 (Rect.unit ![0, 1, 0, 256] ![1, 1, 256, 128] inb_S1x2x1024x512_S1x1x256x128_0_1_0_256))⟩,
      ⟨Rect.unit (s := S1024x512) ![0, 128] ![256, 128] inb_S1024x512_S256x128_0_128, k2_pay43 (k2_pay27 x3) (View.ld x2 (Rect.unit ![0, 0, 0, 128] ![1, 1, 256, 128] inb_S1x2x1024x512_S1x1x256x128_0_0_0_128)) (View.ld x2 (Rect.unit ![0, 1, 0, 128] ![1, 1, 256, 128] inb_S1x2x1024x512_S1x1x256x128_0_1_0_128))⟩,
      ⟨Rect.unit (s := S1024x512) ![0, 0] ![256, 128] inb_S1024x512_S256x128_0_0, k2_pay34 x3 (View.ld x2 (Rect.unit ![0, 0, 0, 0] ![1, 1, 256, 128] inb_S1x2x1024x512_S1x1x256x128_0_0_0_0)) (View.ld x2 (Rect.unit ![0, 1, 0, 0] ![1, 1, 256, 128] inb_S1x2x1024x512_S1x1x256x128_0_1_0_0))⟩] : List (View.Piece (Elt Ideal) S1024x512 .bf16)), ∀ x : p.1.shape.Idx, p.2 x = hbB x2 x3 (p.1.emb x) := by
  refine List.forall_mem_cons.mpr ⟨fun x => hb_piece x2 x3 768 384 _ x3 _ _ slices_S1024x8_o768_6_S256x1 slices_S1024x8_o768_7_S256x1 inb_S1x2x1024x512_S1x1x256x128_0_0_768_384 inb_S1x2x1024x512_S1x1x256x128_0_1_768_384 inb_S1024x512_S256x128_768_384 (hb_768_384 x3 _ _) rfl rfl rfl rfl x, ?_⟩
  refine List.forall_mem_cons.mpr ⟨fun x => hb_piece x2 x3 768 256 _ x3 _ _ slices_S1024x8_o768_4_S256x1 slices_S1024x8_o768_5_S256x1 inb_S1x2x1024x512_S1x1x256x128_0_0_768_256 inb_S1x2x1024x512_S1x1x256x128_0_1_768_256 inb_S1024x512_S256x128_768_256 (hb_768_256 x3 _ _) rfl rfl rfl rfl x, ?_⟩
  refine List.forall_mem_cons.mpr ⟨fun x => hb_piece x2 x3 768 128 _ x3 _ _ slices_S1024x8_o768_2_S256x1 slices_S1024x8_o768_3_S256x1 inb_S1x2x1024x512_S1x1x256x128_0_0_768_128 inb_S1x2x1024x512_S1x1x256x128_0_1_768_128 inb_S1024x512_S256x128_768_128 (hb_768_128 x3 _ _) rfl rfl rfl rfl x, ?_⟩
  refine List.forall_mem_cons.mpr ⟨fun x => hb_piece x2 x3 768 0 _ x3 _ _ slices_S1024x8_o768_0_S256x1 slices_S1024x8_o768_1_S256x1 inb_S1x2x1024x512_S1x1x256x128_0_0_768_0 inb_S1x2x1024x512_S1x1x256x128_0_1_768_0 inb_S1024x512_S256x128_768_0 (hb_768_0 x3 _ _) rfl rfl rfl rfl x, ?_⟩
  refine List.forall_mem_cons.mpr ⟨fun x => hb_piece x2 x3 512 384 _ x3 _ _ slices_S1024x8_o512_6_S256x1 slices_S1024x8_o512_7_S256x1 inb_S1x2x1024x512_S1x1x256x128_0_0_512_384 inb_S1x2x1024x512_S1x1x256x128_0_1_512_384 inb_S1024x512_S256x128_512_384 (hb_512_384 x3 _ _) rfl rfl rfl rfl x, ?_⟩
  refine List.forall_mem_cons.mpr ⟨fun x => hb_piece x2 x3 512 256 _ x3 _ _ slices_S1024x8_o512_4_S256x1 slices_S1024x8_o512_5_S256x1 inb_S1x2x1024x512_S1x1x256x128_0_0_512_256 inb_S1x2x1024x512_S1x1x256x128_0_1_512_256 inb_S1024x512_S256x128_512_256 (hb_512_256 x3 _ _) rfl rfl rfl rfl x, ?_⟩
  refine List.forall_mem_cons.mpr ⟨fun x => hb_piece x2 x3 512 128 _ x3 _ _ slices_S1024x8_o512_2_S256x1 slices_S1024x8_o512_3_S256x1 inb_S1x2x1024x512_S1x1x256x128_0_0_512_128 inb_S1x2x1024x512_S1x1x256x128_0_1_512_128 inb_S1024x512_S256x128_512_128 (hb_512_128 x3 _ _) rfl rfl rfl rfl x, ?_⟩
  refine List.forall_mem_cons.mpr ⟨fun x => hb_piece x2 x3 512 0 _ x3 _ _ slices_S1024x8_o512_0_S256x1 slices_S1024x8_o512_1_S256x1 inb_S1x2x1024x512_S1x1x256x128_0_0_512_0 inb_S1x2x1024x512_S1x1x256x128_0_1_512_0 inb_S1024x512_S256x128_512_0 (hb_512_0 x3 _ _) rfl rfl rfl rfl x, ?_⟩
  refine List.forall_mem_cons.mpr ⟨fun x => hb_piece x2 x3 256 384 _ x3 _ _ slices_S1024x8_o256_6_S256x1 slices_S1024x8_o256_7_S256x1 inb_S1x2x1024x512_S1x1x256x128_0_0_256_384 inb_S1x2x1024x512_S1x1x256x128_0_1_256_384 inb_S1024x512_S256x128_256_384 (hb_256_384 x3 _ _) rfl rfl rfl rfl x, ?_⟩
  refine List.forall_mem_cons.mpr ⟨fun x => hb_piece x2 x3 256 256 _ x3 _ _ slices_S1024x8_o256_4_S256x1 slices_S1024x8_o256_5_S256x1 inb_S1x2x1024x512_S1x1x256x128_0_0_256_256 inb_S1x2x1024x512_S1x1x256x128_0_1_256_256 inb_S1024x512_S256x128_256_256 (hb_256_256 x3 _ _) rfl rfl rfl rfl x, ?_⟩
  refine List.forall_mem_cons.mpr ⟨fun x => hb_piece x2 x3 256 128 _ x3 _ _ slices_S1024x8_o256_2_S256x1 slices_S1024x8_o256_3_S256x1 inb_S1x2x1024x512_S1x1x256x128_0_0_256_128 inb_S1x2x1024x512_S1x1x256x128_0_1_256_128 inb_S1024x512_S256x128_256_128 (hb_256_128 x3 _ _) rfl rfl rfl rfl x, ?_⟩
  refine List.forall_mem_cons.mpr ⟨fun x => hb_piece x2 x3 256 0 _ x3 _ _ slices_S1024x8_o256_0_S256x1 slices_S1024x8_o256_1_S256x1 inb_S1x2x1024x512_S1x1x256x128_0_0_256_0 inb_S1x2x1024x512_S1x1x256x128_0_1_256_0 inb_S1024x512_S256x128_256_0 (hb_256_0 x3 _ _) rfl rfl rfl rfl x, ?_⟩
  refine List.forall_mem_cons.mpr ⟨fun x => hb_piece x2 x3 0 384 _ x3 _ _ slices_S1024x8_o0_6_S256x1 slices_S1024x8_o0_7_S256x1 inb_S1x2x1024x512_S1x1x256x128_0_0_0_384 inb_S1x2x1024x512_S1x1x256x128_0_1_0_384 inb_S1024x512_S256x128_0_384 (hb_0_384 x3 _ _) rfl rfl rfl rfl x, ?_⟩
  refine List.forall_mem_cons.mpr ⟨fun x => hb_piece x2 x3 0 256 _ x3 _ _ slices_S1024x8_o0_4_S256x1 slices_S1024x8_o0_5_S256x1 inb_S1x2x1024x512_S1x1x256x128_0_0_0_256 inb_S1x2x1024x512_S1x1x256x128_0_1_0_256 inb_S1024x512_S256x128_0_256 (hb_0_256 x3 _ _) rfl rfl rfl rfl x, ?_⟩
  refine List.forall_mem_cons.mpr ⟨fun x => hb_piece x2 x3 0 128 _ x3 _ _ slices_S1024x8_o0_2_S256x1 slices_S1024x8_o0_3_S256x1 inb_S1x2x1024x512_S1x1x256x128_0_0_0_128 inb_S1x2x1024x512_S1x1x256x128_0_1_0_128 inb_S1024x512_S256x128_0_128 (hb_0_128 x3 _ _) rfl rfl rfl rfl x, ?_⟩
  refine List.forall_mem_cons.mpr ⟨fun x => hb_piece x2 x3 0 0 _ x3 _ _ slices_S1024x8_o0_0_S256x1 slices_S1024x8_o0_1_S256x1 inb_S1x2x1024x512_S1x1x256x128_0_0_0_0 inb_S1x2x1024x512_S1x1x256x128_0_1_0_0 inb_S1024x512_S256x128_0_0 (hb_0_0 x3 _ _) rfl rfl rfl rfl x, ?_⟩
  exact List.forall_mem_nil _

/-- The output gradient. -/
theorem dy_pieces (x0 : Vec Ideal S1024x2048 .fp8e5m2) (x1 : Vec Ideal S1x16x1024 .f32) :
    ∀ p ∈ ([
      ⟨Rect.unit (s := S1024x2048) ![0, 1920] ![1024, 128] inb_S1024x2048_S1024x128_0_1920, k2_pay25 (k2_pay24 (k2_pay5 x1) (View.ld x0 (Rect.unit ![0, 1920] ![1024, 128] inb_S1024x2048_S1024x128_0_1920)))⟩,
      ⟨Rect.unit (s := S1024x2048) ![0, 1792] ![1024, 128] inb_S1024x2048_S1024x128_0_1792, k2_pay23 (k2_pay5 x1) (View.ld x0 (Rect.unit ![0, 1792] ![1024, 128] inb_S1024x2048_S1024x128_0_1792))⟩,
      ⟨Rect.unit (s := S1024x2048) ![0, 1664] ![1024, 128] inb_S1024x2048_S1024x128_0_1664, k2_pay22 (k2_pay5 x1) (View.ld x0 (Rect.unit ![0, 1664] ![1024, 128] inb_S1024x2048_S1024x128_0_1664))⟩,
      ⟨Rect.unit (s := S1024x2048) ![0, 1536] ![1024, 128] inb_S1024x2048_S1024x128_0_1536, k2_pay21 (k2_pay5 x1) (View.ld x0 (Rect.unit ![0, 1536] ![1024, 128] inb_S1024x2048_S1024x128_0_1536))⟩,
      ⟨Rect.unit (s := S1024x2048) ![0, 1408] ![1024, 128] inb_S1024x2048_S1024x128_0_1408, k2_pay20 (k2_pay19 (k2_pay5 x1) (View.ld x0 (Rect.unit ![0, 1408] ![1024, 128] inb_S1024x2048_S1024x128_0_1408)))⟩,
      ⟨Rect.unit (s := S1024x2048) ![0, 1280] ![1024, 128] inb_S1024x2048_S1024x128_0_1280, k2_pay18 (k2_pay5 x1) (View.ld x0 (Rect.unit ![0, 1280] ![1024, 128] inb_S1024x2048_S1024x128_0_1280))⟩,
      ⟨Rect.unit (s := S1024x2048) ![0, 1152] ![1024, 128] inb_S1024x2048_S1024x128_0_1152, k2_pay17 (k2_pay5 x1) (View.ld x0 (Rect.unit ![0, 1152] ![1024, 128] inb_S1024x2048_S1024x128_0_1152))⟩,
      ⟨Rect.unit (s := S1024x2048) ![0, 1024] ![1024, 128] inb_S1024x2048_S1024x128_0_1024, k2_pay16 (k2_pay5 x1) (View.ld x0 (Rect.unit ![0, 1024] ![1024, 128] inb_S1024x2048_S1024x128_0_1024))⟩,
      ⟨Rect.unit (s := S1024x2048) ![0, 896] ![1024, 128] inb_S1024x2048_S1024x128_0_896, k2_pay15 (k2_pay14 (k2_pay5 x1) (View.ld x0 (Rect.unit ![0, 896] ![1024, 128] inb_S1024x2048_S1024x128_0_896)))⟩,
      ⟨Rect.unit (s := S1024x2048) ![0, 768] ![1024, 128] inb_S1024x2048_S1024x128_0_768, k2_pay13 (k2_pay5 x1) (View.ld x0 (Rect.unit ![0, 768] ![1024, 128] inb_S1024x2048_S1024x128_0_768))⟩,
      ⟨Rect.unit (s := S1024x2048) ![0, 640] ![1024, 128] inb_S1024x2048_S1024x128_0_640, k2_pay12 (k2_pay5 x1) (View.ld x0 (Rect.unit ![0, 640] ![1024, 128] inb_S1024x2048_S1024x128_0_640))⟩,
      ⟨Rect.unit (s := S1024x2048) ![0, 512] ![1024, 128] inb_S1024x2048_S1024x128_0_512, k2_pay11 (k2_pay5 x1) (View.ld x0 (Rect.unit ![0, 512] ![1024, 128] inb_S1024x2048_S1024x128_0_512))⟩,
      ⟨Rect.unit (s := S1024x2048) ![0, 384] ![1024, 128] inb_S1024x2048_S1024x128_0_384, k2_pay10 (k2_pay9 x1 (View.ld x0 (Rect.unit ![0, 384] ![1024, 128] inb_S1024x2048_S1024x128_0_384)))⟩,
      ⟨Rect.unit (s := S1024x2048) ![0, 256] ![1024, 128] inb_S1024x2048_S1024x128_0_256, k2_pay8 x1 (View.ld x0 (Rect.unit ![0, 256] ![1024, 128] inb_S1024x2048_S1024x128_0_256))⟩,
      ⟨Rect.unit (s := S1024x2048) ![0, 128] ![1024, 128] inb_S1024x2048_S1024x128_0_128, k2_pay7 x1 (View.ld x0 (Rect.unit ![0, 128] ![1024, 128] inb_S1024x2048_S1024x128_0_128))⟩,
      ⟨Rect.unit (s := S1024x2048) ![0, 0] ![1024, 128] inb_S1024x2048_S1024x128_0_0, k2_pay6 x1 (View.ld x0 (Rect.unit ![0, 0] ![1024, 128] inb_S1024x2048_S1024x128_0_0))⟩] : List (View.Piece (Elt Ideal) S1024x2048 .bf16)), ∀ x : p.1.shape.Idx, p.2 x = dyB x0 x1 (p.1.emb x) := by
  refine List.forall_mem_cons.mpr ⟨fun x => dy_piece x0 x1 1920 _ x1 _ slices_S1024x16_o0_15_S1024x1 inb_S1024x2048_S1024x128_0_1920 inb_S1024x2048_S1024x128_0_1920 (dy_1920 x1 _) rfl rfl rfl x, ?_⟩
  refine List.forall_mem_cons.mpr ⟨fun x => dy_piece x0 x1 1792 _ x1 _ slices_S1024x16_o0_14_S1024x1 inb_S1024x2048_S1024x128_0_1792 inb_S1024x2048_S1024x128_0_1792 (dy_1792 x1 _) rfl rfl rfl x, ?_⟩
  refine List.forall_mem_cons.mpr ⟨fun x => dy_piece x0 x1 1664 _ x1 _ slices_S1024x16_o0_13_S1024x1 inb_S1024x2048_S1024x128_0_1664 inb_S1024x2048_S1024x128_0_1664 (dy_1664 x1 _) rfl rfl rfl x, ?_⟩
  refine List.forall_mem_cons.mpr ⟨fun x => dy_piece x0 x1 1536 _ x1 _ slices_S1024x16_o0_12_S1024x1 inb_S1024x2048_S1024x128_0_1536 inb_S1024x2048_S1024x128_0_1536 (dy_1536 x1 _) rfl rfl rfl x, ?_⟩
  refine List.forall_mem_cons.mpr ⟨fun x => dy_piece x0 x1 1408 _ x1 _ slices_S1024x16_o0_11_S1024x1 inb_S1024x2048_S1024x128_0_1408 inb_S1024x2048_S1024x128_0_1408 (dy_1408 x1 _) rfl rfl rfl x, ?_⟩
  refine List.forall_mem_cons.mpr ⟨fun x => dy_piece x0 x1 1280 _ x1 _ slices_S1024x16_o0_10_S1024x1 inb_S1024x2048_S1024x128_0_1280 inb_S1024x2048_S1024x128_0_1280 (dy_1280 x1 _) rfl rfl rfl x, ?_⟩
  refine List.forall_mem_cons.mpr ⟨fun x => dy_piece x0 x1 1152 _ x1 _ slices_S1024x16_o0_9_S1024x1 inb_S1024x2048_S1024x128_0_1152 inb_S1024x2048_S1024x128_0_1152 (dy_1152 x1 _) rfl rfl rfl x, ?_⟩
  refine List.forall_mem_cons.mpr ⟨fun x => dy_piece x0 x1 1024 _ x1 _ slices_S1024x16_o0_8_S1024x1 inb_S1024x2048_S1024x128_0_1024 inb_S1024x2048_S1024x128_0_1024 (dy_1024 x1 _) rfl rfl rfl x, ?_⟩
  refine List.forall_mem_cons.mpr ⟨fun x => dy_piece x0 x1 896 _ x1 _ slices_S1024x16_o0_7_S1024x1 inb_S1024x2048_S1024x128_0_896 inb_S1024x2048_S1024x128_0_896 (dy_896 x1 _) rfl rfl rfl x, ?_⟩
  refine List.forall_mem_cons.mpr ⟨fun x => dy_piece x0 x1 768 _ x1 _ slices_S1024x16_o0_6_S1024x1 inb_S1024x2048_S1024x128_0_768 inb_S1024x2048_S1024x128_0_768 (dy_768 x1 _) rfl rfl rfl x, ?_⟩
  refine List.forall_mem_cons.mpr ⟨fun x => dy_piece x0 x1 640 _ x1 _ slices_S1024x16_o0_5_S1024x1 inb_S1024x2048_S1024x128_0_640 inb_S1024x2048_S1024x128_0_640 (dy_640 x1 _) rfl rfl rfl x, ?_⟩
  refine List.forall_mem_cons.mpr ⟨fun x => dy_piece x0 x1 512 _ x1 _ slices_S1024x16_o0_4_S1024x1 inb_S1024x2048_S1024x128_0_512 inb_S1024x2048_S1024x128_0_512 (dy_512 x1 _) rfl rfl rfl x, ?_⟩
  refine List.forall_mem_cons.mpr ⟨fun x => dy_piece x0 x1 384 _ x1 _ slices_S1024x16_o0_3_S1024x1 inb_S1024x2048_S1024x128_0_384 inb_S1024x2048_S1024x128_0_384 (dy_384 x1 _) rfl rfl rfl x, ?_⟩
  refine List.forall_mem_cons.mpr ⟨fun x => dy_piece x0 x1 256 _ x1 _ slices_S1024x16_o0_2_S1024x1 inb_S1024x2048_S1024x128_0_256 inb_S1024x2048_S1024x128_0_256 (dy_256 x1 _) rfl rfl rfl x, ?_⟩
  refine List.forall_mem_cons.mpr ⟨fun x => dy_piece x0 x1 128 _ x1 _ slices_S1024x16_o0_1_S1024x1 inb_S1024x2048_S1024x128_0_128 inb_S1024x2048_S1024x128_0_128 (dy_128 x1 _) rfl rfl rfl x, ?_⟩
  refine List.forall_mem_cons.mpr ⟨fun x => dy_piece x0 x1 0 _ x1 _ slices_S1024x16_o0_0_S1024x1 inb_S1024x2048_S1024x128_0_0 inb_S1024x2048_S1024x128_0_0 (dy_0 x1 _) rfl rfl rfl x, ?_⟩
  exact List.forall_mem_nil _

/-- The gradients. -/
theorem dgu_pieces (D : Vec Ideal S1024x2048 .bf16) (x2 : Vec Ideal S1x2x1024x512 .fp8e4m3) (x3 : Vec Ideal S1x1x8x1024 .f32) (x4 : Vec Ideal S2048x512 .bf16) :
    ∀ p ∈ ([
      ⟨Rect.unit (s := S1024x1024) ![768, 896] ![256, 128] inb_S1024x1024_S256x128_768_896, k2_pay2 (k2_pay169 (k2_pay140 (View.ld D (Rect.unit ![768, 0] ![256, 2048] inb_S1024x2048_S256x2048_768_0)) x4)) (k2_pay171 (k2_pay27 x3) (View.ld x2 (Rect.unit ![0, 0, 768, 384] ![1, 1, 256, 128] inb_S1x2x1024x512_S1x1x256x128_0_0_768_384)))⟩,
      ⟨Rect.unit (s := S1024x1024) ![768, 384] ![256, 128] inb_S1024x1024_S256x128_768_384, k2_pay1 (k2_pay173 (k2_pay27 x3) (k2_pay140 (View.ld D (Rect.unit ![768, 0] ![256, 2048] inb_S1024x2048_S256x2048_768_0)) x4) (View.ld x2 (Rect.unit ![0, 0, 768, 384] ![1, 1, 256, 128] inb_S1x2x1024x512_S1x1x256x128_0_0_768_384)) (View.ld x2 (Rect.unit ![0, 1, 768, 384] ![1, 1, 256, 128] inb_S1x2x1024x512_S1x1x256x128_0_1_768_384))) (k2_pay174 (k2_pay27 x3) (View.ld x2 (Rect.unit ![0, 0, 768, 384] ![1, 1, 256, 128] inb_S1x2x1024x512_S1x1x256x128_0_0_768_384)))⟩,
      ⟨Rect.unit (s := S1024x1024) ![768, 768] ![256, 128] inb_S1024x1024_S256x128_768_768, k2_pay166 (k2_pay161 (k2_pay140 (View.ld D (Rect.unit ![768, 0] ![256, 2048] inb_S1024x2048_S256x2048_768_0)) x4)) (k2_pay163 (k2_pay27 x3) (View.ld x2 (Rect.unit ![0, 0, 768, 256] ![1, 1, 256, 128] inb_S1x2x1024x512_S1x1x256x128_0_0_768_256)))⟩,
      ⟨Rect.unit (s := S1024x1024) ![768, 256] ![256, 128] inb_S1024x1024_S256x128_768_256, k2_pay165 (k2_pay159 (k2_pay27 x3) (View.ld x2 (Rect.unit ![0, 0, 768, 256] ![1, 1, 256, 128] inb_S1x2x1024x512_S1x1x256x128_0_0_768_256))) (k2_pay160 (k2_pay27 x3) (View.ld x2 (Rect.unit ![0, 1, 768, 256] ![1, 1, 256, 128] inb_S1x2x1024x512_S1x1x256x128_0_1_768_256))) (k2_pay161 (k2_pay140 (View.ld D (Rect.unit ![768, 0] ![256, 2048] inb_S1024x2048_S256x2048_768_0)) x4)) (k2_pay162 (k2_pay27 x3) (View.ld x2 (Rect.unit ![0, 0, 768, 256] ![1, 1, 256, 128] inb_S1x2x1024x512_S1x1x256x128_0_0_768_256)))⟩,
      ⟨Rect.unit (s := S1024x1024) ![768, 640] ![256, 128] inb_S1024x1024_S256x128_768_640, k2_pay158 (k2_pay153 (k2_pay140 (View.ld D (Rect.unit ![768, 0] ![256, 2048] inb_S1024x2048_S256x2048_768_0)) x4)) (k2_pay155 (k2_pay27 x3) (View.ld x2 (Rect.unit ![0, 0, 768, 128] ![1, 1, 256, 128] inb_S1x2x1024x512_S1x1x256x128_0_0_768_128)))⟩,
      ⟨Rect.unit (s := S1024x1024) ![768, 128] ![256, 128] inb_S1024x1024_S256x128_768_128, k2_pay157 (k2_pay151 (k2_pay27 x3) (View.ld x2 (Rect.unit ![0, 0, 768, 128] ![1, 1, 256, 128] inb_S1x2x1024x512_S1x1x256x128_0_0_768_128))) (k2_pay152 (k2_pay27 x3) (View.ld x2 (Rect.unit ![0, 1, 768, 128] ![1, 1, 256, 128] inb_S1x2x1024x512_S1x1x256x128_0_1_768_128))) (k2_pay153 (k2_pay140 (View.ld D (Rect.unit ![768, 0] ![256, 2048] inb_S1024x2048_S256x2048_768_0)) x4)) (k2_pay154 (k2_pay27 x3) (View.ld x2 (Rect.unit ![0, 0, 768, 128] ![1, 1, 256, 128] inb_S1x2x1024x512_S1x1x256x128_0_0_768_128)))⟩,
      ⟨Rect.unit (s := S1024x1024) ![768, 512] ![256, 128] inb_S1024x1024_S256x128_768_512, k2_pay150 (k2_pay140 (View.ld D (Rect.unit ![768, 0] ![256, 2048] inb_S1024x2048_S256x2048_768_0)) x4) (k2_pay142 (k2_pay27 x3) (View.ld x2 (Rect.unit ![0, 0, 768, 0] ![1, 1, 256, 128] inb_S1x2x1024x512_S1x1x256x128_0_0_768_0)))⟩,
      ⟨Rect.unit (s := S1024x1024) ![768, 0] ![256, 128] inb_S1024x1024_S256x128_768_0, k2_pay149 (k2_pay140 (View.ld D (Rect.unit ![768, 0] ![256, 2048] inb_S1024x2048_S256x2048_768_0)) x4) (k2_pay141 (k2_pay27 x3)) (k2_pay142 (k2_pay27 x3) (View.ld x2 (Rect.unit ![0, 0, 768, 0] ![1, 1, 256, 128] inb_S1x2x1024x512_S1x1x256x128_0_0_768_0))) (k2_pay143 (View.ld x2 (Rect.unit ![0, 1, 768, 0] ![1, 1, 256, 128] inb_S1x2x1024x512_S1x1x256x128_0_1_768_0)))⟩,
      ⟨Rect.unit (s := S1024x1024) ![512, 896] ![256, 128] inb_S1024x1024_S256x128_512_896, k2_pay139 (k2_pay101 (View.ld D (Rect.unit ![512, 0] ![256, 2048] inb_S1024x2048_S256x2048_512_0)) x4) (k2_pay132 (k2_pay27 x3) (View.ld x2 (Rect.unit ![0, 0, 512, 384] ![1, 1, 256, 128] inb_S1x2x1024x512_S1x1x256x128_0_0_512_384)))⟩,
      ⟨Rect.unit (s := S1024x1024) ![512, 384] ![256, 128] inb_S1024x1024_S256x128_512_384, k2_pay138 (k2_pay101 (View.ld D (Rect.unit ![512, 0] ![256, 2048] inb_S1024x2048_S256x2048_512_0)) x4) (k2_pay132 (k2_pay27 x3) (View.ld x2 (Rect.unit ![0, 0, 512, 384] ![1, 1, 256, 128] inb_S1x2x1024x512_S1x1x256x128_0_0_512_384))) (k2_pay133 (k2_pay27 x3) (View.ld x2 (Rect.unit ![0, 1, 512, 384] ![1, 1, 256, 128] inb_S1x2x1024x512_S1x1x256x128_0_1_512_384)))⟩,
      ⟨Rect.unit (s := S1024x1024) ![512, 768] ![256, 128] inb_S1024x1024_S256x128_512_768, k2_pay131 (k2_pay101 (View.ld D (Rect.unit ![512, 0] ![256, 2048] inb_S1024x2048_S256x2048_512_0)) x4) (k2_pay124 (k2_pay27 x3) (View.ld x2 (Rect.unit ![0, 0, 512, 256] ![1, 1, 256, 128] inb_S1x2x1024x512_S1x1x256x128_0_0_512_256)))⟩,
      ⟨Rect.unit (s := S1024x1024) ![512, 256] ![256, 128] inb_S1024x1024_S256x128_512_256, k2_pay130 (k2_pay101 (View.ld D (Rect.unit ![512, 0] ![256, 2048] inb_S1024x2048_S256x2048_512_0)) x4) (k2_pay123 (k2_pay27 x3)) (k2_pay124 (k2_pay27 x3) (View.ld x2 (Rect.unit ![0, 0, 512, 256] ![1, 1, 256, 128] inb_S1x2x1024x512_S1x1x256x128_0_0_512_256))) (View.ld x2 (Rect.unit ![0, 1, 512, 256] ![1, 1, 256, 128] inb_S1x2x1024x512_S1x1x256x128_0_1_512_256))⟩,
      ⟨Rect.unit (s := S1024x1024) ![512, 640] ![256, 128] inb_S1024x1024_S256x128_512_640, k2_pay122 (k2_pay101 (View.ld D (Rect.unit ![512, 0] ![256, 2048] inb_S1024x2048_S256x2048_512_0)) x4) (k2_pay113 (View.ld x2 (Rect.unit ![0, 0, 512, 128] ![1, 1, 256, 128] inb_S1x2x1024x512_S1x1x256x128_0_0_512_128))) (k2_pay114 (k2_pay27 x3))⟩,
      ⟨Rect.unit (s := S1024x1024) ![512, 128] ![256, 128] inb_S1024x1024_S256x128_512_128, k2_pay121 (k2_pay101 (View.ld D (Rect.unit ![512, 0] ![256, 2048] inb_S1024x2048_S256x2048_512_0)) x4) (k2_pay112 (k2_pay27 x3)) (k2_pay113 (View.ld x2 (Rect.unit ![0, 0, 512, 128] ![1, 1, 256, 128] inb_S1x2x1024x512_S1x1x256x128_0_0_512_128))) (k2_pay114 (k2_pay27 x3)) (View.ld x2 (Rect.unit ![0, 1, 512, 128] ![1, 1, 256, 128] inb_S1x2x1024x512_S1x1x256x128_0_1_512_128))⟩,
      ⟨Rect.unit (s := S1024x1024) ![512, 512] ![256, 128] inb_S1024x1024_S256x128_512_512, k2_pay111 (k2_pay101 (View.ld D (Rect.unit ![512, 0] ![256, 2048] inb_S1024x2048_S256x2048_512_0)) x4) (k2_pay102 (k2_pay27 x3)) (View.ld x2 (Rect.unit ![0, 0, 512, 0] ![1, 1, 256, 128] inb_S1x2x1024x512_S1x1x256x128_0_0_512_0))⟩,
      ⟨Rect.unit (s := S1024x1024) ![512, 0] ![256, 128] inb_S1024x1024_S256x128_512_0, k2_pay110 (k2_pay101 (View.ld D (Rect.unit ![512, 0] ![256, 2048] inb_S1024x2048_S256x2048_512_0)) x4) (k2_pay102 (k2_pay27 x3)) (k2_pay103 (k2_pay27 x3)) (View.ld x2 (Rect.unit ![0, 0, 512, 0] ![1, 1, 256, 128] inb_S1x2x1024x512_S1x1x256x128_0_0_512_0)) (View.ld x2 (Rect.unit ![0, 1, 512, 0] ![1, 1, 256, 128] inb_S1x2x1024x512_S1x1x256x128_0_1_512_0))⟩,
      ⟨Rect.unit (s := S1024x1024) ![256, 896] ![256, 128] inb_S1024x1024_S256x128_256_896, k2_pay100 (k2_pay64 (View.ld D (Rect.unit ![256, 0] ![256, 2048] inb_S1024x2048_S256x2048_256_0)) x4) (k2_pay91 (k2_pay27 x3)) (View.ld x2 (Rect.unit ![0, 0, 256, 384] ![1, 1, 256, 128] inb_S1x2x1024x512_S1x1x256x128_0_0_256_384))⟩,
      ⟨Rect.unit (s := S1024x1024) ![256, 384] ![256, 128] inb_S1024x1024_S256x128_256_384, k2_pay99 (k2_pay64 (View.ld D (Rect.unit ![256, 0] ![256, 2048] inb_S1024x2048_S256x2048_256_0)) x4) (k2_pay91 (k2_pay27 x3)) (k2_pay92 (k2_pay27 x3)) (View.ld x2 (Rect.unit ![0, 0, 256, 384] ![1, 1, 256, 128] inb_S1x2x1024x512_S1x1x256x128_0_0_256_384)) (View.ld x2 (Rect.unit ![0, 1, 256, 384] ![1, 1, 256, 128] inb_S1x2x1024x512_S1x1x256x128_0_1_256_384))⟩,
      ⟨Rect.unit (s := S1024x1024) ![256, 768] ![256, 128] inb_S1024x1024_S256x128_256_768, k2_pay90 (k2_pay64 (View.ld D (Rect.unit ![256, 0] ![256, 2048] inb_S1024x2048_S256x2048_256_0)) x4) (k2_pay81 (k2_pay27 x3)) (View.ld x2 (Rect.unit ![0, 0, 256, 256] ![1, 1, 256, 128] inb_S1x2x1024x512_S1x1x256x128_0_0_256_256))⟩,
      ⟨Rect.unit (s := S1024x1024) ![256, 256] ![256, 128] inb_S1024x1024_S256x128_256_256, k2_pay89 (k2_pay64 (View.ld D (Rect.unit ![256, 0] ![256, 2048] inb_S1024x2048_S256x2048_256_0)) x4) (k2_pay81 (k2_pay27 x3)) (k2_pay82 (k2_pay27 x3)) (View.ld x2 (Rect.unit ![0, 0, 256, 256] ![1, 1, 256, 128] inb_S1x2x1024x512_S1x1x256x128_0_0_256_256)) (View.ld x2 (Rect.unit ![0, 1, 256, 256] ![1, 1, 256, 128] inb_S1x2x1024x512_S1x1x256x128_0_1_256_256))⟩,
      ⟨Rect.unit (s := S1024x1024) ![256, 640] ![256, 128] inb_S1024x1024_S256x128_256_640, k2_pay80 (k2_pay27 x3) (k2_pay64 (View.ld D (Rect.unit ![256, 0] ![256, 2048] inb_S1024x2048_S256x2048_256_0)) x4) (View.ld x2 (Rect.unit ![0, 0, 256, 128] ![1, 1, 256, 128] inb_S1x2x1024x512_S1x1x256x128_0_0_256_128))⟩,
      ⟨Rect.unit (s := S1024x1024) ![256, 128] ![256, 128] inb_S1024x1024_S256x128_256_128, k2_pay79 (k2_pay27 x3) (k2_pay64 (View.ld D (Rect.unit ![256, 0] ![256, 2048] inb_S1024x2048_S256x2048_256_0)) x4) (View.ld x2 (Rect.unit ![0, 0, 256, 128] ![1, 1, 256, 128] inb_S1x2x1024x512_S1x1x256x128_0_0_256_128)) (View.ld x2 (Rect.unit ![0, 1, 256, 128] ![1, 1, 256, 128] inb_S1x2x1024x512_S1x1x256x128_0_1_256_128))⟩,
      ⟨Rect.unit (s := S1024x1024) ![256, 512] ![256, 128] inb_S1024x1024_S256x128_256_512, k2_pay72 (k2_pay27 x3) (View.ld D (Rect.unit ![256, 0] ![256, 2048] inb_S1024x2048_S256x2048_256_0)) x4 (View.ld x2 (Rect.unit ![0, 0, 256, 0] ![1, 1, 256, 128] inb_S1x2x1024x512_S1x1x256x128_0_0_256_0))⟩,
      ⟨Rect.unit (s := S1024x1024) ![256, 0] ![256, 128] inb_S1024x1024_S256x128_256_0, k2_pay71 (k2_pay27 x3) (View.ld D (Rect.unit ![256, 0] ![256, 2048] inb_S1024x2048_S256x2048_256_0)) x4 (View.ld x2 (Rect.unit ![0, 0, 256, 0] ![1, 1, 256, 128] inb_S1x2x1024x512_S1x1x256x128_0_0_256_0)) (View.ld x2 (Rect.unit ![0, 1, 256, 0] ![1, 1, 256, 128] inb_S1x2x1024x512_S1x1x256x128_0_1_256_0))⟩,
      ⟨Rect.unit (s := S1024x1024) ![0, 896] ![256, 128] inb_S1024x1024_S256x128_0_896, k2_pay63 (k2_pay27 x3) (k2_pay28 (View.ld D (Rect.unit ![0, 0] ![256, 2048] inb_S1024x2048_S256x2048_0_0)) x4) (View.ld x2 (Rect.unit ![0, 0, 0, 384] ![1, 1, 256, 128] inb_S1x2x1024x512_S1x1x256x128_0_0_0_384))⟩,
      ⟨Rect.unit (s := S1024x1024) ![0, 384] ![256, 128] inb_S1024x1024_S256x128_0_384, k2_pay62 (k2_pay27 x3) (k2_pay28 (View.ld D (Rect.unit ![0, 0] ![256, 2048] inb_S1024x2048_S256x2048_0_0)) x4) (View.ld x2 (Rect.unit ![0, 0, 0, 384] ![1, 1, 256, 128] inb_S1x2x1024x512_S1x1x256x128_0_0_0_384)) (View.ld x2 (Rect.unit ![0, 1, 0, 384] ![1, 1, 256, 128] inb_S1x2x1024x512_S1x1x256x128_0_1_0_384))⟩,
      ⟨Rect.unit (s := S1024x1024) ![0, 768] ![256, 128] inb_S1024x1024_S256x128_0_768, k2_pay55 (k2_pay50 (k2_pay28 (View.ld D (Rect.unit ![0, 0] ![256, 2048] inb_S1024x2048_S256x2048_0_0)) x4)) (k2_pay52 (k2_pay27 x3) (View.ld x2 (Rect.unit ![0, 0, 0, 256] ![1, 1, 256, 128] inb_S1x2x1024x512_S1x1x256x128_0_0_0_256)))⟩,
      ⟨Rect.unit (s := S1024x1024) ![0, 256] ![256, 128] inb_S1024x1024_S256x128_0_256, k2_pay54 (k2_pay27 x3) (k2_pay28 (View.ld D (Rect.unit ![0, 0] ![256, 2048] inb_S1024x2048_S256x2048_0_0)) x4) (View.ld x2 (Rect.unit ![0, 0, 0, 256] ![1, 1, 256, 128] inb_S1x2x1024x512_S1x1x256x128_0_0_0_256)) (View.ld x2 (Rect.unit ![0, 1, 0, 256] ![1, 1, 256, 128] inb_S1x2x1024x512_S1x1x256x128_0_1_0_256))⟩,
      ⟨Rect.unit (s := S1024x1024) ![0, 640] ![256, 128] inb_S1024x1024_S256x128_0_640, k2_pay47 (k2_pay40 (k2_pay28 (View.ld D (Rect.unit ![0, 0] ![256, 2048] inb_S1024x2048_S256x2048_0_0)) x4)) (k2_pay42 (k2_pay27 x3) (View.ld x2 (Rect.unit ![0, 0, 0, 128] ![1, 1, 256, 128] inb_S1x2x1024x512_S1x1x256x128_0_0_0_128)))⟩,
      ⟨Rect.unit (s := S1024x1024) ![0, 128] ![256, 128] inb_S1024x1024_S256x128_0_128, k2_pay46 (k2_pay44 (k2_pay27 x3) (k2_pay28 (View.ld D (Rect.unit ![0, 0] ![256, 2048] inb_S1024x2048_S256x2048_0_0)) x4) (View.ld x2 (Rect.unit ![0, 0, 0, 128] ![1, 1, 256, 128] inb_S1x2x1024x512_S1x1x256x128_0_0_0_128)) (View.ld x2 (Rect.unit ![0, 1, 0, 128] ![1, 1, 256, 128] inb_S1x2x1024x512_S1x1x256x128_0_1_0_128))) (k2_pay45 (k2_pay27 x3) (View.ld x2 (Rect.unit ![0, 0, 0, 128] ![1, 1, 256, 128] inb_S1x2x1024x512_S1x1x256x128_0_0_0_128)))⟩,
      ⟨Rect.unit (s := S1024x1024) ![0, 512] ![256, 128] inb_S1024x1024_S256x128_0_512, k2_pay37 (k2_pay31 (View.ld D (Rect.unit ![0, 0] ![256, 2048] inb_S1024x2048_S256x2048_0_0)) x4) (k2_pay33 x3 (View.ld x2 (Rect.unit ![0, 0, 0, 0] ![1, 1, 256, 128] inb_S1x2x1024x512_S1x1x256x128_0_0_0_0)))⟩,
      ⟨Rect.unit (s := S1024x1024) ![0, 0] ![256, 128] inb_S1024x1024_S256x128_0_0, k2_pay36 (k2_pay29 x3 (View.ld x2 (Rect.unit ![0, 0, 0, 0] ![1, 1, 256, 128] inb_S1x2x1024x512_S1x1x256x128_0_0_0_0))) (k2_pay32 x3 (View.ld x2 (Rect.unit ![0, 0, 0, 0] ![1, 1, 256, 128] inb_S1x2x1024x512_S1x1x256x128_0_0_0_0))) (k2_pay35 x3 (View.ld D (Rect.unit ![0, 0] ![256, 2048] inb_S1024x2048_S256x2048_0_0)) x4 (View.ld x2 (Rect.unit ![0, 0, 0, 0] ![1, 1, 256, 128] inb_S1x2x1024x512_S1x1x256x128_0_0_0_0)) (View.ld x2 (Rect.unit ![0, 1, 0, 0] ![1, 1, 256, 128] inb_S1x2x1024x512_S1x1x256x128_0_1_0_0))) (FloatOps.ofBits .f32 0x3F800000#32)⟩] : List (View.Piece (Elt Ideal) S1024x1024 .bf16)), ∀ x : p.1.shape.Idx, p.2 x = dguB D x2 x3 x4 (p.1.emb x) := by
  refine List.forall_mem_cons.mpr ⟨fun x => du_piece D x2 x3 x4 768 896 _ x3 _ _ x4 slices_S1024x8_o768_6_S256x1 slices_S256x512_o0_384_S256x128 inb_S1x2x1024x512_S1x1x256x128_0_0_768_384 inb_S1024x1024_S256x128_768_896 (dgu_768_896 x3 _ _ x4) rfl rfl rfl (rows_ld D 768 inb_S1024x2048_S256x2048_768_0) rfl (by decide) x, ?_⟩
  refine List.forall_mem_cons.mpr ⟨fun x => dg_piece D x2 x3 x4 768 384 _ x3 _ _ _ x4 slices_S1024x8_o768_6_S256x1 slices_S1024x8_o768_7_S256x1 slices_S256x512_o0_384_S256x128 inb_S1x2x1024x512_S1x1x256x128_0_0_768_384 inb_S1x2x1024x512_S1x1x256x128_0_1_768_384 inb_S1024x1024_S256x128_768_384 (dgu_768_384 x3 _ _ _ x4) rfl rfl rfl rfl (rows_ld D 768 inb_S1024x2048_S256x2048_768_0) rfl (by decide) x, ?_⟩
  refine List.forall_mem_cons.mpr ⟨fun x => du_piece D x2 x3 x4 768 768 _ x3 _ _ x4 slices_S1024x8_o768_4_S256x1 slices_S256x512_o0_256_S256x128 inb_S1x2x1024x512_S1x1x256x128_0_0_768_256 inb_S1024x1024_S256x128_768_768 (dgu_768_768 x3 _ _ x4) rfl rfl rfl (rows_ld D 768 inb_S1024x2048_S256x2048_768_0) rfl (by decide) x, ?_⟩
  refine List.forall_mem_cons.mpr ⟨fun x => dg_piece D x2 x3 x4 768 256 _ x3 _ _ _ x4 slices_S1024x8_o768_4_S256x1 slices_S1024x8_o768_5_S256x1 slices_S256x512_o0_256_S256x128 inb_S1x2x1024x512_S1x1x256x128_0_0_768_256 inb_S1x2x1024x512_S1x1x256x128_0_1_768_256 inb_S1024x1024_S256x128_768_256 (dgu_768_256 x3 _ _ _ x4) rfl rfl rfl rfl (rows_ld D 768 inb_S1024x2048_S256x2048_768_0) rfl (by decide) x, ?_⟩
  refine List.forall_mem_cons.mpr ⟨fun x => du_piece D x2 x3 x4 768 640 _ x3 _ _ x4 slices_S1024x8_o768_2_S256x1 slices_S256x512_o0_128_S256x128 inb_S1x2x1024x512_S1x1x256x128_0_0_768_128 inb_S1024x1024_S256x128_768_640 (dgu_768_640 x3 _ _ x4) rfl rfl rfl (rows_ld D 768 inb_S1024x2048_S256x2048_768_0) rfl (by decide) x, ?_⟩
  refine List.forall_mem_cons.mpr ⟨fun x => dg_piece D x2 x3 x4 768 128 _ x3 _ _ _ x4 slices_S1024x8_o768_2_S256x1 slices_S1024x8_o768_3_S256x1 slices_S256x512_o0_128_S256x128 inb_S1x2x1024x512_S1x1x256x128_0_0_768_128 inb_S1x2x1024x512_S1x1x256x128_0_1_768_128 inb_S1024x1024_S256x128_768_128 (dgu_768_128 x3 _ _ _ x4) rfl rfl rfl rfl (rows_ld D 768 inb_S1024x2048_S256x2048_768_0) rfl (by decide) x, ?_⟩
  refine List.forall_mem_cons.mpr ⟨fun x => du_piece D x2 x3 x4 768 512 _ x3 _ _ x4 slices_S1024x8_o768_0_S256x1 slices_S256x512_o0_0_S256x128 inb_S1x2x1024x512_S1x1x256x128_0_0_768_0 inb_S1024x1024_S256x128_768_512 (dgu_768_512 x3 _ _ x4) rfl rfl rfl (rows_ld D 768 inb_S1024x2048_S256x2048_768_0) rfl (by decide) x, ?_⟩
  refine List.forall_mem_cons.mpr ⟨fun x => dg_piece D x2 x3 x4 768 0 _ x3 _ _ _ x4 slices_S1024x8_o768_0_S256x1 slices_S1024x8_o768_1_S256x1 slices_S256x512_o0_0_S256x128 inb_S1x2x1024x512_S1x1x256x128_0_0_768_0 inb_S1x2x1024x512_S1x1x256x128_0_1_768_0 inb_S1024x1024_S256x128_768_0 (dgu_768_0 x3 _ _ _ x4) rfl rfl rfl rfl (rows_ld D 768 inb_S1024x2048_S256x2048_768_0) rfl (by decide) x, ?_⟩
  refine List.forall_mem_cons.mpr ⟨fun x => du_piece D x2 x3 x4 512 896 _ x3 _ _ x4 slices_S1024x8_o512_6_S256x1 slices_S256x512_o0_384_S256x128 inb_S1x2x1024x512_S1x1x256x128_0_0_512_384 inb_S1024x1024_S256x128_512_896 (dgu_512_896 x3 _ _ x4) rfl rfl rfl (rows_ld D 512 inb_S1024x2048_S256x2048_512_0) rfl (by decide) x, ?_⟩
  refine List.forall_mem_cons.mpr ⟨fun x => dg_piece D x2 x3 x4 512 384 _ x3 _ _ _ x4 slices_S1024x8_o512_6_S256x1 slices_S1024x8_o512_7_S256x1 slices_S256x512_o0_384_S256x128 inb_S1x2x1024x512_S1x1x256x128_0_0_512_384 inb_S1x2x1024x512_S1x1x256x128_0_1_512_384 inb_S1024x1024_S256x128_512_384 (dgu_512_384 x3 _ _ _ x4) rfl rfl rfl rfl (rows_ld D 512 inb_S1024x2048_S256x2048_512_0) rfl (by decide) x, ?_⟩
  refine List.forall_mem_cons.mpr ⟨fun x => du_piece D x2 x3 x4 512 768 _ x3 _ _ x4 slices_S1024x8_o512_4_S256x1 slices_S256x512_o0_256_S256x128 inb_S1x2x1024x512_S1x1x256x128_0_0_512_256 inb_S1024x1024_S256x128_512_768 (dgu_512_768 x3 _ _ x4) rfl rfl rfl (rows_ld D 512 inb_S1024x2048_S256x2048_512_0) rfl (by decide) x, ?_⟩
  refine List.forall_mem_cons.mpr ⟨fun x => dg_piece D x2 x3 x4 512 256 _ x3 _ _ _ x4 slices_S1024x8_o512_4_S256x1 slices_S1024x8_o512_5_S256x1 slices_S256x512_o0_256_S256x128 inb_S1x2x1024x512_S1x1x256x128_0_0_512_256 inb_S1x2x1024x512_S1x1x256x128_0_1_512_256 inb_S1024x1024_S256x128_512_256 (dgu_512_256 x3 _ _ _ x4) rfl rfl rfl rfl (rows_ld D 512 inb_S1024x2048_S256x2048_512_0) rfl (by decide) x, ?_⟩
  refine List.forall_mem_cons.mpr ⟨fun x => du_piece D x2 x3 x4 512 640 _ x3 _ _ x4 slices_S1024x8_o512_2_S256x1 slices_S256x512_o0_128_S256x128 inb_S1x2x1024x512_S1x1x256x128_0_0_512_128 inb_S1024x1024_S256x128_512_640 (dgu_512_640 x3 _ _ x4) rfl rfl rfl (rows_ld D 512 inb_S1024x2048_S256x2048_512_0) rfl (by decide) x, ?_⟩
  refine List.forall_mem_cons.mpr ⟨fun x => dg_piece D x2 x3 x4 512 128 _ x3 _ _ _ x4 slices_S1024x8_o512_2_S256x1 slices_S1024x8_o512_3_S256x1 slices_S256x512_o0_128_S256x128 inb_S1x2x1024x512_S1x1x256x128_0_0_512_128 inb_S1x2x1024x512_S1x1x256x128_0_1_512_128 inb_S1024x1024_S256x128_512_128 (dgu_512_128 x3 _ _ _ x4) rfl rfl rfl rfl (rows_ld D 512 inb_S1024x2048_S256x2048_512_0) rfl (by decide) x, ?_⟩
  refine List.forall_mem_cons.mpr ⟨fun x => du_piece D x2 x3 x4 512 512 _ x3 _ _ x4 slices_S1024x8_o512_0_S256x1 slices_S256x512_o0_0_S256x128 inb_S1x2x1024x512_S1x1x256x128_0_0_512_0 inb_S1024x1024_S256x128_512_512 (dgu_512_512 x3 _ _ x4) rfl rfl rfl (rows_ld D 512 inb_S1024x2048_S256x2048_512_0) rfl (by decide) x, ?_⟩
  refine List.forall_mem_cons.mpr ⟨fun x => dg_piece D x2 x3 x4 512 0 _ x3 _ _ _ x4 slices_S1024x8_o512_0_S256x1 slices_S1024x8_o512_1_S256x1 slices_S256x512_o0_0_S256x128 inb_S1x2x1024x512_S1x1x256x128_0_0_512_0 inb_S1x2x1024x512_S1x1x256x128_0_1_512_0 inb_S1024x1024_S256x128_512_0 (dgu_512_0 x3 _ _ _ x4) rfl rfl rfl rfl (rows_ld D 512 inb_S1024x2048_S256x2048_512_0) rfl (by decide) x, ?_⟩
  refine List.forall_mem_cons.mpr ⟨fun x => du_piece D x2 x3 x4 256 896 _ x3 _ _ x4 slices_S1024x8_o256_6_S256x1 slices_S256x512_o0_384_S256x128 inb_S1x2x1024x512_S1x1x256x128_0_0_256_384 inb_S1024x1024_S256x128_256_896 (dgu_256_896 x3 _ _ x4) rfl rfl rfl (rows_ld D 256 inb_S1024x2048_S256x2048_256_0) rfl (by decide) x, ?_⟩
  refine List.forall_mem_cons.mpr ⟨fun x => dg_piece D x2 x3 x4 256 384 _ x3 _ _ _ x4 slices_S1024x8_o256_6_S256x1 slices_S1024x8_o256_7_S256x1 slices_S256x512_o0_384_S256x128 inb_S1x2x1024x512_S1x1x256x128_0_0_256_384 inb_S1x2x1024x512_S1x1x256x128_0_1_256_384 inb_S1024x1024_S256x128_256_384 (dgu_256_384 x3 _ _ _ x4) rfl rfl rfl rfl (rows_ld D 256 inb_S1024x2048_S256x2048_256_0) rfl (by decide) x, ?_⟩
  refine List.forall_mem_cons.mpr ⟨fun x => du_piece D x2 x3 x4 256 768 _ x3 _ _ x4 slices_S1024x8_o256_4_S256x1 slices_S256x512_o0_256_S256x128 inb_S1x2x1024x512_S1x1x256x128_0_0_256_256 inb_S1024x1024_S256x128_256_768 (dgu_256_768 x3 _ _ x4) rfl rfl rfl (rows_ld D 256 inb_S1024x2048_S256x2048_256_0) rfl (by decide) x, ?_⟩
  refine List.forall_mem_cons.mpr ⟨fun x => dg_piece D x2 x3 x4 256 256 _ x3 _ _ _ x4 slices_S1024x8_o256_4_S256x1 slices_S1024x8_o256_5_S256x1 slices_S256x512_o0_256_S256x128 inb_S1x2x1024x512_S1x1x256x128_0_0_256_256 inb_S1x2x1024x512_S1x1x256x128_0_1_256_256 inb_S1024x1024_S256x128_256_256 (dgu_256_256 x3 _ _ _ x4) rfl rfl rfl rfl (rows_ld D 256 inb_S1024x2048_S256x2048_256_0) rfl (by decide) x, ?_⟩
  refine List.forall_mem_cons.mpr ⟨fun x => du_piece D x2 x3 x4 256 640 _ x3 _ _ x4 slices_S1024x8_o256_2_S256x1 slices_S256x512_o0_128_S256x128 inb_S1x2x1024x512_S1x1x256x128_0_0_256_128 inb_S1024x1024_S256x128_256_640 (dgu_256_640 x3 _ _ x4) rfl rfl rfl (rows_ld D 256 inb_S1024x2048_S256x2048_256_0) rfl (by decide) x, ?_⟩
  refine List.forall_mem_cons.mpr ⟨fun x => dg_piece D x2 x3 x4 256 128 _ x3 _ _ _ x4 slices_S1024x8_o256_2_S256x1 slices_S1024x8_o256_3_S256x1 slices_S256x512_o0_128_S256x128 inb_S1x2x1024x512_S1x1x256x128_0_0_256_128 inb_S1x2x1024x512_S1x1x256x128_0_1_256_128 inb_S1024x1024_S256x128_256_128 (dgu_256_128 x3 _ _ _ x4) rfl rfl rfl rfl (rows_ld D 256 inb_S1024x2048_S256x2048_256_0) rfl (by decide) x, ?_⟩
  refine List.forall_mem_cons.mpr ⟨fun x => du_piece D x2 x3 x4 256 512 _ x3 _ _ x4 slices_S1024x8_o256_0_S256x1 slices_S256x512_o0_0_S256x128 inb_S1x2x1024x512_S1x1x256x128_0_0_256_0 inb_S1024x1024_S256x128_256_512 (dgu_256_512 x3 _ _ x4) rfl rfl rfl (rows_ld D 256 inb_S1024x2048_S256x2048_256_0) rfl (by decide) x, ?_⟩
  refine List.forall_mem_cons.mpr ⟨fun x => dg_piece D x2 x3 x4 256 0 _ x3 _ _ _ x4 slices_S1024x8_o256_0_S256x1 slices_S1024x8_o256_1_S256x1 slices_S256x512_o0_0_S256x128 inb_S1x2x1024x512_S1x1x256x128_0_0_256_0 inb_S1x2x1024x512_S1x1x256x128_0_1_256_0 inb_S1024x1024_S256x128_256_0 (dgu_256_0 x3 _ _ _ x4) rfl rfl rfl rfl (rows_ld D 256 inb_S1024x2048_S256x2048_256_0) rfl (by decide) x, ?_⟩
  refine List.forall_mem_cons.mpr ⟨fun x => du_piece D x2 x3 x4 0 896 _ x3 _ _ x4 slices_S1024x8_o0_6_S256x1 slices_S256x512_o0_384_S256x128 inb_S1x2x1024x512_S1x1x256x128_0_0_0_384 inb_S1024x1024_S256x128_0_896 (dgu_0_896 x3 _ _ x4) rfl rfl rfl (rows_ld D 0 inb_S1024x2048_S256x2048_0_0) rfl (by decide) x, ?_⟩
  refine List.forall_mem_cons.mpr ⟨fun x => dg_piece D x2 x3 x4 0 384 _ x3 _ _ _ x4 slices_S1024x8_o0_6_S256x1 slices_S1024x8_o0_7_S256x1 slices_S256x512_o0_384_S256x128 inb_S1x2x1024x512_S1x1x256x128_0_0_0_384 inb_S1x2x1024x512_S1x1x256x128_0_1_0_384 inb_S1024x1024_S256x128_0_384 (dgu_0_384 x3 _ _ _ x4) rfl rfl rfl rfl (rows_ld D 0 inb_S1024x2048_S256x2048_0_0) rfl (by decide) x, ?_⟩
  refine List.forall_mem_cons.mpr ⟨fun x => du_piece D x2 x3 x4 0 768 _ x3 _ _ x4 slices_S1024x8_o0_4_S256x1 slices_S256x512_o0_256_S256x128 inb_S1x2x1024x512_S1x1x256x128_0_0_0_256 inb_S1024x1024_S256x128_0_768 (dgu_0_768 x3 _ _ x4) rfl rfl rfl (rows_ld D 0 inb_S1024x2048_S256x2048_0_0) rfl (by decide) x, ?_⟩
  refine List.forall_mem_cons.mpr ⟨fun x => dg_piece D x2 x3 x4 0 256 _ x3 _ _ _ x4 slices_S1024x8_o0_4_S256x1 slices_S1024x8_o0_5_S256x1 slices_S256x512_o0_256_S256x128 inb_S1x2x1024x512_S1x1x256x128_0_0_0_256 inb_S1x2x1024x512_S1x1x256x128_0_1_0_256 inb_S1024x1024_S256x128_0_256 (dgu_0_256 x3 _ _ _ x4) rfl rfl rfl rfl (rows_ld D 0 inb_S1024x2048_S256x2048_0_0) rfl (by decide) x, ?_⟩
  refine List.forall_mem_cons.mpr ⟨fun x => du_piece D x2 x3 x4 0 640 _ x3 _ _ x4 slices_S1024x8_o0_2_S256x1 slices_S256x512_o0_128_S256x128 inb_S1x2x1024x512_S1x1x256x128_0_0_0_128 inb_S1024x1024_S256x128_0_640 (dgu_0_640 x3 _ _ x4) rfl rfl rfl (rows_ld D 0 inb_S1024x2048_S256x2048_0_0) rfl (by decide) x, ?_⟩
  refine List.forall_mem_cons.mpr ⟨fun x => dg_piece D x2 x3 x4 0 128 _ x3 _ _ _ x4 slices_S1024x8_o0_2_S256x1 slices_S1024x8_o0_3_S256x1 slices_S256x512_o0_128_S256x128 inb_S1x2x1024x512_S1x1x256x128_0_0_0_128 inb_S1x2x1024x512_S1x1x256x128_0_1_0_128 inb_S1024x1024_S256x128_0_128 (dgu_0_128 x3 _ _ _ x4) rfl rfl rfl rfl (rows_ld D 0 inb_S1024x2048_S256x2048_0_0) rfl (by decide) x, ?_⟩
  refine List.forall_mem_cons.mpr ⟨fun x => du_piece D x2 x3 x4 0 512 _ x3 _ _ x4 slices_S1024x8_o0_0_S256x1 slices_S256x512_o0_0_S256x128 inb_S1x2x1024x512_S1x1x256x128_0_0_0_0 inb_S1024x1024_S256x128_0_512 (dgu_0_512 x3 _ _ x4) rfl rfl rfl (rows_ld D 0 inb_S1024x2048_S256x2048_0_0) rfl (by decide) x, ?_⟩
  refine List.forall_mem_cons.mpr ⟨fun x => dg_piece D x2 x3 x4 0 0 _ x3 _ _ _ x4 slices_S1024x8_o0_0_S256x1 slices_S1024x8_o0_1_S256x1 slices_S256x512_o0_0_S256x128 inb_S1x2x1024x512_S1x1x256x128_0_0_0_0 inb_S1x2x1024x512_S1x1x256x128_0_1_0_0 inb_S1024x1024_S256x128_0_0 (dgu_0_0 x3 _ _ _ x4) rfl rfl rfl rfl (rows_ld D 0 inb_S1024x2048_S256x2048_0_0) rfl (by decide) x, ?_⟩
  exact List.forall_mem_nil _

end Cert.KernelIdeal.R2
end
-- ==== Proof.R2.CaseA.lean ====
/- Region 2 of the kernel at the extended reals, the first point of a row of tiles: what the body leaves in its blocks. -/
module

public import proofs.«01_k».proof.Proof.R2.Pieces

@[expose] public section

set_option maxRecDepth 65536
set_option maxHeartbeats 8000000

noncomputable section

namespace Cert.KernelIdeal.R2

open Cert.KernelIdeal Cert.KernelIdeal.Gen
open Idealize.ShloMosaic Idealize.ShloMosaic.TcCoe Idealize.ShloMosaic.Tactic Idealize.ShloMosaic.ValueIdx
open Idealize.SL.Sem

section
variable (c : Dev nD) (i : grid2.Coords) (arg2 : Memref sig .tc .vmem S1024x2048 .fp8e5m2) (harg2 : arg2.IsWhole) (arg3 : Memref sig .tc .vmem S1x16x1024 .f32) (harg3 : arg3.IsWhole) (arg4 : Memref sig .tc .vmem S1x2x1024x512 .fp8e4m3) (harg4 : arg4.IsWhole) (arg5 : Memref sig .tc .vmem S1x1x8x1024 .f32) (harg5 : arg5.IsWhole) (arg6 : Memref sig .tc .vmem S2048x512 .bf16) (harg6 : arg6.IsWhole) (arg7 : Memref sig .tc .vmem S1024x2048 .bf16) (harg7 : arg7.IsWhole) (arg8 : Memref sig .tc .vmem S1024x1024 .bf16) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S1024x2048 .f32) (harg12 : arg12.IsWhole) (hc0 : cond0_0 i) (hc1 : ¬cond0_1 i)
    (x0 : Vec Ideal S1024x2048 .fp8e5m2) (x1 : Vec Ideal S1x16x1024 .f32) (x2 : Vec Ideal S1x2x1024x512 .fp8e4m3) (x3 : Vec Ideal S1x1x8x1024 .f32) (x4 : Vec Ideal S2048x512 .bf16) (x5 : Vec Ideal S1024x2048 .bf16)

/-- The scratch holds the point's rows of the output gradient. -/
theorem canon_A_0 :
    View.canon (kernelRun0_A (F := Ideal) c i arg2 harg2 arg3 harg3 arg4 harg4 arg5 harg5 arg6 harg6 arg7 harg7 arg8 harg8 arg9 harg9 arg10 harg10 arg11 harg11 arg12 harg12 hc0 hc1 x0 x1 x2 x3 x4 x5).2.2.2.1 = dyB x0 x1 := by
  funext y
  refine View.canon_apply_of_pieces (dyB x0 x1) _ ?_ y (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 y)
  unfold kernelRun0_A
  dsimp only
  sl_unfold_words
  simp only [View.readAt_eq_ld, harg2.read_unread, harg3.read_unread, harg4.read_unread, harg5.read_unread, harg6.read_unread, harg7.read_unread, harg11.read_unread, harg12.read_unread, View.ld_unit_zero (S := S1x1x8x1024) hz4, View.ld_unit_zero (S := S2048x512) hz, View.ld_unit_zero (S := S1x16x1024) hz3, View.ld_unit_zero (S := S1024x2048) hz]
  exact dy_pieces x0 x1

theorem sout_A_0 :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 = dyB x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5)]
  exact canon_A_0 c i arg2 harg2 arg3 harg3 arg4 harg4 arg5 harg5 arg6 harg6 arg7 harg7 arg8 harg8 arg9 harg9 arg10 harg10 arg11 harg11 arg12 harg12 hc0 hc1 x0 x1 x2 x3 x4 x5

/-- The scratch read back. -/
theorem read_A (v : View sig .tc .vmem S1024x2048 .bf16) (r : Rect S1024x2048) :
    v.readCov (kernelRun0_A (F := Ideal) c i arg2 harg2 arg3 harg3 arg4 harg4 arg5 harg5 arg6 harg6 arg7 harg7 arg8 harg8 arg9 harg9 arg10 harg10 arg11 harg11 arg12 harg12 hc0 hc1 x0 x1 x2 x3 x4 x5).2.2.2.1 r.toLoadRect = View.ld (dyB x0 x1) r := by
  rw [View.readCov_eq_canon_ld _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5), canon_A_0 c i arg2 harg2 arg3 harg3 arg4 harg4 arg5 harg5 arg6 harg6 arg7 harg7 arg8 harg8 arg9 harg9 arg10 harg10 arg11 harg11 arg12 harg12 hc0 hc1 x0 x1 x2 x3 x4 x5]

/-- The point's hidden activations. -/
theorem canon_A_7 :
    View.canon (kernelRun0_A (F := Ideal) c i arg2 harg2 arg3 harg3 arg4 harg4 arg5 harg5 arg6 harg6 arg7 harg7 arg8 harg8 arg9 harg9 arg10 harg10 arg11 harg11 arg12 harg12 hc0 hc1 x0 x1 x2 x3 x4 x5).2.1 = hbB x2 x3 := by
  funext y
  refine View.canon_apply_of_pieces (hbB x2 x3) _ ?_ y (cover0_A_7 c i arg2 harg2 arg3 harg3 arg4 harg4 arg5 harg5 arg6 harg6 arg7 harg7 arg8 harg8 arg9 harg9 arg10 harg10 arg11 harg11 arg12 harg12 hc0 hc1 x0 x1 x2 x3 x4 x5 y)
  unfold kernelRun0_A
  dsimp only
  sl_unfold_words
  simp only [View.readAt_eq_ld, harg2.read_unread, harg3.read_unread, harg4.read_unread, harg5.read_unread, harg6.read_unread, harg7.read_unread, harg11.read_unread, harg12.read_unread, View.ld_unit_zero (S := S1x1x8x1024) hz4, View.ld_unit_zero (S := S2048x512) hz, View.ld_unit_zero (S := S1x16x1024) hz3, View.ld_unit_zero (S := S1024x2048) hz]
  exact hb_pieces x2 x3

theorem out_A_7 :
    out0_A_7 c i arg2 harg2 arg3 harg3 arg4 harg4 arg5 harg5 arg6 harg6 arg7 harg7 arg8 harg8 arg9 harg9 arg10 harg10 arg11 harg11 arg12 harg12 hc0 hc1 x0 x1 x2 x3 x4 x5 = hbB x2 x3 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 hc0 hc1 x0 x1 x2 x3 x4 x5)]
  exact canon_A_7 c i arg2 harg2 arg3 harg3 arg4 harg4 arg5 harg5 arg6 harg6 arg7 harg7 arg8 harg8 arg9 harg9 arg10 harg10 arg11 harg11 arg12 harg12 hc0 hc1 x0 x1 x2 x3 x4 x5

/-- The point's gradients. -/
theorem canon_A_6 :
    View.canon (kernelRun0_A (F := Ideal) c i arg2 harg2 arg3 harg3 arg4 harg4 arg5 harg5 arg6 harg6 arg7 harg7 arg8 harg8 arg9 harg9 arg10 harg10 arg11 harg11 arg12 harg12 hc0 hc1 x0 x1 x2 x3 x4 x5).1 = dguB (dyB x0 x1) x2 x3 x4 := by
  funext y
  refine View.canon_apply_of_pieces (dguB (dyB x0 x1) x2 x3 x4) _ ?_ y (cover0_A_6 c i arg2 harg2 arg3 harg3 arg4 harg4 arg5 harg5 arg6 harg6 arg7 harg7 arg8 harg8 arg9 harg9 arg10 harg10 arg11 harg11 arg12 harg12 hc0 hc1 x0 x1 x2 x3 x4 x5 y)
  have hr := read_A c i arg2 harg2 arg3 harg3 arg4 harg4 arg5 harg5 arg6 harg6 arg7 harg7 arg8 harg8 arg9 harg9 arg10 harg10 arg11 harg11 arg12 harg12 hc0 hc1 x0 x1 x2 x3 x4 x5 arg11.view
  revert hr
  unfold kernelRun0_A
  dsimp only
  sl_unfold_words
  simp only [View.readAt_eq_ld, harg2.read_unread, harg3.read_unread, harg4.read_unread, harg5.read_unread, harg6.read_unread, harg7.read_unread, harg11.read_unread, harg12.read_unread, View.ld_unit_zero (S := S1x1x8x1024) hz4, View.ld_unit_zero (S := S2048x512) hz, View.ld_unit_zero (S := S1x16x1024) hz3, View.ld_unit_zero (S := S1024x2048) hz]
  intro hr
  simp only [hr]
  exact dgu_pieces (dyB x0 x1) x2 x3 x4

theorem out_A_6 :
    out0_A_6 c i arg2 harg2 arg3 harg3 arg4 harg4 arg5 harg5 arg6 harg6 arg7 harg7 arg8 harg8 arg9 harg9 arg10 harg10 arg11 harg11 arg12 harg12 hc0 hc1 x0 x1 x2 x3 x4 x5 = dguB (dyB x0 x1) x2 x3 x4 := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 hc0 hc1 x0 x1 x2 x3 x4 x5)]
  exact canon_A_6 c i arg2 harg2 arg3 harg3 arg4 harg4 arg5 harg5 arg6 harg6 arg7 harg7 arg8 harg8 arg9 harg9 arg10 harg10 arg11 harg11 arg12 harg12 hc0 hc1 x0 x1 x2 x3 x4 x5

/-- The gradients read back whole. -/
theorem back_A
    (v : View sig .tc .vmem S1024x1024 .bf16) (inb : ∀ a, (![0, 0] : Fin 2 → ℕ) a + S1024x1024.size a ≤ S1024x1024.size a) :
    v.readCov (kernelRun0_A (F := Ideal) c i arg2 harg2 arg3 harg3 arg4 harg4 arg5 harg5 arg6 harg6 arg7 harg7 arg8 harg8 arg9 harg9 arg10 harg10 arg11 harg11 arg12 harg12 hc0 hc1 x0 x1 x2 x3 x4 x5).1 (Rect.unit (s := S1024x1024) ![0, 0] S1024x1024.size inb) = dguB (dyB x0 x1) x2 x3 x4 := by
  rw [View.readCov_eq_canon_ld _ _ _ (cover0_A_6 c i arg2 harg2 arg3 harg3 arg4 harg4 arg5 harg5 arg6 harg6 arg7 harg7 arg8 harg8 arg9 harg9 arg10 harg10 arg11 harg11 arg12 harg12 hc0 hc1 x0 x1 x2 x3 x4 x5), canon_A_6 c i arg2 harg2 arg3 harg3 arg4 harg4 arg5 harg5 arg6 harg6 arg7 harg7 arg8 harg8 arg9 harg9 arg10 harg10 arg11 harg11 arg12 harg12 hc0 hc1 x0 x1 x2 x3 x4 x5]
  exact View.ld_unit_zero (S := S1024x1024) hz _ _

theorem pay3_congr_A {a a' : Vec Ideal S1024x2048 .f32} {b b' : Vec Ideal S1024x1024 .bf16} {w w' : Vec Ideal S1024x2048 .bf16}
    (h1 : a = a') (h2 : b = b') (h3 : w = w') : k2_pay3 a b w = k2_pay3 a' b' w' := by rw [h1, h2, h3]

/-- The accumulator after the point. -/
theorem canon_A_1 :
    View.canon (kernelRun0_A (F := Ideal) c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1 = k2_pay3 (k2_pay26 (F := Ideal)) (dguB (dyB x0 x1) x2 x3 x4) x5 := by
  have hb := back_A c i arg2 harg2 arg3 harg3 arg4 harg4 arg5 harg5 arg6 harg6 arg7 harg7 arg8 harg8 arg9 harg9 arg10 harg10 arg11 harg11 arg12 harg12 hc0 hc1 x0 x1 x2 x3 x4 x5 arg8.view
  revert hb
  unfold kernelRun0_A
  dsimp only
  sl_unfold_words
  intro hb
  exact (View.canon_cons_unit_zero (S := S1024x2048) hz _ _ _).trans (pay3_congr_A (View.readCov_unit_zero (S := S1024x2048) _ hz _ _) (hb _) (rdw arg7 harg7 x5 hz _))

theorem sout_A_1 :
    sout0_A_1 c i arg2 harg2 arg3 harg3 arg4 harg4 arg5 harg5 arg6 harg6 arg7 harg7 arg8 harg8 arg9 harg9 arg10 harg10 arg11 harg11 arg12 harg12 hc0 hc1 x0 x1 x2 x3 x4 x5 = k2_pay3 (k2_pay26 (F := Ideal)) (dguB (dyB x0 x1) x2 x3 x4) x5 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4 x5)]
  exact canon_A_1 c i arg2 harg2 arg3 harg3 arg4 harg4 arg5 harg5 arg6 harg6 arg7 harg7 arg8 harg8 arg9 harg9 arg10 harg10 arg11 harg11 arg12 harg12 hc0 hc1 x0 x1 x2 x3 x4 x5

end

end Cert.KernelIdeal.R2

end
-- ==== Proof.R2.CaseB.lean ====
/- Region 2 of the kernel at the extended reals, a middle point of a row of tiles: what the body leaves in its blocks. -/
module

public import proofs.«01_k».proof.Proof.R2.Pieces

@[expose] public section

set_option maxRecDepth 65536
set_option maxHeartbeats 8000000

noncomputable section

namespace Cert.KernelIdeal.R2

open Cert.KernelIdeal Cert.KernelIdeal.Gen
open Idealize.ShloMosaic Idealize.ShloMosaic.TcCoe Idealize.ShloMosaic.Tactic Idealize.ShloMosaic.ValueIdx
open Idealize.SL.Sem

section
variable (c : Dev nD) (i : grid2.Coords) (arg2 : Memref sig .tc .vmem S1024x2048 .fp8e5m2) (harg2 : arg2.IsWhole) (arg3 : Memref sig .tc .vmem S1x16x1024 .f32) (harg3 : arg3.IsWhole) (arg4 : Memref sig .tc .vmem S1x2x1024x512 .fp8e4m3) (harg4 : arg4.IsWhole) (arg5 : Memref sig .tc .vmem S1x1x8x1024 .f32) (harg5 : arg5.IsWhole) (arg6 : Memref sig .tc .vmem S2048x512 .bf16) (harg6 : arg6.IsWhole) (arg7 : Memref sig .tc .vmem S1024x2048 .bf16) (harg7 : arg7.IsWhole) (arg8 : Memref sig .tc .vmem S1024x1024 .bf16) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S1024x2048 .f32) (harg12 : arg12.IsWhole) (hc0 : ¬cond0_0 i) (hc1 : ¬cond0_1 i)
    (x0 : Vec Ideal S1024x2048 .fp8e5m2) (x1 : Vec Ideal S1x16x1024 .f32) (x2 : Vec Ideal S1x2x1024x512 .fp8e4m3) (x3 : Vec Ideal S1x1x8x1024 .f32) (x4 : Vec Ideal S2048x512 .bf16) (x5 : Vec Ideal S1024x2048 .bf16) (xs0 : Vec Ideal S1024x2048 .bf16) (xs1 : Vec Ideal S1024x2048 .f32)

/-- The point's hidden activations. -/
theorem canon_B_7 :
    View.canon (kernelRun0_B (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1 = hbB x2 x3 := by
  funext y
  refine View.canon_apply_of_pieces (hbB x2 x3) _ ?_ y (cover0_B_7 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 y)
  unfold kernelRun0_B
  dsimp only
  sl_unfold_words
  simp only [View.readAt_eq_ld, harg2.read_unread, harg3.read_unread, harg4.read_unread, harg5.read_unread, harg6.read_unread, harg7.read_unread, harg11.read_unread, harg12.read_unread, View.ld_unit_zero (S := S1x1x8x1024) hz4, View.ld_unit_zero (S := S2048x512) hz, View.ld_unit_zero (S := S1x16x1024) hz3, View.ld_unit_zero (S := S1024x2048) hz]
  exact hb_pieces x2 x3

theorem out_B_7 :
    out0_B_7 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = hbB x2 x3 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  exact canon_B_7 c i arg2 harg2 arg3 harg3 arg4 harg4 arg5 harg5 arg6 harg6 arg7 harg7 arg8 harg8 arg9 harg9 arg10 harg10 arg11 harg11 arg12 harg12 hc0 hc1 x0 x1 x2 x3 x4 x5 xs0 xs1

/-- The point's gradients. -/
theorem canon_B_6 :
    View.canon (kernelRun0_B (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1 = dguB xs0 x2 x3 x4 := by
  funext y
  refine View.canon_apply_of_pieces (dguB xs0 x2 x3 x4) _ ?_ y (cover0_B_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 y)
  unfold kernelRun0_B
  dsimp only
  sl_unfold_words
  simp only [View.readAt_eq_ld, harg2.read_unread, harg3.read_unread, harg4.read_unread, harg5.read_unread, harg6.read_unread, harg7.read_unread, harg11.read_unread, harg12.read_unread, View.ld_unit_zero (S := S1x1x8x1024) hz4, View.ld_unit_zero (S := S2048x512) hz, View.ld_unit_zero (S := S1x16x1024) hz3, View.ld_unit_zero (S := S1024x2048) hz]
  exact dgu_pieces xs0 x2 x3 x4

theorem out_B_6 :
    out0_B_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = dguB xs0 x2 x3 x4 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  exact canon_B_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1

/-- The gradients read back whole. -/
theorem back_B
    (v : View sig .tc .vmem S1024x1024 .bf16) (inb : ∀ a, (![0, 0] : Fin 2 → ℕ) a + S1024x1024.size a ≤ S1024x1024.size a) :
    v.readCov (kernelRun0_B (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1 (Rect.unit (s := S1024x1024) ![0, 0] S1024x1024.size inb) = dguB xs0 x2 x3 x4 := by
  rw [View.readCov_eq_canon_ld _ _ _ (cover0_B_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1), canon_B_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1]
  exact View.ld_unit_zero (S := S1024x1024) hz _ _

theorem pay3_congr_B {a a' : Vec Ideal S1024x2048 .f32} {b b' : Vec Ideal S1024x1024 .bf16} {w w' : Vec Ideal S1024x2048 .bf16}
    (h1 : a = a') (h2 : b = b') (h3 : w = w') : k2_pay3 a b w = k2_pay3 a' b' w' := by rw [h1, h2, h3]

/-- The accumulator after the point. -/
theorem canon_B_1 :
    View.canon (kernelRun0_B (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 = k2_pay3 xs1 (dguB xs0 x2 x3 x4) x5 := by
  have hb := back_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 arg8.view
  revert hb
  unfold kernelRun0_B
  dsimp only
  sl_unfold_words
  intro hb
  exact (View.canon_unit_zero (S := S1024x2048) hz _ _).trans (pay3_congr_B (rdw arg12 harg12 xs1 hz _) (hb _) (rdw arg7 harg7 x5 hz _))

theorem sout_B_1 :
    sout0_B_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k2_pay3 xs1 (dguB xs0 x2 x3 x4) x5 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  exact canon_B_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1

end

end Cert.KernelIdeal.R2

end
-- ==== Proof.R2.CaseC.lean ====
/- Region 2 of the kernel at the extended reals, the last point of a row of tiles: what the body leaves in its blocks. -/
module

public import proofs.«01_k».proof.Proof.R2.Pieces

@[expose] public section

set_option maxRecDepth 65536
set_option maxHeartbeats 8000000

noncomputable section

namespace Cert.KernelIdeal.R2

open Cert.KernelIdeal Cert.KernelIdeal.Gen
open Idealize.ShloMosaic Idealize.ShloMosaic.TcCoe Idealize.ShloMosaic.Tactic Idealize.ShloMosaic.ValueIdx
open Idealize.SL.Sem

section
variable (c : Dev nD) (i : grid2.Coords) (arg2 : Memref sig .tc .vmem S1024x2048 .fp8e5m2) (harg2 : arg2.IsWhole) (arg3 : Memref sig .tc .vmem S1x16x1024 .f32) (harg3 : arg3.IsWhole) (arg4 : Memref sig .tc .vmem S1x2x1024x512 .fp8e4m3) (harg4 : arg4.IsWhole) (arg5 : Memref sig .tc .vmem S1x1x8x1024 .f32) (harg5 : arg5.IsWhole) (arg6 : Memref sig .tc .vmem S2048x512 .bf16) (harg6 : arg6.IsWhole) (arg7 : Memref sig .tc .vmem S1024x2048 .bf16) (harg7 : arg7.IsWhole) (arg8 : Memref sig .tc .vmem S1024x1024 .bf16) (harg8 : arg8.IsWhole) (arg9 : Memref sig .tc .vmem S1024x512 .bf16) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S1024x2048 .f32) (harg12 : arg12.IsWhole) (hc0 : ¬cond0_0 i) (hc1 : cond0_1 i)
    (x0 : Vec Ideal S1024x2048 .fp8e5m2) (x1 : Vec Ideal S1x16x1024 .f32) (x2 : Vec Ideal S1x2x1024x512 .fp8e4m3) (x3 : Vec Ideal S1x1x8x1024 .f32) (x4 : Vec Ideal S2048x512 .bf16) (x5 : Vec Ideal S1024x2048 .bf16) (xs0 : Vec Ideal S1024x2048 .bf16) (xs1 : Vec Ideal S1024x2048 .f32)

/-- The point's hidden activations. -/
theorem canon_C_7 :
    View.canon (kernelRun0_C (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1 = hbB x2 x3 := by
  funext y
  refine View.canon_apply_of_pieces (hbB x2 x3) _ ?_ y (cover0_C_7 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 y)
  unfold kernelRun0_C
  dsimp only
  sl_unfold_words
  simp only [View.readAt_eq_ld, harg2.read_unread, harg3.read_unread, harg4.read_unread, harg5.read_unread, harg6.read_unread, harg7.read_unread, harg11.read_unread, harg12.read_unread, View.ld_unit_zero (S := S1x1x8x1024) hz4, View.ld_unit_zero (S := S2048x512) hz, View.ld_unit_zero (S := S1x16x1024) hz3, View.ld_unit_zero (S := S1024x2048) hz]
  exact hb_pieces x2 x3

theorem out_C_7 :
    out0_C_7 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = hbB x2 x3 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  exact canon_C_7 c i arg2 harg2 arg3 harg3 arg4 harg4 arg5 harg5 arg6 harg6 arg7 harg7 arg8 harg8 arg9 harg9 arg10 harg10 arg11 harg11 arg12 harg12 hc0 hc1 x0 x1 x2 x3 x4 x5 xs0 xs1

/-- The point's gradients. -/
theorem canon_C_6 :
    View.canon (kernelRun0_C (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1 = dguB xs0 x2 x3 x4 := by
  funext y
  refine View.canon_apply_of_pieces (dguB xs0 x2 x3 x4) _ ?_ y (cover0_C_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 y)
  unfold kernelRun0_C
  dsimp only
  sl_unfold_words
  simp only [View.readAt_eq_ld, harg2.read_unread, harg3.read_unread, harg4.read_unread, harg5.read_unread, harg6.read_unread, harg7.read_unread, harg11.read_unread, harg12.read_unread, View.ld_unit_zero (S := S1x1x8x1024) hz4, View.ld_unit_zero (S := S2048x512) hz, View.ld_unit_zero (S := S1x16x1024) hz3, View.ld_unit_zero (S := S1024x2048) hz]
  exact dgu_pieces xs0 x2 x3 x4

theorem out_C_6 :
    out0_C_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = dguB xs0 x2 x3 x4 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  exact canon_C_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1

/-- The gradients read back whole. -/
theorem back_C
    (v : View sig .tc .vmem S1024x1024 .bf16) (inb : ∀ a, (![0, 0] : Fin 2 → ℕ) a + S1024x1024.size a ≤ S1024x1024.size a) :
    v.readCov (kernelRun0_C (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1 (Rect.unit (s := S1024x1024) ![0, 0] S1024x1024.size inb) = dguB xs0 x2 x3 x4 := by
  rw [View.readCov_eq_canon_ld _ _ _ (cover0_C_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1), canon_C_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1]
  exact View.ld_unit_zero (S := S1024x1024) hz _ _

theorem pay3_congr_C {a a' : Vec Ideal S1024x2048 .f32} {b b' : Vec Ideal S1024x1024 .bf16} {w w' : Vec Ideal S1024x2048 .bf16}
    (h1 : a = a') (h2 : b = b') (h3 : w = w') : k2_pay3 a b w = k2_pay3 a' b' w' := by rw [h1, h2, h3]

/-- The accumulator after the point. -/
theorem canon_C_1 :
    View.canon (kernelRun0_C (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 = k2_pay3 xs1 (dguB xs0 x2 x3 x4) x5 := by
  have hb := back_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 arg8.view
  revert hb
  unfold kernelRun0_C
  dsimp only
  sl_unfold_words
  intro hb
  exact (View.canon_unit_zero (S := S1024x2048) hz _ _).trans (pay3_congr_C (rdw arg12 harg12 xs1 hz _) (hb _) (rdw arg7 harg7 x5 hz _))

theorem sout_C_1 :
    sout0_C_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k2_pay3 xs1 (dguB xs0 x2 x3 x4) x5 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  exact canon_C_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1

/-- The last point writes back the accumulator. -/
theorem out_C_8 :
    out0_C_8 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k2_pay4 (k2_pay3 xs1 (dguB xs0 x2 x3 x4) x5) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  have hb := canon_C_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1
  have hc := scover0_C_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1
  have hr : ∀ inb : (∀ a, (![0, 0] : Fin 2 → ℕ) a + S1024x2048.size a ≤ S1024x2048.size a),
      arg12.view.readCov (kernelRun0_C (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 (Rect.unit (s := S1024x2048) ![0, 0] S1024x2048.size inb) = k2_pay3 xs1 (dguB xs0 x2 x3 x4) x5 := fun inb => by
    rw [View.readCov_eq_canon_ld _ _ _ hc, hb]
    exact View.ld_unit_zero (S := S1024x2048) hz _ _
  revert hr
  clear hb hc
  unfold kernelRun0_C
  dsimp only
  sl_unfold_words
  intro hr
  exact (View.canon_unit_zero (S := S1024x2048) hz _ _).trans (congrArg (k2_pay4 (F := Ideal)) (hr _))

end

end Cert.KernelIdeal.R2

end
-- ==== Proof.Sums.lean ====
/- Sums over the tokens taken tile by tile: plain lemmas about finite sums, used by the accumulating regions. -/
module

public import Mathlib.Algebra.BigOperators.Fin
public import Mathlib.Algebra.BigOperators.Intervals

@[expose] public section

namespace Cert.Sums

open scoped BigOperators

/-- A sum over the first `k * i` places and then over the next `k` is the sum over the first `k * (i + 1)`. -/
theorem step {M : Type*} [AddCommMonoid M] (g : ℕ → M) (k i : ℕ) :
    (∑ n ∈ Finset.range (k * i), g n) + ∑ r : Fin k, g (k * i + r.val) = ∑ n ∈ Finset.range (k * (i + 1)), g n := by
  rw [← Finset.sum_range (fun r => g (k * i + r)), Nat.mul_succ, Finset.sum_range_add]

/-- The first tile alone. -/
theorem first {M : Type*} [AddCommMonoid M] (g : ℕ → M) (k : ℕ) :
    ∑ r : Fin k, g (k * 0 + r.val) = ∑ n ∈ Finset.range (k * (0 + 1)), g n := by
  rw [← step g k 0]; simp

/-- A sum over `Fin n` of a function of the place, read off the place modulo `n`. -/
theorem full {M : Type*} [AddCommMonoid M] (n : ℕ) (h : 0 < n) (f : Fin n → M) :
    ∑ x ∈ Finset.range n, f ⟨x % n, Nat.mod_lt _ h⟩ = ∑ x : Fin n, f x := by
  rw [Finset.sum_range]
  exact Finset.sum_congr rfl fun x _ => congrArg f (Fin.ext (Nat.mod_eq_of_lt x.isLt))

end Cert.Sums

end
-- ==== Proof.R2.Value.lean ====
/- Region 2 of the kernel at the extended reals: after it the gradient of the gate and up values, the hidden
   activations and the gradient of the input hold their closed forms. -/
module

public import proofs.«01_k».proof.Proof.R2.CaseA
public import proofs.«01_k».proof.Proof.R2.CaseB
public import proofs.«01_k».proof.Proof.R2.CaseC
public import proofs.«01_k».proof.Proof.Sums

@[expose] public section

set_option maxRecDepth 16384

noncomputable section

namespace Cert.KernelIdeal.R2

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

/-- The region's operands and a point's blocks of them, at their shapes. -/
abbrev src0 (c : Dev nD) : Vec Ideal S49152x2048 .fp8e5m2 := V c main_v14
abbrev src1 (c : Dev nD) : Vec Ideal S6x16x8192 .f32 := V c main_v9
abbrev src2 (c : Dev nD) : Vec Ideal S6x2x8192x5632 .fp8e4m3 := V c main_v12
abbrev src3 (c : Dev nD) : Vec Ideal S6x11x8x8192 .f32 := V c main_v11
abbrev src4 (c : Dev nD) : Vec Ideal S2048x5632 .bf16 := V c main_v2
abbrev src5 (c : Dev nD) : Vec Ideal S11264x2048 .bf16 := V c main_v7
abbrev blk0 (c : Dev nD) (t : Fin cfg2.N) : Vec Ideal S1024x2048 .fp8e5m2 := iblk V c 0 t
abbrev blk1 (c : Dev nD) (t : Fin cfg2.N) : Vec Ideal S1x16x1024 .f32 := iblk V c 1 t
abbrev blk2 (c : Dev nD) (t : Fin cfg2.N) : Vec Ideal S1x2x1024x512 .fp8e4m3 := iblk V c 2 t
abbrev blk3 (c : Dev nD) (t : Fin cfg2.N) : Vec Ideal S1x1x8x1024 .f32 := iblk V c 3 t
abbrev blk4 (c : Dev nD) (t : Fin cfg2.N) : Vec Ideal S2048x512 .bf16 := iblk V c 4 t
abbrev blk5 (c : Dev nD) (t : Fin cfg2.N) : Vec Ideal S1024x2048 .bf16 := iblk V c 5 t

theorem idx0 : ∀ t : Fin cfg2.N, win2_0.index t (0 : Fin 2) = t.val / 11 ∧ win2_0.index t (1 : Fin 2) = 0 :=
  (by decide +kernel : ∀ t : Fin grid2.N, _)
theorem idx1 : ∀ t : Fin cfg2.N, win2_1.index t (0 : Fin 3) = t.val / 11 / 8 ∧ win2_1.index t (1 : Fin 3) = 0 ∧ win2_1.index t (2 : Fin 3) = t.val / 11 % 8 :=
  (by decide +kernel : ∀ t : Fin grid2.N, _)
theorem idx2 : ∀ t : Fin cfg2.N, win2_2.index t (0 : Fin 4) = t.val / 11 / 8 ∧ win2_2.index t (1 : Fin 4) = 0 ∧ win2_2.index t (2 : Fin 4) = t.val / 11 % 8 ∧ win2_2.index t (3 : Fin 4) = t.val % 11 :=
  (by decide +kernel : ∀ t : Fin grid2.N, _)
theorem idx3 : ∀ t : Fin cfg2.N, win2_3.index t (0 : Fin 4) = t.val / 11 / 8 ∧ win2_3.index t (1 : Fin 4) = t.val % 11 ∧ win2_3.index t (2 : Fin 4) = 0 ∧ win2_3.index t (3 : Fin 4) = t.val / 11 % 8 :=
  (by decide +kernel : ∀ t : Fin grid2.N, _)
theorem idx4 : ∀ t : Fin cfg2.N, win2_4.index t (0 : Fin 2) = 0 ∧ win2_4.index t (1 : Fin 2) = t.val % 11 :=
  (by decide +kernel : ∀ t : Fin grid2.N, _)
theorem idx5 : ∀ t : Fin cfg2.N, win2_5.index t (0 : Fin 2) = t.val % 11 ∧ win2_5.index t (1 : Fin 2) = 0 :=
  (by decide +kernel : ∀ t : Fin grid2.N, _)
theorem idx6 : ∀ t : Fin cfg2.N, win2_6.index t (0 : Fin 2) = t.val / 11 ∧ win2_6.index t (1 : Fin 2) = t.val % 11 :=
  (by decide +kernel : ∀ t : Fin grid2.N, _)
theorem idx7 : ∀ t : Fin cfg2.N, win2_7.index t (0 : Fin 2) = t.val / 11 ∧ win2_7.index t (1 : Fin 2) = t.val % 11 :=
  (by decide +kernel : ∀ t : Fin grid2.N, _)
theorem idx8 : ∀ t : Fin cfg2.N, win2_8.index t (0 : Fin 2) = t.val / 11 ∧ win2_8.index t (1 : Fin 2) = 0 :=
  (by decide +kernel : ∀ t : Fin grid2.N, _)

/-- The point's rows of the output gradient's codes. -/
theorem iblk0 (c : Dev nD) (t : Fin cfg2.N) (r : Fin 1024) (d : Fin 2048) (n : Fin 49152)
    (hn : n.val = 1024 * (t.val / 11) + r.val) :
    blk0 V c t (ix2 r d) = src0 V c (ix2 n d) := by
  obtain ⟨e0, e1⟩ := idx0 t
  refine congrArg (src0 V c) (funext fun a => Fin.ext ?_)
  match a with
  | ⟨0, _⟩ => show win2_0.index t (0 : Fin 2) * 1024 + 1 * r.val = n.val; rw [e0]; omega
  | ⟨1, _⟩ => show win2_0.index t (1 : Fin 2) * 2048 + 1 * d.val = d.val; rw [e1]; omega

/-- Their scales. -/
theorem iblk1 (c : Dev nD) (t : Fin cfg2.N) (q : Fin 16) (r : Fin 1024) (b : Fin 6) (s : Fin 8192)
    (hb : b.val = t.val / 11 / 8) (hs : s.val = 1024 * (t.val / 11 % 8) + r.val) :
    blk1 V c t (ix3 0 q r) = src1 V c (ix3 b q s) := by
  obtain ⟨e0, e1, e2⟩ := idx1 t
  refine congrArg (src1 V c) (funext fun a => Fin.ext ?_)
  match a with
  | ⟨0, _⟩ => show win2_1.index t (0 : Fin 3) * 1 + 1 * 0 = b.val; rw [e0]; omega
  | ⟨1, _⟩ => show win2_1.index t (1 : Fin 3) * 16 + 1 * q.val = q.val; rw [e1]; omega
  | ⟨2, _⟩ => show win2_1.index t (2 : Fin 3) * 1024 + 1 * r.val = s.val; rw [e2]; omega

/-- The point's tile of the gate and up codes. -/
theorem iblk2 (c : Dev nD) (t : Fin cfg2.N) (h : Fin 2) (r : Fin 1024) (q : Fin 512) (b : Fin 6) (s : Fin 8192) (f : Fin 5632)
    (hb : b.val = t.val / 11 / 8) (hs : s.val = 1024 * (t.val / 11 % 8) + r.val) (hf : f.val = 512 * (t.val % 11) + q.val) :
    blk2 V c t (ix4 0 h r q) = src2 V c (ix4 b h s f) := by
  obtain ⟨e0, e1, e2, e3⟩ := idx2 t
  refine congrArg (src2 V c) (funext fun a => Fin.ext ?_)
  match a with
  | ⟨0, _⟩ => show win2_2.index t (0 : Fin 4) * 1 + 1 * 0 = b.val; rw [e0]; omega
  | ⟨1, _⟩ => show win2_2.index t (1 : Fin 4) * 2 + 1 * h.val = h.val; rw [e1]; omega
  | ⟨2, _⟩ => show win2_2.index t (2 : Fin 4) * 1024 + 1 * r.val = s.val; rw [e2]; omega
  | ⟨3, _⟩ => show win2_2.index t (3 : Fin 4) * 512 + 1 * q.val = f.val; rw [e3]; omega

/-- Their scales. -/
theorem iblk3 (c : Dev nD) (t : Fin cfg2.N) (m : Fin 8) (r : Fin 1024) (b : Fin 6) (j : Fin 11) (s : Fin 8192)
    (hb : b.val = t.val / 11 / 8) (hj : j.val = t.val % 11) (hs : s.val = 1024 * (t.val / 11 % 8) + r.val) :
    blk3 V c t (ix4 0 0 m r) = src3 V c (ix4 b j m s) := by
  obtain ⟨e0, e1, e2, e3⟩ := idx3 t
  refine congrArg (src3 V c) (funext fun a => Fin.ext ?_)
  match a with
  | ⟨0, _⟩ => show win2_3.index t (0 : Fin 4) * 1 + 1 * 0 = b.val; rw [e0]; omega
  | ⟨1, _⟩ => show win2_3.index t (1 : Fin 4) * 1 + 1 * 0 = j.val; rw [e1]; omega
  | ⟨2, _⟩ => show win2_3.index t (2 : Fin 4) * 8 + 1 * m.val = m.val; rw [e2]; omega
  | ⟨3, _⟩ => show win2_3.index t (3 : Fin 4) * 1024 + 1 * r.val = s.val; rw [e3]; omega

/-- The point's columns of the down weights. -/
theorem iblk4 (c : Dev nD) (t : Fin cfg2.N) (d : Fin 2048) (q : Fin 512) (f : Fin 5632)
    (hf : f.val = 512 * (t.val % 11) + q.val) :
    blk4 V c t (ix2 d q) = src4 V c (ix2 d f) := by
  obtain ⟨e0, e1⟩ := idx4 t
  refine congrArg (src4 V c) (funext fun a => Fin.ext ?_)
  match a with
  | ⟨0, _⟩ => show win2_4.index t (0 : Fin 2) * 2048 + 1 * d.val = d.val; rw [e0]; omega
  | ⟨1, _⟩ => show win2_4.index t (1 : Fin 2) * 512 + 1 * q.val = f.val; rw [e1]; omega

/-- The point's rows of the gate and up weights. -/
theorem iblk5 (c : Dev nD) (t : Fin cfg2.N) (q : Fin 1024) (d : Fin 2048) (x : Fin 11264)
    (hx : x.val = 1024 * (t.val % 11) + q.val) :
    blk5 V c t (ix2 q d) = src5 V c (ix2 x d) := by
  obtain ⟨e0, e1⟩ := idx5 t
  refine congrArg (src5 V c) (funext fun a => Fin.ext ?_)
  match a with
  | ⟨0, _⟩ => show win2_5.index t (0 : Fin 2) * 1024 + 1 * q.val = x.val; rw [e0]; omega
  | ⟨1, _⟩ => show win2_5.index t (1 : Fin 2) * 2048 + 1 * d.val = d.val; rw [e1]; omega

/-! ## The closed forms -/

/-- A token's batch and position. -/
def bat (n : Fin 49152) : Fin 6 := ⟨n.val / 8192, by have := n.isLt; omega⟩
def pos (n : Fin 49152) : Fin 8192 := ⟨n.val % 8192, Nat.mod_lt _ (by decide)⟩

/-- One entry of the output gradient, dequantised. -/
def dyv (c : Dev nD) (n : Fin 49152) (d : Fin 2048) : EReal :=
  (src0 V c (ix2 n d) : EReal) * src1 V c (ix3 (bat n) ⟨d.val / 128, by have := d.isLt; omega⟩ (pos n))

/-- One gate (0) or up (1) value, dequantised. -/
def guv (c : Dev nD) (h : Fin 2) (n : Fin 49152) (f : Fin 5632) : EReal :=
  (src2 V c (ix4 (bat n) h (pos n) f) : EReal) * src3 V c (ix4 (bat n) ⟨f.val / 512, by have := f.isLt; omega⟩
    ⟨2 * (f.val % 512 / 128) + h.val, by have := f.isLt; have := h.isLt; omega⟩ (pos n))

/-- The gradient of one hidden activation. -/
def dhv (c : Dev nD) (n : Fin 49152) (f : Fin 5632) : EReal := ∑ d : Fin 2048, dyv V c n d * src4 V c (ix2 d f)

/-- One hidden activation. -/
def hidv (c : Dev nD) (n : Fin 49152) (f : Fin 5632) : EReal := Swiglu.hid (guv V c 0 n f) (guv V c 1 n f)

/-- The gradient of one gate (0) or up (1) value. -/
def dactv (c : Dev nD) (k : Fin 2) (n : Fin 49152) (f : Fin 5632) : EReal :=
  Swiglu.dact k (dhv V c n f) (guv V c 0 n f) (guv V c 1 n f)

/-- The half and the unit a column of the gradient is of. -/
def halfOf (x : Fin 11264) : Fin 2 := ⟨x.val / 512 % 2, Nat.mod_lt _ (by decide)⟩
def unitOf (x : Fin 11264) : Fin 5632 := ⟨512 * (x.val / 1024) + x.val % 512, by have := x.isLt; omega⟩

/-- One column's contribution to the input gradient. -/
def term (c : Dev nD) (n : Fin 49152) (d : Fin 2048) (x : Fin 11264) : EReal :=
  dactv V c (halfOf x) n (unitOf x) * src5 V c (ix2 x d)

/-- What the region leaves. -/
def G6 (c : Dev nD) : Vec Ideal S49152x11264 .bf16 := fun y => dactv V c (halfOf (y 1)) (y 0) (unitOf (y 1))
def G7 (c : Dev nD) : Vec Ideal S49152x5632 .bf16 := fun y => hidv V c (y 0) (y 1)
def G8 (c : Dev nD) : Vec Ideal S49152x2048 .bf16 := fun y => ∑ x : Fin 11264, term V c (y 0) (y 1) x

/-! ## A point's blocks in the closed forms -/

theorem ptlt (t : Fin cfg2.N) : t.val < 528 := lt_of_lt_of_eq t.isLt (show cfg2.N = 528 from N_2)

theorem bat_val (t : Fin cfg2.N) (r : Fin 1024) (n : Fin 49152) (hn : n.val = 1024 * (t.val / 11) + r.val) : (bat n).val = t.val / 11 / 8 := by
  have := r.isLt; show n.val / 8192 = _; omega
theorem pos_val (t : Fin cfg2.N) (r : Fin 1024) (n : Fin 49152) (hn : n.val = 1024 * (t.val / 11) + r.val) : (pos n).val = 1024 * (t.val / 11 % 8) + r.val := by
  have := r.isLt; show n.val % 8192 = _; omega

theorem dy_tile (c : Dev nD) (t : Fin cfg2.N) (r : Fin 1024) (d : Fin 2048) (n : Fin 49152) (hn : n.val = 1024 * (t.val / 11) + r.val) :
    dyB (blk0 V c t) (blk1 V c t) (ix2 r d) = dyv V c n d := by
  show (blk0 V c t (ix2 r d) : EReal) * blk1 V c t (ix3 0 _ r) = _
  rw [iblk0 V c t r d n hn, iblk1 V c t _ r (bat n) (pos n) (bat_val t r n hn) (pos_val t r n hn)]
  rfl

theorem gu_tile (c : Dev nD) (t : Fin cfg2.N) (h : Fin 2) (r : Fin 1024) (q : Fin 512) (n : Fin 49152) (f : Fin 5632)
    (hn : n.val = 1024 * (t.val / 11) + r.val) (hf : f.val = 512 * (t.val % 11) + q.val) :
    gB (blk2 V c t) (blk3 V c t) h r q = guv V c h n f := by
  have hq := q.isLt
  have hh := h.isLt
  unfold gB
  rw [iblk2 V c t h r q (bat n) (pos n) f (bat_val t r n hn) (pos_val t r n hn) hf,
    iblk3 V c t _ r (bat n) ⟨f.val / 512, by have := f.isLt; omega⟩ (pos n) (bat_val t r n hn) (by show f.val / 512 = _; omega) (pos_val t r n hn)]
  unfold guv
  refine congrArg (fun z : Fin 8 => (src2 V c (ix4 (bat n) h (pos n) f) : EReal) * src3 V c (ix4 (bat n) ⟨f.val / 512, _⟩ z (pos n))) (Fin.ext ?_)
  show 2 * (q.val / 128) + h.val = 2 * (f.val % 512 / 128) + h.val
  omega

/-- The scratch holds the rows of the output gradient of the point's group of tokens. -/
def Holds (c : Dev nD) (t : ℕ) (D : Vec Ideal S1024x2048 .bf16) : Prop :=
  ∀ (r : Fin 1024) (d : Fin 2048) (n : Fin 49152), n.val = 1024 * (t / 11) + r.val → D (ix2 r d) = dyv V c n d

theorem dh_tile (c : Dev nD) (t : Fin cfg2.N) (D : Vec Ideal S1024x2048 .bf16) (hD : Holds V c t.val D) (r : Fin 1024) (q : Fin 512) (n : Fin 49152) (f : Fin 5632)
    (hn : n.val = 1024 * (t.val / 11) + r.val) (hf : f.val = 512 * (t.val % 11) + q.val) :
    dhB D (blk4 V c t) r q = dhv V c n f := by
  unfold dhB dhv
  refine Finset.sum_congr rfl fun d _ => ?_
  rw [hD r d n hn, iblk4 V c t d q f hf]

theorem dgu_tile (c : Dev nD) (t : Fin cfg2.N) (D : Vec Ideal S1024x2048 .bf16) (hD : Holds V c t.val D) (r : Fin 1024) (q : Fin 1024) (n : Fin 49152) (x : Fin 11264)
    (hn : n.val = 1024 * (t.val / 11) + r.val) (hx : x.val = 1024 * (t.val % 11) + q.val) :
    dguB D (blk2 V c t) (blk3 V c t) (blk4 V c t) (ix2 r q) = dactv V c (halfOf x) n (unitOf x) := by
  have hq := q.isLt
  have hf : (unitOf x).val = 512 * (t.val % 11) + (unit q).val := by
    show 512 * (x.val / 1024) + x.val % 512 = 512 * (t.val % 11) + q.val % 512; omega
  have hh : half q = halfOf x := Fin.ext (by show q.val / 512 = x.val / 512 % 2; omega)
  show Swiglu.dact (half q) (dhB D (blk4 V c t) r (unit q)) (gB (blk2 V c t) (blk3 V c t) 0 r (unit q)) (gB (blk2 V c t) (blk3 V c t) 1 r (unit q)) = _
  rw [dh_tile V c t D hD r (unit q) n (unitOf x) hn hf, gu_tile V c t 0 r (unit q) n (unitOf x) hn hf, gu_tile V c t 1 r (unit q) n (unitOf x) hn hf, hh]
  rfl

theorem hb_tile (c : Dev nD) (t : Fin cfg2.N) (r : Fin 1024) (q : Fin 512) (n : Fin 49152) (f : Fin 5632)
    (hn : n.val = 1024 * (t.val / 11) + r.val) (hf : f.val = 512 * (t.val % 11) + q.val) :
    hbB (blk2 V c t) (blk3 V c t) (ix2 r q) = hidv V c n f := by
  show Swiglu.hid (gB (blk2 V c t) (blk3 V c t) 0 r q) (gB (blk2 V c t) (blk3 V c t) 1 r q) = _
  rw [gu_tile V c t 0 r q n f hn hf, gu_tile V c t 1 r q n f hn hf]
  rfl

def colOf (x : ℕ) : Fin 11264 := ⟨x % 11264, Nat.mod_lt _ (by decide)⟩

/-- One tile of columns' contribution to the input gradient. -/
theorem dx_tile (c : Dev nD) (t : Fin cfg2.N) (D : Vec Ideal S1024x2048 .bf16) (hD : Holds V c t.val D) (r : Fin 1024) (d : Fin 2048) (n : Fin 49152)
    (hn : n.val = 1024 * (t.val / 11) + r.val) :
    ∑ q : Fin 1024, dguB D (blk2 V c t) (blk3 V c t) (blk4 V c t) (ix2 r q) * blk5 V c t (ix2 q d)
      = ∑ q : Fin 1024, term V c n d (colOf (1024 * (t.val % 11) + q.val)) := by
  refine Finset.sum_congr rfl fun q _ => ?_
  have hq := q.isLt
  have h : (colOf (1024 * (t.val % 11) + q.val)).val = 1024 * (t.val % 11) + q.val := Nat.mod_eq_of_lt (by omega)
  rw [dgu_tile V c t D hD r q n _ hn h, iblk5 V c t q d _ h]
  rfl

/-! ## The invariant -/

theorem holds_A (c : Dev nD) (t : Fin cfg2.N) : Holds V c t.val (dyB (blk0 V c t) (blk1 V c t)) :=
  fun r d n hn => dy_tile V c t r d n hn

theorem holds_prev (c : Dev nD) (n : ℕ) (h0 : ¬(n + 1) % 11 = 0) (D : Vec Ideal S1024x2048 .bf16) (h : Holds V c n D) : Holds V c (n + 1) D :=
  fun r d k hk => h r d k (by omega)

theorem holds (c : Dev nD) : ∀ (n : ℕ) (hn : n < cfg2.N), Holds V c n (outsAt0 V c n hn).2.2.2.1 := by
  intro n
  induction n with
  | zero =>
    intro hn
    rw [show outsAt0 V c 0 hn = _ from outsAt0_A V c ⟨0, hn⟩ (Nat.zero_mod _) (by show ¬0 % 11 = 10; decide)]
    dsimp only
    rw [sout_A_0]
    exact holds_A V c ⟨0, hn⟩
  | succ n ih =>
    intro hn
    by_cases h0 : (n + 1) % 11 = 0
    · rw [show outsAt0 V c (n + 1) hn = _ from outsAt0_A V c ⟨n + 1, hn⟩ h0 (by dsimp only; omega)]
      dsimp only
      rw [sout_A_0]
      exact holds_A V c ⟨n + 1, hn⟩
    · by_cases h1 : (n + 1) % 11 = 10
      · rw [show outsAt0 V c (n + 1) hn = _ from outsAt0_C V c ⟨n + 1, hn⟩ h0 h1]
        dsimp only
        unfold sout0_C_0
        exact holds_prev V c n h0 _ (ih (Nat.lt_of_succ_lt hn))
      · rw [show outsAt0 V c (n + 1) hn = _ from outsAt0_B V c ⟨n + 1, hn⟩ h0 h1]
        dsimp only
        unfold sout0_B_0
        exact holds_prev V c n h0 _ (ih (Nat.lt_of_succ_lt hn))

/-- What a point past the first of its row finds in the scratch. -/
theorem holds_before (c : Dev nD) (t : Fin cfg2.N) (h0 : ¬t.val % 11 = 0) :
    Holds V c t.val (outsAt0 V c (t.val - 1) (Nat.lt_of_le_of_lt (Nat.sub_le _ _) t.isLt)).2.2.2.1 := by
  intro r d n hn
  exact holds V c (t.val - 1) _ r d n (by omega)

/-- The accumulator after a point: the sum over the columns of the tiles up to the point's. -/
theorem acc_eq (c : Dev nD) : ∀ (n : ℕ) (hn : n < cfg2.N) (r : Fin 1024) (d : Fin 2048) (k : Fin 49152) (hk : k.val = 1024 * (n / 11) + r.val) (h10 : ¬n % 11 = 10),
    (outsAt0 V c n hn).2.2.2.2 (ix2 r d) = ∑ x ∈ Finset.range (1024 * (n % 11 + 1)), term V c k d (colOf x) := by
  intro n
  induction n with
  | zero =>
    intro hn r d k hk h10
    rw [show outsAt0 V c 0 hn = _ from outsAt0_A V c ⟨0, hn⟩ (Nat.zero_mod _) h10]
    dsimp only
    rw [sout_A_1, pay3_apply, pay26_apply, zero_add, dx_tile V c ⟨0, hn⟩ _ (holds_A V c ⟨0, hn⟩) r d k hk]
    exact Sums.first (fun x => term V c k d (colOf x)) 1024
  | succ n ih =>
    intro hn r d k hk h10
    by_cases h0 : (n + 1) % 11 = 0
    · rw [show outsAt0 V c (n + 1) hn = _ from outsAt0_A V c ⟨n + 1, hn⟩ h0 h10]
      dsimp only
      rw [sout_A_1, pay3_apply, pay26_apply, zero_add, dx_tile V c ⟨n + 1, hn⟩ _ (holds_A V c ⟨n + 1, hn⟩) r d k hk]
      dsimp only
      rw [h0]
      exact Sums.first (fun x => term V c k d (colOf x)) 1024
    · rw [show outsAt0 V c (n + 1) hn = _ from outsAt0_B V c ⟨n + 1, hn⟩ h0 h10]
      dsimp only
      rw [sout_B_1, pay3_apply, dx_tile V c ⟨n + 1, hn⟩ _ (holds_before V c ⟨n + 1, hn⟩ h0) r d k hk]
      have e : (outsAt0 V c (n + 1 - 1) (Nat.lt_of_le_of_lt (Nat.sub_le _ _) hn)).2.2.2.2 (ix2 r d) = _ :=
        ih (Nat.lt_of_succ_lt hn) r d k (by omega) (by omega)
      rw [e, show n % 11 + 1 = (n + 1) % 11 by omega]
      exact Sums.step (fun x => term V c k d (colOf x)) 1024 ((n + 1) % 11)

/-- The gradient's block after a point. -/
theorem dgu_eq (c : Dev nD) (t : Fin cfg2.N) (r : Fin 1024) (q : Fin 1024) (n : Fin 49152) (x : Fin 11264)
    (hn : n.val = 1024 * (t.val / 11) + r.val) (hx : x.val = 1024 * (t.val % 11) + q.val) :
    (outsAt0 V c t.val t.isLt).1 (ix2 r q) = dactv V c (halfOf x) n (unitOf x) := by
  by_cases h0 : t.val % 11 = 0
  · rw [outsAt0_A V c t h0 (by omega)]
    dsimp only
    rw [out_A_6]
    exact dgu_tile V c t _ (holds_A V c t) r q n x hn hx
  · by_cases h1 : t.val % 11 = 10
    · rw [outsAt0_C V c t h0 h1]
      dsimp only
      rw [out_C_6]
      exact dgu_tile V c t _ (holds_before V c t h0) r q n x hn hx
    · rw [outsAt0_B V c t h0 h1]
      dsimp only
      rw [out_B_6]
      exact dgu_tile V c t _ (holds_before V c t h0) r q n x hn hx

/-- The hidden activations' block after a point. -/
theorem hb_eq (c : Dev nD) (t : Fin cfg2.N) (r : Fin 1024) (q : Fin 512) (n : Fin 49152) (f : Fin 5632)
    (hn : n.val = 1024 * (t.val / 11) + r.val) (hf : f.val = 512 * (t.val % 11) + q.val) :
    (outsAt0 V c t.val t.isLt).2.1 (ix2 r q) = hidv V c n f := by
  by_cases h0 : t.val % 11 = 0
  · rw [outsAt0_A V c t h0 (by omega)]
    dsimp only
    rw [out_A_7]
    exact hb_tile V c t r q n f hn hf
  · by_cases h1 : t.val % 11 = 10
    · rw [outsAt0_C V c t h0 h1]
      dsimp only
      rw [out_C_7]
      exact hb_tile V c t r q n f hn hf
    · rw [outsAt0_B V c t h0 h1]
      dsimp only
      rw [out_B_7]
      exact hb_tile V c t r q n f hn hf

/-- The input gradient's block after the last point of a row. -/
theorem dx_eq (c : Dev nD) (t : Fin cfg2.N) (h1 : t.val % 11 = 10) (r : Fin 1024) (d : Fin 2048) (n : Fin 49152)
    (hn : n.val = 1024 * (t.val / 11) + r.val) :
    (outsAt0 V c t.val t.isLt).2.2.1 (ix2 r d) = ∑ x : Fin 11264, term V c n d x := by
  have h0 : ¬t.val % 11 = 0 := by omega
  rw [outsAt0_C V c t h0 h1]
  dsimp only
  rw [out_C_8, pay4_apply, pay3_apply, dx_tile V c t _ (holds_before V c t h0) r d n hn,
    acc_eq V c (t.val - 1) _ r d n (by omega) (by omega), show (t.val - 1) % 11 + 1 = t.val % 11 by omega]
  refine (Sums.step (fun x => term V c n d (colOf x)) 1024 (t.val % 11)).trans ?_
  rw [h1]
  exact Sums.full 11264 (by decide) _

/-! ## The arrays after the region -/

/-- What a flushing point writes back is its block of the gradient of the gate and up values. -/
theorem flushed6_eq (c : Dev nD) (t : Fin cfg2.N) :
    (dat V c).flushed 6 t = ((cfg2.win 6).blk t).view.read (Elt Ideal) (G6 V c) := by
  show (cfg2.win 6).cut (grid2.coords t) ((dat V c).after 6 t) = _
  rw [after0_6]
  generalize hw : (outsAt0 V c t.val t.isLt).1 = w
  have hN := ptlt t
  obtain ⟨e0, e1⟩ := idx6 t
  funext y
  have hy0 : (y 0).val < 1024 := (y 0).isLt
  have hy1 : (y 1).val < 1024 := (y 1).isLt
  have hemb : ((cfg2.win 6).blk t).view.emb y = (ix2 ⟨1024 * (t.val / 11) + (y 0).val, by omega⟩ ⟨1024 * (t.val % 11) + (y 1).val, by omega⟩ : S49152x11264.Idx) := by
    funext a; apply Fin.ext
    match a with
    | ⟨0, _⟩ => show win2_6.index t (0 : Fin 2) * 1024 + 1 * (y 0).val = 1024 * (t.val / 11) + (y 0).val; rw [e0]; omega
    | ⟨1, _⟩ => show win2_6.index t (1 : Fin 2) * 1024 + 1 * (y 1).val = 1024 * (t.val % 11) + (y 1).val; rw [e1]; omega
  have hx : (cfg2.win 6).xinj (grid2.coords t) y = (ix2 ⟨(y 0).val, hy0⟩ ⟨(y 1).val, hy1⟩ : S1024x1024.Idx) := by
    funext a; apply Fin.ext
    match a with
    | ⟨0, _⟩ => rfl
    | ⟨1, _⟩ => rfl
  have hl : (cfg2.win 6).cut (grid2.coords t) w y = w ((cfg2.win 6).xinj (grid2.coords t) y) := rfl
  have hr : ∀ f : Vec Ideal S49152x11264 .bf16, ((cfg2.win 6).blk t).view.read (Elt Ideal) f y = f (((cfg2.win 6).blk t).view.emb y) := fun _ => rfl
  rw [hl, hr, hemb, hx, ← hw]
  exact dgu_eq V c t ⟨(y 0).val, hy0⟩ ⟨(y 1).val, hy1⟩ ⟨1024 * (t.val / 11) + (y 0).val, by omega⟩ ⟨1024 * (t.val % 11) + (y 1).val, by omega⟩ rfl rfl

theorem mem_blk6 (t : Fin cfg2.N) (i : S49152x11264.Idx) :
    i ∈ ((cfg2.win 6).blk t).view.set ↔ ∀ a : Fin 2, win2_6.index t a * S1024x1024.size a ≤ (i a).val ∧ (i a).val < win2_6.index t a * S1024x1024.size a + S1024x1024.size a := by
  show i ∈ ((View.whole main_v15_0).slice (win2_6.rect t)).set ↔ _
  rw [View.set_slice_whole, Rect.mem_set_unit]
  exact Iff.rfl

/-- The gradient of the gate and up values after the region. -/
theorem final6 (c : Dev nD) : (dat V c).arrAt 6 cfg2.N = G6 V c :=
  (dat V c).arrAt_eq_of_cover 6 (G6 V c) (fun t hf => flushed6_eq V c t) (fun i => by
    have h0 : (i 0).val < 49152 := (i 0).isLt
    have h1 : (i 1).val < 11264 := (i 1).isLt
    have hN : cfg2.N = 528 := N_2
    let t : Fin cfg2.N := ⟨11 * ((i 0).val / 1024) + (i 1).val / 1024, by omega⟩
    have ht : t.val = 11 * ((i 0).val / 1024) + (i 1).val / 1024 := rfl
    obtain ⟨e0, e1⟩ := idx6 t
    refine ⟨t, flush2_6 t, ?_⟩
    rw [mem_blk6]
    intro a
    match a with
    | ⟨0, _⟩ => show win2_6.index t (0 : Fin 2) * 1024 ≤ (i 0).val ∧ (i 0).val < win2_6.index t (0 : Fin 2) * 1024 + 1024; rw [e0]; omega
    | ⟨1, _⟩ => show win2_6.index t (1 : Fin 2) * 1024 ≤ (i 1).val ∧ (i 1).val < win2_6.index t (1 : Fin 2) * 1024 + 1024; rw [e1]; omega)

/-- What a flushing point writes back is its block of the hidden activations. -/
theorem flushed7_eq (c : Dev nD) (t : Fin cfg2.N) :
    (dat V c).flushed 7 t = ((cfg2.win 7).blk t).view.read (Elt Ideal) (G7 V c) := by
  show (cfg2.win 7).cut (grid2.coords t) ((dat V c).after 7 t) = _
  rw [after0_7]
  generalize hw : (outsAt0 V c t.val t.isLt).2.1 = w
  have hN := ptlt t
  obtain ⟨e0, e1⟩ := idx7 t
  funext y
  have hy0 : (y 0).val < 1024 := (y 0).isLt
  have hy1 : (y 1).val < 512 := (y 1).isLt
  have hemb : ((cfg2.win 7).blk t).view.emb y = (ix2 ⟨1024 * (t.val / 11) + (y 0).val, by omega⟩ ⟨512 * (t.val % 11) + (y 1).val, by omega⟩ : S49152x5632.Idx) := by
    funext a; apply Fin.ext
    match a with
    | ⟨0, _⟩ => show win2_7.index t (0 : Fin 2) * 1024 + 1 * (y 0).val = 1024 * (t.val / 11) + (y 0).val; rw [e0]; omega
    | ⟨1, _⟩ => show win2_7.index t (1 : Fin 2) * 512 + 1 * (y 1).val = 512 * (t.val % 11) + (y 1).val; rw [e1]; omega
  have hx : (cfg2.win 7).xinj (grid2.coords t) y = (ix2 ⟨(y 0).val, hy0⟩ ⟨(y 1).val, hy1⟩ : S1024x512.Idx) := by
    funext a; apply Fin.ext
    match a with
    | ⟨0, _⟩ => rfl
    | ⟨1, _⟩ => rfl
  have hl : (cfg2.win 7).cut (grid2.coords t) w y = w ((cfg2.win 7).xinj (grid2.coords t) y) := rfl
  have hr : ∀ f : Vec Ideal S49152x5632 .bf16, ((cfg2.win 7).blk t).view.read (Elt Ideal) f y = f (((cfg2.win 7).blk t).view.emb y) := fun _ => rfl
  rw [hl, hr, hemb, hx, ← hw]
  exact hb_eq V c t ⟨(y 0).val, hy0⟩ ⟨(y 1).val, hy1⟩ ⟨1024 * (t.val / 11) + (y 0).val, by omega⟩ ⟨512 * (t.val % 11) + (y 1).val, by omega⟩ rfl rfl

theorem mem_blk7 (t : Fin cfg2.N) (i : S49152x5632.Idx) :
    i ∈ ((cfg2.win 7).blk t).view.set ↔ ∀ a : Fin 2, win2_7.index t a * S1024x512.size a ≤ (i a).val ∧ (i a).val < win2_7.index t a * S1024x512.size a + S1024x512.size a := by
  show i ∈ ((View.whole main_v15_1).slice (win2_7.rect t)).set ↔ _
  rw [View.set_slice_whole, Rect.mem_set_unit]
  exact Iff.rfl

/-- The hidden activations after the region. -/
theorem final7 (c : Dev nD) : (dat V c).arrAt 7 cfg2.N = G7 V c :=
  (dat V c).arrAt_eq_of_cover 7 (G7 V c) (fun t hf => flushed7_eq V c t) (fun i => by
    have h0 : (i 0).val < 49152 := (i 0).isLt
    have h1 : (i 1).val < 5632 := (i 1).isLt
    have hN : cfg2.N = 528 := N_2
    let t : Fin cfg2.N := ⟨11 * ((i 0).val / 1024) + (i 1).val / 512, by omega⟩
    have ht : t.val = 11 * ((i 0).val / 1024) + (i 1).val / 512 := rfl
    obtain ⟨e0, e1⟩ := idx7 t
    refine ⟨t, flush2_7 t, ?_⟩
    rw [mem_blk7]
    intro a
    match a with
    | ⟨0, _⟩ => show win2_7.index t (0 : Fin 2) * 1024 ≤ (i 0).val ∧ (i 0).val < win2_7.index t (0 : Fin 2) * 1024 + 1024; rw [e0]; omega
    | ⟨1, _⟩ => show win2_7.index t (1 : Fin 2) * 512 ≤ (i 1).val ∧ (i 1).val < win2_7.index t (1 : Fin 2) * 512 + 512; rw [e1]; omega)

/-- What a flushing point writes back is its block of the input gradient. -/
theorem flushed8_eq (c : Dev nD) (t : Fin cfg2.N) (hf : t.val % 11 = 10) :
    (dat V c).flushed 8 t = ((cfg2.win 8).blk t).view.read (Elt Ideal) (G8 V c) := by
  show (cfg2.win 8).cut (grid2.coords t) ((dat V c).after 8 t) = _
  rw [after0_8]
  generalize hw : (outsAt0 V c t.val t.isLt).2.2.1 = w
  have hN := ptlt t
  obtain ⟨e0, e1⟩ := idx8 t
  funext y
  have hy0 : (y 0).val < 1024 := (y 0).isLt
  have hy1 : (y 1).val < 2048 := (y 1).isLt
  have hemb : ((cfg2.win 8).blk t).view.emb y = (ix2 ⟨1024 * (t.val / 11) + (y 0).val, by omega⟩ ⟨(y 1).val, by omega⟩ : S49152x2048.Idx) := by
    funext a; apply Fin.ext
    match a with
    | ⟨0, _⟩ => show win2_8.index t (0 : Fin 2) * 1024 + 1 * (y 0).val = 1024 * (t.val / 11) + (y 0).val; rw [e0]; omega
    | ⟨1, _⟩ => show win2_8.index t (1 : Fin 2) * 2048 + 1 * (y 1).val = (y 1).val; rw [e1]; omega
  have hx : (cfg2.win 8).xinj (grid2.coords t) y = (ix2 ⟨(y 0).val, hy0⟩ ⟨(y 1).val, hy1⟩ : S1024x2048.Idx) := by
    funext a; apply Fin.ext
    match a with
    | ⟨0, _⟩ => rfl
    | ⟨1, _⟩ => rfl
  have hl : (cfg2.win 8).cut (grid2.coords t) w y = w ((cfg2.win 8).xinj (grid2.coords t) y) := rfl
  have hr : ∀ f : Vec Ideal S49152x2048 .bf16, ((cfg2.win 8).blk t).view.read (Elt Ideal) f y = f (((cfg2.win 8).blk t).view.emb y) := fun _ => rfl
  rw [hl, hr, hemb, hx, ← hw]
  exact dx_eq V c t hf ⟨(y 0).val, hy0⟩ ⟨(y 1).val, hy1⟩ ⟨1024 * (t.val / 11) + (y 0).val, by omega⟩ rfl

theorem mem_blk8 (t : Fin cfg2.N) (i : S49152x2048.Idx) :
    i ∈ ((cfg2.win 8).blk t).view.set ↔ ∀ a : Fin 2, win2_8.index t a * S1024x2048.size a ≤ (i a).val ∧ (i a).val < win2_8.index t a * S1024x2048.size a + S1024x2048.size a := by
  show i ∈ ((View.whole main_v15_2).slice (win2_8.rect t)).set ↔ _
  rw [View.set_slice_whole, Rect.mem_set_unit]
  exact Iff.rfl

/-- The input gradient after the region. -/
theorem final8 (c : Dev nD) : (dat V c).arrAt 8 cfg2.N = G8 V c :=
  (dat V c).arrAt_eq_of_cover 8 (G8 V c) (fun t hf => flushed8_eq V c t ((flush2_8 t).mp hf)) (fun i => by
    have h0 : (i 0).val < 49152 := (i 0).isLt
    have h1 : (i 1).val < 2048 := (i 1).isLt
    have hN : cfg2.N = 528 := N_2
    let t : Fin cfg2.N := ⟨11 * ((i 0).val / 1024) + 10, by omega⟩
    have ht : t.val = 11 * ((i 0).val / 1024) + 10 := rfl
    obtain ⟨e0, e1⟩ := idx8 t
    refine ⟨t, (flush2_8 t).mpr (by omega), ?_⟩
    rw [mem_blk8]
    intro a
    match a with
    | ⟨0, _⟩ => show win2_8.index t (0 : Fin 2) * 1024 ≤ (i 0).val ∧ (i 0).val < win2_8.index t (0 : Fin 2) * 1024 + 1024; rw [e0]; omega
    | ⟨1, _⟩ => show win2_8.index t (1 : Fin 2) * 2048 ≤ (i 1).val ∧ (i 1).val < win2_8.index t (1 : Fin 2) * 2048 + 2048; rw [e1]; omega)

end Cert.KernelIdeal.R2

end
-- ==== Proof.R3.Value.lean ====
/- Region 3 of the kernel at the extended reals: the input tokens, dequantised and transposed. -/
module

public import proofs.«01_k».proof.Proof.R3.Frame
public import Idealize.ShloMosaic.Lib.Pipeline.Value
public import Idealize.ShloMosaic.Lib.ValueIdx

@[expose] public section

set_option maxRecDepth 16384

noncomputable section

namespace Cert.KernelIdeal.R3

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

/-- A block of codes times its tokens' scales, transposed, at an index. -/
theorem pay4_apply (b : Vec Ideal S1024x128 .fp8e4m3) (s : Vec Ideal S1x1x1024 .f32) (x : S128x1024.Idx) :
    k3_pay4 b s x = (b (ix2 (x 1) (x 0)) : EReal) * s (ix3 0 0 (x 1)) := by
  unfold k3_pay4
  simp only [mulf_apply, shapeCast_self]
  have e1 : transpose S128x1024 [1, 0] (extf (F := Ideal) .bf16 b bitsLt_fp8e4m3_bf16) transposes_S1024x128_p1_0_S128x1024 x = b (ix2 (x 1) (x 0)) :=
    transpose_apply _ _ _ x (ix2 (x 1) (x 0)) (by intro a; fin_cases a <;> rfl)
  rw [e1]
  refine congrArg (fun z : EReal => (b (ix2 (x 1) (x 0)) : EReal) * z) ?_
  refine (broadcastTo_apply _ _ x (ix2 0 (x 1) : S1x1024.Idx) (by intro a; fin_cases a <;> rfl)).trans ?_
  rw [truncf_apply]
  refine shapeCast_apply s _ _ (ix3 0 0 (x 1)) ?_
  refine (Shape.rowMajor_val_three _).trans (Eq.trans ?_ (Shape.rowMajor_val_two _).symm)
  show (0 * 1 + 0) * 1024 + (x 1).val = 0 * 1024 + (x 1).val
  omega

theorem inC (y : S2048x1024.Idx) : (y 0).val / 128 < 16 := by
  have h1 : (y 0).val < 2048 := (y 0).isLt
  omega

/-- What the point leaves in its block: the code at the transposed place times its token's scale there. -/
def B (x0 : Vec Ideal S1024x2048 .fp8e4m3) (x1 : Vec Ideal S1x16x1024 .f32) : Vec Ideal S2048x1024 .bf16 :=
  fun y => (x0 (ix2 (y 1) (y 0)) : EReal) * x1 (ix3 0 ⟨(y 0).val / 128, inC y⟩ (y 1))

/-- One store's payload is its part of the block. -/
theorem piece (x0 : Vec Ideal S1024x2048 .fp8e4m3) (x1 : Vec Ideal S1x16x1024 .f32) (p b : ℕ)
    (w : FVec Ideal S128x1024 .bf16)
    (inb : ∀ a, (![0, b, 0] : Fin 3 → ℕ) a + S1x1x1024.size a ≤ S1x16x1024.size a) (inb2 : ∀ a, (![0, p] : Fin 2 → ℕ) a + S1024x128.size a ≤ S1024x2048.size a)
    (inb3 : ∀ a, (![p, 0] : Fin 2 → ℕ) a + S128x1024.size a ≤ S2048x1024.size a)
    (hw : w = k3_pay4 (View.ld x0 (Rect.unit (s := S1024x2048) ![0, p] S1024x128.size inb2)) (View.ld x1 (Rect.unit (s := S1x16x1024) ![0, b, 0] S1x1x1024.size inb)))
    (hp : p % 128 = 0) (hb : b = p / 128) (x : S128x1024.Idx) :
    w x = B x0 x1 ((Rect.unit (s := S2048x1024) ![p, 0] S128x1024.size inb3).emb x) := by
  have hx0 : (x 0).val < 128 := (x 0).isLt
  have hx1 : (x 1).val < 1024 := (x 1).isLt
  rw [hw, pay4_apply]
  unfold B
  congr 1
  · refine congrArg x0 (funext fun a => Fin.ext ?_)
    match a with
    | ⟨0, _⟩ => rfl
    | ⟨1, _⟩ => rfl
  · refine congrArg x1 (funext fun a => Fin.ext ?_)
    match a with
    | ⟨0, _⟩ => rfl
    | ⟨1, _⟩ => show b + 1 * 0 = (p + 1 * (x 0).val) / 128; omega
    | ⟨2, _⟩ => rfl

/-- The block after the point. -/
theorem out_eq (x0 : Vec Ideal S1024x2048 .fp8e4m3) (x1 : Vec Ideal S1x16x1024 .f32) : out0_2 x0 x1 = B x0 x1 := by
  unfold out0_2
  funext y
  refine View.canon_apply_of_pieces (B x0 x1) _ ?_ y (cover0_2 _ _ _ _ _ _ _ _ _ _ _ _ _ _ _ _ y)
  repeat' first
    | exact List.forall_mem_nil _
    | refine List.forall_mem_cons.mpr ⟨fun x => piece x0 x1 _ _ _ _ _ (by decide +kernel) rfl rfl rfl x, ?_⟩

variable (V : (c : Dev nD) → (b : Ref sig .tc) → Buf (Elt Ideal) ((c : Thread nD τ).loc b))

/-- The region's operands and a point's blocks of them, at their shapes. -/
abbrev src0 (c : Dev nD) : Vec Ideal S49152x2048 .fp8e4m3 := V c main_v13
abbrev src1 (c : Dev nD) : Vec Ideal S6x16x8192 .f32 := V c main_v8
abbrev blk0 (c : Dev nD) (t : Fin cfg3.N) : Vec Ideal S1024x2048 .fp8e4m3 := iblk V c 0 t
abbrev blk1 (c : Dev nD) (t : Fin cfg3.N) : Vec Ideal S1x16x1024 .f32 := iblk V c 1 t

theorem idx0 : ∀ t : Fin cfg3.N, win3_0.index t (0 : Fin 2) = t.val ∧ win3_0.index t (1 : Fin 2) = 0 :=
  (by decide +kernel : ∀ t : Fin grid3.N, _)
theorem idx1 : ∀ t : Fin cfg3.N, win3_1.index t (0 : Fin 3) = t.val / 8 ∧ win3_1.index t (1 : Fin 3) = 0 ∧ win3_1.index t (2 : Fin 3) = t.val % 8 :=
  (by decide +kernel : ∀ t : Fin grid3.N, _)
theorem idx2 : ∀ t : Fin cfg3.N, win3_2.index t (0 : Fin 2) = 0 ∧ win3_2.index t (1 : Fin 2) = t.val :=
  (by decide +kernel : ∀ t : Fin grid3.N, _)

/-- The point's block of the codes. -/
theorem iblk0 (c : Dev nD) (t : Fin cfg3.N) (r : Fin 1024) (d : Fin 2048) (n : Fin 49152) (hn : n.val = 1024 * t.val + r.val) :
    blk0 V c t (ix2 r d) = src0 V c (ix2 n d) := by
  obtain ⟨e0, e1⟩ := idx0 t
  refine congrArg (src0 V c) (funext fun a => Fin.ext ?_)
  match a with
  | ⟨0, _⟩ => show win3_0.index t (0 : Fin 2) * 1024 + 1 * r.val = n.val; rw [e0]; omega
  | ⟨1, _⟩ => show win3_0.index t (1 : Fin 2) * 2048 + 1 * d.val = d.val; rw [e1]; omega

/-- The point's block of the scales. -/
theorem iblk1 (c : Dev nD) (t : Fin cfg3.N) (q : Fin 16) (r : Fin 1024) (b : Fin 6) (s : Fin 8192) (hb : b.val = t.val / 8) (hs : s.val = 1024 * (t.val % 8) + r.val) :
    blk1 V c t (ix3 0 q r) = src1 V c (ix3 b q s) := by
  obtain ⟨e0, e1, e2⟩ := idx1 t
  refine congrArg (src1 V c) (funext fun a => Fin.ext ?_)
  match a with
  | ⟨0, _⟩ => show win3_1.index t (0 : Fin 3) * 1 + 1 * 0 = b.val; rw [e0]; omega
  | ⟨1, _⟩ => show win3_1.index t (1 : Fin 3) * 16 + 1 * q.val = q.val; rw [e1]; omega
  | ⟨2, _⟩ => show win3_1.index t (2 : Fin 3) * 1024 + 1 * r.val = s.val; rw [e2]; omega

/-- One entry of a token, dequantised. -/
def tokv (c : Dev nD) (n : Fin 49152) (d : Fin 2048) : EReal :=
  (src0 V c (ix2 n d) : EReal) * src1 V c (ix3 ⟨n.val / 8192, by have := n.isLt; omega⟩ ⟨d.val / 128, by have := d.isLt; omega⟩ ⟨n.val % 8192, Nat.mod_lt _ (by decide)⟩)

/-- What the region leaves: the dequantised tokens, transposed. -/
def G (c : Dev nD) : Vec Ideal S2048x49152 .bf16 := fun y => tokv V c (y 1) (y 0)

theorem B_apply (c : Dev nD) (t : Fin cfg3.N) (d : Fin 2048) (r : Fin 1024) (n : Fin 49152) (hn : n.val = 1024 * t.val + r.val) :
    B (blk0 V c t) (blk1 V c t) (ix2 d r) = tokv V c n d := by
  have hr := r.isLt
  show (blk0 V c t (ix2 r d) : EReal) * blk1 V c t (ix3 0 _ r) = _
  rw [iblk0 V c t r d n hn, iblk1 V c t _ r ⟨n.val / 8192, by have := n.isLt; omega⟩ ⟨n.val % 8192, Nat.mod_lt _ (by decide)⟩ (by show n.val / 8192 = _; omega) (by show n.val % 8192 = _; omega)]
  rfl

/-- What a point writes back is its block of the transposed tokens. -/
theorem flushed_eq (c : Dev nD) (t : Fin cfg3.N) :
    (dat V c).flushed 2 t = ((cfg3.win 2).blk t).view.read (Elt Ideal) (G V c) := by
  show (cfg3.win 2).cut (grid3.coords t) ((dat V c).after 2 t) = _
  rw [after0_2, out_eq]
  generalize hw : B _ _ = w
  have hN : t.val < 48 := lt_of_lt_of_eq t.isLt (show cfg3.N = 48 from N_3)
  obtain ⟨e0, e1⟩ := idx2 t
  funext y
  have hy0 : (y 0).val < 2048 := (y 0).isLt
  have hy1 : (y 1).val < 1024 := (y 1).isLt
  have hemb : ((cfg3.win 2).blk t).view.emb y = (ix2 ⟨(y 0).val, hy0⟩ ⟨1024 * t.val + (y 1).val, by omega⟩ : S2048x49152.Idx) := by
    funext a; apply Fin.ext
    match a with
    | ⟨0, _⟩ => show win3_2.index t (0 : Fin 2) * 2048 + 1 * (y 0).val = (y 0).val; rw [e0]; omega
    | ⟨1, _⟩ => show win3_2.index t (1 : Fin 2) * 1024 + 1 * (y 1).val = 1024 * t.val + (y 1).val; rw [e1]; omega
  have hx : (cfg3.win 2).xinj (grid3.coords t) y = (ix2 ⟨(y 0).val, hy0⟩ ⟨(y 1).val, hy1⟩ : S2048x1024.Idx) := by
    funext a; apply Fin.ext
    match a with
    | ⟨0, _⟩ => rfl
    | ⟨1, _⟩ => rfl
  have hl : (cfg3.win 2).cut (grid3.coords t) w y = w ((cfg3.win 2).xinj (grid3.coords t) y) := rfl
  have hr : ∀ f : Vec Ideal S2048x49152 .bf16, ((cfg3.win 2).blk t).view.read (Elt Ideal) f y = f (((cfg3.win 2).blk t).view.emb y) := fun _ => rfl
  rw [hl, hr, hemb, hx, ← hw]
  exact B_apply V c t _ _ _ rfl

/-- An index of the array is in a point's block iff each coordinate is in the block's range. -/
theorem mem_blk (t : Fin cfg3.N) (i : S2048x49152.Idx) :
    i ∈ ((cfg3.win 2).blk t).view.set ↔ ∀ a : Fin 2, win3_2.index t a * S2048x1024.size a ≤ (i a).val ∧ (i a).val < win3_2.index t a * S2048x1024.size a + S2048x1024.size a := by
  show i ∈ ((View.whole main_v16).slice (win3_2.rect t)).set ↔ _
  rw [View.set_slice_whole, Rect.mem_set_unit]
  exact Iff.rfl

/-- The transposed tokens after the region. -/
theorem final (c : Dev nD) : (dat V c).arrAt 2 cfg3.N = G V c :=
  (dat V c).arrAt_eq_of_cover 2 (G V c) (fun t _ => flushed_eq V c t) (fun i => by
    have h0 : (i 0).val < 2048 := (i 0).isLt
    have h1 : (i 1).val < 49152 := (i 1).isLt
    have hN : cfg3.N = 48 := N_3
    let t : Fin cfg3.N := ⟨(i 1).val / 1024, by omega⟩
    have ht : t.val = (i 1).val / 1024 := rfl
    obtain ⟨e0, e1⟩ := idx2 t
    refine ⟨t, flush3_2 t, ?_⟩
    rw [mem_blk]
    intro a
    match a with
    | ⟨0, _⟩ => show win3_2.index t (0 : Fin 2) * 2048 ≤ (i 0).val ∧ (i 0).val < win3_2.index t (0 : Fin 2) * 2048 + 2048; rw [e0]; omega
    | ⟨1, _⟩ => show win3_2.index t (1 : Fin 2) * 1024 ≤ (i 1).val ∧ (i 1).val < win3_2.index t (1 : Fin 2) * 1024 + 1024; rw [e1]; omega)

end Cert.KernelIdeal.R3

end
-- ==== Proof.R4.Value.lean ====
/- Region 4 of the kernel at the extended reals: after it the gradient of the gate and up weights holds, at (k, d, f), the
   sum over all tokens of the transposed input at (d, token) times the gradient of the two projections at (token, its
   column for (k, f)). -/
module

public import proofs.«01_k».proof.Proof.R4.Frame
public import proofs.«01_k».proof.Proof.Sums
public import Idealize.ShloMosaic.Lib.Pipeline.Value
public import Idealize.ShloMosaic.Lib.ValueIdx
public import Idealize.ShloMosaic.Lib.MatmulPlain

@[expose] public section

set_option maxRecDepth 16384

noncomputable section

namespace Cert.KernelIdeal.R4

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)
open scoped BigOperators

theorem hz : (![0, 0] : Fin 2 → ℕ) = fun _ => 0 := by funext a; fin_cases a <;> rfl
theorem hz3 : (![0, 0, 0] : Fin 3 → ℕ) = fun _ => 0 := by funext a; fin_cases a <;> rfl

/-- The accumulator's zero block. -/
theorem pay1_apply (i : S2x2048x512.Idx) : (k4_pay1 (F := Ideal)) i = 0 := by
  unfold k4_pay1
  exact Ideal.ofBits_zero_f32

/-- One half's step, at an index. -/
theorem pay2_apply (v : Vec Ideal S1x2048x512 .f32) (x : Vec Ideal S2048x1024 .bf16) (y : Vec Ideal S1024x512 .bf16) (i : S1x2048x512.Idx) :
    k4_pay2 v x y i = v (ix3 0 (i 1) (i 2)) + ∑ r : Fin 1024, x (ix2 (i 1) r) * y (ix2 r (i 2)) := by
  have h0 : (i 0).val < 1 := (i 0).isLt
  unfold k4_pay2
  refine (shapeCast_apply _ _ i (ix2 (i 1) (i 2) : S2048x512.Idx) ?_).trans ?_
  · refine (Shape.rowMajor_val_two _).trans (Eq.trans ?_ (Shape.rowMajor_val_three _).symm)
    show (i 1).val * 512 + (i 2).val = ((i 0).val * 2048 + (i 1).val) * 512 + (i 2).val
    omega
  simp only [shapeCast_self, addf_apply]
  congr 1
  · refine shapeCast_apply v _ _ (ix3 0 (i 1) (i 2)) ?_
    refine (Shape.rowMajor_val_three _).trans (Eq.trans ?_ (Shape.rowMajor_val_two _).symm)
    show (0 * 2048 + (i 1).val) * 512 + (i 2).val = (i 1).val * 512 + (i 2).val
    omega
  · refine (Ideal.matmul_plain_apply (M := 2048) (K := 1024) (N := 512) _ x y _ (i 1) (i 2)).trans ?_
    rw [constant_apply, Ideal.ofBits_zero_f32, zero_add]

theorem inQ (i : S2x2048x512.Idx) : 512 * (i 0).val + (i 2).val < 1024 := by
  have h0 : (i 0).val < 2 := (i 0).isLt
  have h2 : (i 2).val < 512 := (i 2).isLt
  omega

/-- One point's step on the whole accumulator: the two halves are the two halves of the columns. -/
def step (x0 : Vec Ideal S2048x1024 .bf16) (x1 : Vec Ideal S1024x1024 .bf16) (v : Vec Ideal S2x2048x512 .f32) : Vec Ideal S2x2048x512 .f32 :=
  fun i => v i + ∑ r : Fin 1024, x0 (ix2 (i 1) r) * x1 (ix2 r ⟨512 * (i 0).val + (i 2).val, inQ i⟩)

/-- One half's store is its part of the step. -/
theorem piece (x0 : Vec Ideal S2048x1024 .bf16) (x1 : Vec Ideal S1024x1024 .bf16) (v : Vec Ideal S2x2048x512 .f32) (k p : ℕ)
    (w u : FVec Ideal S1x2048x512 .f32)
    (inb : ∀ a, (![k, 0, 0] : Fin 3 → ℕ) a + S1x2048x512.size a ≤ S2x2048x512.size a) (inb2 : ∀ a, (![0, p] : Fin 2 → ℕ) a + S1024x512.size a ≤ S1024x1024.size a)
    (hw : w = k4_pay2 u x0 (View.ld x1 (Rect.unit (s := S1024x1024) ![0, p] S1024x512.size inb2)))
    (hu : ∀ x, u x = v ((Rect.unit (s := S2x2048x512) ![k, 0, 0] S1x2048x512.size inb).emb x))
    (hp : p = 512 * k) (x : S1x2048x512.Idx) :
    w x = step x0 x1 v ((Rect.unit (s := S2x2048x512) ![k, 0, 0] S1x2048x512.size inb).emb x) := by
  have hx0 : (x 0).val < 1 := (x 0).isLt
  rw [hw, pay2_apply, hu]
  unfold step
  congr 1
  · refine congrArg v (funext fun a => Fin.ext ?_)
    match a with
    | ⟨0, _⟩ => show k + 1 * 0 = k + 1 * (x 0).val; omega
    | ⟨1, _⟩ => rfl
    | ⟨2, _⟩ => rfl
  · refine Finset.sum_congr rfl fun r _ => ?_
    congr 1
    · refine congrArg x0 (funext fun a => Fin.ext ?_)
      match a with
      | ⟨0, _⟩ => show (x 1).val = 0 + 1 * (x 1).val; omega
      | ⟨1, _⟩ => rfl
    · refine congrArg x1 (funext fun a => Fin.ext ?_)
      match a with
      | ⟨0, _⟩ => show 0 + 1 * r.val = r.val; omega
      | ⟨1, _⟩ => show p + 1 * (x 2).val = 512 * (k + 1 * (x 0).val) + (0 + 1 * (x 2).val); omega

/-- A middle point adds its products to the accumulator. -/
theorem out_B (c : Dev nD) (i : grid4.Coords) (arg2 : Memref sig .tc .vmem S2048x1024 .bf16) (harg2 : arg2.IsWhole) (arg3 : Memref sig .tc .vmem S1024x1024 .bf16) (harg3 : arg3.IsWhole) (arg4 : Memref sig .tc .vmem S2x2048x512 .f32) (harg4 : arg4.IsWhole) (hc0 : ¬cond0_0 i)
    (x0 : Vec Ideal S2048x1024 .bf16) (x1 : Vec Ideal S1024x1024 .bf16) (xo : Vec Ideal S2x2048x512 .f32) :
    out0_B_2 c i arg2 harg2 arg3 harg3 arg4 harg4 hc0 x0 x1 xo = step x0 x1 xo := by
  unfold out0_B_2
  rw [View.read_writes_eq_canon _ _ _ (cover0_B_2 c i arg2 harg2 arg3 harg3 arg4 harg4 hc0 x0 x1 xo)]
  funext y
  refine View.canon_apply_of_pieces (step x0 x1 xo) _ ?_ y (cover0_B_2 c i arg2 harg2 arg3 harg3 arg4 harg4 hc0 x0 x1 xo y)
  unfold kernelRun0_B
  dsimp only
  sl_unfold_words
  simp only [View.readAt_eq_ld, harg2.read_unread, harg3.read_unread, harg4.read_unread, View.ld_unit_zero (S := S2048x1024) hz]
  refine List.forall_mem_cons.mpr ⟨fun x => piece x0 x1 xo 1 512 _ _ _ _ rfl (fun _ => rfl) rfl x, ?_⟩
  refine List.forall_mem_cons.mpr ⟨fun x => piece x0 x1 xo 0 0 _ _ _ _ rfl (fun _ => rfl) rfl x, ?_⟩
  exact List.forall_mem_nil _

/-- The first point of a run adds its products to zero. -/
theorem out_A (c : Dev nD) (i : grid4.Coords) (arg2 : Memref sig .tc .vmem S2048x1024 .bf16) (harg2 : arg2.IsWhole) (arg3 : Memref sig .tc .vmem S1024x1024 .bf16) (harg3 : arg3.IsWhole) (arg4 : Memref sig .tc .vmem S2x2048x512 .f32) (harg4 : arg4.IsWhole) (hc0 : cond0_0 i)
    (x0 : Vec Ideal S2048x1024 .bf16) (x1 : Vec Ideal S1024x1024 .bf16) :
    out0_A_2 c i arg2 harg2 arg3 harg3 arg4 harg4 hc0 x0 x1 = step x0 x1 (k4_pay1 (F := Ideal)) := by
  unfold out0_A_2
  rw [View.read_writes_eq_canon _ _ _ (cover0_A_2 c i arg2 harg2 arg3 harg3 arg4 harg4 hc0 x0 x1)]
  unfold kernelRun0_A
  dsimp only
  sl_unfold_words
  simp only [View.readAt_eq_ld, harg2.read_unread, harg3.read_unread, View.ld_unit_zero (S := S2048x1024) hz, View.readCov_eq_canon', View.canon_unit_zero (S := S2x2048x512) hz3]
  funext y
  have h0 : (y 0).val < 2 := (y 0).isLt
  by_cases h : (y 0).val = 1
  · obtain ⟨x, rfl⟩ := (Rect.unit (s := S2x2048x512) ![1, 0, 0] ![1, 2048, 512] inb_S2x2048x512_S1x2048x512_1_0_0).exists_idx_of_mem (i := y) (by
      rw [Rect.mem_set_unit]; intro a
      match a with
      | ⟨0, _⟩ => show 1 ≤ (y 0).val ∧ (y 0).val < 1 + 1; omega
      | ⟨1, _⟩ => show 0 ≤ (y 1).val ∧ (y 1).val < 0 + 2048; have : (y 1).val < 2048 := (y 1).isLt; omega
      | ⟨2, _⟩ => show 0 ≤ (y 2).val ∧ (y 2).val < 0 + 512; have : (y 2).val < 512 := (y 2).isLt; omega)
    refine (View.canon_cons_emb _ _ _ x).trans ?_
    refine piece x0 x1 (k4_pay1 (F := Ideal)) 1 512 _ _ _ _ rfl (fun x' => ?_) rfl x
    refine (View.canon_cons_of_not_mem _ _ ?_).trans (congrFun (View.canon_unit_zero (S := S2x2048x512) hz3 _ _) _)
    intro hm
    rw [Rect.mem_set_unit] at hm
    have := (hm 0).2
    have e : ((Rect.unit (s := S2x2048x512) ![1, 0, 0] ![1, 2048, 512] inb_S2x2048x512_S1x2048x512_1_0_0).idx x' 0).val = 1 + 1 * (x' 0).val := rfl
    change ((Rect.unit (s := S2x2048x512) ![1, 0, 0] ![1, 2048, 512] inb_S2x2048x512_S1x2048x512_1_0_0).idx x' 0).val < 0 + 1 at this
    omega
  · obtain ⟨x, rfl⟩ := (Rect.unit (s := S2x2048x512) ![0, 0, 0] S1x2048x512.size inb_S2x2048x512_S1x2048x512_0_0_0).exists_idx_of_mem (i := y) (by
      rw [Rect.mem_set_unit]; intro a
      match a with
      | ⟨0, _⟩ => show 0 ≤ (y 0).val ∧ (y 0).val < 0 + 1; omega
      | ⟨1, _⟩ => show 0 ≤ (y 1).val ∧ (y 1).val < 0 + 2048; have : (y 1).val < 2048 := (y 1).isLt; omega
      | ⟨2, _⟩ => show 0 ≤ (y 2).val ∧ (y 2).val < 0 + 512; have : (y 2).val < 512 := (y 2).isLt; omega)
    refine (View.canon_cons_of_not_mem _ _ ?_).trans ?_
    · intro hm
      rw [Rect.mem_set_unit] at hm
      have := (hm 0).1
      change 1 ≤ ((Rect.unit (s := S2x2048x512) ![0, 0, 0] S1x2048x512.size inb_S2x2048x512_S1x2048x512_0_0_0).idx x 0).val at this
      omega
    refine (View.canon_cons_emb _ _ _ x).trans ?_
    exact piece x0 x1 (k4_pay1 (F := Ideal)) 0 0 _ _ _ _ rfl (fun x' => rfl) rfl x

variable (V : (c : Dev nD) → (b : Ref sig .tc) → Buf (Elt Ideal) ((c : Thread nD τ).loc b))

/-- The region's operands and a point's blocks of them, at their shapes. -/
abbrev src0 (c : Dev nD) : Vec Ideal S2048x49152 .bf16 := V c main_v16
abbrev src1 (c : Dev nD) : Vec Ideal S49152x11264 .bf16 := V c main_v15_0
abbrev blk0 (c : Dev nD) (t : Fin cfg4.N) : Vec Ideal S2048x1024 .bf16 := iblk V c 0 t
abbrev blk1 (c : Dev nD) (t : Fin cfg4.N) : Vec Ideal S1024x1024 .bf16 := iblk V c 1 t

theorem idx0 : ∀ t : Fin cfg4.N, win4_0.index t (0 : Fin 2) = 0 ∧ win4_0.index t (1 : Fin 2) = t.val % 48 :=
  (by decide +kernel : ∀ t : Fin grid4.N, _)
theorem idx1 : ∀ t : Fin cfg4.N, win4_1.index t (0 : Fin 2) = t.val % 48 ∧ win4_1.index t (1 : Fin 2) = t.val / 48 :=
  (by decide +kernel : ∀ t : Fin grid4.N, _)
theorem idx2 : ∀ t : Fin cfg4.N, win4_2.index t (0 : Fin 3) = 0 ∧ win4_2.index t (1 : Fin 3) = 0 ∧ win4_2.index t (2 : Fin 3) = t.val / 48 :=
  (by decide +kernel : ∀ t : Fin grid4.N, _)

/-- The point's block of the transposed input. -/
theorem iblk0 (c : Dev nD) (t : Fin cfg4.N) (d : Fin 2048) (r : Fin 1024) (n : Fin 49152) (hn : n.val = 1024 * (t.val % 48) + r.val) :
    blk0 V c t (ix2 d r) = src0 V c (ix2 d n) := by
  obtain ⟨e0, e1⟩ := idx0 t
  refine congrArg (src0 V c) (funext fun a => Fin.ext ?_)
  match a with
  | ⟨0, _⟩ => show win4_0.index t (0 : Fin 2) * 2048 + 1 * d.val = d.val; rw [e0]; omega
  | ⟨1, _⟩ => show win4_0.index t (1 : Fin 2) * 1024 + 1 * r.val = n.val; rw [e1]; omega

/-- The point's block of the gradient of the two projections. -/
theorem iblk1 (c : Dev nD) (t : Fin cfg4.N) (r : Fin 1024) (q : Fin 1024) (n : Fin 49152) (f : Fin 11264)
    (hn : n.val = 1024 * (t.val % 48) + r.val) (hf : f.val = 1024 * (t.val / 48) + q.val) :
    blk1 V c t (ix2 r q) = src1 V c (ix2 n f) := by
  obtain ⟨e0, e1⟩ := idx1 t
  refine congrArg (src1 V c) (funext fun a => Fin.ext ?_)
  match a with
  | ⟨0, _⟩ => show win4_1.index t (0 : Fin 2) * 1024 + 1 * r.val = n.val; rw [e0]; omega
  | ⟨1, _⟩ => show win4_1.index t (1 : Fin 2) * 1024 + 1 * q.val = f.val; rw [e1]; omega

/-- The column of half `k` and hidden unit `f`: the columns go by tiles of 512 units, in each tile first the gate's, then
    the up projection's. -/
def col (k : Fin 2) (f : Fin 5632) : Fin 11264 :=
  ⟨1024 * (f.val / 512) + 512 * k.val + f.val % 512, by have := f.isLt; have := k.isLt; omega⟩

/-- One token's contribution to the gradient at (k, d, f). -/
def term (c : Dev nD) (k : Fin 2) (d : Fin 2048) (f : Fin 5632) (n : Fin 49152) : EReal :=
  src0 V c (ix2 d n) * src1 V c (ix2 n (col k f))

def tok (x : ℕ) : Fin 49152 := ⟨x % 49152, Nat.mod_lt _ (by decide)⟩

/-- One point's step at an index, in terms of the arrays: a tile of tokens' contribution. -/
theorem step_apply (c : Dev nD) (t : Fin cfg4.N) (v : Vec Ideal S2x2048x512 .f32) (k : Fin 2) (d : Fin 2048) (q : Fin 512) (f : Fin 5632) (hf : f.val = 512 * (t.val / 48) + q.val) :
    step (blk0 V c t) (blk1 V c t) v (ix3 k d q) = v (ix3 k d q) + ∑ r : Fin 1024, term V c k d f (tok (1024 * (t.val % 48) + r.val)) := by
  refine congrArg (v (ix3 k d q) + ·) ?_
  refine Finset.sum_congr rfl fun r _ => ?_
  have hr := r.isLt
  have hq := q.isLt
  have h : (tok (1024 * (t.val % 48) + r.val)).val = 1024 * (t.val % 48) + r.val := Nat.mod_eq_of_lt (by omega)
  show blk0 V c t (ix2 d r) * blk1 V c t (ix2 r _) = _
  rw [iblk0 V c t d r _ h, iblk1 V c t r _ _ (col k f) h (by show 1024 * (f.val / 512) + 512 * k.val + f.val % 512 = 1024 * (t.val / 48) + (512 * k.val + q.val); omega)]
  rfl

/-- The accumulator after a point: the sum over the tokens of the tiles up to the point's. -/
theorem acc_eq (c : Dev nD) : ∀ (n : ℕ) (hn : n < cfg4.N) (k : Fin 2) (d : Fin 2048) (q : Fin 512) (f : Fin 5632) (hf : f.val = 512 * (n / 48) + q.val),
    outsAt0 V c n hn (ix3 k d q) = ∑ x ∈ Finset.range (1024 * (n % 48 + 1)), term V c k d f (tok x) := by
  intro n
  induction n with
  | zero =>
    intro hn k d q f hf
    rw [show outsAt0 V c 0 hn = _ from outsAt0_A V c ⟨0, hn⟩ (Nat.zero_mod _), out_A]
    refine (step_apply V c ⟨0, hn⟩ _ k d q f hf).trans ?_
    rw [pay1_apply, zero_add]
    exact Sums.first (fun x => term V c k d f (tok x)) 1024
  | succ n ih =>
    intro hn k d q f hf
    by_cases h0 : (n + 1) % 48 = 0
    · rw [show outsAt0 V c (n + 1) hn = _ from outsAt0_A V c ⟨n + 1, hn⟩ h0, out_A]
      refine (step_apply V c ⟨n + 1, hn⟩ _ k d q f hf).trans ?_
      rw [pay1_apply, zero_add]
      dsimp only
      rw [h0]
      exact Sums.first (fun x => term V c k d f (tok x)) 1024
    · rw [show outsAt0 V c (n + 1) hn = _ from outsAt0_B V c ⟨n + 1, hn⟩ h0, out_B]
      refine (step_apply V c ⟨n + 1, hn⟩ _ k d q f hf).trans ?_
      have e : outsAt0 V c (n + 1 - 1) (Nat.lt_of_le_of_lt (Nat.sub_le _ _) hn) (ix3 k d q) = _ :=
        ih (Nat.lt_of_succ_lt hn) k d q f (by omega)
      refine (congrArg (fun z : EReal => z + _) e).trans ?_
      rw [show n % 48 + 1 = (n + 1) % 48 by omega]
      exact Sums.step (fun x => term V c k d f (tok x)) 1024 ((n + 1) % 48)

/-- What the region leaves: the sum over all tokens. -/
def G (c : Dev nD) : Vec Ideal S2x2048x5632 .f32 := fun i => ∑ n : Fin 49152, term V c (i 0) (i 1) (i 2) n

/-- What a flushing point writes back is its block of the sum. -/
theorem flushed_eq (c : Dev nD) (t : Fin cfg4.N) (hf : t.val % 48 = 47) :
    (dat V c).flushed 2 t = ((cfg4.win 2).blk t).view.read (Elt Ideal) (G V c) := by
  show (cfg4.win 2).cut (grid4.coords t) ((dat V c).after 2 t) = _
  rw [after0_2]
  generalize hw : outsAt0 V c t.val t.isLt = w
  have hN : t.val < 528 := lt_of_lt_of_eq t.isLt (show cfg4.N = 528 from N_4)
  obtain ⟨e0, e1, e2⟩ := idx2 t
  funext y
  have hy0 : (y 0).val < 2 := (y 0).isLt
  have hy1 : (y 1).val < 2048 := (y 1).isLt
  have hy2 : (y 2).val < 512 := (y 2).isLt
  have hemb : ((cfg4.win 2).blk t).view.emb y = (ix3 ⟨(y 0).val, hy0⟩ ⟨(y 1).val, hy1⟩ ⟨512 * (t.val / 48) + (y 2).val, by omega⟩ : S2x2048x5632.Idx) := by
    funext a; apply Fin.ext
    match a with
    | ⟨0, _⟩ => show win4_2.index t (0 : Fin 3) * 2 + 1 * (y 0).val = (y 0).val; rw [e0]; omega
    | ⟨1, _⟩ => show win4_2.index t (1 : Fin 3) * 2048 + 1 * (y 1).val = (y 1).val; rw [e1]; omega
    | ⟨2, _⟩ => show win4_2.index t (2 : Fin 3) * 512 + 1 * (y 2).val = 512 * (t.val / 48) + (y 2).val; rw [e2]; omega
  have hx : (cfg4.win 2).xinj (grid4.coords t) y = (ix3 ⟨(y 0).val, hy0⟩ ⟨(y 1).val, hy1⟩ ⟨(y 2).val, hy2⟩ : S2x2048x512.Idx) := by
    funext a; apply Fin.ext
    match a with
    | ⟨0, _⟩ => rfl
    | ⟨1, _⟩ => rfl
    | ⟨2, _⟩ => rfl
  have hl : (cfg4.win 2).cut (grid4.coords t) w y = w ((cfg4.win 2).xinj (grid4.coords t) y) := rfl
  have hr : ∀ f : Vec Ideal S2x2048x5632 .f32, ((cfg4.win 2).blk t).view.read (Elt Ideal) f y = f (((cfg4.win 2).blk t).view.emb y) := fun _ => rfl
  rw [hl, hr, hemb, hx, ← hw]
  refine (acc_eq V c t.val t.isLt _ _ _ ⟨512 * (t.val / 48) + (y 2).val, by omega⟩ rfl).trans ?_
  rw [hf]
  exact Sums.full 49152 (by decide) _

/-- An index of the array is in a point's block iff each coordinate is in the block's range. -/
theorem mem_blk (t : Fin cfg4.N) (i : S2x2048x5632.Idx) :
    i ∈ ((cfg4.win 2).blk t).view.set ↔ ∀ a : Fin 3, win4_2.index t a * S2x2048x512.size a ≤ (i a).val ∧ (i a).val < win4_2.index t a * S2x2048x512.size a + S2x2048x512.size a := by
  show i ∈ ((View.whole main_v17).slice (win4_2.rect t)).set ↔ _
  rw [View.set_slice_whole, Rect.mem_set_unit]
  exact Iff.rfl

/-- The gradient of the gate and up weights after the region. -/
theorem final (c : Dev nD) : (dat V c).arrAt 2 cfg4.N = G V c :=
  (dat V c).arrAt_eq_of_cover 2 (G V c) (fun t hf => flushed_eq V c t ((flush4_2 t).mp hf)) (fun i => by
    have h0 : (i 0).val < 2 := (i 0).isLt
    have h1 : (i 1).val < 2048 := (i 1).isLt
    have h2 : (i 2).val < 5632 := (i 2).isLt
    have hN : cfg4.N = 528 := N_4
    let t : Fin cfg4.N := ⟨48 * ((i 2).val / 512) + 47, by omega⟩
    have ht : t.val = 48 * ((i 2).val / 512) + 47 := rfl
    obtain ⟨e0, e1, e2⟩ := idx2 t
    refine ⟨t, (flush4_2 t).mpr (by omega), ?_⟩
    rw [mem_blk]
    intro a
    match a with
    | ⟨0, _⟩ => show win4_2.index t (0 : Fin 3) * 2 ≤ (i 0).val ∧ (i 0).val < win4_2.index t (0 : Fin 3) * 2 + 2; rw [e0]; omega
    | ⟨1, _⟩ => show win4_2.index t (1 : Fin 3) * 2048 ≤ (i 1).val ∧ (i 1).val < win4_2.index t (1 : Fin 3) * 2048 + 2048; rw [e1]; omega
    | ⟨2, _⟩ => show win4_2.index t (2 : Fin 3) * 512 ≤ (i 2).val ∧ (i 2).val < win4_2.index t (2 : Fin 3) * 512 + 512; rw [e2]; omega)

end Cert.KernelIdeal.R4

end
-- ==== Proof.R5.Value.lean ====
/- Region 5 of the kernel at the extended reals: the output gradient, dequantised and transposed. -/
module

public import proofs.«01_k».proof.Proof.R5.Frame
public import Idealize.ShloMosaic.Lib.Pipeline.Value
public import Idealize.ShloMosaic.Lib.ValueIdx

@[expose] public section

set_option maxRecDepth 16384

noncomputable section

namespace Cert.KernelIdeal.R5

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

/-- A block of codes times its tokens' scales, transposed, at an index. -/
theorem pay4_apply (b : Vec Ideal S1024x128 .fp8e5m2) (s : Vec Ideal S1x1x1024 .f32) (x : S128x1024.Idx) :
    k5_pay4 b s x = (b (ix2 (x 1) (x 0)) : EReal) * s (ix3 0 0 (x 1)) := by
  unfold k5_pay4
  simp only [mulf_apply, shapeCast_self]
  have e1 : transpose S128x1024 [1, 0] (extf (F := Ideal) .bf16 b bitsLt_fp8e5m2_bf16) transposes_S1024x128_p1_0_S128x1024 x = b (ix2 (x 1) (x 0)) :=
    transpose_apply _ _ _ x (ix2 (x 1) (x 0)) (by intro a; fin_cases a <;> rfl)
  rw [e1]
  refine congrArg (fun z : EReal => (b (ix2 (x 1) (x 0)) : EReal) * z) ?_
  refine (broadcastTo_apply _ _ x (ix2 0 (x 1) : S1x1024.Idx) (by intro a; fin_cases a <;> rfl)).trans ?_
  rw [truncf_apply]
  refine shapeCast_apply s _ _ (ix3 0 0 (x 1)) ?_
  refine (Shape.rowMajor_val_three _).trans (Eq.trans ?_ (Shape.rowMajor_val_two _).symm)
  show (0 * 1 + 0) * 1024 + (x 1).val = 0 * 1024 + (x 1).val
  omega

theorem inC (y : S2048x1024.Idx) : (y 0).val / 128 < 16 := by
  have h1 : (y 0).val < 2048 := (y 0).isLt
  omega

/-- What the point leaves in its block: the code at the transposed place times its token's scale there. -/
def B (x0 : Vec Ideal S1024x2048 .fp8e5m2) (x1 : Vec Ideal S1x16x1024 .f32) : Vec Ideal S2048x1024 .bf16 :=
  fun y => (x0 (ix2 (y 1) (y 0)) : EReal) * x1 (ix3 0 ⟨(y 0).val / 128, inC y⟩ (y 1))

/-- One store's payload is its part of the block. -/
theorem piece (x0 : Vec Ideal S1024x2048 .fp8e5m2) (x1 : Vec Ideal S1x16x1024 .f32) (p b : ℕ)
    (w : FVec Ideal S128x1024 .bf16)
    (inb : ∀ a, (![0, b, 0] : Fin 3 → ℕ) a + S1x1x1024.size a ≤ S1x16x1024.size a) (inb2 : ∀ a, (![0, p] : Fin 2 → ℕ) a + S1024x128.size a ≤ S1024x2048.size a)
    (inb3 : ∀ a, (![p, 0] : Fin 2 → ℕ) a + S128x1024.size a ≤ S2048x1024.size a)
    (hw : w = k5_pay4 (View.ld x0 (Rect.unit (s := S1024x2048) ![0, p] S1024x128.size inb2)) (View.ld x1 (Rect.unit (s := S1x16x1024) ![0, b, 0] S1x1x1024.size inb)))
    (hp : p % 128 = 0) (hb : b = p / 128) (x : S128x1024.Idx) :
    w x = B x0 x1 ((Rect.unit (s := S2048x1024) ![p, 0] S128x1024.size inb3).emb x) := by
  have hx0 : (x 0).val < 128 := (x 0).isLt
  have hx1 : (x 1).val < 1024 := (x 1).isLt
  rw [hw, pay4_apply]
  unfold B
  congr 1
  · refine congrArg x0 (funext fun a => Fin.ext ?_)
    match a with
    | ⟨0, _⟩ => rfl
    | ⟨1, _⟩ => rfl
  · refine congrArg x1 (funext fun a => Fin.ext ?_)
    match a with
    | ⟨0, _⟩ => rfl
    | ⟨1, _⟩ => show b + 1 * 0 = (p + 1 * (x 0).val) / 128; omega
    | ⟨2, _⟩ => rfl

/-- The block after the point. -/
theorem out_eq (x0 : Vec Ideal S1024x2048 .fp8e5m2) (x1 : Vec Ideal S1x16x1024 .f32) : out0_2 x0 x1 = B x0 x1 := by
  unfold out0_2
  funext y
  refine View.canon_apply_of_pieces (B x0 x1) _ ?_ y (cover0_2 _ _ _ _ _ _ _ _ _ _ _ _ _ _ _ _ y)
  repeat' first
    | exact List.forall_mem_nil _
    | refine List.forall_mem_cons.mpr ⟨fun x => piece x0 x1 _ _ _ _ _ (by decide +kernel) rfl rfl rfl x, ?_⟩

variable (V : (c : Dev nD) → (b : Ref sig .tc) → Buf (Elt Ideal) ((c : Thread nD τ).loc b))

/-- The region's operands and a point's blocks of them, at their shapes. -/
abbrev src0 (c : Dev nD) : Vec Ideal S49152x2048 .fp8e5m2 := V c main_v14
abbrev src1 (c : Dev nD) : Vec Ideal S6x16x8192 .f32 := V c main_v9
abbrev blk0 (c : Dev nD) (t : Fin cfg5.N) : Vec Ideal S1024x2048 .fp8e5m2 := iblk V c 0 t
abbrev blk1 (c : Dev nD) (t : Fin cfg5.N) : Vec Ideal S1x16x1024 .f32 := iblk V c 1 t

theorem idx0 : ∀ t : Fin cfg5.N, win5_0.index t (0 : Fin 2) = t.val ∧ win5_0.index t (1 : Fin 2) = 0 :=
  (by decide +kernel : ∀ t : Fin grid5.N, _)
theorem idx1 : ∀ t : Fin cfg5.N, win5_1.index t (0 : Fin 3) = t.val / 8 ∧ win5_1.index t (1 : Fin 3) = 0 ∧ win5_1.index t (2 : Fin 3) = t.val % 8 :=
  (by decide +kernel : ∀ t : Fin grid5.N, _)
theorem idx2 : ∀ t : Fin cfg5.N, win5_2.index t (0 : Fin 2) = 0 ∧ win5_2.index t (1 : Fin 2) = t.val :=
  (by decide +kernel : ∀ t : Fin grid5.N, _)

/-- The point's block of the codes. -/
theorem iblk0 (c : Dev nD) (t : Fin cfg5.N) (r : Fin 1024) (d : Fin 2048) (n : Fin 49152) (hn : n.val = 1024 * t.val + r.val) :
    blk0 V c t (ix2 r d) = src0 V c (ix2 n d) := by
  obtain ⟨e0, e1⟩ := idx0 t
  refine congrArg (src0 V c) (funext fun a => Fin.ext ?_)
  match a with
  | ⟨0, _⟩ => show win5_0.index t (0 : Fin 2) * 1024 + 1 * r.val = n.val; rw [e0]; omega
  | ⟨1, _⟩ => show win5_0.index t (1 : Fin 2) * 2048 + 1 * d.val = d.val; rw [e1]; omega

/-- The point's block of the scales. -/
theorem iblk1 (c : Dev nD) (t : Fin cfg5.N) (q : Fin 16) (r : Fin 1024) (b : Fin 6) (s : Fin 8192) (hb : b.val = t.val / 8) (hs : s.val = 1024 * (t.val % 8) + r.val) :
    blk1 V c t (ix3 0 q r) = src1 V c (ix3 b q s) := by
  obtain ⟨e0, e1, e2⟩ := idx1 t
  refine congrArg (src1 V c) (funext fun a => Fin.ext ?_)
  match a with
  | ⟨0, _⟩ => show win5_1.index t (0 : Fin 3) * 1 + 1 * 0 = b.val; rw [e0]; omega
  | ⟨1, _⟩ => show win5_1.index t (1 : Fin 3) * 16 + 1 * q.val = q.val; rw [e1]; omega
  | ⟨2, _⟩ => show win5_1.index t (2 : Fin 3) * 1024 + 1 * r.val = s.val; rw [e2]; omega

/-- One entry of a token, dequantised. -/
def tokv (c : Dev nD) (n : Fin 49152) (d : Fin 2048) : EReal :=
  (src0 V c (ix2 n d) : EReal) * src1 V c (ix3 ⟨n.val / 8192, by have := n.isLt; omega⟩ ⟨d.val / 128, by have := d.isLt; omega⟩ ⟨n.val % 8192, Nat.mod_lt _ (by decide)⟩)

/-- What the region leaves: the dequantised tokens, transposed. -/
def G (c : Dev nD) : Vec Ideal S2048x49152 .bf16 := fun y => tokv V c (y 1) (y 0)

theorem B_apply (c : Dev nD) (t : Fin cfg5.N) (d : Fin 2048) (r : Fin 1024) (n : Fin 49152) (hn : n.val = 1024 * t.val + r.val) :
    B (blk0 V c t) (blk1 V c t) (ix2 d r) = tokv V c n d := by
  have hr := r.isLt
  show (blk0 V c t (ix2 r d) : EReal) * blk1 V c t (ix3 0 _ r) = _
  rw [iblk0 V c t r d n hn, iblk1 V c t _ r ⟨n.val / 8192, by have := n.isLt; omega⟩ ⟨n.val % 8192, Nat.mod_lt _ (by decide)⟩ (by show n.val / 8192 = _; omega) (by show n.val % 8192 = _; omega)]
  rfl

/-- What a point writes back is its block of the transposed tokens. -/
theorem flushed_eq (c : Dev nD) (t : Fin cfg5.N) :
    (dat V c).flushed 2 t = ((cfg5.win 2).blk t).view.read (Elt Ideal) (G V c) := by
  show (cfg5.win 2).cut (grid5.coords t) ((dat V c).after 2 t) = _
  rw [after0_2, out_eq]
  generalize hw : B _ _ = w
  have hN : t.val < 48 := lt_of_lt_of_eq t.isLt (show cfg5.N = 48 from N_5)
  obtain ⟨e0, e1⟩ := idx2 t
  funext y
  have hy0 : (y 0).val < 2048 := (y 0).isLt
  have hy1 : (y 1).val < 1024 := (y 1).isLt
  have hemb : ((cfg5.win 2).blk t).view.emb y = (ix2 ⟨(y 0).val, hy0⟩ ⟨1024 * t.val + (y 1).val, by omega⟩ : S2048x49152.Idx) := by
    funext a; apply Fin.ext
    match a with
    | ⟨0, _⟩ => show win5_2.index t (0 : Fin 2) * 2048 + 1 * (y 0).val = (y 0).val; rw [e0]; omega
    | ⟨1, _⟩ => show win5_2.index t (1 : Fin 2) * 1024 + 1 * (y 1).val = 1024 * t.val + (y 1).val; rw [e1]; omega
  have hx : (cfg5.win 2).xinj (grid5.coords t) y = (ix2 ⟨(y 0).val, hy0⟩ ⟨(y 1).val, hy1⟩ : S2048x1024.Idx) := by
    funext a; apply Fin.ext
    match a with
    | ⟨0, _⟩ => rfl
    | ⟨1, _⟩ => rfl
  have hl : (cfg5.win 2).cut (grid5.coords t) w y = w ((cfg5.win 2).xinj (grid5.coords t) y) := rfl
  have hr : ∀ f : Vec Ideal S2048x49152 .bf16, ((cfg5.win 2).blk t).view.read (Elt Ideal) f y = f (((cfg5.win 2).blk t).view.emb y) := fun _ => rfl
  rw [hl, hr, hemb, hx, ← hw]
  exact B_apply V c t _ _ _ rfl

/-- An index of the array is in a point's block iff each coordinate is in the block's range. -/
theorem mem_blk (t : Fin cfg5.N) (i : S2048x49152.Idx) :
    i ∈ ((cfg5.win 2).blk t).view.set ↔ ∀ a : Fin 2, win5_2.index t a * S2048x1024.size a ≤ (i a).val ∧ (i a).val < win5_2.index t a * S2048x1024.size a + S2048x1024.size a := by
  show i ∈ ((View.whole main_v19).slice (win5_2.rect t)).set ↔ _
  rw [View.set_slice_whole, Rect.mem_set_unit]
  exact Iff.rfl

/-- The transposed tokens after the region. -/
theorem final (c : Dev nD) : (dat V c).arrAt 2 cfg5.N = G V c :=
  (dat V c).arrAt_eq_of_cover 2 (G V c) (fun t _ => flushed_eq V c t) (fun i => by
    have h0 : (i 0).val < 2048 := (i 0).isLt
    have h1 : (i 1).val < 49152 := (i 1).isLt
    have hN : cfg5.N = 48 := N_5
    let t : Fin cfg5.N := ⟨(i 1).val / 1024, by omega⟩
    have ht : t.val = (i 1).val / 1024 := rfl
    obtain ⟨e0, e1⟩ := idx2 t
    refine ⟨t, flush5_2 t, ?_⟩
    rw [mem_blk]
    intro a
    match a with
    | ⟨0, _⟩ => show win5_2.index t (0 : Fin 2) * 2048 ≤ (i 0).val ∧ (i 0).val < win5_2.index t (0 : Fin 2) * 2048 + 2048; rw [e0]; omega
    | ⟨1, _⟩ => show win5_2.index t (1 : Fin 2) * 1024 ≤ (i 1).val ∧ (i 1).val < win5_2.index t (1 : Fin 2) * 1024 + 1024; rw [e1]; omega)

end Cert.KernelIdeal.R5

end
-- ==== Proof.R6.Value.lean ====
/- Region 6 of the kernel at the extended reals: after it the gradient of the down weights holds, at (f, d), the sum
   over all tokens of the transposed output gradient at (d, token) times the hidden activation at (token, f). -/
module

public import proofs.«01_k».proof.Proof.R6.Frame
public import proofs.«01_k».proof.Proof.Sums
public import Idealize.ShloMosaic.Lib.Pipeline.Value
public import Idealize.ShloMosaic.Lib.ValueIdx
public import Idealize.ShloMosaic.Lib.MatmulPlain

@[expose] public section

set_option maxRecDepth 16384

noncomputable section

namespace Cert.KernelIdeal.R6

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)
open scoped BigOperators

theorem hz : (![0, 0] : Fin 2 → ℕ) = fun _ => 0 := by funext a; fin_cases a <;> rfl

section Terms
variable {F : FTy → Type} [FloatOps F]

/-- A middle point adds its product to the accumulator. -/
theorem sout_B (c : Dev nD) (i : grid6.Coords) (a2 : Memref sig .tc .vmem S2048x1024 .bf16) (h2 : a2.IsWhole) (a3 : Memref sig .tc .vmem S1024x512 .bf16) (h3 : a3.IsWhole) (a4 : Memref sig .tc .vmem S512x2048 .f32) (h4 : a4.IsWhole) (a5 : Memref sig .tc .vmem S2048x512 .f32) (h5 : a5.IsWhole) (hc0 : ¬cond0_0 i) (hc1 : ¬cond0_1 i)
    (x0 : Vec F S2048x1024 .bf16) (x1 : Vec F S1024x512 .bf16) (xs : Vec F S2048x512 .f32) :
    sout0_B_0 c i a2 h2 a3 h3 a4 h4 a5 h5 hc0 hc1 x0 x1 xs = k6_pay2 xs x0 x1 := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero hz]
  simp only [View.readAt_eq_ld, h2.read_unread, h3.read_unread, h5.read_unread, View.ld_unit_zero (S := S2048x1024) hz, View.ld_unit_zero (S := S1024x512) hz, View.ld_unit_zero (S := S2048x512) hz]

/-- The first point of a run adds its product to zero. -/
theorem sout_A (c : Dev nD) (i : grid6.Coords) (a2 : Memref sig .tc .vmem S2048x1024 .bf16) (h2 : a2.IsWhole) (a3 : Memref sig .tc .vmem S1024x512 .bf16) (h3 : a3.IsWhole) (a4 : Memref sig .tc .vmem S512x2048 .f32) (h4 : a4.IsWhole) (a5 : Memref sig .tc .vmem S2048x512 .f32) (h5 : a5.IsWhole) (hc0 : cond0_0 i) (hc1 : ¬cond0_1 i)
    (x0 : Vec F S2048x1024 .bf16) (x1 : Vec F S1024x512 .bf16) :
    sout0_A_0 c i a2 h2 a3 h3 a4 h4 a5 h5 hc0 hc1 x0 x1 = k6_pay2 k6_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S2048x512) hz, View.readCov_unit_zero (S := S2048x512) _ hz]
  simp only [View.readAt_eq_ld, h2.read_unread, h3.read_unread, View.ld_unit_zero (S := S2048x1024) hz, View.ld_unit_zero (S := S1024x512) hz]

/-- The last point of a run writes back the accumulator, its product added, transposed. -/
theorem out_C (c : Dev nD) (i : grid6.Coords) (a2 : Memref sig .tc .vmem S2048x1024 .bf16) (h2 : a2.IsWhole) (a3 : Memref sig .tc .vmem S1024x512 .bf16) (h3 : a3.IsWhole) (a4 : Memref sig .tc .vmem S512x2048 .f32) (h4 : a4.IsWhole) (a5 : Memref sig .tc .vmem S2048x512 .f32) (h5 : a5.IsWhole) (hc0 : ¬cond0_0 i) (hc1 : cond0_1 i)
    (x0 : Vec F S2048x1024 .bf16) (x1 : Vec F S1024x512 .bf16) (xs : Vec F S2048x512 .f32) :
    out0_C_2 c i a2 h2 a3 h3 a4 h4 a5 h5 hc0 hc1 x0 x1 xs = k6_pay3 (k6_pay2 xs x0 x1) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero (S := S512x2048) hz, View.readCov_unit_zero (S := S2048x512) _ hz]
  simp only [View.readAt_eq_ld, h2.read_unread, h3.read_unread, h5.read_unread, View.ld_unit_zero (S := S2048x1024) hz, View.ld_unit_zero (S := S1024x512) hz, View.ld_unit_zero (S := S2048x512) hz]

end Terms

/-- The accumulator's zero block. -/
theorem pay1_apply (i : S2048x512.Idx) : (k6_pay1 (F := Ideal)) i = 0 := by
  unfold k6_pay1
  simp only [shapeCast_self]
  exact Ideal.ofBits_zero_f32

/-- One point's step, at an index. -/
theorem pay2_apply (a : Vec Ideal S2048x512 .f32) (x : Vec Ideal S2048x1024 .bf16) (y : Vec Ideal S1024x512 .bf16) (d : Fin 2048) (f : Fin 512) :
    k6_pay2 a x y (ix2 d f) = a (ix2 d f) + ∑ r : Fin 1024, x (ix2 d r) * y (ix2 r f) := by
  unfold k6_pay2
  simp only [shapeCast_self, addf_apply]
  refine congrArg (a (ix2 d f) + ·) ?_
  refine (Ideal.matmul_plain_apply (M := 2048) (K := 1024) (N := 512) _ x y _ d f).trans ?_
  rw [constant_apply, Ideal.ofBits_zero_f32, zero_add]

/-- The transposed write-back, at an index. -/
theorem pay3_apply (v : Vec Ideal S2048x512 .f32) (f : Fin 512) (d : Fin 2048) : k6_pay3 v (ix2 f d) = v (ix2 d f) := by
  unfold k6_pay3
  exact transpose_apply _ _ _ _ _ (by intro a; fin_cases a <;> rfl)

variable (V : (c : Dev nD) → (b : Ref sig .tc) → Buf (Elt Ideal) ((c : Thread nD τ).loc b))

/-- The region's operands and a point's blocks of them, at their shapes. -/
abbrev src0 (c : Dev nD) : Vec Ideal S2048x49152 .bf16 := V c main_v19
abbrev src1 (c : Dev nD) : Vec Ideal S49152x5632 .bf16 := V c main_v15_1
abbrev blk0 (c : Dev nD) (t : Fin cfg6.N) : Vec Ideal S2048x1024 .bf16 := iblk V c 0 t
abbrev blk1 (c : Dev nD) (t : Fin cfg6.N) : Vec Ideal S1024x512 .bf16 := iblk V c 1 t

theorem idx0 : ∀ t : Fin cfg6.N, win6_0.index t (0 : Fin 2) = 0 ∧ win6_0.index t (1 : Fin 2) = t.val % 48 :=
  (by decide +kernel : ∀ t : Fin grid6.N, _)
theorem idx1 : ∀ t : Fin cfg6.N, win6_1.index t (0 : Fin 2) = t.val % 48 ∧ win6_1.index t (1 : Fin 2) = t.val / 48 :=
  (by decide +kernel : ∀ t : Fin grid6.N, _)
theorem idx2 : ∀ t : Fin cfg6.N, win6_2.index t (0 : Fin 2) = t.val / 48 ∧ win6_2.index t (1 : Fin 2) = 0 :=
  (by decide +kernel : ∀ t : Fin grid6.N, _)

/-- The point's block of the transposed output gradient. -/
theorem iblk0 (c : Dev nD) (t : Fin cfg6.N) (d : Fin 2048) (r : Fin 1024) (n : Fin 49152) (hn : n.val = 1024 * (t.val % 48) + r.val) :
    blk0 V c t (ix2 d r) = src0 V c (ix2 d n) := by
  obtain ⟨e0, e1⟩ := idx0 t
  refine congrArg (src0 V c) (funext fun a => Fin.ext ?_)
  match a with
  | ⟨0, _⟩ => show win6_0.index t (0 : Fin 2) * 2048 + 1 * d.val = d.val; rw [e0]; omega
  | ⟨1, _⟩ => show win6_0.index t (1 : Fin 2) * 1024 + 1 * r.val = n.val; rw [e1]; omega

/-- The point's block of the hidden activations. -/
theorem iblk1 (c : Dev nD) (t : Fin cfg6.N) (r : Fin 1024) (q : Fin 512) (n : Fin 49152) (f : Fin 5632)
    (hn : n.val = 1024 * (t.val % 48) + r.val) (hf : f.val = 512 * (t.val / 48) + q.val) :
    blk1 V c t (ix2 r q) = src1 V c (ix2 n f) := by
  obtain ⟨e0, e1⟩ := idx1 t
  refine congrArg (src1 V c) (funext fun a => Fin.ext ?_)
  match a with
  | ⟨0, _⟩ => show win6_1.index t (0 : Fin 2) * 1024 + 1 * r.val = n.val; rw [e0]; omega
  | ⟨1, _⟩ => show win6_1.index t (1 : Fin 2) * 512 + 1 * q.val = f.val; rw [e1]; omega

/-- One token's contribution to the gradient at (f, d). -/
def term (c : Dev nD) (f : Fin 5632) (d : Fin 2048) (n : Fin 49152) : EReal :=
  src0 V c (ix2 d n) * src1 V c (ix2 n f)

/-- One tile of tokens' contribution. -/
def tok (x : ℕ) : Fin 49152 := ⟨x % 49152, Nat.mod_lt _ (by decide)⟩

theorem tile (c : Dev nD) (t : Fin cfg6.N) (d : Fin 2048) (q : Fin 512) (f : Fin 5632) (hf : f.val = 512 * (t.val / 48) + q.val) :
    ∑ r : Fin 1024, blk0 V c t (ix2 d r) * blk1 V c t (ix2 r q)
      = ∑ r : Fin 1024, term V c f d (tok (1024 * (t.val % 48) + r.val)) := by
  refine Finset.sum_congr rfl fun r _ => ?_
  have hr := r.isLt
  have h : (tok (1024 * (t.val % 48) + r.val)).val = 1024 * (t.val % 48) + r.val := Nat.mod_eq_of_lt (by omega)
  rw [iblk0 V c t d r _ h, iblk1 V c t r q _ f h hf]
  rfl

/-- The accumulator after a point: the sum over the tokens of the tiles up to the point's. -/
theorem acc_eq (c : Dev nD) : ∀ (n : ℕ) (hn : n < cfg6.N) (d : Fin 2048) (q : Fin 512) (f : Fin 5632) (hf : f.val = 512 * (n / 48) + q.val) (h47 : n % 48 ≠ 47),
    (outsAt0 V c n hn).2 (ix2 d q) = ∑ x ∈ Finset.range (1024 * (n % 48 + 1)), term V c f d (tok x) := by
  intro n
  induction n with
  | zero =>
    intro hn d q f hf h47
    rw [show outsAt0 V c 0 hn = _ from outsAt0_A V c ⟨0, hn⟩ (Nat.zero_mod _) h47]
    dsimp only
    rw [sout_A, pay2_apply, pay1_apply, zero_add, tile V c ⟨0, hn⟩ d q f hf]
    exact Sums.first (fun x => term V c f d (tok x)) 1024
  | succ n ih =>
    intro hn d q f hf h47
    by_cases h0 : (n + 1) % 48 = 0
    · rw [show outsAt0 V c (n + 1) hn = _ from outsAt0_A V c ⟨n + 1, hn⟩ h0 h47]
      dsimp only
      rw [sout_A, pay2_apply, pay1_apply, zero_add, tile V c ⟨n + 1, hn⟩ d q f hf]
      dsimp only
      rw [h0]
      exact Sums.first (fun x => term V c f d (tok x)) 1024
    · rw [show outsAt0 V c (n + 1) hn = _ from outsAt0_B V c ⟨n + 1, hn⟩ h0 h47]
      dsimp only
      rw [sout_B, pay2_apply, tile V c ⟨n + 1, hn⟩ d q f hf]
      have e : (outsAt0 V c (n + 1 - 1) (Nat.lt_of_le_of_lt (Nat.sub_le _ _) hn)).2 (ix2 d q) = _ :=
        ih (Nat.lt_of_succ_lt hn) d q f (by omega) (by omega)
      rw [e, show n % 48 + 1 = (n + 1) % 48 by omega]
      exact Sums.step (fun x => term V c f d (tok x)) 1024 ((n + 1) % 48)

/-- What the region leaves: the sum over all tokens. -/
def G (c : Dev nD) : Vec Ideal S5632x2048 .f32 := fun i => ∑ n : Fin 49152, term V c (i 0) (i 1) n

/-- What a flushing point writes back is its block of the sum. -/
theorem flushed_eq (c : Dev nD) (t : Fin cfg6.N) (hf : t.val % 48 = 47) :
    (dat V c).flushed 2 t = ((cfg6.win 2).blk t).view.read (Elt Ideal) (G V c) := by
  show (cfg6.win 2).cut (grid6.coords t) ((dat V c).after 2 t) = _
  rw [after0_2, outsAt0_C V c t (by omega) hf]
  dsimp only
  rw [out_C]
  generalize hw : k6_pay3 (F := Ideal) _ = w
  have hN : t.val < 528 := lt_of_lt_of_eq t.isLt (show cfg6.N = 528 from N_6)
  obtain ⟨e0, e1⟩ := idx2 t
  funext y
  have hy0 : (y 0).val < 512 := (y 0).isLt
  have hy1 : (y 1).val < 2048 := (y 1).isLt
  have hemb : ((cfg6.win 2).blk t).view.emb y = (ix2 ⟨512 * (t.val / 48) + (y 0).val, by omega⟩ ⟨(y 1).val, hy1⟩ : S5632x2048.Idx) := by
    funext a; apply Fin.ext
    match a with
    | ⟨0, _⟩ => show win6_2.index t (0 : Fin 2) * 512 + 1 * (y 0).val = 512 * (t.val / 48) + (y 0).val; rw [e0]; omega
    | ⟨1, _⟩ => show win6_2.index t (1 : Fin 2) * 2048 + 1 * (y 1).val = (y 1).val; rw [e1]; omega
  have hx : (cfg6.win 2).xinj (grid6.coords t) y = (ix2 ⟨(y 0).val, hy0⟩ ⟨(y 1).val, hy1⟩ : S512x2048.Idx) := by
    funext a; apply Fin.ext
    match a with
    | ⟨0, _⟩ => rfl
    | ⟨1, _⟩ => rfl
  have hl : (cfg6.win 2).cut (grid6.coords t) w y = w ((cfg6.win 2).xinj (grid6.coords t) y) := rfl
  have hr : ∀ f : Vec Ideal S5632x2048 .f32, ((cfg6.win 2).blk t).view.read (Elt Ideal) f y = f (((cfg6.win 2).blk t).view.emb y) := fun _ => rfl
  rw [hl, hr, hemb, hx, ← hw, pay3_apply, pay2_apply, acc_eq V c (t.val - 1) _ _ _ ⟨512 * (t.val / 48) + (y 0).val, by omega⟩ (by show _ = 512 * ((t.val - 1) / 48) + (y 0).val; dsimp only; omega) (by omega), show (t.val - 1) % 48 + 1 = t.val % 48 by omega]
  refine (congrArg (_ + ·) (tile V c t ⟨(y 1).val, hy1⟩ ⟨(y 0).val, hy0⟩ ⟨512 * (t.val / 48) + (y 0).val, by omega⟩ rfl)).trans ?_
  refine (Sums.step (fun x => term V c _ _ (tok x)) 1024 (t.val % 48)).trans ?_
  rw [hf]
  exact Sums.full 49152 (by decide) _

/-- An index of the array is in a point's block iff each coordinate is in the block's range. -/
theorem mem_blk (t : Fin cfg6.N) (i : S5632x2048.Idx) :
    i ∈ ((cfg6.win 2).blk t).view.set ↔ ∀ a : Fin 2, win6_2.index t a * S512x2048.size a ≤ (i a).val ∧ (i a).val < win6_2.index t a * S512x2048.size a + S512x2048.size a := by
  show i ∈ ((View.whole main_v20).slice (win6_2.rect t)).set ↔ _
  rw [View.set_slice_whole, Rect.mem_set_unit]
  exact Iff.rfl

/-- The gradient of the down weights after the region. -/
theorem final (c : Dev nD) : (dat V c).arrAt 2 cfg6.N = G V c :=
  (dat V c).arrAt_eq_of_cover 2 (G V c) (fun t hf => flushed_eq V c t ((flush6_2 t).mp hf)) (fun i => by
    have h0 : (i 0).val < 5632 := (i 0).isLt
    have h1 : (i 1).val < 2048 := (i 1).isLt
    have hN : cfg6.N = 528 := N_6
    let t : Fin cfg6.N := ⟨48 * ((i 0).val / 512) + 47, by omega⟩
    have ht : t.val = 48 * ((i 0).val / 512) + 47 := rfl
    obtain ⟨e0, e1⟩ := idx2 t
    refine ⟨t, (flush6_2 t).mpr (by omega), ?_⟩
    rw [mem_blk]
    intro a
    match a with
    | ⟨0, _⟩ => show win6_2.index t (0 : Fin 2) * 512 ≤ (i 0).val ∧ (i 0).val < win6_2.index t (0 : Fin 2) * 512 + 512; rw [e0]; omega
    | ⟨1, _⟩ => show win6_2.index t (1 : Fin 2) * 2048 ≤ (i 1).val ∧ (i 1).val < win6_2.index t (1 : Fin 2) * 2048 + 2048; rw [e1]; omega)

end Cert.KernelIdeal.R6

end
-- ==== Proof.KernelValue.lean ====
/- The kernel's three results, in terms of the arguments: the gradients of the input, of the gate/up weights and of the
   down weights. -/
module

public import proofs.«01_k».proof.Proof.KernelOperands
public import proofs.«01_k».proof.Proof.R2.Value
public import proofs.«01_k».proof.Proof.R3.Value
public import proofs.«01_k».proof.Proof.R4.Value
public import proofs.«01_k».proof.Proof.R5.Value
public import proofs.«01_k».proof.Proof.R6.Value

@[expose] public section

set_option maxRecDepth 16384

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL.Sem
open Cert.Forms
open scoped BigOperators

variable (m : (ℓ : Loc nD τ sig) → Buf (Elt Ideal) ℓ) (c : Dev nD)

/-! ## Columns of the interleaved gate/up layout -/

/-- A column of the layout that interleaves gate and up in tiles of 512, against its half and hidden unit. -/
theorem half_col (k : Fin 2) (f : Fin 5632) : R2.halfOf (R4.col k f) = k := by
  apply Fin.ext
  show (1024 * (f.val / 512) + 512 * k.val + f.val % 512) / 512 % 2 = k.val
  have := k.isLt; omega

theorem unit_col (k : Fin 2) (f : Fin 5632) : R2.unitOf (R4.col k f) = f := by
  apply Fin.ext
  show 512 * ((1024 * (f.val / 512) + 512 * k.val + f.val % 512) / 1024) + (1024 * (f.val / 512) + 512 * k.val + f.val % 512) % 512 = f.val
  have := k.isLt; omega

theorem col_of (y : Fin 11264) : R4.col (R2.halfOf y) (R2.unitOf y) = y := by
  apply Fin.ext
  show 1024 * ((512 * (y.val / 1024) + y.val % 512) / 512) + 512 * (y.val / 512 % 2) + (512 * (y.val / 1024) + y.val % 512) % 512 = y.val
  omega

def cols : Fin 2 × Fin 5632 ≃ Fin 11264 where
  toFun p := R4.col p.1 p.2
  invFun y := (R2.halfOf y, R2.unitOf y)
  left_inv p := Prod.ext (half_col p.1 p.2) (unit_col p.1 p.2)
  right_inv y := col_of y

/-- A sum over the columns is the sum over halves and hidden units. -/
theorem sum_cols (g : Fin 2 → Fin 5632 → EReal) :
    ∑ y : Fin 11264, g (R2.halfOf y) (R2.unitOf y) = ∑ h : Fin 2, ∑ f : Fin 5632, g h f := by
  rw [← Fintype.sum_prod_type' (f := g), ← Equiv.sum_comp cols]
  exact Finset.sum_congr rfl fun p _ => by
    show g (R2.halfOf (R4.col p.1 p.2)) (R2.unitOf (R4.col p.1 p.2)) = g p.1 p.2
    rw [half_col, unit_col]

/-! ## Region 2: the gate/up gradients, the hidden activations, the input gradient -/

theorem dy_eq (n : Fin 49152) (d : Fin 2048) : R2.dyv (at' (V5 m (outs m))) c n d = dyv (args m c) n d := by
  have h0 : R2.src0 (at' (V5 m (outs m))) c (ix2 n d) = (args m c).dy (bat n) (pos n) d := v14_at5 m c n d
  have h1 : R2.src1 (at' (V5 m (outs m))) c (ix3 (bat n) (dblk d) (pos n)) = (args m c).dys (bat n) (pos n) (dblk d) := v9_at5 m c _ _ _
  exact congrArg₂ (fun a b : EReal => a * b) h0 h1

theorem gu_eq (h : Fin 2) (n : Fin 49152) (f : Fin 5632) : R2.guv (at' (V5 m (outs m))) c h n f = guv (args m c) n h f := by
  have h0 : R2.src2 (at' (V5 m (outs m))) c (ix4 (bat n) h (pos n) f) = (args m c).gu (bat n) (pos n) h f := v12_at5 m c _ _ _ _
  have h1 : R2.src3 (at' (V5 m (outs m))) c (ix4 (bat n) ⟨f.val / 512, by have := f.isLt; omega⟩
      ⟨2 * (f.val % 512 / 128) + h.val, by have := f.isLt; have := h.isLt; omega⟩ (pos n)) = (args m c).gus (bat n) (pos n) h (fblk f) :=
    v11_at5 m c _ _ _ _ _ _ (by
      show 8 * (f.val / 512) + (2 * (f.val % 512 / 128) + h.val) = 2 * (f.val / 128) + h.val
      omega)
  exact congrArg₂ (fun a b : EReal => a * b) h0 h1

theorem dh_eq (n : Fin 49152) (f : Fin 5632) : R2.dhv (at' (V5 m (outs m))) c n f = dh (args m c) n f :=
  Finset.sum_congr rfl fun d _ => congrArg₂ (fun a b : EReal => a * b) (dy_eq m c n d) (v2_at5 m c d f)

theorem hid_eq (n : Fin 49152) (f : Fin 5632) : R2.hidv (at' (V5 m (outs m))) c n f = hidv (args m c) n f :=
  congrArg₂ Swiglu.hid (gu_eq m c 0 n f) (gu_eq m c 1 n f)

theorem dact_eq (k : Fin 2) (n : Fin 49152) (f : Fin 5632) : R2.dactv (at' (V5 m (outs m))) c k n f = dactv (args m c) k n f := by
  unfold R2.dactv dactv
  rw [dh_eq, gu_eq, gu_eq]

theorem dx_eq (n : Fin 49152) (d : Fin 2048) : (∑ x : Fin 11264, R2.term (at' (V5 m (outs m))) c n d x) = dx (args m c) n d := by
  refine Eq.trans (Finset.sum_congr rfl fun x _ => ?_) (sum_cols fun h f => dactv (args m c) h n f * wguv (args m c) d h f)
  exact congrArg₂ (fun a b : EReal => a * b) (dact_eq m c _ n _) (v7_at5 m c x d)

theorem v15_0_eq : V6 m (outs m) c (Proc.devRef .tc main_v15_0) = R2.G6 (at' (V5 m (outs m))) c :=
  (congrFun (after2 m c) (Proc.devRef .tc main_v15_0)).symm.trans
    ((Pipeline.afterRegion_arr _ _ launch2.win.arr_inj 6).trans (R2.final6 (at' (V5 m (outs m))) c))

theorem v15_1_eq : V6 m (outs m) c (Proc.devRef .tc main_v15_1) = R2.G7 (at' (V5 m (outs m))) c :=
  (congrFun (after2 m c) (Proc.devRef .tc main_v15_1)).symm.trans
    ((Pipeline.afterRegion_arr _ _ launch2.win.arr_inj 7).trans (R2.final7 (at' (V5 m (outs m))) c))

theorem v15_2_eq : V6 m (outs m) c (Proc.devRef .tc main_v15_2) = R2.G8 (at' (V5 m (outs m))) c :=
  (congrFun (after2 m c) (Proc.devRef .tc main_v15_2)).symm.trans
    ((Pipeline.afterRegion_arr _ _ launch2.win.arr_inj 8).trans (R2.final8 (at' (V5 m (outs m))) c))

/-! ## Region 3 and region 5: the tokens, transposed -/

theorem x_eq (n : Fin 49152) (d : Fin 2048) : R3.tokv (at' (V6 m (outs m))) c n d = xv (args m c) n d := by
  have h0 : R3.src0 (at' (V6 m (outs m))) c (ix2 n d) = (args m c).x (bat n) (pos n) d :=
    (congrFun (V6_of m (outs m) c main_v13 (by decide)) _).trans (v13_at5 m c n d)
  have h1 : R3.src1 (at' (V6 m (outs m))) c (ix3 (bat n) (dblk d) (pos n)) = (args m c).xs (bat n) (pos n) (dblk d) :=
    (congrFun (V6_of m (outs m) c main_v8 (by decide)) _).trans (v8_at5 m c _ _ _)
  exact congrArg₂ (fun a b : EReal => a * b) h0 h1

theorem v16_eq : V7 m (outs m) c (Proc.devRef .tc main_v16) = R3.G (at' (V6 m (outs m))) c :=
  (congrFun (after3 m c) (Proc.devRef .tc main_v16)).symm.trans
    ((Pipeline.afterRegion_arr _ _ launch3.win.arr_inj 2).trans (R3.final (at' (V6 m (outs m))) c))

/-- A buffer that regions 2 to 4 and the transposition after them leave alone. -/
theorem at9 (r : Ref sig .tc) (h6 : r ∉ ([main_v15_0, main_v15_1, main_v15_2] : List (Ref sig .tc))) (h7 : r ∉ ([main_v16] : List (Ref sig .tc))) (h8 : r ∉ ([main_v17] : List (Ref sig .tc)))
    (h9 : r ∉ hostOps5_W) : V9 m (outs m) c r = V5 m (outs m) c r :=
  (V9_of m (outs m) c r h9).trans ((V8_of m (outs m) c r h8).trans ((V7_of m (outs m) c r h7).trans (V6_of m (outs m) c r h6)))

theorem dy5_eq (n : Fin 49152) (d : Fin 2048) : R5.tokv (at' (V9 m (outs m))) c n d = dyv (args m c) n d := by
  have h0 : R5.src0 (at' (V9 m (outs m))) c (ix2 n d) = (args m c).dy (bat n) (pos n) d :=
    (congrFun (at9 m c main_v14 (by decide) (by decide) (by decide) (by decide)) _).trans (v14_at5 m c n d)
  have h1 : R5.src1 (at' (V9 m (outs m))) c (ix3 (bat n) (dblk d) (pos n)) = (args m c).dys (bat n) (pos n) (dblk d) :=
    (congrFun (at9 m c main_v9 (by decide) (by decide) (by decide) (by decide)) _).trans (v9_at5 m c _ _ _)
  exact congrArg₂ (fun a b : EReal => a * b) h0 h1

theorem v19_eq : V10 m (outs m) c (Proc.devRef .tc main_v19) = R5.G (at' (V9 m (outs m))) c :=
  (congrFun (after5 m c) (Proc.devRef .tc main_v19)).symm.trans
    ((Pipeline.afterRegion_arr _ _ launch5.win.arr_inj 2).trans (R5.final (at' (V9 m (outs m))) c))

/-! ## Region 4: the gradient of the gate/up weights -/

theorem term4_eq (k : Fin 2) (d : Fin 2048) (f : Fin 5632) (n : Fin 49152) :
    R4.term (at' (V7 m (outs m))) c k d f n = xv (args m c) n d * dactv (args m c) k n f := by
  have h0 : R4.src0 (at' (V7 m (outs m))) c (ix2 d n) = xv (args m c) n d := (congrFun (v16_eq m c) _).trans (x_eq m c n d)
  have h1 : R4.src1 (at' (V7 m (outs m))) c (ix2 n (R4.col k f)) = dactv (args m c) k n f := by
    refine (congrFun ((V7_of m (outs m) c main_v15_0 (by decide)).trans (v15_0_eq m c)) (ix2 n (R4.col k f))).trans ?_
    refine (dact_eq m c (R2.halfOf (R4.col k f)) n (R2.unitOf (R4.col k f))).trans ?_
    rw [half_col, unit_col]
  exact congrArg₂ (fun a b : EReal => a * b) h0 h1

theorem v17_eq : V8 m (outs m) c (Proc.devRef .tc main_v17) = R4.G (at' (V7 m (outs m))) c :=
  (congrFun (after4 m c) (Proc.devRef .tc main_v17)).symm.trans
    ((Pipeline.afterRegion_arr _ _ launch4.win.arr_inj 2).trans (R4.final (at' (V7 m (outs m))) c))

/-! ## Region 6: the gradient of the down weights -/

theorem term6_eq (f : Fin 5632) (d : Fin 2048) (n : Fin 49152) :
    R6.term (at' (V10 m (outs m))) c f d n = hidv (args m c) n f * dyv (args m c) n d := by
  have h0 : R6.src0 (at' (V10 m (outs m))) c (ix2 d n) = dyv (args m c) n d := (congrFun (v19_eq m c) _).trans (dy5_eq m c n d)
  have h1 : R6.src1 (at' (V10 m (outs m))) c (ix2 n f) = hidv (args m c) n f :=
    (congrFun ((V10_of m (outs m) c main_v15_1 (by decide)).trans ((V9_of m (outs m) c main_v15_1 (by decide)).trans
      ((V8_of m (outs m) c main_v15_1 (by decide)).trans ((V7_of m (outs m) c main_v15_1 (by decide)).trans (v15_1_eq m c))))) (ix2 n f)).trans (hid_eq m c n f)
  exact (congrArg₂ (fun a b : EReal => a * b) h0 h1).trans (mul_comm _ _)

theorem v20_eq : V11 m (outs m) c (Proc.devRef .tc main_v20) = R6.G (at' (V10 m (outs m))) c :=
  (congrFun (after6 m c) (Proc.devRef .tc main_v20)).symm.trans
    ((Pipeline.afterRegion_arr _ _ launch6.win.arr_inj 2).trans (R6.final (at' (V10 m (outs m))) c))

/-! ## The three results -/

/-- The gradient of the input. -/
theorem v21_at12 (b : Fin 6) (s : Fin 8192) (d : Fin 2048) (n : Fin 49152) (hn : n.val = 8192 * b.val + s.val) :
    (V12 m (outs m) c (Proc.devRef .tc main_v21) (ix3 b s d : S6x8192x2048.Idx) : EReal) = dx (args m c) n d := by
  refine (Host.v21_apply (V11 m (outs m) c) b s d n hn).trans ?_
  have h : V11 m (outs m) c (Proc.devRef .tc main_v15_2) = R2.G8 (at' (V5 m (outs m))) c :=
    (V11_of m (outs m) c main_v15_2 (by decide)).trans ((V10_of m (outs m) c main_v15_2 (by decide)).trans
      ((V9_of m (outs m) c main_v15_2 (by decide)).trans ((V8_of m (outs m) c main_v15_2 (by decide)).trans
        ((V7_of m (outs m) c main_v15_2 (by decide)).trans (v15_2_eq m c)))))
  exact (congrFun h _).trans (dx_eq m c n d)

/-- The gradient of the gate/up weights. -/
theorem v18_at12 (d : Fin 2048) (h : Fin 2) (f : Fin 5632) :
    (V12 m (outs m) c (Proc.devRef .tc main_v18) (ix3 d h f : S2048x2x5632.Idx) : EReal) = dwgu (args m c) d h f := by
  have e : V12 m (outs m) c (Proc.devRef .tc main_v18) = V9 m (outs m) c (Proc.devRef .tc main_v18) :=
    (V12_of m (outs m) c main_v18 (by decide)).trans ((V11_of m (outs m) c main_v18 (by decide)).trans (V10_of m (outs m) c main_v18 (by decide)))
  refine (congrFun e _).trans ((Host.v18_apply (V8 m (outs m) c) d h f).trans ((congrFun (v17_eq m c) _).trans ?_))
  have t : (∑ n : Fin 49152, R4.term (at' (V7 m (outs m))) c h d f n) = dwgu (args m c) d h f :=
    Finset.sum_congr rfl fun n _ => term4_eq m c h d f n
  exact t

/-- The gradient of the down weights. -/
theorem v20_at12 (f : Fin 5632) (d : Fin 2048) :
    (V12 m (outs m) c (Proc.devRef .tc main_v20) (ix2 f d : S5632x2048.Idx) : EReal) = dwd (args m c) f d := by
  refine (congrFun ((V12_of m (outs m) c main_v20 (by decide)).trans (v20_eq m c)) (ix2 f d)).trans ?_
  have t : (∑ n : Fin 49152, R6.term (at' (V10 m (outs m))) c f d n) = dwd (args m c) f d :=
    Finset.sum_congr rfl fun n _ => term6_eq m c f d n
  exact t

end Cert.KernelIdeal.Run

end
-- ==== Proof.RefCast.lean ====
/- The reference's one kernel call, which widens the five code arrays: at the extended reals each result is its operand. -/
module

public import proofs.«01_k».proof.Proof.Gen.ReferenceIdeal.Run
public import Idealize.ShloMosaic.Lib.Pipeline.Value
public import Idealize.ShloMosaic.Lib.ValueIdx

@[expose] public section

set_option maxRecDepth 16384

noncomputable section

namespace Cert.ReferenceIdeal.Cast

open Cert.ReferenceIdeal Cert.ReferenceIdeal.Gen Cert.ReferenceIdeal.Value
open Idealize.ShloMosaic Idealize.ShloMosaic.TcCoe Idealize.ShloMosaic.ValueIdx
open Idealize.SL.Sem

variable (m : (ℓ : Loc nD τ sig) → Buf (Elt Ideal) ℓ)

theorem hz2 : (![0, 0] : Fin 2 → ℕ) = fun _ => 0 := funext fun a => by fin_cases a <;> rfl
theorem hz3 : (![0, 0, 0] : Fin 3 → ℕ) = fun _ => 0 := funext fun a => by fin_cases a <;> rfl
theorem hz4 : (![0, 0, 0, 0] : Fin 4 → ℕ) = fun _ => 0 := funext fun a => by fin_cases a <;> rfl

/-- Window 0 is its whole array. -/
theorem idx0 : ∀ t : Fin cfg0.N, win0_0.index t (0 : Fin 3) = 0 ∧ win0_0.index t (1 : Fin 3) = 0 ∧ win0_0.index t (2 : Fin 3) = 0 := (by decide +kernel : ∀ t : Fin grid0.N, _)
theorem emb0 (t : Fin cfg0.N) (j : S6x8192x2048.Idx) : ((cfg0.win 0).blk t).view.emb j = j := by
  obtain ⟨e0, e1, e2⟩ := idx0 t
  funext a; apply Fin.ext
  match a with
  | ⟨0, _⟩ => show win0_0.index t (0 : Fin 3) * 6 + 1 * (j 0).val = (j 0).val; rw [e0]; omega
  | ⟨1, _⟩ => show win0_0.index t (1 : Fin 3) * 8192 + 1 * (j 1).val = (j 1).val; rw [e1]; omega
  | ⟨2, _⟩ => show win0_0.index t (2 : Fin 3) * 2048 + 1 * (j 2).val = (j 2).val; rw [e2]; omega

/-- Window 5 is its whole array. -/
theorem idx5 : ∀ t : Fin cfg0.N, win0_5.index t (0 : Fin 3) = 0 ∧ win0_5.index t (1 : Fin 3) = 0 ∧ win0_5.index t (2 : Fin 3) = 0 := (by decide +kernel : ∀ t : Fin grid0.N, _)
theorem emb5 (t : Fin cfg0.N) (j : S6x8192x2048.Idx) : ((cfg0.win 5).blk t).view.emb j = j := by
  obtain ⟨e0, e1, e2⟩ := idx5 t
  funext a; apply Fin.ext
  match a with
  | ⟨0, _⟩ => show win0_5.index t (0 : Fin 3) * 6 + 1 * (j 0).val = (j 0).val; rw [e0]; omega
  | ⟨1, _⟩ => show win0_5.index t (1 : Fin 3) * 8192 + 1 * (j 1).val = (j 1).val; rw [e1]; omega
  | ⟨2, _⟩ => show win0_5.index t (2 : Fin 3) * 2048 + 1 * (j 2).val = (j 2).val; rw [e2]; omega

theorem iblk0 (c : Dev nD) (t : Fin cfg0.N) : iblk m c 0 t = V m c main_arg0 := by
  funext j; show V m c main_arg0 (((cfg0.win 0).blk t).view.emb j) = V m c main_arg0 j; rw [emb0]

theorem out5 (x0 : Vec Ideal S6x8192x2048 .fp8e4m3) (x1 : Vec Ideal S6x8192x2048 .fp8e5m2) (x2 : Vec Ideal S6x8192x2x5632 .fp8e4m3) (x3 : Vec Ideal S2048x2x5632 .fp8e4m3) (x4 : Vec Ideal S5632x2048 .fp8e4m3) :
    out0_5 x0 x1 x2 x3 x4 = k0_pay1 x0 := by
  unfold out0_5
  rw [View.canon_unit_zero hz3, View.ld_unit_zero hz3]

/-- Array 0 widened. -/
theorem reg0 (c : Dev nD) : reg_main_v0_0 m c = k0_pay1 (F := Ideal) (m ((c.tc : Thread nD τ).loc main_arg0)) :=
  ((dats m 0 c).arrAt_eq_of_cover 5 (k0_pay1 (F := Ideal) (V m c main_arg0)) (fun t _ => by
      show (cfg0.win 5).cut (grid0.coords t) ((dats m 0 c).after 5 t) = _
      rw [after0_5, out5, iblk0]
      generalize k0_pay1 (F := Ideal) (V m c main_arg0) = X
      funext j
      show X j = X (((cfg0.win 5).blk t).view.emb j)
      rw [emb5]) (fun i =>
    ⟨(⟨0, by decide⟩ : Fin cfg0.N), flush0_5 _, by
      have h := ((cfg0.win 5).blk (⟨0, by decide⟩ : Fin cfg0.N)).view.emb_mem_set i; rwa [emb5] at h⟩)).trans
    (by rw [V_main_arg0])

theorem reg0_apply (c : Dev nD) (i : S6x8192x2048.Idx) : (reg_main_v0_0 m c i : EReal) = m ((c.tc : Thread nD τ).loc main_arg0) i := by
  rw [reg0]; rfl

/-- Window 1 is its whole array. -/
theorem idx1 : ∀ t : Fin cfg0.N, win0_1.index t (0 : Fin 3) = 0 ∧ win0_1.index t (1 : Fin 3) = 0 ∧ win0_1.index t (2 : Fin 3) = 0 := (by decide +kernel : ∀ t : Fin grid0.N, _)
theorem emb1 (t : Fin cfg0.N) (j : S6x8192x2048.Idx) : ((cfg0.win 1).blk t).view.emb j = j := by
  obtain ⟨e0, e1, e2⟩ := idx1 t
  funext a; apply Fin.ext
  match a with
  | ⟨0, _⟩ => show win0_1.index t (0 : Fin 3) * 6 + 1 * (j 0).val = (j 0).val; rw [e0]; omega
  | ⟨1, _⟩ => show win0_1.index t (1 : Fin 3) * 8192 + 1 * (j 1).val = (j 1).val; rw [e1]; omega
  | ⟨2, _⟩ => show win0_1.index t (2 : Fin 3) * 2048 + 1 * (j 2).val = (j 2).val; rw [e2]; omega

/-- Window 6 is its whole array. -/
theorem idx6 : ∀ t : Fin cfg0.N, win0_6.index t (0 : Fin 3) = 0 ∧ win0_6.index t (1 : Fin 3) = 0 ∧ win0_6.index t (2 : Fin 3) = 0 := (by decide +kernel : ∀ t : Fin grid0.N, _)
theorem emb6 (t : Fin cfg0.N) (j : S6x8192x2048.Idx) : ((cfg0.win 6).blk t).view.emb j = j := by
  obtain ⟨e0, e1, e2⟩ := idx6 t
  funext a; apply Fin.ext
  match a with
  | ⟨0, _⟩ => show win0_6.index t (0 : Fin 3) * 6 + 1 * (j 0).val = (j 0).val; rw [e0]; omega
  | ⟨1, _⟩ => show win0_6.index t (1 : Fin 3) * 8192 + 1 * (j 1).val = (j 1).val; rw [e1]; omega
  | ⟨2, _⟩ => show win0_6.index t (2 : Fin 3) * 2048 + 1 * (j 2).val = (j 2).val; rw [e2]; omega

theorem iblk1 (c : Dev nD) (t : Fin cfg0.N) : iblk m c 1 t = V m c main_arg2 := by
  funext j; show V m c main_arg2 (((cfg0.win 1).blk t).view.emb j) = V m c main_arg2 j; rw [emb1]

theorem out6 (x0 : Vec Ideal S6x8192x2048 .fp8e4m3) (x1 : Vec Ideal S6x8192x2048 .fp8e5m2) (x2 : Vec Ideal S6x8192x2x5632 .fp8e4m3) (x3 : Vec Ideal S2048x2x5632 .fp8e4m3) (x4 : Vec Ideal S5632x2048 .fp8e4m3) :
    out0_6 x0 x1 x2 x3 x4 = k0_pay2 x1 := by
  unfold out0_6
  rw [View.canon_unit_zero hz3, View.ld_unit_zero hz3]

/-- Array 2 widened. -/
theorem reg1 (c : Dev nD) : reg_main_v0_1 m c = k0_pay2 (F := Ideal) (m ((c.tc : Thread nD τ).loc main_arg2)) :=
  ((dats m 0 c).arrAt_eq_of_cover 6 (k0_pay2 (F := Ideal) (V m c main_arg2)) (fun t _ => by
      show (cfg0.win 6).cut (grid0.coords t) ((dats m 0 c).after 6 t) = _
      rw [after0_6, out6, iblk1]
      generalize k0_pay2 (F := Ideal) (V m c main_arg2) = X
      funext j
      show X j = X (((cfg0.win 6).blk t).view.emb j)
      rw [emb6]) (fun i =>
    ⟨(⟨0, by decide⟩ : Fin cfg0.N), flush0_6 _, by
      have h := ((cfg0.win 6).blk (⟨0, by decide⟩ : Fin cfg0.N)).view.emb_mem_set i; rwa [emb6] at h⟩)).trans
    (by rw [V_main_arg2])

theorem reg1_apply (c : Dev nD) (i : S6x8192x2048.Idx) : (reg_main_v0_1 m c i : EReal) = m ((c.tc : Thread nD τ).loc main_arg2) i := by
  rw [reg1]; rfl

/-- Window 2 is its whole array. -/
theorem idx2 : ∀ t : Fin cfg0.N, win0_2.index t (0 : Fin 4) = 0 ∧ win0_2.index t (1 : Fin 4) = 0 ∧ win0_2.index t (2 : Fin 4) = 0 ∧ win0_2.index t (3 : Fin 4) = 0 := (by decide +kernel : ∀ t : Fin grid0.N, _)
theorem emb2 (t : Fin cfg0.N) (j : S6x8192x2x5632.Idx) : ((cfg0.win 2).blk t).view.emb j = j := by
  obtain ⟨e0, e1, e2, e3⟩ := idx2 t
  funext a; apply Fin.ext
  match a with
  | ⟨0, _⟩ => show win0_2.index t (0 : Fin 4) * 6 + 1 * (j 0).val = (j 0).val; rw [e0]; omega
  | ⟨1, _⟩ => show win0_2.index t (1 : Fin 4) * 8192 + 1 * (j 1).val = (j 1).val; rw [e1]; omega
  | ⟨2, _⟩ => show win0_2.index t (2 : Fin 4) * 2 + 1 * (j 2).val = (j 2).val; rw [e2]; omega
  | ⟨3, _⟩ => show win0_2.index t (3 : Fin 4) * 5632 + 1 * (j 3).val = (j 3).val; rw [e3]; omega

/-- Window 7 is its whole array. -/
theorem idx7 : ∀ t : Fin cfg0.N, win0_7.index t (0 : Fin 4) = 0 ∧ win0_7.index t (1 : Fin 4) = 0 ∧ win0_7.index t (2 : Fin 4) = 0 ∧ win0_7.index t (3 : Fin 4) = 0 := (by decide +kernel : ∀ t : Fin grid0.N, _)
theorem emb7 (t : Fin cfg0.N) (j : S6x8192x2x5632.Idx) : ((cfg0.win 7).blk t).view.emb j = j := by
  obtain ⟨e0, e1, e2, e3⟩ := idx7 t
  funext a; apply Fin.ext
  match a with
  | ⟨0, _⟩ => show win0_7.index t (0 : Fin 4) * 6 + 1 * (j 0).val = (j 0).val; rw [e0]; omega
  | ⟨1, _⟩ => show win0_7.index t (1 : Fin 4) * 8192 + 1 * (j 1).val = (j 1).val; rw [e1]; omega
  | ⟨2, _⟩ => show win0_7.index t (2 : Fin 4) * 2 + 1 * (j 2).val = (j 2).val; rw [e2]; omega
  | ⟨3, _⟩ => show win0_7.index t (3 : Fin 4) * 5632 + 1 * (j 3).val = (j 3).val; rw [e3]; omega

theorem iblk2 (c : Dev nD) (t : Fin cfg0.N) : iblk m c 2 t = V m c main_arg4 := by
  funext j; show V m c main_arg4 (((cfg0.win 2).blk t).view.emb j) = V m c main_arg4 j; rw [emb2]

theorem out7 (x0 : Vec Ideal S6x8192x2048 .fp8e4m3) (x1 : Vec Ideal S6x8192x2048 .fp8e5m2) (x2 : Vec Ideal S6x8192x2x5632 .fp8e4m3) (x3 : Vec Ideal S2048x2x5632 .fp8e4m3) (x4 : Vec Ideal S5632x2048 .fp8e4m3) :
    out0_7 x0 x1 x2 x3 x4 = k0_pay3 x2 := by
  unfold out0_7
  rw [View.canon_unit_zero hz4, View.ld_unit_zero hz4]

/-- Array 4 widened. -/
theorem reg2 (c : Dev nD) : reg_main_v0_2 m c = k0_pay3 (F := Ideal) (m ((c.tc : Thread nD τ).loc main_arg4)) :=
  ((dats m 0 c).arrAt_eq_of_cover 7 (k0_pay3 (F := Ideal) (V m c main_arg4)) (fun t _ => by
      show (cfg0.win 7).cut (grid0.coords t) ((dats m 0 c).after 7 t) = _
      rw [after0_7, out7, iblk2]
      generalize k0_pay3 (F := Ideal) (V m c main_arg4) = X
      funext j
      show X j = X (((cfg0.win 7).blk t).view.emb j)
      rw [emb7]) (fun i =>
    ⟨(⟨0, by decide⟩ : Fin cfg0.N), flush0_7 _, by
      have h := ((cfg0.win 7).blk (⟨0, by decide⟩ : Fin cfg0.N)).view.emb_mem_set i; rwa [emb7] at h⟩)).trans
    (by rw [V_main_arg4])

theorem reg2_apply (c : Dev nD) (i : S6x8192x2x5632.Idx) : (reg_main_v0_2 m c i : EReal) = m ((c.tc : Thread nD τ).loc main_arg4) i := by
  rw [reg2]; rfl

/-- Window 3 is its whole array. -/
theorem idx3 : ∀ t : Fin cfg0.N, win0_3.index t (0 : Fin 3) = 0 ∧ win0_3.index t (1 : Fin 3) = 0 ∧ win0_3.index t (2 : Fin 3) = 0 := (by decide +kernel : ∀ t : Fin grid0.N, _)
theorem emb3 (t : Fin cfg0.N) (j : S2048x2x5632.Idx) : ((cfg0.win 3).blk t).view.emb j = j := by
  obtain ⟨e0, e1, e2⟩ := idx3 t
  funext a; apply Fin.ext
  match a with
  | ⟨0, _⟩ => show win0_3.index t (0 : Fin 3) * 2048 + 1 * (j 0).val = (j 0).val; rw [e0]; omega
  | ⟨1, _⟩ => show win0_3.index t (1 : Fin 3) * 2 + 1 * (j 1).val = (j 1).val; rw [e1]; omega
  | ⟨2, _⟩ => show win0_3.index t (2 : Fin 3) * 5632 + 1 * (j 2).val = (j 2).val; rw [e2]; omega

/-- Window 8 is its whole array. -/
theorem idx8 : ∀ t : Fin cfg0.N, win0_8.index t (0 : Fin 3) = 0 ∧ win0_8.index t (1 : Fin 3) = 0 ∧ win0_8.index t (2 : Fin 3) = 0 := (by decide +kernel : ∀ t : Fin grid0.N, _)
theorem emb8 (t : Fin cfg0.N) (j : S2048x2x5632.Idx) : ((cfg0.win 8).blk t).view.emb j = j := by
  obtain ⟨e0, e1, e2⟩ := idx8 t
  funext a; apply Fin.ext
  match a with
  | ⟨0, _⟩ => show win0_8.index t (0 : Fin 3) * 2048 + 1 * (j 0).val = (j 0).val; rw [e0]; omega
  | ⟨1, _⟩ => show win0_8.index t (1 : Fin 3) * 2 + 1 * (j 1).val = (j 1).val; rw [e1]; omega
  | ⟨2, _⟩ => show win0_8.index t (2 : Fin 3) * 5632 + 1 * (j 2).val = (j 2).val; rw [e2]; omega

theorem iblk3 (c : Dev nD) (t : Fin cfg0.N) : iblk m c 3 t = V m c main_arg6 := by
  funext j; show V m c main_arg6 (((cfg0.win 3).blk t).view.emb j) = V m c main_arg6 j; rw [emb3]

theorem out8 (x0 : Vec Ideal S6x8192x2048 .fp8e4m3) (x1 : Vec Ideal S6x8192x2048 .fp8e5m2) (x2 : Vec Ideal S6x8192x2x5632 .fp8e4m3) (x3 : Vec Ideal S2048x2x5632 .fp8e4m3) (x4 : Vec Ideal S5632x2048 .fp8e4m3) :
    out0_8 x0 x1 x2 x3 x4 = k0_pay4 x3 := by
  unfold out0_8
  rw [View.canon_unit_zero hz3, View.ld_unit_zero hz3]

/-- Array 6 widened. -/
theorem reg3 (c : Dev nD) : reg_main_v0_3 m c = k0_pay4 (F := Ideal) (m ((c.tc : Thread nD τ).loc main_arg6)) :=
  ((dats m 0 c).arrAt_eq_of_cover 8 (k0_pay4 (F := Ideal) (V m c main_arg6)) (fun t _ => by
      show (cfg0.win 8).cut (grid0.coords t) ((dats m 0 c).after 8 t) = _
      rw [after0_8, out8, iblk3]
      generalize k0_pay4 (F := Ideal) (V m c main_arg6) = X
      funext j
      show X j = X (((cfg0.win 8).blk t).view.emb j)
      rw [emb8]) (fun i =>
    ⟨(⟨0, by decide⟩ : Fin cfg0.N), flush0_8 _, by
      have h := ((cfg0.win 8).blk (⟨0, by decide⟩ : Fin cfg0.N)).view.emb_mem_set i; rwa [emb8] at h⟩)).trans
    (by rw [V_main_arg6])

theorem reg3_apply (c : Dev nD) (i : S2048x2x5632.Idx) : (reg_main_v0_3 m c i : EReal) = m ((c.tc : Thread nD τ).loc main_arg6) i := by
  rw [reg3]; rfl

/-- Window 4 is its whole array. -/
theorem idx4 : ∀ t : Fin cfg0.N, win0_4.index t (0 : Fin 2) = 0 ∧ win0_4.index t (1 : Fin 2) = 0 := (by decide +kernel : ∀ t : Fin grid0.N, _)
theorem emb4 (t : Fin cfg0.N) (j : S5632x2048.Idx) : ((cfg0.win 4).blk t).view.emb j = j := by
  obtain ⟨e0, e1⟩ := idx4 t
  funext a; apply Fin.ext
  match a with
  | ⟨0, _⟩ => show win0_4.index t (0 : Fin 2) * 5632 + 1 * (j 0).val = (j 0).val; rw [e0]; omega
  | ⟨1, _⟩ => show win0_4.index t (1 : Fin 2) * 2048 + 1 * (j 1).val = (j 1).val; rw [e1]; omega

/-- Window 9 is its whole array. -/
theorem idx9 : ∀ t : Fin cfg0.N, win0_9.index t (0 : Fin 2) = 0 ∧ win0_9.index t (1 : Fin 2) = 0 := (by decide +kernel : ∀ t : Fin grid0.N, _)
theorem emb9 (t : Fin cfg0.N) (j : S5632x2048.Idx) : ((cfg0.win 9).blk t).view.emb j = j := by
  obtain ⟨e0, e1⟩ := idx9 t
  funext a; apply Fin.ext
  match a with
  | ⟨0, _⟩ => show win0_9.index t (0 : Fin 2) * 5632 + 1 * (j 0).val = (j 0).val; rw [e0]; omega
  | ⟨1, _⟩ => show win0_9.index t (1 : Fin 2) * 2048 + 1 * (j 1).val = (j 1).val; rw [e1]; omega

theorem iblk4 (c : Dev nD) (t : Fin cfg0.N) : iblk m c 4 t = V m c main_arg8 := by
  funext j; show V m c main_arg8 (((cfg0.win 4).blk t).view.emb j) = V m c main_arg8 j; rw [emb4]

theorem out9 (x0 : Vec Ideal S6x8192x2048 .fp8e4m3) (x1 : Vec Ideal S6x8192x2048 .fp8e5m2) (x2 : Vec Ideal S6x8192x2x5632 .fp8e4m3) (x3 : Vec Ideal S2048x2x5632 .fp8e4m3) (x4 : Vec Ideal S5632x2048 .fp8e4m3) :
    out0_9 x0 x1 x2 x3 x4 = k0_pay5 x4 := by
  unfold out0_9
  rw [View.canon_unit_zero hz2, View.ld_unit_zero hz2]

/-- Array 8 widened. -/
theorem reg4 (c : Dev nD) : reg_main_v0_4 m c = k0_pay5 (F := Ideal) (m ((c.tc : Thread nD τ).loc main_arg8)) :=
  ((dats m 0 c).arrAt_eq_of_cover 9 (k0_pay5 (F := Ideal) (V m c main_arg8)) (fun t _ => by
      show (cfg0.win 9).cut (grid0.coords t) ((dats m 0 c).after 9 t) = _
      rw [after0_9, out9, iblk4]
      generalize k0_pay5 (F := Ideal) (V m c main_arg8) = X
      funext j
      show X j = X (((cfg0.win 9).blk t).view.emb j)
      rw [emb9]) (fun i =>
    ⟨(⟨0, by decide⟩ : Fin cfg0.N), flush0_9 _, by
      have h := ((cfg0.win 9).blk (⟨0, by decide⟩ : Fin cfg0.N)).view.emb_mem_set i; rwa [emb9] at h⟩)).trans
    (by rw [V_main_arg8])

theorem reg4_apply (c : Dev nD) (i : S5632x2048.Idx) : (reg_main_v0_4 m c i : EReal) = m ((c.tc : Thread nD τ).loc main_arg8) i := by
  rw [reg4]; rfl

end Cert.ReferenceIdeal.Cast

end
-- ==== Proof.RefValue.lean ====
/- The reference's three results at the extended reals, read at an index: the plain sums of `Cert.Forms`. -/
module

public import proofs.«01_k».proof.Proof.Gen.ReferenceIdeal.Read
public import proofs.«01_k».proof.Proof.Forms
public import Idealize.ShloMosaic.Lib.Pipeline.Value
public import Idealize.ShloMosaic.Lib.ValueIdx
public import Idealize.ShloMosaic.Lib.IdealHost
public import Idealize.ShloMosaic.Lib.TwoAxisContraction

@[expose] public section

set_option maxRecDepth 16384

noncomputable section

namespace Cert.ReferenceIdeal.Closed

open Cert.ReferenceIdeal Cert.ReferenceIdeal.Gen Cert.ReferenceIdeal.Read
open Cert.Forms Cert.Swiglu
open Idealize.ShloMosaic Idealize.ShloMosaic.TcCoe Idealize.ShloMosaic.ValueIdx
open Idealize.SL.Sem

variable (r0 r1 : Vec Ideal S6x8192x2048 .bf16) (r2 : Vec Ideal S6x8192x2x5632 .bf16) (r3 : Vec Ideal S2048x2x5632 .bf16)
  (r4 : Vec Ideal S5632x2048 .bf16) (x1 x3 : Vec Ideal S6x8192x16 .f32) (x5 : Vec Ideal S6x8192x2x44 .f32)
  (x7 : Vec Ideal S16x2x44 .f32) (x9 : Vec Ideal S44x16 .f32)

/-- The arguments at their coordinates: widened codes `r0` to `r4`, scales `x1` to `x9`. -/
def args : Args where
  x b s d := r0 (ix3 b s d)
  xs b s k := x1 (ix3 b s k)
  dy b s d := r1 (ix3 b s d)
  dys b s k := x3 (ix3 b s k)
  gu b s h f := r2 (ix4 b s h f)
  gus b s h q := x5 (ix4 b s h q)
  wgu d h f := r3 (ix3 d h f)
  wgus k h q := x7 (ix3 k h q)
  wd f d := r4 (ix2 f d)
  wds q k := x9 (ix2 q k)

/-! ## The dequantised arrays -/

theorem v6_apply (d : Fin 2048) (h : Fin 2) (f : Fin 5632) : val_main_v6 (F := Ideal) x7 r3 (ix3 d h f) = wguv (args r0 r1 r2 r3 r4 x1 x3 x5 x7 x9) d h f := by
  have hd := d.isLt; have hh := h.isLt; have hf := f.isLt
  have e1 : idx_main_v6 (ix3 d h f) = (ix5 (dblk d) ⟨d.val % 128, by omega⟩ h (fblk f) ⟨f.val % 128, by omega⟩ : S16x128x2x44x128.Idx) := by
    funext a; apply Fin.ext
    match a with
    | ⟨0, _⟩ => show ((d.val * 2 + h.val) * 5632 + f.val) / 1441792 = d.val / 128; omega
    | ⟨1, _⟩ => show ((d.val * 2 + h.val) * 5632 + f.val) / 11264 % 128 = d.val % 128; omega
    | ⟨2, _⟩ => show ((d.val * 2 + h.val) * 5632 + f.val) / 5632 % 2 = h.val; omega
    | ⟨3, _⟩ => show ((d.val * 2 + h.val) * 5632 + f.val) / 128 % 44 = f.val / 128; omega
    | ⟨4, _⟩ => show ((d.val * 2 + h.val) * 5632 + f.val) % 128 = f.val % 128; omega
  rw [val_main_v6_apply, e1, val_main_v5_apply, val_main_v1_apply, val_main_v4_apply, val_main_v3_apply, val_main_v2_apply]
  unfold wguv
  refine congrArg₂ (fun p q : EReal => p * q) ?_ ?_
  · refine congrArg r3 (funext fun a => Fin.ext ?_)
    match a with
    | ⟨0, _⟩ => show ((((d.val / 128 * 128 + d.val % 128) * 2 + h.val) * 44 + f.val / 128) * 128 + f.val % 128) / 11264 = d.val; omega
    | ⟨1, _⟩ => show ((((d.val / 128 * 128 + d.val % 128) * 2 + h.val) * 44 + f.val / 128) * 128 + f.val % 128) / 5632 % 2 = h.val; omega
    | ⟨2, _⟩ => show ((((d.val / 128 * 128 + d.val % 128) * 2 + h.val) * 44 + f.val / 128) * 128 + f.val % 128) % 5632 = f.val; omega
  · refine congrArg x7 (funext fun a => Fin.ext ?_)
    match a with
    | ⟨0, _⟩ => rfl
    | ⟨1, _⟩ => rfl
    | ⟨2, _⟩ => rfl

theorem v12_apply (f : Fin 5632) (d : Fin 2048) : val_main_v12 (F := Ideal) x9 r4 (ix2 f d) = wdv (args r0 r1 r2 r3 r4 x1 x3 x5 x7 x9) f d := by
  have hd := d.isLt; have hf := f.isLt
  have e1 : idx_main_v12 (ix2 f d) = (ix4 (fblk f) ⟨f.val % 128, by omega⟩ (dblk d) ⟨d.val % 128, by omega⟩ : S44x128x16x128.Idx) := by
    funext a; apply Fin.ext
    match a with
    | ⟨0, _⟩ => show (f.val * 2048 + d.val) / 262144 = f.val / 128; omega
    | ⟨1, _⟩ => show (f.val * 2048 + d.val) / 2048 % 128 = f.val % 128; omega
    | ⟨2, _⟩ => show (f.val * 2048 + d.val) / 128 % 16 = d.val / 128; omega
    | ⟨3, _⟩ => show (f.val * 2048 + d.val) % 128 = d.val % 128; omega
  rw [val_main_v12_apply, e1, val_main_v11_apply, val_main_v7_apply, val_main_v10_apply, val_main_v9_apply, val_main_v8_apply]
  unfold wdv
  refine congrArg₂ (fun p q : EReal => p * q) ?_ ?_
  · refine congrArg r4 (funext fun a => Fin.ext ?_)
    match a with
    | ⟨0, _⟩ => show (((f.val / 128 * 128 + f.val % 128) * 16 + d.val / 128) * 128 + d.val % 128) / 2048 = f.val; omega
    | ⟨1, _⟩ => show (((f.val / 128 * 128 + f.val % 128) * 16 + d.val / 128) * 128 + d.val % 128) % 2048 = d.val; omega
  · refine congrArg x9 (funext fun a => Fin.ext ?_)
    match a with
    | ⟨0, _⟩ => rfl
    | ⟨1, _⟩ => rfl

theorem v19_apply (n : Fin 49152) (d : Fin 2048) : val_main_v19 (F := Ideal) x1 r0 (ix2 n d) = xv (args r0 r1 r2 r3 r4 x1 x3 x5 x7 x9) n d := by
  have hn := n.isLt; have hd := d.isLt
  have e0 : idx_main_v19 (ix2 n d) = (ix3 (bat n) (pos n) d : S6x8192x2048.Idx) := by
    funext a; apply Fin.ext
    match a with
    | ⟨0, _⟩ => show (n.val * 2048 + d.val) / 16777216 = n.val / 8192; omega
    | ⟨1, _⟩ => show (n.val * 2048 + d.val) / 2048 % 8192 = n.val % 8192; omega
    | ⟨2, _⟩ => show (n.val * 2048 + d.val) % 2048 = d.val; omega
  have e1 : idx_main_v18 (ix3 (bat n) (pos n) d) = (ix4 (bat n) (pos n) (dblk d) ⟨d.val % 128, by omega⟩ : S6x8192x16x128.Idx) := by
    have hb := (bat n).isLt; have hp := (pos n).isLt
    funext a; apply Fin.ext
    match a with
    | ⟨0, _⟩ => show (((bat n).val * 8192 + (pos n).val) * 2048 + d.val) / 16777216 = (bat n).val; omega
    | ⟨1, _⟩ => show (((bat n).val * 8192 + (pos n).val) * 2048 + d.val) / 2048 % 8192 = (pos n).val; omega
    | ⟨2, _⟩ => show (((bat n).val * 8192 + (pos n).val) * 2048 + d.val) / 128 % 16 = d.val / 128; omega
    | ⟨3, _⟩ => show (((bat n).val * 8192 + (pos n).val) * 2048 + d.val) % 128 = d.val % 128; omega
  rw [val_main_v19_apply, e0, val_main_v18_apply, e1, val_main_v17_apply, val_main_v13_apply, val_main_v16_apply, val_main_v15_apply, val_main_v14_apply]
  unfold xv
  refine congrArg₂ (fun p q : EReal => p * q) ?_ ?_
  · have hb := (bat n).isLt; have hp := (pos n).isLt
    refine congrArg r0 (funext fun a => Fin.ext ?_)
    match a with
    | ⟨0, _⟩ => show ((((bat n).val * 8192 + (pos n).val) * 16 + d.val / 128) * 128 + d.val % 128) / 16777216 = (bat n).val; omega
    | ⟨1, _⟩ => show ((((bat n).val * 8192 + (pos n).val) * 16 + d.val / 128) * 128 + d.val % 128) / 2048 % 8192 = (pos n).val; omega
    | ⟨2, _⟩ => show ((((bat n).val * 8192 + (pos n).val) * 16 + d.val / 128) * 128 + d.val % 128) % 2048 = d.val; omega
  · refine congrArg x1 (funext fun a => Fin.ext ?_)
    match a with
    | ⟨0, _⟩ => rfl
    | ⟨1, _⟩ => rfl
    | ⟨2, _⟩ => rfl

theorem v26_apply (n : Fin 49152) (d : Fin 2048) : val_main_v26 (F := Ideal) x3 r1 (ix2 n d) = dyv (args r0 r1 r2 r3 r4 x1 x3 x5 x7 x9) n d := by
  have hn := n.isLt; have hd := d.isLt
  have e0 : idx_main_v26 (ix2 n d) = (ix3 (bat n) (pos n) d : S6x8192x2048.Idx) := by
    funext a; apply Fin.ext
    match a with
    | ⟨0, _⟩ => show (n.val * 2048 + d.val) / 16777216 = n.val / 8192; omega
    | ⟨1, _⟩ => show (n.val * 2048 + d.val) / 2048 % 8192 = n.val % 8192; omega
    | ⟨2, _⟩ => show (n.val * 2048 + d.val) % 2048 = d.val; omega
  have e1 : idx_main_v25 (ix3 (bat n) (pos n) d) = (ix4 (bat n) (pos n) (dblk d) ⟨d.val % 128, by omega⟩ : S6x8192x16x128.Idx) := by
    have hb := (bat n).isLt; have hp := (pos n).isLt
    funext a; apply Fin.ext
    match a with
    | ⟨0, _⟩ => show (((bat n).val * 8192 + (pos n).val) * 2048 + d.val) / 16777216 = (bat n).val; omega
    | ⟨1, _⟩ => show (((bat n).val * 8192 + (pos n).val) * 2048 + d.val) / 2048 % 8192 = (pos n).val; omega
    | ⟨2, _⟩ => show (((bat n).val * 8192 + (pos n).val) * 2048 + d.val) / 128 % 16 = d.val / 128; omega
    | ⟨3, _⟩ => show (((bat n).val * 8192 + (pos n).val) * 2048 + d.val) % 128 = d.val % 128; omega
  rw [val_main_v26_apply, e0, val_main_v25_apply, e1, val_main_v24_apply, val_main_v20_apply, val_main_v23_apply, val_main_v22_apply, val_main_v21_apply]
  unfold dyv
  refine congrArg₂ (fun p q : EReal => p * q) ?_ ?_
  · have hb := (bat n).isLt; have hp := (pos n).isLt
    refine congrArg r1 (funext fun a => Fin.ext ?_)
    match a with
    | ⟨0, _⟩ => show ((((bat n).val * 8192 + (pos n).val) * 16 + d.val / 128) * 128 + d.val % 128) / 16777216 = (bat n).val; omega
    | ⟨1, _⟩ => show ((((bat n).val * 8192 + (pos n).val) * 16 + d.val / 128) * 128 + d.val % 128) / 2048 % 8192 = (pos n).val; omega
    | ⟨2, _⟩ => show ((((bat n).val * 8192 + (pos n).val) * 16 + d.val / 128) * 128 + d.val % 128) % 2048 = d.val; omega
  · refine congrArg x3 (funext fun a => Fin.ext ?_)
    match a with
    | ⟨0, _⟩ => rfl
    | ⟨1, _⟩ => rfl
    | ⟨2, _⟩ => rfl

theorem v34_apply (n : Fin 49152) (h : Fin 2) (f : Fin 5632) : val_main_v34 (F := Ideal) x5 r2 (ix3 n h f) = guv (args r0 r1 r2 r3 r4 x1 x3 x5 x7 x9) n h f := by
  have hn := n.isLt; have hh := h.isLt; have hf := f.isLt
  have e0 : idx_main_v34 (ix3 n h f) = (ix4 (bat n) (pos n) h f : S6x8192x2x5632.Idx) := by
    funext a; apply Fin.ext
    match a with
    | ⟨0, _⟩ => show ((n.val * 2 + h.val) * 5632 + f.val) / 92274688 = n.val / 8192; omega
    | ⟨1, _⟩ => show ((n.val * 2 + h.val) * 5632 + f.val) / 11264 % 8192 = n.val % 8192; omega
    | ⟨2, _⟩ => show ((n.val * 2 + h.val) * 5632 + f.val) / 5632 % 2 = h.val; omega
    | ⟨3, _⟩ => show ((n.val * 2 + h.val) * 5632 + f.val) % 5632 = f.val; omega
  have hb := (bat n).isLt; have hp := (pos n).isLt
  have e1 : idx_main_v32 (ix4 (bat n) (pos n) h f) = (ix5 (bat n) (pos n) h (fblk f) ⟨f.val % 128, by omega⟩ : S6x8192x2x44x128.Idx) := by
    funext a; apply Fin.ext
    match a with
    | ⟨0, _⟩ => show ((((bat n).val * 8192 + (pos n).val) * 2 + h.val) * 5632 + f.val) / 92274688 = (bat n).val; omega
    | ⟨1, _⟩ => show ((((bat n).val * 8192 + (pos n).val) * 2 + h.val) * 5632 + f.val) / 11264 % 8192 = (pos n).val; omega
    | ⟨2, _⟩ => show ((((bat n).val * 8192 + (pos n).val) * 2 + h.val) * 5632 + f.val) / 5632 % 2 = h.val; omega
    | ⟨3, _⟩ => show ((((bat n).val * 8192 + (pos n).val) * 2 + h.val) * 5632 + f.val) / 128 % 44 = f.val / 128; omega
    | ⟨4, _⟩ => show ((((bat n).val * 8192 + (pos n).val) * 2 + h.val) * 5632 + f.val) % 128 = f.val % 128; omega
  rw [val_main_v34_apply, e0, val_main_v33_apply, val_main_v32_apply, e1, val_main_v31_apply, val_main_v27_apply, val_main_v30_apply, val_main_v29_apply, val_main_v28_apply]
  unfold guv
  refine congrArg₂ (fun p q : EReal => p * q) ?_ ?_
  · refine congrArg r2 (funext fun a => Fin.ext ?_)
    match a with
    | ⟨0, _⟩ => show (((((bat n).val * 8192 + (pos n).val) * 2 + h.val) * 44 + f.val / 128) * 128 + f.val % 128) / 92274688 = (bat n).val; omega
    | ⟨1, _⟩ => show (((((bat n).val * 8192 + (pos n).val) * 2 + h.val) * 44 + f.val / 128) * 128 + f.val % 128) / 11264 % 8192 = (pos n).val; omega
    | ⟨2, _⟩ => show (((((bat n).val * 8192 + (pos n).val) * 2 + h.val) * 44 + f.val / 128) * 128 + f.val % 128) / 5632 % 2 = h.val; omega
    | ⟨3, _⟩ => show (((((bat n).val * 8192 + (pos n).val) * 2 + h.val) * 44 + f.val / 128) * 128 + f.val % 128) % 5632 = f.val; omega
  · refine congrArg x5 (funext fun a => Fin.ext ?_)
    match a with
    | ⟨0, _⟩ => rfl
    | ⟨1, _⟩ => rfl
    | ⟨2, _⟩ => rfl
    | ⟨3, _⟩ => rfl

theorem v36_apply (n : Fin 49152) (f : Fin 5632) : val_main_v36 (F := Ideal) x5 r2 (ix2 n f) = guv (args r0 r1 r2 r3 r4 x1 x3 x5 x7 x9) n 0 f := by
  have hn := n.isLt; have hf := f.isLt
  rw [val_main_v36_apply, val_main_v35_apply, ← v34_apply r0 r1 r2 r3 r4 x1 x3 x5 x7 x9]
  refine congrArg (val_main_v34 (F := Ideal) x5 r2) (funext fun a => Fin.ext ?_)
  match a with
  | ⟨0, _⟩ => show (n.val * 5632 + f.val) / 5632 = n.val; omega
  | ⟨1, _⟩ => rfl
  | ⟨2, _⟩ => show (n.val * 5632 + f.val) % 5632 = f.val; omega

theorem v38_apply (n : Fin 49152) (f : Fin 5632) : val_main_v38 (F := Ideal) x5 r2 (ix2 n f) = guv (args r0 r1 r2 r3 r4 x1 x3 x5 x7 x9) n 1 f := by
  have hn := n.isLt; have hf := f.isLt
  rw [val_main_v38_apply, val_main_v37_apply, ← v34_apply r0 r1 r2 r3 r4 x1 x3 x5 x7 x9]
  refine congrArg (val_main_v34 (F := Ideal) x5 r2) (funext fun a => Fin.ext ?_)
  match a with
  | ⟨0, _⟩ => show (n.val * 5632 + f.val) / 5632 = n.val; omega
  | ⟨1, _⟩ => rfl
  | ⟨2, _⟩ => show (n.val * 5632 + f.val) % 5632 = f.val; omega

/-! ## The activation -/

/-- The reference's spelled-out logistic. -/
theorem v44_apply (n : Fin 49152) (f : Fin 5632) : val_main_v44 (F := Ideal) x5 r2 (ix2 n f) = Ideal.logistic (guv (args r0 r1 r2 r3 r4 x1 x3 x5 x7 x9) n 0 f) := by
  rw [val_main_v44_apply, val_main_v43_apply, val_main_v42_apply, val_main_v41_apply, val_main_v40_apply, val_main_v39_apply, v36_apply r0 r1 r2 r3 r4 x1 x3 x5 x7 x9]
  generalize guv (args r0 r1 r2 r3 r4 x1 x3 x5 x7 x9) n 0 f = g
  show Ideal.div (Ideal.ofBits .f32 0x3F800000#32) (Ideal.ofBits .f32 0x3F800000#32 + Ideal.exp (-g)) = Ideal.logistic g
  rw [Ideal.ofBits_one_f32]
  rfl

theorem v47_apply (n : Fin 49152) (f : Fin 5632) : val_main_v47 (F := Ideal) x5 r2 (ix2 n f) = hidv (args r0 r1 r2 r3 r4 x1 x3 x5 x7 x9) n f := by
  rw [val_main_v47_apply, val_main_v46_apply, val_main_v45_apply, v36_apply r0 r1 r2 r3 r4 x1 x3 x5 x7 x9, v38_apply r0 r1 r2 r3 r4 x1 x3 x5 x7 x9, v44_apply r0 r1 r2 r3 r4 x1 x3 x5 x7 x9]
  rfl

theorem v48_apply (n : Fin 49152) (f : Fin 5632) : val_main_v48 (F := Ideal) x3 x9 r1 r4 (ix2 n f) = dh (args r0 r1 r2 r3 r4 x1 x3 x5 x7 x9) n f := by
  rw [val_main_v48_apply]
  refine Finset.sum_congr rfl fun d _ => ?_
  have el : lidx_main_v48 (ix2 n f) d = (ix2 n d : S49152x2048.Idx) := funext fun a => match a with | ⟨0, _⟩ => rfl | ⟨1, _⟩ => rfl
  have er : ridx_main_v48 (ix2 n f) d = (ix2 f d : S5632x2048.Idx) := funext fun a => match a with | ⟨0, _⟩ => rfl | ⟨1, _⟩ => rfl
  rw [el, er, v26_apply r0 r1 r2 r3 r4 x1 x3 x5 x7 x9, v12_apply r0 r1 r2 r3 r4 x1 x3 x5 x7 x9]

theorem v56_apply (n : Fin 49152) (f : Fin 5632) : val_main_v56 (F := Ideal) x3 x5 x9 r1 r2 r4 (ix2 n f) = dactv (args r0 r1 r2 r3 r4 x1 x3 x5 x7 x9) 0 n f := by
  rw [val_main_v56_apply, val_main_v50_apply, val_main_v49_apply, val_main_v55_apply, val_main_v54_apply, val_main_v53_apply, val_main_v52_apply, val_main_v51_apply,
    v36_apply r0 r1 r2 r3 r4 x1 x3 x5 x7 x9, v38_apply r0 r1 r2 r3 r4 x1 x3 x5 x7 x9, v44_apply r0 r1 r2 r3 r4 x1 x3 x5 x7 x9, v48_apply r0 r1 r2 r3 r4 x1 x3 x5 x7 x9]
  unfold dactv dact
  rw [if_pos (show (0 : Fin 2).val = 0 from rfl)]
  unfold dgate
  generalize dh (args r0 r1 r2 r3 r4 x1 x3 x5 x7 x9) n f = D
  generalize guv (args r0 r1 r2 r3 r4 x1 x3 x5 x7 x9) n 0 f = g
  generalize guv (args r0 r1 r2 r3 r4 x1 x3 x5 x7 x9) n 1 f = u
  show D * u * Ideal.logistic g * (Ideal.ofBits .f32 0x3F800000#32 + g * (Ideal.ofBits .f32 0x3F800000#32 - Ideal.logistic g)) = _
  rw [Ideal.ofBits_one_f32]

theorem v57_apply (n : Fin 49152) (f : Fin 5632) : val_main_v57 (F := Ideal) x3 x5 x9 r1 r2 r4 (ix2 n f) = dactv (args r0 r1 r2 r3 r4 x1 x3 x5 x7 x9) 1 n f := by
  rw [val_main_v57_apply, val_main_v45_apply, v36_apply r0 r1 r2 r3 r4 x1 x3 x5 x7 x9, v44_apply r0 r1 r2 r3 r4 x1 x3 x5 x7 x9, v48_apply r0 r1 r2 r3 r4 x1 x3 x5 x7 x9]
  unfold dactv dact
  rw [if_neg (show ¬(1 : Fin 2).val = 0 by decide)]
  rfl

theorem v61_apply (n : Fin 49152) (h : Fin 2) (f : Fin 5632) : val_main_v61 (F := Ideal) x3 x5 x9 r1 r2 r4 (ix3 n h f) = dactv (args r0 r1 r2 r3 r4 x1 x3 x5 x7 x9) h n f := by
  rw [val_main_v61_apply]
  show val_main_v60 (F := Ideal) x3 x5 x9 r1 r2 r4 (ix3 n h f) = _
  unfold val_main_v60
  have hc : h = 0 ∨ h = 1 := by fin_cases h <;> simp
  rcases hc with rfl | rfl
  · refine (concatenate_pair_apply_left (t := S49152x2x5632) (s₁ := S49152x1x5632) (s₂ := S49152x1x5632) 1 _ _ concatenates_S49152x1x5632_S49152x1x5632_S49152x2x5632_d1 (ix3 n 0 f : S49152x2x5632.Idx) rfl (ix3 n 0 f : S49152x1x5632.Idx) (fun b => match b with | ⟨0, _⟩ => rfl | ⟨1, _⟩ => rfl | ⟨2, _⟩ => rfl)).trans ?_
    rw [val_main_v58_apply]
    have e : idx_main_v58 (ix3 n 0 f) = (ix2 n f : S49152x5632.Idx) := funext fun a => match a with | ⟨0, _⟩ => rfl | ⟨1, _⟩ => rfl
    rw [e, v56_apply r0 r1 r2 r3 r4 x1 x3 x5 x7 x9]
  · refine (concatenate_pair_apply_right (t := S49152x2x5632) (s₁ := S49152x1x5632) (s₂ := S49152x1x5632) 1 _ _ concatenates_S49152x1x5632_S49152x1x5632_S49152x2x5632_d1 (ix3 n 1 f : S49152x2x5632.Idx) rfl rfl (ix3 n 0 f : S49152x1x5632.Idx) (fun b => match b with | ⟨0, _⟩ => fun _ => rfl | ⟨1, _⟩ => fun hb => absurd rfl hb | ⟨2, _⟩ => fun _ => rfl) rfl).trans ?_
    rw [val_main_v59_apply]
    have e : idx_main_v59 (ix3 n 0 f) = (ix2 n f : S49152x5632.Idx) := funext fun a => match a with | ⟨0, _⟩ => rfl | ⟨1, _⟩ => rfl
    rw [e, v57_apply r0 r1 r2 r3 r4 x1 x3 x5 x7 x9]

/-! ## The three results -/

abbrev D62 := dot_S49152x2x5632_S2048x2x5632_S49152x2048_21_21_0_0_n_n

theorem lhs0 (i : S49152x2048.Idx) (q : D62.contr.Idx) : (D62.lhsIdx i q 0).val = (i 0).val := by
  unfold DotDims.lhsIdx
  rw [dif_neg (show ¬(0 : Fin S49152x2x5632.rank) ∈ D62.lhsBatch by decide), dif_pos (show (0 : Fin S49152x2x5632.rank) ∈ D62.lhsNonContracting by decide)]
  rfl
theorem lhs1 (i : S49152x2048.Idx) (q : D62.contr.Idx) : (D62.lhsIdx i q 1).val = (q ⟨1, by decide⟩).val := by
  unfold DotDims.lhsIdx
  rw [dif_neg (show ¬(1 : Fin S49152x2x5632.rank) ∈ D62.lhsBatch by decide), dif_neg (show ¬(1 : Fin S49152x2x5632.rank) ∈ D62.lhsNonContracting by decide)]
  rfl
theorem lhs2 (i : S49152x2048.Idx) (q : D62.contr.Idx) : (D62.lhsIdx i q 2).val = (q ⟨0, by decide⟩).val := by
  unfold DotDims.lhsIdx
  rw [dif_neg (show ¬(2 : Fin S49152x2x5632.rank) ∈ D62.lhsBatch by decide), dif_neg (show ¬(2 : Fin S49152x2x5632.rank) ∈ D62.lhsNonContracting by decide)]
  rfl
theorem rhs0 (i : S49152x2048.Idx) (q : D62.contr.Idx) : (D62.rhsIdx i q 0).val = (i 1).val := by
  unfold DotDims.rhsIdx
  rw [dif_neg (show ¬(0 : Fin S2048x2x5632.rank) ∈ D62.rhsBatch by decide), dif_pos (show (0 : Fin S2048x2x5632.rank) ∈ D62.rhsNonContracting by decide)]
  rfl
theorem rhs1 (i : S49152x2048.Idx) (q : D62.contr.Idx) : (D62.rhsIdx i q 1).val = (q ⟨1, by decide⟩).val := by
  unfold DotDims.rhsIdx
  rw [dif_neg (show ¬(1 : Fin S2048x2x5632.rank) ∈ D62.rhsBatch by decide), dif_neg (show ¬(1 : Fin S2048x2x5632.rank) ∈ D62.rhsNonContracting by decide)]
  rfl
theorem rhs2 (i : S49152x2048.Idx) (q : D62.contr.Idx) : (D62.rhsIdx i q 2).val = (q ⟨0, by decide⟩).val := by
  unfold DotDims.rhsIdx
  rw [dif_neg (show ¬(2 : Fin S2048x2x5632.rank) ∈ D62.rhsBatch by decide), dif_neg (show ¬(2 : Fin S2048x2x5632.rank) ∈ D62.rhsNonContracting by decide)]
  rfl

theorem v62_apply (n : Fin 49152) (d : Fin 2048) : val_main_v62 (F := Ideal) x3 x5 x7 x9 r1 r2 r3 r4 (ix2 n d) = dx (args r0 r1 r2 r3 r4 x1 x3 x5 x7 x9) n d := by
  unfold val_main_v62
  have h61 := v61_apply r0 r1 r2 r3 r4 x1 x3 x5 x7 x9
  have h6 := v6_apply r0 r1 r2 r3 r4 x1 x3 x5 x7 x9
  generalize val_main_v61 (F := Ideal) x3 x5 x9 r1 r2 r4 = y0 at h61 ⊢
  generalize val_main_v6 (F := Ideal) x7 r3 = y1 at h6 ⊢
  simp only [Host.dotGeneral]
  rw [Ideal.dotGeneral_apply, sum_contr2 D62 5632 2 rfl rfl rfl, Finset.sum_comm]
  refine Finset.sum_congr rfl fun h _ => Finset.sum_congr rfl fun f _ => ?_
  have q0 := contrEquiv2_symm_val0 D62 5632 2 rfl rfl rfl (f, h)
  have q1 := contrEquiv2_symm_val1 D62 5632 2 rfl rfl rfl (f, h)
  have el : D62.lhsIdx (ix2 n d) ((contrEquiv2 D62 5632 2 rfl rfl rfl).symm (f, h)) = (ix3 n h f : S49152x2x5632.Idx) := funext fun a => Fin.ext (by
    match a with
    | ⟨0, _⟩ => exact lhs0 _ _
    | ⟨1, _⟩ => exact (lhs1 _ _).trans q1
    | ⟨2, _⟩ => exact (lhs2 _ _).trans q0)
  have er : D62.rhsIdx (ix2 n d) ((contrEquiv2 D62 5632 2 rfl rfl rfl).symm (f, h)) = (ix3 d h f : S2048x2x5632.Idx) := funext fun a => Fin.ext (by
    match a with
    | ⟨0, _⟩ => exact rhs0 _ _
    | ⟨1, _⟩ => exact (rhs1 _ _).trans q1
    | ⟨2, _⟩ => exact (rhs2 _ _).trans q0)
  rw [el, er, h61, h6]

/-- The gradient of the input. -/
theorem v66_apply (b : Fin 6) (s : Fin 8192) (d : Fin 2048) (n : Fin 49152) (hn : n.val = 8192 * b.val + s.val) :
    val_main_v66 (F := Ideal) x3 x5 x7 x9 r1 r2 r3 r4 (ix3 b s d) = dx (args r0 r1 r2 r3 r4 x1 x3 x5 x7 x9) n d := by
  have hb := b.isLt; have hs := s.isLt; have hd := d.isLt
  have e : idx_main_v66 (ix3 b s d) = (ix2 n d : S49152x2048.Idx) := by
    funext a; apply Fin.ext
    match a with
    | ⟨0, _⟩ => show ((b.val * 8192 + s.val) * 2048 + d.val) / 2048 = n.val; omega
    | ⟨1, _⟩ => show ((b.val * 8192 + s.val) * 2048 + d.val) % 2048 = d.val; omega
  rw [val_main_v66_apply, e, val_main_v63_apply]
  exact v62_apply r0 r1 r2 r3 r4 x1 x3 x5 x7 x9 n d

/-- The gradient of the gate/up weights. -/
theorem v64_apply (d : Fin 2048) (h : Fin 2) (f : Fin 5632) :
    val_main_v64 (F := Ideal) x1 x3 x5 x9 r0 r1 r2 r4 (ix3 d h f) = dwgu (args r0 r1 r2 r3 r4 x1 x3 x5 x7 x9) d h f := by
  rw [val_main_v64_apply]
  refine Finset.sum_congr rfl fun n _ => ?_
  have el : lidx_main_v64 (ix3 d h f) n = (ix2 n d : S49152x2048.Idx) := funext fun a => match a with | ⟨0, _⟩ => rfl | ⟨1, _⟩ => rfl
  have er : ridx_main_v64 (ix3 d h f) n = (ix3 n h f : S49152x2x5632.Idx) := funext fun a => match a with | ⟨0, _⟩ => rfl | ⟨1, _⟩ => rfl | ⟨2, _⟩ => rfl
  rw [el, er, v19_apply r0 r1 r2 r3 r4 x1 x3 x5 x7 x9, v61_apply r0 r1 r2 r3 r4 x1 x3 x5 x7 x9]

/-- The gradient of the down weights. -/
theorem v65_apply (f : Fin 5632) (d : Fin 2048) :
    val_main_v65 (F := Ideal) x3 x5 r1 r2 (ix2 f d) = dwd (args r0 r1 r2 r3 r4 x1 x3 x5 x7 x9) f d := by
  rw [val_main_v65_apply]
  refine Finset.sum_congr rfl fun n _ => ?_
  have el : lidx_main_v65 (ix2 f d) n = (ix2 n f : S49152x5632.Idx) := funext fun a => match a with | ⟨0, _⟩ => rfl | ⟨1, _⟩ => rfl
  have er : ridx_main_v65 (ix2 f d) n = (ix2 n d : S49152x2048.Idx) := funext fun a => match a with | ⟨0, _⟩ => rfl | ⟨1, _⟩ => rfl
  rw [el, er, v47_apply r0 r1 r2 r3 r4 x1 x3 x5 x7 x9, v26_apply r0 r1 r2 r3 r4 x1 x3 x5 x7 x9]

end Cert.ReferenceIdeal.Closed

end
-- ==== Proof.RefRun.lean ====
/- The reference's run at the extended reals: it ends with the three gradients of its arguments, and its arguments
   unchanged. -/
module

public import proofs.«01_k».proof.Proof.RefCast
public import proofs.«01_k».proof.Proof.RefValue

@[expose] public section

set_option maxRecDepth 16384

noncomputable section

namespace Cert.ReferenceIdeal.Closed

open Cert.ReferenceIdeal Cert.ReferenceIdeal.Gen Cert.ReferenceIdeal.Value Cert.ReferenceIdeal.Read
open Cert.Forms
open Idealize.ShloMosaic Idealize.ShloMosaic.TcCoe Idealize.ShloMosaic.ValueIdx
open Idealize.SL.Sem

variable (m : (ℓ : Loc nD τ sig) → Buf (Elt Ideal) ℓ) (c : Dev nD)

/-- The reference's arguments at their coordinates. -/
abbrev inputs : Args :=
  args (reg_main_v0_0 m c) (reg_main_v0_1 m c) (reg_main_v0_2 m c) (reg_main_v0_3 m c) (reg_main_v0_4 m c)
    (m ((c.tc : Thread nD τ).loc main_arg1)) (m ((c.tc : Thread nD τ).loc main_arg3)) (m ((c.tc : Thread nD τ).loc main_arg5))
    (m ((c.tc : Thread nD τ).loc main_arg7)) (m ((c.tc : Thread nD τ).loc main_arg9))

/-- The gradient of the input. -/
theorem v66_exit (b : Fin 6) (s : Fin 8192) (d : Fin 2048) (n : Fin 49152) (hn : n.val = 8192 * b.val + s.val) :
    val_main_v66 (F := Ideal) (exitV m c (Proc.devRef .tc main_arg3)) (exitV m c (Proc.devRef .tc main_arg5)) (exitV m c (Proc.devRef .tc main_arg7))
      (exitV m c (Proc.devRef .tc main_arg9)) (exitV m c (Proc.devRef .tc main_v0_1)) (exitV m c (Proc.devRef .tc main_v0_2))
      (exitV m c (Proc.devRef .tc main_v0_3)) (exitV m c (Proc.devRef .tc main_v0_4)) (ix3 b s d : S6x8192x2048.Idx) = dx (inputs m c) n d := by
  rw [exit_main_arg3, exit_main_arg5, exit_main_arg7, exit_main_arg9, exit_main_v0_1, exit_main_v0_2, exit_main_v0_3, exit_main_v0_4]
  exact v66_apply _ _ _ _ _ _ _ _ _ _ b s d n hn

/-- The gradient of the gate/up weights. -/
theorem v64_exit (d : Fin 2048) (h : Fin 2) (f : Fin 5632) :
    val_main_v64 (F := Ideal) (exitV m c (Proc.devRef .tc main_arg1)) (exitV m c (Proc.devRef .tc main_arg3)) (exitV m c (Proc.devRef .tc main_arg5))
      (exitV m c (Proc.devRef .tc main_arg9)) (exitV m c (Proc.devRef .tc main_v0_0)) (exitV m c (Proc.devRef .tc main_v0_1))
      (exitV m c (Proc.devRef .tc main_v0_2)) (exitV m c (Proc.devRef .tc main_v0_4)) (ix3 d h f : S2048x2x5632.Idx) = dwgu (inputs m c) d h f := by
  rw [exit_main_arg1, exit_main_arg3, exit_main_arg5, exit_main_arg9, exit_main_v0_0, exit_main_v0_1, exit_main_v0_2, exit_main_v0_4]
  exact v64_apply _ _ _ _ _ _ _ _ _ _ d h f

/-- The gradient of the down weights. -/
theorem v65_exit (f : Fin 5632) (d : Fin 2048) :
    val_main_v65 (F := Ideal) (exitV m c (Proc.devRef .tc main_arg3)) (exitV m c (Proc.devRef .tc main_arg5))
      (exitV m c (Proc.devRef .tc main_v0_1)) (exitV m c (Proc.devRef .tc main_v0_2)) (ix2 f d : S5632x2048.Idx) = dwd (inputs m c) f d := by
  rw [exit_main_arg3, exit_main_arg5, exit_main_v0_1, exit_main_v0_2]
  exact v65_apply _ _ _ _ _ _ _ _ _ _ f d

end Cert.ReferenceIdeal.Closed

end
-- ==== Proof.Algebraic.lean ====
/- Kernel and reference compute the same three gradients, over the extended reals: from the same arguments both end with
   the plain sums of `Cert.Forms`. -/
module

public import proofs.«01_k».proof.Defs
public import proofs.«01_k».proof.Proof.Gen.KernelIdeal
public import proofs.«01_k».proof.Proof.Gen.ReferenceIdeal
public import proofs.«01_k».proof.Proof.KernelFrame
public import proofs.«01_k».proof.Proof.KernelValue
public import proofs.«01_k».proof.Proof.RefRun

@[expose] public section

set_option maxRecDepth 16384

noncomputable section

namespace Cert.Algebraic

open Idealize.ShloMosaic Idealize.ShloMosaic.TcCoe Idealize.ShloMosaic.ValueIdx Idealize.SL.Sem
open Cert.Forms

/-! ## The gradients as arrays -/

/-- A token from its batch and its place in the batch. -/
def tok (b : Fin 6) (s : Fin 8192) : Fin 49152 := ⟨8192 * b.val + s.val, by have := b.isLt; have := s.isLt; omega⟩

def dxArr (A : Args) : Vec Ideal Cert.KernelIdeal.S6x8192x2048 .bf16 := fun i => dx A (tok (i 0) (i 1)) (i 2)
def dwguArr (A : Args) : Vec Ideal Cert.KernelIdeal.S2048x2x5632 .f32 := fun i => dwgu A (i 0) (i 1) (i 2)
def dwdArr (A : Args) : Vec Ideal Cert.KernelIdeal.S5632x2048 .f32 := fun i => dwd A (i 0) (i 1)

/-- An array is the gradient of the input once it is so at every coordinate. -/
theorem dxArr_of (A : Args) (v : Vec Ideal Cert.KernelIdeal.S6x8192x2048 .bf16)
    (h : ∀ (b : Fin 6) (s : Fin 8192) (d : Fin 2048) (n : Fin 49152), n.val = 8192 * b.val + s.val → (v (ix3 b s d) : EReal) = dx A n d) : v = dxArr A := by
  funext i
  exact (congrArg v (eq_ix3 i)).trans (h (i 0) (i 1) (i 2) (tok (i 0) (i 1)) rfl)

theorem dwguArr_of (A : Args) (v : Vec Ideal Cert.KernelIdeal.S2048x2x5632 .f32)
    (h : ∀ (d : Fin 2048) (k : Fin 2) (f : Fin 5632), (v (ix3 d k f) : EReal) = dwgu A d k f) : v = dwguArr A := by
  funext i
  exact (congrArg v (eq_ix3 i)).trans (h (i 0) (i 1) (i 2))

theorem dwdArr_of (A : Args) (v : Vec Ideal Cert.KernelIdeal.S5632x2048 .f32)
    (h : ∀ (f : Fin 5632) (d : Fin 2048), (v (ix2 f d) : EReal) = dwd A f d) : v = dwdArr A := by
  funext i
  exact (congrArg v (eq_ix2 i)).trans (h (i 0) (i 1))

/-! ## The same arguments -/

section Inputs

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

theorem inputs_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Closed.inputs m' c = Cert.KernelIdeal.Run.args m c := by
  unfold Cert.ReferenceIdeal.Closed.inputs Cert.ReferenceIdeal.Closed.args Cert.KernelIdeal.Run.args
  rw [Args.mk.injEq]
  refine ⟨?_, ?_, ?_, ?_, ?_, ?_, ?_, ?_, ?_, ?_⟩
  · funext b s d; exact (Cert.ReferenceIdeal.Cast.reg0_apply m' c _).trans (congrFun h0 _)
  · funext b s q; exact congrFun h1 _
  · funext b s d; exact (Cert.ReferenceIdeal.Cast.reg1_apply m' c _).trans (congrFun h2 _)
  · funext b s q; exact congrFun h3 _
  · funext b s h f; exact (Cert.ReferenceIdeal.Cast.reg2_apply m' c _).trans (congrFun h4 _)
  · funext b s h q; exact congrFun h5 _
  · funext d h f; exact (Cert.ReferenceIdeal.Cast.reg3_apply m' c _).trans (congrFun h6 _)
  · funext k h q; exact congrFun h7 _
  · funext f d; exact (Cert.ReferenceIdeal.Cast.reg4_apply m' c _).trans (congrFun h8 _)
  · funext q k; exact congrFun h9 _

end Inputs

/-! ## The claim -/

theorem algebraic : Cert.algebraic_KernelIdeal_ReferenceIdeal (hKernelIdeal := Cert.KernelIdeal.Gen.facts) (hReferenceIdeal := Cert.ReferenceIdeal.Gen.facts) := by
  intro m g m' g' _ hin
  have hA : ∀ c : Dev Cert.KernelIdeal.nD, Cert.ReferenceIdeal.Closed.inputs m' c = Cert.KernelIdeal.Run.args m c := fun c => by
    obtain ⟨h0, h1, h2, h3, h4, h5, h6, h7, h8, h9⟩ := hin c
    exact inputs_eq m m' c h0 h1 h2 h3 h4 h5 h6 h7 h8 h9
  refine ⟨fun c => dxArr (Cert.KernelIdeal.Run.args m c), fun c => dwguArr (Cert.KernelIdeal.Run.args m c), fun c => dwdArr (Cert.KernelIdeal.Run.args m c), ?_, ?_⟩
  · refine (θ_run Cert.KernelIdeal.defs _ _).mono (fun r h c => ?_) (Cert.KernelIdeal.Run.run m g)
    refine ⟨?_, ?_, ?_, ?_, ?_, ?_, ?_, ?_, ?_, ?_, ?_, ?_, ?_⟩
    · exact (h.read c Cert.KernelIdeal.main_v21 rfl).trans (dxArr_of _ _ fun b s d n hn => Cert.KernelIdeal.Run.v21_at12 m c b s d n hn)
    · exact (h.read c Cert.KernelIdeal.main_v18 rfl).trans (dwguArr_of _ _ fun d k f => Cert.KernelIdeal.Run.v18_at12 m c d k f)
    · exact (h.read c Cert.KernelIdeal.main_v20 rfl).trans (dwdArr_of _ _ fun f d => Cert.KernelIdeal.Run.v20_at12 m c f d)
    · exact (h.read c Cert.KernelIdeal.main_arg0 rfl).trans (Cert.KernelIdeal.Gen.V12_main_arg0 m (Cert.KernelIdeal.Run.outs m) c)
    · exact (h.read c Cert.KernelIdeal.main_arg1 rfl).trans (Cert.KernelIdeal.Gen.V12_main_arg1 m (Cert.KernelIdeal.Run.outs m) c)
    · exact (h.read c Cert.KernelIdeal.main_arg2 rfl).trans (Cert.KernelIdeal.Gen.V12_main_arg2 m (Cert.KernelIdeal.Run.outs m) c)
    · exact (h.read c Cert.KernelIdeal.main_arg3 rfl).trans (Cert.KernelIdeal.Gen.V12_main_arg3 m (Cert.KernelIdeal.Run.outs m) c)
    · exact (h.read c Cert.KernelIdeal.main_arg4 rfl).trans (Cert.KernelIdeal.Gen.V12_main_arg4 m (Cert.KernelIdeal.Run.outs m) c)
    · exact (h.read c Cert.KernelIdeal.main_arg5 rfl).trans (Cert.KernelIdeal.Gen.V12_main_arg5 m (Cert.KernelIdeal.Run.outs m) c)
    · exact (h.read c Cert.KernelIdeal.main_arg6 rfl).trans (Cert.KernelIdeal.Gen.V12_main_arg6 m (Cert.KernelIdeal.Run.outs m) c)
    · exact (h.read c Cert.KernelIdeal.main_arg7 rfl).trans (Cert.KernelIdeal.Gen.V12_main_arg7 m (Cert.KernelIdeal.Run.outs m) c)
    · exact (h.read c Cert.KernelIdeal.main_arg8 rfl).trans (Cert.KernelIdeal.Gen.V12_main_arg8 m (Cert.KernelIdeal.Run.outs m) c)
    · exact (h.read c Cert.KernelIdeal.main_arg9 rfl).trans (Cert.KernelIdeal.Gen.V12_main_arg9 m (Cert.KernelIdeal.Run.outs m) c)
  · refine (θ_run Cert.ReferenceIdeal.defs _ _).mono (fun r h c => ?_) (Cert.ReferenceIdeal.Value.run m' g')
    obtain ⟨e66, e64, e65, rest⟩ := h c
    refine ⟨?_, ?_, ?_, rest⟩
    · exact e66.trans ((Cert.ReferenceIdeal.Read.val_main_v66_eq (Cert.ReferenceIdeal.Value.exitV m' c)).trans
        (dxArr_of _ _ fun b s d n hn => (Cert.ReferenceIdeal.Closed.v66_exit m' c b s d n hn).trans (congrArg (fun A => dx A n d) (hA c))))
    · exact e64.trans ((Cert.ReferenceIdeal.Read.val_main_v64_eq (Cert.ReferenceIdeal.Value.exitV m' c)).trans
        (dwguArr_of _ _ fun d k f => (Cert.ReferenceIdeal.Closed.v64_exit m' c d k f).trans (congrArg (fun A => dwgu A d k f) (hA c))))
    · exact e65.trans ((Cert.ReferenceIdeal.Read.val_main_v65_eq (Cert.ReferenceIdeal.Value.exitV m' c)).trans
        (dwdArr_of _ _ fun f d => (Cert.ReferenceIdeal.Closed.v65_exit m' c f d).trans (congrArg (fun A => dwd A f d) (hA c))))

end Cert.Algebraic

end
-- ==== Proof.lean ====
/- The kernel's claims: it runs and ends quiescent, as compiled and over the reals; so does the reference; and over the
   reals the kernel returns what the reference returns, in all three results. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.SameProgram
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.kernel_frame, fun m g _ => Cert.KernelIdeal.Run.frame m g, fun m g _ => Cert.ReferenceIdeal.Gen.frame m g, trivial,
  Cert.Algebraic.algebraic⟩

end Cert.Proof

end
